-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S6x256 : Shape := ⟨2, ![6, 256]⟩
abbrev S6 : Shape := ⟨1, ![6]⟩
abbrev S6x268 : Shape := ⟨2, ![6, 268]⟩
abbrev S18x4096x6 : Shape := ⟨3, ![18, 4096, 6]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S6x256 : S_.BroadcastsInDim S6x256 (![] : Fin 0 → Fin S6x256.rank)
  reducesTo_S6x256_S_d0_1 : S6x256.ReducesTo [0, 1] S_
  bcast_S_S6 : S_.BroadcastsInDim S6 (![] : Fin 0 → Fin S6.rank)
  reducesTo_S6_S_d0 : S6.ReducesTo [0] S_
  bcast_S_S6x268 : S_.BroadcastsInDim S6x268 (![] : Fin 0 → Fin S6x268.rank)
  reducesTo_S6x268_S_d0_1 : S6x268.ReducesTo [0, 1] S_

variable [Facts]

def fn_part1 {F : FTy → Type} [FloatOps F] (main_arg4 : FVec F S6 .f32) (main_arg5 : FVec F S6x268 .f32) (main_arg6 : FVec F S6 .f32) (main_v13 : IVec S_ 1) (main_v16 : IVec S6x256 1) : IVec S_ 1 :=
  let main_c_5 : IVec S_ 1 := constantI S_ 1 1#1
  let main_v17 : IVec S_ 1 := (fun x v => Host.reduce IntOp.andi x v reducesTo_S6x256_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S6x268 .f32 := Host.absf main_arg5
  let main_cst_8 : FVec F S_ .f32 := constant S_ .f32 0x7F800000#32
  let main_v25 : FVec F S6x268 .f32 := broadcastInDim S6x268 ![] bcast_S_S6x268 main_cst_8
  let main_v26 : IVec S6x268 1 := cmpf .olt main_v24 main_v25
  let main_c_9 : IVec S_ 1 := constantI S_ 1 1#1
  let main_v27 : IVec S_ 1 := (fun x v => Host.reduce IntOp.andi x v reducesTo_S6x268_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  main_v33

def fn {F : FTy → Type} [FloatOps F] (main_arg0 : FVec F S4096x256 .f32) (main_arg1 : FVec F S6x256 .f32) (main_arg2 : FVec F S6 .f32) (main_arg3 : FVec F S6x256 .f32) (main_arg4 : FVec F S6 .f32) (main_arg5 : FVec F S6x268 .f32) (main_arg6 : FVec F S6 .f32) (main_arg7 : FVec F S18x4096x6 .f32) (main_arg8 : FVec F S18x4096x6 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S6x256 .f32 := Host.absf main_arg1
  let main_cst_0 : FVec F S_ .f32 := constant S_ .f32 0x7F800000#32
  let main_v5 : FVec F S6x256 .f32 := broadcastInDim S6x256 ![] bcast_S_S6x256 main_cst_0
  let main_v6 : IVec S6x256 1 := cmpf .olt main_v4 main_v5
  let main_c_1 : IVec S_ 1 := constantI S_ 1 1#1
  let main_v7 : IVec S_ 1 := (fun x v => Host.reduce IntOp.andi x v reducesTo_S6x256_S_d0_1 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6x256 .f32 := Host.absf main_arg3
  let main_cst_4 : FVec F S_ .f32 := constant S_ .f32 0x7F800000#32
  let main_v15 : FVec F S6x256 .f32 := broadcastInDim S6x256 ![] bcast_S_S6x256 main_cst_4
  let main_v16 : IVec S6x256 1 := cmpf .olt main_v14 main_v15
  fn_part1 (F := F) main_arg4 main_arg5 main_arg6 main_v13 main_v16
-- ==== Kernel.lean ====
abbrev S4096x256 : Shape := ⟨2, ![4096, 256]⟩
abbrev S6x256 : Shape := ⟨2, ![6, 256]⟩
abbrev S6 : Shape := ⟨1, ![6]⟩
abbrev S6x268 : Shape := ⟨2, ![6, 268]⟩
abbrev S18x4096x6 : Shape := ⟨3, ![18, 4096, 6]⟩
abbrev S_ : Shape := ⟨0, ![]⟩
abbrev S24 : Shape := ⟨1, ![24]⟩
abbrev S24x1 : Shape := ⟨2, ![24, 1]⟩
abbrev S24x4096 : Shape := ⟨2, ![24, 4096]⟩
abbrev S1024x256 : Shape := ⟨2, ![1024, 256]⟩
abbrev S24x1024 : Shape := ⟨2, ![24, 1024]⟩
abbrev S24x256 : Shape := ⟨2, ![24, 256]⟩
abbrev S6x6 : Shape := ⟨2, ![6, 6]⟩
abbrev S36 : Shape := ⟨1, ![36]⟩
abbrev S96 : Shape := ⟨1, ![96]⟩
abbrev S18x32x128x6 : Shape := ⟨4, ![18, 32, 128, 6]⟩
abbrev S32x18x6x128 : Shape := ⟨4, ![32, 18, 6, 128]⟩
abbrev S442368 : Shape := ⟨1, ![442368]⟩
abbrev S4096x6 : Shape := ⟨2, ![4096, 6]⟩
abbrev S24x128 : Shape := ⟨2, ![24, 128]⟩
abbrev S13824 : Shape := ⟨1, ![13824]⟩
abbrev S256 : Shape := ⟨1, ![256]⟩
abbrev S128x6 : Shape := ⟨2, ![128, 6]⟩
abbrev S16 : Shape := ⟨1, ![16]⟩

abbrev nBuf : Table → Nat
  | .hbm => 28
  | .local .tc .vmem => 8
  | .local .scVector .vmem => 7
  | _ => 0

abbrev bufTy : (tb : Table) → Fin (nBuf tb) → BufTy
  | .hbm, ⟨0, _⟩ => ⟨S4096x256, .f32⟩
  | .hbm, ⟨1, _⟩ => ⟨S6x256, .f32⟩
  | .hbm, ⟨2, _⟩ => ⟨S6, .f32⟩
  | .hbm, ⟨3, _⟩ => ⟨S6x256, .f32⟩
  | .hbm, ⟨4, _⟩ => ⟨S6, .f32⟩
  | .hbm, ⟨5, _⟩ => ⟨S6x268, .f32⟩
  | .hbm, ⟨6, _⟩ => ⟨S6, .f32⟩
  | .hbm, ⟨7, _⟩ => ⟨S18x4096x6, .f32⟩
  | .hbm, ⟨8, _⟩ => ⟨S18x4096x6, .f32⟩
  | .hbm, ⟨9, _⟩ => ⟨S_, .f32⟩
  | .hbm, ⟨10, _⟩ => ⟨S6, .f32⟩
  | .hbm, ⟨11, _⟩ => ⟨S24, .f32⟩
  | .hbm, ⟨12, _⟩ => ⟨S24x1, .f32⟩
  | .hbm, ⟨13, _⟩ => ⟨S24x4096, .f32⟩
  | .hbm, ⟨14, _⟩ => ⟨S6x6, .f32⟩
  | .hbm, ⟨15, _⟩ => ⟨S36, .f32⟩
  | .hbm, ⟨16, _⟩ => ⟨S6x6, .f32⟩
  | .hbm, ⟨17, _⟩ => ⟨S36, .f32⟩
  | .hbm, ⟨18, _⟩ => ⟨S_, .f32⟩
  | .hbm, ⟨19, _⟩ => ⟨S24, .f32⟩
  | .hbm, ⟨20, _⟩ => ⟨S96, .f32⟩
  | .hbm, ⟨21, _⟩ => ⟨S18x32x128x6, .f32⟩
  | .hbm, ⟨22, _⟩ => ⟨S32x18x6x128, .f32⟩
  | .hbm, ⟨23, _⟩ => ⟨S442368, .f32⟩
  | .hbm, ⟨24, _⟩ => ⟨S18x32x128x6, .f32⟩
  | .hbm, ⟨25, _⟩ => ⟨S32x18x6x128, .f32⟩
  | .hbm, ⟨26, _⟩ => ⟨S442368, .f32⟩
  | .hbm, ⟨27, _⟩ => ⟨S4096x6, .f32⟩
  | .local .tc .vmem, ⟨0, _⟩ => ⟨S1024x256, .f32⟩
  | .local .tc .vmem, ⟨1, _⟩ => ⟨S1024x256, .f32⟩
  | .local .tc .vmem, ⟨2, _⟩ => ⟨S6x256, .f32⟩
  | .local .tc .vmem, ⟨3, _⟩ => ⟨S6x256, .f32⟩
  | .local .tc .vmem, ⟨4, _⟩ => ⟨S6x268, .f32⟩
  | .local .tc .vmem, ⟨5, _⟩ => ⟨S24x1, .f32⟩
  | .local .tc .vmem, ⟨6, _⟩ => ⟨S24x1024, .f32⟩
  | .local .tc .vmem, ⟨7, _⟩ => ⟨S24x1024, .f32⟩
  | .local .scVector .vmem, ⟨0, _⟩ => ⟨S24x128, .f32⟩
  | .local .scVector .vmem, ⟨1, _⟩ => ⟨S13824, .f32⟩
  | .local .scVector .vmem, ⟨2, _⟩ => ⟨S13824, .f32⟩
  | .local .scVector .vmem, ⟨3, _⟩ => ⟨S96, .f32⟩
  | .local .scVector .vmem, ⟨4, _⟩ => ⟨S256, .f32⟩
  | .local .scVector .vmem, ⟨5, _⟩ => ⟨S128x6, .f32⟩
  | .local .scVector .vmem, ⟨6, _⟩ => ⟨S24x128, .f32⟩
  | _, _ => ⟨S4096x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v3_scv : Ref sig .scVector := ⟨.hbm, 13, rfl⟩
abbrev main_v12_scv : Ref sig .scVector := ⟨.hbm, 23, rfl⟩
abbrev main_v15_scv : Ref sig .scVector := ⟨.hbm, 26, rfl⟩
abbrev main_v9_scv : Ref sig .scVector := ⟨.hbm, 20, rfl⟩
abbrev main_v16_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x268 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_off1 (i : grid1.Coords) : Fin 2 → Nat :=
  let c0_i32_73_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13824_i32 : BitVec 32 := 13824#32
  let v3 : BitVec 32 := Scalar.muli v1 c13824_i32
  ![v3.toNat]

def k1_chk1 (v7 : IVec S16 32) (v8 : IVec S16 32) : Prop :=
  (∀ a x, ((![v8, v7] : Fin 2 → IVec S16 32) a x).toNat < S24x128.size a)
theorem k1_idx1_inb : ∀ (v7 : IVec S16 32) (v8 : IVec S16 32) (k1_hw1 : k1_chk1 v7 v8), ∀ a x, ((![v8, v7] : Fin 2 → IVec S16 32) a x).toNat < S24x128.size a := fun v7 v8 k1_hw1 => k1_hw1

def k1_chk2 (v7 : IVec S16 32) (v10 : IVec S16 32) : Prop :=
  (∀ a x, ((![v10, v7] : Fin 2 → IVec S16 32) a x).toNat < S24x128.size a)
theorem k1_idx2_inb : ∀ (v7 : IVec S16 32) (v10 : IVec S16 32) (k1_hw2 : k1_chk2 v7 v10), ∀ a x, ((![v10, v7] : Fin 2 → IVec S16 32) a x).toNat < S24x128.size a := fun v7 v10 k1_hw2 => k1_hw2

def k1_chk3 (v7 : IVec S16 32) (v12 : IVec S16 32) : Prop :=
  (∀ a x, ((![v12, v7] : Fin 2 → IVec S16 32) a x).toNat < S24x128.size a)
theorem k1_idx3_inb : ∀ (v7 : IVec S16 32) (v12 : IVec S16 32) (k1_hw3 : k1_chk3 v7 v12), ∀ a x, ((![v12, v7] : Fin 2 → IVec S16 32) a x).toNat < S24x128.size a := fun v7 v12 k1_hw3 => k1_hw3

def k1_chk4 (v7 : IVec S16 32) (v14 : IVec S16 32) : Prop :=
  (∀ a x, ((![v14, v7] : Fin 2 → IVec S16 32) a x).toNat < S24x128.size a)
theorem k1_idx4_inb : ∀ (v7 : IVec S16 32) (v14 : IVec S16 32) (k1_hw4 : k1_chk4 v7 v14), ∀ a x, ((![v14, v7] : Fin 2 → IVec S16 32) a x).toNat < S24x128.size a := fun v7 v14 k1_hw4 => k1_hw4

def k1_chk5 (v7 : IVec S16 32) (v16 : IVec S16 32) : Prop :=
  (∀ a x, ((![v16, v7] : Fin 2 → IVec S16 32) a x).toNat < S24x128.size a)
theorem k1_idx5_inb : ∀ (v7 : IVec S16 32) (v16 : IVec S16 32) (k1_hw5 : k1_chk5 v7 v16), ∀ a x, ((![v16, v7] : Fin 2 → IVec S16 32) a x).toNat < S24x128.size a := fun v7 v16 k1_hw5 => k1_hw5

def k1_chk6 (v7 : IVec S16 32) (v18 : IVec S16 32) : Prop :=
  (∀ a x, ((![v18, v7] : Fin 2 → IVec S16 32) a x).toNat < S24x128.size a)
theorem k1_idx6_inb : ∀ (v7 : IVec S16 32) (v18 : IVec S16 32) (k1_hw6 : k1_chk6 v7 v18), ∀ a x, ((![v18, v7] : Fin 2 → IVec S16 32) a x).toNat < S24x128.size a := fun v7 v18 k1_hw6 => k1_hw6

def k1_chk7 (v43 : IVec S16 32) : Prop :=
  (∀ a x, ((![v43] : Fin 1 → IVec S16 32) a x).toNat < S96.size a)
theorem k1_idx7_inb : ∀ (v43 : IVec S16 32) (k1_hw7 : k1_chk7 v43), ∀ a x, ((![v43] : Fin 1 → IVec S16 32) a x).toNat < S96.size a := fun v43 k1_hw7 => k1_hw7

def k1_chk8 (v7 : IVec S16 32) (v47 : IVec S16 32) : Prop :=
  (∀ a x, ((![v47, v7] : Fin 2 → IVec S16 32) a x).toNat < S24x128.size a)
theorem k1_idx8_inb : ∀ (v7 : IVec S16 32) (v47 : IVec S16 32) (k1_hw8 : k1_chk8 v7 v47), ∀ a x, ((![v47, v7] : Fin 2 → IVec S16 32) a x).toNat < S24x128.size a := fun v7 v47 k1_hw8 => k1_hw8

def k1_chk9 (v7 : IVec S16 32) (v49 : IVec S16 32) : Prop :=
  (∀ a x, ((![v49, v7] : Fin 2 → IVec S16 32) a x).toNat < S24x128.size a)
theorem k1_idx9_inb : ∀ (v7 : IVec S16 32) (v49 : IVec S16 32) (k1_hw9 : k1_chk9 v7 v49), ∀ a x, ((![v49, v7] : Fin 2 → IVec S16 32) a x).toNat < S24x128.size a := fun v7 v49 k1_hw9 => k1_hw9

def k1_chk10 (v7 : IVec S16 32) (v51 : IVec S16 32) : Prop :=
  (∀ a x, ((![v51, v7] : Fin 2 → IVec S16 32) a x).toNat < S24x128.size a)
theorem k1_idx10_inb : ∀ (v7 : IVec S16 32) (v51 : IVec S16 32) (k1_hw10 : k1_chk10 v7 v51), ∀ a x, ((![v51, v7] : Fin 2 → IVec S16 32) a x).toNat < S24x128.size a := fun v7 v51 k1_hw10 => k1_hw10

def k1_chk11 (v7 : IVec S16 32) (v53 : IVec S16 32) : Prop :=
  (∀ a x, ((![v53, v7] : Fin 2 → IVec S16 32) a x).toNat < S24x128.size a)
theorem k1_idx11_inb : ∀ (v7 : IVec S16 32) (v53 : IVec S16 32) (k1_hw11 : k1_chk11 v7 v53), ∀ a x, ((![v53, v7] : Fin 2 → IVec S16 32) a x).toNat < S24x128.size a := fun v7 v53 k1_hw11 => k1_hw11

def k1_chk12 (v7 : IVec S16 32) (v55 : IVec S16 32) : Prop :=
  (∀ a x, ((![v55, v7] : Fin 2 → IVec S16 32) a x).toNat < S24x128.size a)
theorem k1_idx12_inb : ∀ (v7 : IVec S16 32) (v55 : IVec S16 32) (k1_hw12 : k1_chk12 v7 v55), ∀ a x, ((![v55, v7] : Fin 2 → IVec S16 32) a x).toNat < S24x128.size a := fun v7 v55 k1_hw12 => k1_hw12

def k1_chk13 (v7 : IVec S16 32) (v57 : IVec S16 32) : Prop :=
  (∀ a x, ((![v57, v7] : Fin 2 → IVec S16 32) a x).toNat < S24x128.size a)
theorem k1_idx13_inb : ∀ (v7 : IVec S16 32) (v57 : IVec S16 32) (k1_hw13 : k1_chk13 v7 v57), ∀ a x, ((![v57, v7] : Fin 2 → IVec S16 32) a x).toNat < S24x128.size a := fun v7 v57 k1_hw13 => k1_hw13

def k1_chk14 (v82 : IVec S16 32) : Prop :=
  (∀ a x, ((![v82] : Fin 1 → IVec S16 32) a x).toNat < S96.size a)
theorem k1_idx14_inb : ∀ (v82 : IVec S16 32) (k1_hw14 : k1_chk14 v82), ∀ a x, ((![v82] : Fin 1 → IVec S16 32) a x).toNat < S96.size a := fun v82 k1_hw14 => k1_hw14

def k1_chk15 (v98 : IVec S16 32) : Prop :=
  (∀ a x, ((![v98] : Fin 1 → IVec S16 32) a x).toNat < S96.size a)
theorem k1_idx15_inb : ∀ (v98 : IVec S16 32) (k1_hw15 : k1_chk15 v98), ∀ a x, ((![v98] : Fin 1 → IVec S16 32) a x).toNat < S96.size a := fun v98 k1_hw15 => k1_hw15

def k1_chk16 (v101 : IVec S16 32) : Prop :=
  (∀ a x, ((![v101] : Fin 1 → IVec S16 32) a x).toNat < S96.size a)
theorem k1_idx16_inb : ∀ (v101 : IVec S16 32) (k1_hw16 : k1_chk16 v101), ∀ a x, ((![v101] : Fin 1 → IVec S16 32) a x).toNat < S96.size a := fun v101 k1_hw16 => k1_hw16

def k1_chk17 (v105 : IVec S16 32) : Prop :=
  (∀ a x, ((![v105] : Fin 1 → IVec S16 32) a x).toNat < S256.size a)
theorem k1_idx17_inb : ∀ (v105 : IVec S16 32) (k1_hw17 : k1_chk17 v105), ∀ a x, ((![v105] : Fin 1 → IVec S16 32) a x).toNat < S256.size a := fun v105 k1_hw17 => k1_hw17

def k1_chk18 (v107 : IVec S16 32) : Prop :=
  (∀ a x, ((![v107] : Fin 1 → IVec S16 32) a x).toNat < S96.size a)
theorem k1_idx18_inb : ∀ (v107 : IVec S16 32) (k1_hw18 : k1_chk18 v107), ∀ a x, ((![v107] : Fin 1 → IVec S16 32) a x).toNat < S96.size a := fun v107 k1_hw18 => k1_hw18

def k1_chk19 (v110 : IVec S16 32) : Prop :=
  (∀ a x, ((![v110] : Fin 1 → IVec S16 32) a x).toNat < S96.size a)
theorem k1_idx19_inb : ∀ (v110 : IVec S16 32) (k1_hw19 : k1_chk19 v110), ∀ a x, ((![v110] : Fin 1 → IVec S16 32) a x).toNat < S96.size a := fun v110 k1_hw19 => k1_hw19

def k1_chk20 (v114 : IVec S16 32) : Prop :=
  (∀ a x, ((![v114] : Fin 1 → IVec S16 32) a x).toNat < S256.size a)
theorem k1_idx20_inb : ∀ (v114 : IVec S16 32) (k1_hw20 : k1_chk20 v114), ∀ a x, ((![v114] : Fin 1 → IVec S16 32) a x).toNat < S256.size a := fun v114 k1_hw20 => k1_hw20

def k1_chk21 (v116 : IVec S16 32) : Prop :=
  (∀ a x, ((![v116] : Fin 1 → IVec S16 32) a x).toNat < S96.size a)
theorem k1_idx21_inb : ∀ (v116 : IVec S16 32) (k1_hw21 : k1_chk21 v116), ∀ a x, ((![v116] : Fin 1 → IVec S16 32) a x).toNat < S96.size a := fun v116 k1_hw21 => k1_hw21

def k1_chk22 (v119 : IVec S16 32) : Prop :=
  (∀ a x, ((![v119] : Fin 1 → IVec S16 32) a x).toNat < S96.size a)
theorem k1_idx22_inb : ∀ (v119 : IVec S16 32) (k1_hw22 : k1_chk22 v119), ∀ a x, ((![v119] : Fin 1 → IVec S16 32) a x).toNat < S96.size a := fun v119 k1_hw22 => k1_hw22

def k1_chk23 (v123 : IVec S16 32) : Prop :=
  (∀ a x, ((![v123] : Fin 1 → IVec S16 32) a x).toNat < S256.size a)
theorem k1_idx23_inb : ∀ (v123 : IVec S16 32) (k1_hw23 : k1_chk23 v123), ∀ a x, ((![v123] : Fin 1 → IVec S16 32) a x).toNat < S256.size a := fun v123 k1_hw23 => k1_hw23

def k1_chk24 (v125 : IVec S16 32) : Prop :=
  (∀ a x, ((![v125] : Fin 1 → IVec S16 32) a x).toNat < S96.size a)
theorem k1_idx24_inb : ∀ (v125 : IVec S16 32) (k1_hw24 : k1_chk24 v125), ∀ a x, ((![v125] : Fin 1 → IVec S16 32) a x).toNat < S96.size a := fun v125 k1_hw24 => k1_hw24

def k1_chk25 (v128 : IVec S16 32) : Prop :=
  (∀ a x, ((![v128] : Fin 1 → IVec S16 32) a x).toNat < S96.size a)
theorem k1_idx25_inb : ∀ (v128 : IVec S16 32) (k1_hw25 : k1_chk25 v128), ∀ a x, ((![v128] : Fin 1 → IVec S16 32) a x).toNat < S96.size a := fun v128 k1_hw25 => k1_hw25

def k1_chk26 (v132 : IVec S16 32) : Prop :=
  (∀ a x, ((![v132] : Fin 1 → IVec S16 32) a x).toNat < S256.size a)
theorem k1_idx26_inb : ∀ (v132 : IVec S16 32) (k1_hw26 : k1_chk26 v132), ∀ a x, ((![v132] : Fin 1 → IVec S16 32) a x).toNat < S256.size a := fun v132 k1_hw26 => k1_hw26

def k1_chk27 (v134 : IVec S16 32) : Prop :=
  (∀ a x, ((![v134] : Fin 1 → IVec S16 32) a x).toNat < S96.size a)
theorem k1_idx27_inb : ∀ (v134 : IVec S16 32) (k1_hw27 : k1_chk27 v134), ∀ a x, ((![v134] : Fin 1 → IVec S16 32) a x).toNat < S96.size a := fun v134 k1_hw27 => k1_hw27

def k1_chk28 (v137 : IVec S16 32) : Prop :=
  (∀ a x, ((![v137] : Fin 1 → IVec S16 32) a x).toNat < S96.size a)
theorem k1_idx28_inb : ∀ (v137 : IVec S16 32) (k1_hw28 : k1_chk28 v137), ∀ a x, ((![v137] : Fin 1 → IVec S16 32) a x).toNat < S96.size a := fun v137 k1_hw28 => k1_hw28

def k1_chk29 (v141 : IVec S16 32) : Prop :=
  (∀ a x, ((![v141] : Fin 1 → IVec S16 32) a x).toNat < S256.size a)
theorem k1_idx29_inb : ∀ (v141 : IVec S16 32) (k1_hw29 : k1_chk29 v141), ∀ a x, ((![v141] : Fin 1 → IVec S16 32) a x).toNat < S256.size a := fun v141 k1_hw29 => k1_hw29

def k1_chk30 (v143 : IVec S16 32) : Prop :=
  (∀ a x, ((![v143] : Fin 1 → IVec S16 32) a x).toNat < S96.size a)
theorem k1_idx30_inb : ∀ (v143 : IVec S16 32) (k1_hw30 : k1_chk30 v143), ∀ a x, ((![v143] : Fin 1 → IVec S16 32) a x).toNat < S96.size a := fun v143 k1_hw30 => k1_hw30

def k1_chk31 (v146 : IVec S16 32) : Prop :=
  (∀ a x, ((![v146] : Fin 1 → IVec S16 32) a x).toNat < S96.size a)
theorem k1_idx31_inb : ∀ (v146 : IVec S16 32) (k1_hw31 : k1_chk31 v146), ∀ a x, ((![v146] : Fin 1 → IVec S16 32) a x).toNat < S96.size a := fun v146 k1_hw31 => k1_hw31

def k1_chk32 (v150 : IVec S16 32) : Prop :=
  (∀ a x, ((![v150] : Fin 1 → IVec S16 32) a x).toNat < S256.size a)
theorem k1_idx32_inb : ∀ (v150 : IVec S16 32) (k1_hw32 : k1_chk32 v150), ∀ a x, ((![v150] : Fin 1 → IVec S16 32) a x).toNat < S256.size a := fun v150 k1_hw32 => k1_hw32

def k1_chk33 (v152 : IVec S16 32) : Prop :=
  (∀ a x, ((![v152] : Fin 1 → IVec S16 32) a x).toNat < S96.size a)
theorem k1_idx33_inb : ∀ (v152 : IVec S16 32) (k1_hw33 : k1_chk33 v152), ∀ a x, ((![v152] : Fin 1 → IVec S16 32) a x).toNat < S96.size a := fun v152 k1_hw33 => k1_hw33

def k1_chk34 (v155 : IVec S16 32) : Prop :=
  (∀ a x, ((![v155] : Fin 1 → IVec S16 32) a x).toNat < S96.size a)
theorem k1_idx34_inb : ∀ (v155 : IVec S16 32) (k1_hw34 : k1_chk34 v155), ∀ a x, ((![v155] : Fin 1 → IVec S16 32) a x).toNat < S96.size a := fun v155 k1_hw34 => k1_hw34

def k1_chk35 (v161 : IVec S16 32) : Prop :=
  (∀ a x, ((![v161] : Fin 1 → IVec S16 32) a x).toNat < S256.size a)
theorem k1_idx35_inb : ∀ (v161 : IVec S16 32) (k1_hw35 : k1_chk35 v161), ∀ a x, ((![v161] : Fin 1 → IVec S16 32) a x).toNat < S256.size a := fun v161 k1_hw35 => k1_hw35

def k1_chk36 (v174 : IVec S16 32) : Prop :=
  (∀ a x, ((![v174] : Fin 1 → IVec S16 32) a x).toNat < S96.size a)
theorem k1_idx36_inb : ∀ (v174 : IVec S16 32) (k1_hw36 : k1_chk36 v174), ∀ a x, ((![v174] : Fin 1 → IVec S16 32) a x).toNat < S96.size a := fun v174 k1_hw36 => k1_hw36

def k1_chk37 (v177 : IVec S16 32) : Prop :=
  (∀ a x, ((![v177] : Fin 1 → IVec S16 32) a x).toNat < S96.size a)
theorem k1_idx37_inb : ∀ (v177 : IVec S16 32) (k1_hw37 : k1_chk37 v177), ∀ a x, ((![v177] : Fin 1 → IVec S16 32) a x).toNat < S96.size a := fun v177 k1_hw37 => k1_hw37

def k1_chk38 (v181 : IVec S16 32) : Prop :=
  (∀ a x, ((![v181] : Fin 1 → IVec S16 32) a x).toNat < S256.size a)
theorem k1_idx38_inb : ∀ (v181 : IVec S16 32) (k1_hw38 : k1_chk38 v181), ∀ a x, ((![v181] : Fin 1 → IVec S16 32) a x).toNat < S256.size a := fun v181 k1_hw38 => k1_hw38

def k1_chk39 (v183 : IVec S16 32) : Prop :=
  (∀ a x, ((![v183] : Fin 1 → IVec S16 32) a x).toNat < S96.size a)
theorem k1_idx39_inb : ∀ (v183 : IVec S16 32) (k1_hw39 : k1_chk39 v183), ∀ a x, ((![v183] : Fin 1 → IVec S16 32) a x).toNat < S96.size a := fun v183 k1_hw39 => k1_hw39

def k1_chk40 (v186 : IVec S16 32) : Prop :=
  (∀ a x, ((![v186] : Fin 1 → IVec S16 32) a x).toNat < S96.size a)
theorem k1_idx40_inb : ∀ (v186 : IVec S16 32) (k1_hw40 : k1_chk40 v186), ∀ a x, ((![v186] : Fin 1 → IVec S16 32) a x).toNat < S96.size a := fun v186 k1_hw40 => k1_hw40

def k1_chk41 (v190 : IVec S16 32) : Prop :=
  (∀ a x, ((![v190] : Fin 1 → IVec S16 32) a x).toNat < S256.size a)
theorem k1_idx41_inb : ∀ (v190 : IVec S16 32) (k1_hw41 : k1_chk41 v190), ∀ a x, ((![v190] : Fin 1 → IVec S16 32) a x).toNat < S256.size a := fun v190 k1_hw41 => k1_hw41

def k1_chk42 (v192 : IVec S16 32) : Prop :=
  (∀ a x, ((![v192] : Fin 1 → IVec S16 32) a x).toNat < S96.size a)
theorem k1_idx42_inb : ∀ (v192 : IVec S16 32) (k1_hw42 : k1_chk42 v192), ∀ a x, ((![v192] : Fin 1 → IVec S16 32) a x).toNat < S96.size a := fun v192 k1_hw42 => k1_hw42

def k1_chk43 (v195 : IVec S16 32) : Prop :=
  (∀ a x, ((![v195] : Fin 1 → IVec S16 32) a x).toNat < S96.size a)
theorem k1_idx43_inb : ∀ (v195 : IVec S16 32) (k1_hw43 : k1_chk43 v195), ∀ a x, ((![v195] : Fin 1 → IVec S16 32) a x).toNat < S96.size a := fun v195 k1_hw43 => k1_hw43

def k1_chk44 (v199 : IVec S16 32) : Prop :=
  (∀ a x, ((![v199] : Fin 1 → IVec S16 32) a x).toNat < S256.size a)
theorem k1_idx44_inb : ∀ (v199 : IVec S16 32) (k1_hw44 : k1_chk44 v199), ∀ a x, ((![v199] : Fin 1 → IVec S16 32) a x).toNat < S256.size a := fun v199 k1_hw44 => k1_hw44

def k1_chk45 (v201 : IVec S16 32) : Prop :=
  (∀ a x, ((![v201] : Fin 1 → IVec S16 32) a x).toNat < S96.size a)
theorem k1_idx45_inb : ∀ (v201 : IVec S16 32) (k1_hw45 : k1_chk45 v201), ∀ a x, ((![v201] : Fin 1 → IVec S16 32) a x).toNat < S96.size a := fun v201 k1_hw45 => k1_hw45

def k1_chk46 (v204 : IVec S16 32) : Prop :=
  (∀ a x, ((![v204] : Fin 1 → IVec S16 32) a x).toNat < S96.size a)
theorem k1_idx46_inb : ∀ (v204 : IVec S16 32) (k1_hw46 : k1_chk46 v204), ∀ a x, ((![v204] : Fin 1 → IVec S16 32) a x).toNat < S96.size a := fun v204 k1_hw46 => k1_hw46

def k1_chk47 (v208 : IVec S16 32) : Prop :=
  (∀ a x, ((![v208] : Fin 1 → IVec S16 32) a x).toNat < S256.size a)
theorem k1_idx47_inb : ∀ (v208 : IVec S16 32) (k1_hw47 : k1_chk47 v208), ∀ a x, ((![v208] : Fin 1 → IVec S16 32) a x).toNat < S256.size a := fun v208 k1_hw47 => k1_hw47

def k1_chk48 (v210 : IVec S16 32) : Prop :=
  (∀ a x, ((![v210] : Fin 1 → IVec S16 32) a x).toNat < S96.size a)
theorem k1_idx48_inb : ∀ (v210 : IVec S16 32) (k1_hw48 : k1_chk48 v210), ∀ a x, ((![v210] : Fin 1 → IVec S16 32) a x).toNat < S96.size a := fun v210 k1_hw48 => k1_hw48

def k1_chk49 (v213 : IVec S16 32) : Prop :=
  (∀ a x, ((![v213] : Fin 1 → IVec S16 32) a x).toNat < S96.size a)
theorem k1_idx49_inb : ∀ (v213 : IVec S16 32) (k1_hw49 : k1_chk49 v213), ∀ a x, ((![v213] : Fin 1 → IVec S16 32) a x).toNat < S96.size a := fun v213 k1_hw49 => k1_hw49

def k1_chk50 (v217 : IVec S16 32) : Prop :=
  (∀ a x, ((![v217] : Fin 1 → IVec S16 32) a x).toNat < S256.size a)
theorem k1_idx50_inb : ∀ (v217 : IVec S16 32) (k1_hw50 : k1_chk50 v217), ∀ a x, ((![v217] : Fin 1 → IVec S16 32) a x).toNat < S256.size a := fun v217 k1_hw50 => k1_hw50

def k1_chk51 (v219 : IVec S16 32) : Prop :=
  (∀ a x, ((![v219] : Fin 1 → IVec S16 32) a x).toNat < S96.size a)
theorem k1_idx51_inb : ∀ (v219 : IVec S16 32) (k1_hw51 : k1_chk51 v219), ∀ a x, ((![v219] : Fin 1 → IVec S16 32) a x).toNat < S96.size a := fun v219 k1_hw51 => k1_hw51

def k1_chk52 (v222 : IVec S16 32) : Prop :=
  (∀ a x, ((![v222] : Fin 1 → IVec S16 32) a x).toNat < S96.size a)
theorem k1_idx52_inb : ∀ (v222 : IVec S16 32) (k1_hw52 : k1_chk52 v222), ∀ a x, ((![v222] : Fin 1 → IVec S16 32) a x).toNat < S96.size a := fun v222 k1_hw52 => k1_hw52

def k1_chk53 (v226 : IVec S16 32) : Prop :=
  (∀ a x, ((![v226] : Fin 1 → IVec S16 32) a x).toNat < S256.size a)
theorem k1_idx53_inb : ∀ (v226 : IVec S16 32) (k1_hw53 : k1_chk53 v226), ∀ a x, ((![v226] : Fin 1 → IVec S16 32) a x).toNat < S256.size a := fun v226 k1_hw53 => k1_hw53

def k1_chk54 (v228 : IVec S16 32) : Prop :=
  (∀ a x, ((![v228] : Fin 1 → IVec S16 32) a x).toNat < S96.size a)
theorem k1_idx54_inb : ∀ (v228 : IVec S16 32) (k1_hw54 : k1_chk54 v228), ∀ a x, ((![v228] : Fin 1 → IVec S16 32) a x).toNat < S96.size a := fun v228 k1_hw54 => k1_hw54

def k1_chk55 (v231 : IVec S16 32) : Prop :=
  (∀ a x, ((![v231] : Fin 1 → IVec S16 32) a x).toNat < S96.size a)
theorem k1_idx55_inb : ∀ (v231 : IVec S16 32) (k1_hw55 : k1_chk55 v231), ∀ a x, ((![v231] : Fin 1 → IVec S16 32) a x).toNat < S96.size a := fun v231 k1_hw55 => k1_hw55

def k1_chk56 (v237 : IVec S16 32) : Prop :=
  (∀ a x, ((![v237] : Fin 1 → IVec S16 32) a x).toNat < S256.size a)
theorem k1_idx56_inb : ∀ (v237 : IVec S16 32) (k1_hw56 : k1_chk56 v237), ∀ a x, ((![v237] : Fin 1 → IVec S16 32) a x).toNat < S256.size a := fun v237 k1_hw56 => k1_hw56

def k1_chk57 (v250 : IVec S16 32) : Prop :=
  (∀ a x, ((![v250] : Fin 1 → IVec S16 32) a x).toNat < S96.size a)
theorem k1_idx57_inb : ∀ (v250 : IVec S16 32) (k1_hw57 : k1_chk57 v250), ∀ a x, ((![v250] : Fin 1 → IVec S16 32) a x).toNat < S96.size a := fun v250 k1_hw57 => k1_hw57

def k1_chk58 (v253 : IVec S16 32) : Prop :=
  (∀ a x, ((![v253] : Fin 1 → IVec S16 32) a x).toNat < S96.size a)
theorem k1_idx58_inb : ∀ (v253 : IVec S16 32) (k1_hw58 : k1_chk58 v253), ∀ a x, ((![v253] : Fin 1 → IVec S16 32) a x).toNat < S96.size a := fun v253 k1_hw58 => k1_hw58

def k1_chk59 (v257 : IVec S16 32) : Prop :=
  (∀ a x, ((![v257] : Fin 1 → IVec S16 32) a x).toNat < S256.size a)
theorem k1_idx59_inb : ∀ (v257 : IVec S16 32) (k1_hw59 : k1_chk59 v257), ∀ a x, ((![v257] : Fin 1 → IVec S16 32) a x).toNat < S256.size a := fun v257 k1_hw59 => k1_hw59

def k1_chk60 (v259 : IVec S16 32) : Prop :=
  (∀ a x, ((![v259] : Fin 1 → IVec S16 32) a x).toNat < S96.size a)
theorem k1_idx60_inb : ∀ (v259 : IVec S16 32) (k1_hw60 : k1_chk60 v259), ∀ a x, ((![v259] : Fin 1 → IVec S16 32) a x).toNat < S96.size a := fun v259 k1_hw60 => k1_hw60

def k1_chk61 (v262 : IVec S16 32) : Prop :=
  (∀ a x, ((![v262] : Fin 1 → IVec S16 32) a x).toNat < S96.size a)
theorem k1_idx61_inb : ∀ (v262 : IVec S16 32) (k1_hw61 : k1_chk61 v262), ∀ a x, ((![v262] : Fin 1 → IVec S16 32) a x).toNat < S96.size a := fun v262 k1_hw61 => k1_hw61

def k1_chk62 (v266 : IVec S16 32) : Prop :=
  (∀ a x, ((![v266] : Fin 1 → IVec S16 32) a x).toNat < S256.size a)
theorem k1_idx62_inb : ∀ (v266 : IVec S16 32) (k1_hw62 : k1_chk62 v266), ∀ a x, ((![v266] : Fin 1 → IVec S16 32) a x).toNat < S256.size a := fun v266 k1_hw62 => k1_hw62

def k1_chk63 (v268 : IVec S16 32) : Prop :=
  (∀ a x, ((![v268] : Fin 1 → IVec S16 32) a x).toNat < S96.size a)
theorem k1_idx63_inb : ∀ (v268 : IVec S16 32) (k1_hw63 : k1_chk63 v268), ∀ a x, ((![v268] : Fin 1 → IVec S16 32) a x).toNat < S96.size a := fun v268 k1_hw63 => k1_hw63

def k1_chk64 (v271 : IVec S16 32) : Prop :=
  (∀ a x, ((![v271] : Fin 1 → IVec S16 32) a x).toNat < S96.size a)
theorem k1_idx64_inb : ∀ (v271 : IVec S16 32) (k1_hw64 : k1_chk64 v271), ∀ a x, ((![v271] : Fin 1 → IVec S16 32) a x).toNat < S96.size a := fun v271 k1_hw64 => k1_hw64

def k1_chk65 (v275 : IVec S16 32) : Prop :=
  (∀ a x, ((![v275] : Fin 1 → IVec S16 32) a x).toNat < S256.size a)
theorem k1_idx65_inb : ∀ (v275 : IVec S16 32) (k1_hw65 : k1_chk65 v275), ∀ a x, ((![v275] : Fin 1 → IVec S16 32) a x).toNat < S256.size a := fun v275 k1_hw65 => k1_hw65

def k1_chk66 (v277 : IVec S16 32) : Prop :=
  (∀ a x, ((![v277] : Fin 1 → IVec S16 32) a x).toNat < S96.size a)
theorem k1_idx66_inb : ∀ (v277 : IVec S16 32) (k1_hw66 : k1_chk66 v277), ∀ a x, ((![v277] : Fin 1 → IVec S16 32) a x).toNat < S96.size a := fun v277 k1_hw66 => k1_hw66

def k1_chk67 (v280 : IVec S16 32) : Prop :=
  (∀ a x, ((![v280] : Fin 1 → IVec S16 32) a x).toNat < S96.size a)
theorem k1_idx67_inb : ∀ (v280 : IVec S16 32) (k1_hw67 : k1_chk67 v280), ∀ a x, ((![v280] : Fin 1 → IVec S16 32) a x).toNat < S96.size a := fun v280 k1_hw67 => k1_hw67

def k1_chk68 (v284 : IVec S16 32) : Prop :=
  (∀ a x, ((![v284] : Fin 1 → IVec S16 32) a x).toNat < S256.size a)
theorem k1_idx68_inb : ∀ (v284 : IVec S16 32) (k1_hw68 : k1_chk68 v284), ∀ a x, ((![v284] : Fin 1 → IVec S16 32) a x).toNat < S256.size a := fun v284 k1_hw68 => k1_hw68

def k1_chk69 (v286 : IVec S16 32) : Prop :=
  (∀ a x, ((![v286] : Fin 1 → IVec S16 32) a x).toNat < S96.size a)
theorem k1_idx69_inb : ∀ (v286 : IVec S16 32) (k1_hw69 : k1_chk69 v286), ∀ a x, ((![v286] : Fin 1 → IVec S16 32) a x).toNat < S96.size a := fun v286 k1_hw69 => k1_hw69

def k1_chk70 (v289 : IVec S16 32) : Prop :=
  (∀ a x, ((![v289] : Fin 1 → IVec S16 32) a x).toNat < S96.size a)
theorem k1_idx70_inb : ∀ (v289 : IVec S16 32) (k1_hw70 : k1_chk70 v289), ∀ a x, ((![v289] : Fin 1 → IVec S16 32) a x).toNat < S96.size a := fun v289 k1_hw70 => k1_hw70

def k1_chk71 (v293 : IVec S16 32) : Prop :=
  (∀ a x, ((![v293] : Fin 1 → IVec S16 32) a x).toNat < S256.size a)
theorem k1_idx71_inb : ∀ (v293 : IVec S16 32) (k1_hw71 : k1_chk71 v293), ∀ a x, ((![v293] : Fin 1 → IVec S16 32) a x).toNat < S256.size a := fun v293 k1_hw71 => k1_hw71

def k1_chk72 (v295 : IVec S16 32) : Prop :=
  (∀ a x, ((![v295] : Fin 1 → IVec S16 32) a x).toNat < S96.size a)
theorem k1_idx72_inb : ∀ (v295 : IVec S16 32) (k1_hw72 : k1_chk72 v295), ∀ a x, ((![v295] : Fin 1 → IVec S16 32) a x).toNat < S96.size a := fun v295 k1_hw72 => k1_hw72

def k1_chk73 (v298 : IVec S16 32) : Prop :=
  (∀ a x, ((![v298] : Fin 1 → IVec S16 32) a x).toNat < S96.size a)
theorem k1_idx73_inb : ∀ (v298 : IVec S16 32) (k1_hw73 : k1_chk73 v298), ∀ a x, ((![v298] : Fin 1 → IVec S16 32) a x).toNat < S96.size a := fun v298 k1_hw73 => k1_hw73

def k1_chk74 (v302 : IVec S16 32) : Prop :=
  (∀ a x, ((![v302] : Fin 1 → IVec S16 32) a x).toNat < S256.size a)
theorem k1_idx74_inb : ∀ (v302 : IVec S16 32) (k1_hw74 : k1_chk74 v302), ∀ a x, ((![v302] : Fin 1 → IVec S16 32) a x).toNat < S256.size a := fun v302 k1_hw74 => k1_hw74

def k1_chk75 (v304 : IVec S16 32) : Prop :=
  (∀ a x, ((![v304] : Fin 1 → IVec S16 32) a x).toNat < S96.size a)
theorem k1_idx75_inb : ∀ (v304 : IVec S16 32) (k1_hw75 : k1_chk75 v304), ∀ a x, ((![v304] : Fin 1 → IVec S16 32) a x).toNat < S96.size a := fun v304 k1_hw75 => k1_hw75

def k1_chk76 (v307 : IVec S16 32) : Prop :=
  (∀ a x, ((![v307] : Fin 1 → IVec S16 32) a x).toNat < S96.size a)
theorem k1_idx76_inb : ∀ (v307 : IVec S16 32) (k1_hw76 : k1_chk76 v307), ∀ a x, ((![v307] : Fin 1 → IVec S16 32) a x).toNat < S96.size a := fun v307 k1_hw76 => k1_hw76

def k1_chk77 (v313 : IVec S16 32) : Prop :=
  (∀ a x, ((![v313] : Fin 1 → IVec S16 32) a x).toNat < S256.size a)
theorem k1_idx77_inb : ∀ (v313 : IVec S16 32) (k1_hw77 : k1_chk77 v313), ∀ a x, ((![v313] : Fin 1 → IVec S16 32) a x).toNat < S256.size a := fun v313 k1_hw77 => k1_hw77
@[reducible] def k1_t1_loop : Scf.Loop 32 :=
  let c0_i32_69 : BitVec 32 := 0#32
  let c8_i32_70 : BitVec 32 := 8#32
  let v314 : BitVec 32 := Scalar.addi c0_i32_69 c8_i32_70
  let c1_i32_71 : BitVec 32 := 1#32
  ⟨c0_i32_69, v314, c1_i32_71⟩

def k1_chk78 (v317 : IVec S16 32) (v318 : IVec S16 32) : Prop :=
  (∀ a x, ((![v318, v317] : Fin 2 → IVec S16 32) a x).toNat < S24x128.size a)
theorem k1_idx78_inb : ∀ (v317 : IVec S16 32) (v318 : IVec S16 32) (k1_hw78 : k1_chk78 v317 v318), ∀ a x, ((![v318, v317] : Fin 2 → IVec S16 32) a x).toNat < S24x128.size a := fun v317 v318 k1_hw78 => k1_hw78

def k1_chk79 (v317 : IVec S16 32) (v320 : IVec S16 32) : Prop :=
  (∀ a x, ((![v320, v317] : Fin 2 → IVec S16 32) a x).toNat < S24x128.size a)
theorem k1_idx79_inb : ∀ (v317 : IVec S16 32) (v320 : IVec S16 32) (k1_hw79 : k1_chk79 v317 v320), ∀ a x, ((![v320, v317] : Fin 2 → IVec S16 32) a x).toNat < S24x128.size a := fun v317 v320 k1_hw79 => k1_hw79

def k1_chk80 (v317 : IVec S16 32) (v322 : IVec S16 32) : Prop :=
  (∀ a x, ((![v322, v317] : Fin 2 → IVec S16 32) a x).toNat < S24x128.size a)
theorem k1_idx80_inb : ∀ (v317 : IVec S16 32) (v322 : IVec S16 32) (k1_hw80 : k1_chk80 v317 v322), ∀ a x, ((![v322, v317] : Fin 2 → IVec S16 32) a x).toNat < S24x128.size a := fun v317 v322 k1_hw80 => k1_hw80

def k1_chk81 (v317 : IVec S16 32) (v324 : IVec S16 32) : Prop :=
  (∀ a x, ((![v324, v317] : Fin 2 → IVec S16 32) a x).toNat < S24x128.size a)
theorem k1_idx81_inb : ∀ (v317 : IVec S16 32) (v324 : IVec S16 32) (k1_hw81 : k1_chk81 v317 v324), ∀ a x, ((![v324, v317] : Fin 2 → IVec S16 32) a x).toNat < S24x128.size a := fun v317 v324 k1_hw81 => k1_hw81

def k1_chk82 (v317 : IVec S16 32) (v326 : IVec S16 32) : Prop :=
  (∀ a x, ((![v326, v317] : Fin 2 → IVec S16 32) a x).toNat < S24x128.size a)
theorem k1_idx82_inb : ∀ (v317 : IVec S16 32) (v326 : IVec S16 32) (k1_hw82 : k1_chk82 v317 v326), ∀ a x, ((![v326, v317] : Fin 2 → IVec S16 32) a x).toNat < S24x128.size a := fun v317 v326 k1_hw82 => k1_hw82

def k1_chk83 (v317 : IVec S16 32) (v328 : IVec S16 32) : Prop :=
  (∀ a x, ((![v328, v317] : Fin 2 → IVec S16 32) a x).toNat < S24x128.size a)
theorem k1_idx83_inb : ∀ (v317 : IVec S16 32) (v328 : IVec S16 32) (k1_hw83 : k1_chk83 v317 v328), ∀ a x, ((![v328, v317] : Fin 2 → IVec S16 32) a x).toNat < S24x128.size a := fun v317 v328 k1_hw83 => k1_hw83

def k1_chk84 (v317 : IVec S16 32) (v330 : IVec S16 32) : Prop :=
  (∀ a x, ((![v330, v317] : Fin 2 → IVec S16 32) a x).toNat < S24x128.size a)
theorem k1_idx84_inb : ∀ (v317 : IVec S16 32) (v330 : IVec S16 32) (k1_hw84 : k1_chk84 v317 v330), ∀ a x, ((![v330, v317] : Fin 2 → IVec S16 32) a x).toNat < S24x128.size a := fun v317 v330 k1_hw84 => k1_hw84

def k1_chk85 (v317 : IVec S16 32) (v332 : IVec S16 32) : Prop :=
  (∀ a x, ((![v332, v317] : Fin 2 → IVec S16 32) a x).toNat < S24x128.size a)
theorem k1_idx85_inb : ∀ (v317 : IVec S16 32) (v332 : IVec S16 32) (k1_hw85 : k1_chk85 v317 v332), ∀ a x, ((![v332, v317] : Fin 2 → IVec S16 32) a x).toNat < S24x128.size a := fun v317 v332 k1_hw85 => k1_hw85

def k1_chk86 (v317 : IVec S16 32) (v334 : IVec S16 32) : Prop :=
  (∀ a x, ((![v334, v317] : Fin 2 → IVec S16 32) a x).toNat < S24x128.size a)
theorem k1_idx86_inb : ∀ (v317 : IVec S16 32) (v334 : IVec S16 32) (k1_hw86 : k1_chk86 v317 v334), ∀ a x, ((![v334, v317] : Fin 2 → IVec S16 32) a x).toNat < S24x128.size a := fun v317 v334 k1_hw86 => k1_hw86

def k1_chk87 (v317 : IVec S16 32) (v336 : IVec S16 32) : Prop :=
  (∀ a x, ((![v336, v317] : Fin 2 → IVec S16 32) a x).toNat < S24x128.size a)
theorem k1_idx87_inb : ∀ (v317 : IVec S16 32) (v336 : IVec S16 32) (k1_hw87 : k1_chk87 v317 v336), ∀ a x, ((![v336, v317] : Fin 2 → IVec S16 32) a x).toNat < S24x128.size a := fun v317 v336 k1_hw87 => k1_hw87

def k1_chk88 (v317 : IVec S16 32) (v338 : IVec S16 32) : Prop :=
  (∀ a x, ((![v338, v317] : Fin 2 → IVec S16 32) a x).toNat < S24x128.size a)
theorem k1_idx88_inb : ∀ (v317 : IVec S16 32) (v338 : IVec S16 32) (k1_hw88 : k1_chk88 v317 v338), ∀ a x, ((![v338, v317] : Fin 2 → IVec S16 32) a x).toNat < S24x128.size a := fun v317 v338 k1_hw88 => k1_hw88

def k1_chk89 (v317 : IVec S16 32) (v340 : IVec S16 32) : Prop :=
  (∀ a x, ((![v340, v317] : Fin 2 → IVec S16 32) a x).toNat < S24x128.size a)
theorem k1_idx89_inb : ∀ (v317 : IVec S16 32) (v340 : IVec S16 32) (k1_hw89 : k1_chk89 v317 v340), ∀ a x, ((![v340, v317] : Fin 2 → IVec S16 32) a x).toNat < S24x128.size a := fun v317 v340 k1_hw89 => k1_hw89

def k1_chk90 (v317 : IVec S16 32) (v342 : IVec S16 32) : Prop :=
  (∀ a x, ((![v342, v317] : Fin 2 → IVec S16 32) a x).toNat < S24x128.size a)
theorem k1_idx90_inb : ∀ (v317 : IVec S16 32) (v342 : IVec S16 32) (k1_hw90 : k1_chk90 v317 v342), ∀ a x, ((![v342, v317] : Fin 2 → IVec S16 32) a x).toNat < S24x128.size a := fun v317 v342 k1_hw90 => k1_hw90

def k1_chk91 (v317 : IVec S16 32) (v344 : IVec S16 32) : Prop :=
  (∀ a x, ((![v344, v317] : Fin 2 → IVec S16 32) a x).toNat < S24x128.size a)
theorem k1_idx91_inb : ∀ (v317 : IVec S16 32) (v344 : IVec S16 32) (k1_hw91 : k1_chk91 v317 v344), ∀ a x, ((![v344, v317] : Fin 2 → IVec S16 32) a x).toNat < S24x128.size a := fun v317 v344 k1_hw91 => k1_hw91

def k1_chk92 (v317 : IVec S16 32) (v346 : IVec S16 32) : Prop :=
  (∀ a x, ((![v346, v317] : Fin 2 → IVec S16 32) a x).toNat < S24x128.size a)
theorem k1_idx92_inb : ∀ (v317 : IVec S16 32) (v346 : IVec S16 32) (k1_hw92 : k1_chk92 v317 v346), ∀ a x, ((![v346, v317] : Fin 2 → IVec S16 32) a x).toNat < S24x128.size a := fun v317 v346 k1_hw92 => k1_hw92

def k1_chk93 (v317 : IVec S16 32) (v348 : IVec S16 32) : Prop :=
  (∀ a x, ((![v348, v317] : Fin 2 → IVec S16 32) a x).toNat < S24x128.size a)
theorem k1_idx93_inb : ∀ (v317 : IVec S16 32) (v348 : IVec S16 32) (k1_hw93 : k1_chk93 v317 v348), ∀ a x, ((![v348, v317] : Fin 2 → IVec S16 32) a x).toNat < S24x128.size a := fun v317 v348 k1_hw93 => k1_hw93

def k1_chk94 (v317 : IVec S16 32) (v350 : IVec S16 32) : Prop :=
  (∀ a x, ((![v350, v317] : Fin 2 → IVec S16 32) a x).toNat < S24x128.size a)
theorem k1_idx94_inb : ∀ (v317 : IVec S16 32) (v350 : IVec S16 32) (k1_hw94 : k1_chk94 v317 v350), ∀ a x, ((![v350, v317] : Fin 2 → IVec S16 32) a x).toNat < S24x128.size a := fun v317 v350 k1_hw94 => k1_hw94

def k1_chk95 (v317 : IVec S16 32) (v352 : IVec S16 32) : Prop :=
  (∀ a x, ((![v352, v317] : Fin 2 → IVec S16 32) a x).toNat < S24x128.size a)
theorem k1_idx95_inb : ∀ (v317 : IVec S16 32) (v352 : IVec S16 32) (k1_hw95 : k1_chk95 v317 v352), ∀ a x, ((![v352, v317] : Fin 2 → IVec S16 32) a x).toNat < S24x128.size a := fun v317 v352 k1_hw95 => k1_hw95

def k1_chk96 (v362 : IVec S16 32) : Prop :=
  (∀ a x, ((![v362] : Fin 1 → IVec S16 32) a x).toNat < S13824.size a)
theorem k1_idx96_inb : ∀ (v362 : IVec S16 32) (k1_hw96 : k1_chk96 v362), ∀ a x, ((![v362] : Fin 1 → IVec S16 32) a x).toNat < S13824.size a := fun v362 k1_hw96 => k1_hw96

def k1_chk97 (v367 : IVec S16 32) : Prop :=
  (∀ a x, ((![v367] : Fin 1 → IVec S16 32) a x).toNat < S13824.size a)
theorem k1_idx97_inb : ∀ (v367 : IVec S16 32) (k1_hw97 : k1_chk97 v367), ∀ a x, ((![v367] : Fin 1 → IVec S16 32) a x).toNat < S13824.size a := fun v367 k1_hw97 => k1_hw97

def k1_chk98 (v375 : IVec S16 32) : Prop :=
  (∀ a x, ((![v375] : Fin 1 → IVec S16 32) a x).toNat < S13824.size a)
theorem k1_idx98_inb : ∀ (v375 : IVec S16 32) (k1_hw98 : k1_chk98 v375), ∀ a x, ((![v375] : Fin 1 → IVec S16 32) a x).toNat < S13824.size a := fun v375 k1_hw98 => k1_hw98

def k1_chk99 (v383 : IVec S16 32) : Prop :=
  (∀ a x, ((![v383] : Fin 1 → IVec S16 32) a x).toNat < S13824.size a)
theorem k1_idx99_inb : ∀ (v383 : IVec S16 32) (k1_hw99 : k1_chk99 v383), ∀ a x, ((![v383] : Fin 1 → IVec S16 32) a x).toNat < S13824.size a := fun v383 k1_hw99 => k1_hw99

def k1_chk100 (v391 : IVec S16 32) : Prop :=
  (∀ a x, ((![v391] : Fin 1 → IVec S16 32) a x).toNat < S13824.size a)
theorem k1_idx100_inb : ∀ (v391 : IVec S16 32) (k1_hw100 : k1_chk100 v391), ∀ a x, ((![v391] : Fin 1 → IVec S16 32) a x).toNat < S13824.size a := fun v391 k1_hw100 => k1_hw100

def k1_chk101 (v399 : IVec S16 32) : Prop :=
  (∀ a x, ((![v399] : Fin 1 → IVec S16 32) a x).toNat < S13824.size a)
theorem k1_idx101_inb : ∀ (v399 : IVec S16 32) (k1_hw101 : k1_chk101 v399), ∀ a x, ((![v399] : Fin 1 → IVec S16 32) a x).toNat < S13824.size a := fun v399 k1_hw101 => k1_hw101

def k1_chk102 (v407 : IVec S16 32) : Prop :=
  (∀ a x, ((![v407] : Fin 1 → IVec S16 32) a x).toNat < S13824.size a)
theorem k1_idx102_inb : ∀ (v407 : IVec S16 32) (k1_hw102 : k1_chk102 v407), ∀ a x, ((![v407] : Fin 1 → IVec S16 32) a x).toNat < S13824.size a := fun v407 k1_hw102 => k1_hw102

def k1_chk103 (v412 : IVec S16 32) : Prop :=
  (∀ a x, ((![v412] : Fin 1 → IVec S16 32) a x).toNat < S13824.size a)
theorem k1_idx103_inb : ∀ (v412 : IVec S16 32) (k1_hw103 : k1_chk103 v412), ∀ a x, ((![v412] : Fin 1 → IVec S16 32) a x).toNat < S13824.size a := fun v412 k1_hw103 => k1_hw103

def k1_chk104 (v420 : IVec S16 32) : Prop :=
  (∀ a x, ((![v420] : Fin 1 → IVec S16 32) a x).toNat < S13824.size a)
theorem k1_idx104_inb : ∀ (v420 : IVec S16 32) (k1_hw104 : k1_chk104 v420), ∀ a x, ((![v420] : Fin 1 → IVec S16 32) a x).toNat < S13824.size a := fun v420 k1_hw104 => k1_hw104

def k1_chk105 (v428 : IVec S16 32) : Prop :=
  (∀ a x, ((![v428] : Fin 1 → IVec S16 32) a x).toNat < S13824.size a)
theorem k1_idx105_inb : ∀ (v428 : IVec S16 32) (k1_hw105 : k1_chk105 v428), ∀ a x, ((![v428] : Fin 1 → IVec S16 32) a x).toNat < S13824.size a := fun v428 k1_hw105 => k1_hw105

def k1_chk106 (v436 : IVec S16 32) : Prop :=
  (∀ a x, ((![v436] : Fin 1 → IVec S16 32) a x).toNat < S13824.size a)
theorem k1_idx106_inb : ∀ (v436 : IVec S16 32) (k1_hw106 : k1_chk106 v436), ∀ a x, ((![v436] : Fin 1 → IVec S16 32) a x).toNat < S13824.size a := fun v436 k1_hw106 => k1_hw106

def k1_chk107 (v444 : IVec S16 32) : Prop :=
  (∀ a x, ((![v444] : Fin 1 → IVec S16 32) a x).toNat < S13824.size a)
theorem k1_idx107_inb : ∀ (v444 : IVec S16 32) (k1_hw107 : k1_chk107 v444), ∀ a x, ((![v444] : Fin 1 → IVec S16 32) a x).toNat < S13824.size a := fun v444 k1_hw107 => k1_hw107

def k1_chk108 (v455 : IVec S16 32) : Prop :=
  (∀ a x, ((![v455] : Fin 1 → IVec S16 32) a x).toNat < S256.size a)
theorem k1_idx108_inb : ∀ (v455 : IVec S16 32) (k1_hw108 : k1_chk108 v455), ∀ a x, ((![v455] : Fin 1 → IVec S16 32) a x).toNat < S256.size a := fun v455 k1_hw108 => k1_hw108

def k1_chk109 (v460 : IVec S16 32) : Prop :=
  (∀ a x, ((![v460] : Fin 1 → IVec S16 32) a x).toNat < S256.size a)
theorem k1_idx109_inb : ∀ (v460 : IVec S16 32) (k1_hw109 : k1_chk109 v460), ∀ a x, ((![v460] : Fin 1 → IVec S16 32) a x).toNat < S256.size a := fun v460 k1_hw109 => k1_hw109

def k1_chk110 (v465 : IVec S16 32) : Prop :=
  (∀ a x, ((![v465] : Fin 1 → IVec S16 32) a x).toNat < S256.size a)
theorem k1_idx110_inb : ∀ (v465 : IVec S16 32) (k1_hw110 : k1_chk110 v465), ∀ a x, ((![v465] : Fin 1 → IVec S16 32) a x).toNat < S256.size a := fun v465 k1_hw110 => k1_hw110

def k1_chk111 (v470 : IVec S16 32) : Prop :=
  (∀ a x, ((![v470] : Fin 1 → IVec S16 32) a x).toNat < S256.size a)
theorem k1_idx111_inb : ∀ (v470 : IVec S16 32) (k1_hw111 : k1_chk111 v470), ∀ a x, ((![v470] : Fin 1 → IVec S16 32) a x).toNat < S256.size a := fun v470 k1_hw111 => k1_hw111

def k1_chk112 (v475 : IVec S16 32) : Prop :=
  (∀ a x, ((![v475] : Fin 1 → IVec S16 32) a x).toNat < S256.size a)
theorem k1_idx112_inb : ∀ (v475 : IVec S16 32) (k1_hw112 : k1_chk112 v475), ∀ a x, ((![v475] : Fin 1 → IVec S16 32) a x).toNat < S256.size a := fun v475 k1_hw112 => k1_hw112

def k1_chk113 (v480 : IVec S16 32) : Prop :=
  (∀ a x, ((![v480] : Fin 1 → IVec S16 32) a x).toNat < S256.size a)
theorem k1_idx113_inb : ∀ (v480 : IVec S16 32) (k1_hw113 : k1_chk113 v480), ∀ a x, ((![v480] : Fin 1 → IVec S16 32) a x).toNat < S256.size a := fun v480 k1_hw113 => k1_hw113

def k1_chk114 (v490 : IVec S16 32) : Prop :=
  (∀ a x, ((![v490] : Fin 1 → IVec S16 32) a x).toNat < S256.size a)
theorem k1_idx114_inb : ∀ (v490 : IVec S16 32) (k1_hw114 : k1_chk114 v490), ∀ a x, ((![v490] : Fin 1 → IVec S16 32) a x).toNat < S256.size a := fun v490 k1_hw114 => k1_hw114

def k1_chk115 (v507 : IVec S16 32) : Prop :=
  (∀ a x, ((![v507] : Fin 1 → IVec S16 32) a x).toNat < S13824.size a)
theorem k1_idx115_inb : ∀ (v507 : IVec S16 32) (k1_hw115 : k1_chk115 v507), ∀ a x, ((![v507] : Fin 1 → IVec S16 32) a x).toNat < S13824.size a := fun v507 k1_hw115 => k1_hw115

def k1_chk116 (v512 : IVec S16 32) : Prop :=
  (∀ a x, ((![v512] : Fin 1 → IVec S16 32) a x).toNat < S13824.size a)
theorem k1_idx116_inb : ∀ (v512 : IVec S16 32) (k1_hw116 : k1_chk116 v512), ∀ a x, ((![v512] : Fin 1 → IVec S16 32) a x).toNat < S13824.size a := fun v512 k1_hw116 => k1_hw116

def k1_chk117 (v520 : IVec S16 32) : Prop :=
  (∀ a x, ((![v520] : Fin 1 → IVec S16 32) a x).toNat < S13824.size a)
theorem k1_idx117_inb : ∀ (v520 : IVec S16 32) (k1_hw117 : k1_chk117 v520), ∀ a x, ((![v520] : Fin 1 → IVec S16 32) a x).toNat < S13824.size a := fun v520 k1_hw117 => k1_hw117

def k1_chk118 (v528 : IVec S16 32) : Prop :=
  (∀ a x, ((![v528] : Fin 1 → IVec S16 32) a x).toNat < S13824.size a)
theorem k1_idx118_inb : ∀ (v528 : IVec S16 32) (k1_hw118 : k1_chk118 v528), ∀ a x, ((![v528] : Fin 1 → IVec S16 32) a x).toNat < S13824.size a := fun v528 k1_hw118 => k1_hw118

def k1_chk119 (v536 : IVec S16 32) : Prop :=
  (∀ a x, ((![v536] : Fin 1 → IVec S16 32) a x).toNat < S13824.size a)
theorem k1_idx119_inb : ∀ (v536 : IVec S16 32) (k1_hw119 : k1_chk119 v536), ∀ a x, ((![v536] : Fin 1 → IVec S16 32) a x).toNat < S13824.size a := fun v536 k1_hw119 => k1_hw119

def k1_chk120 (v544 : IVec S16 32) : Prop :=
  (∀ a x, ((![v544] : Fin 1 → IVec S16 32) a x).toNat < S13824.size a)
theorem k1_idx120_inb : ∀ (v544 : IVec S16 32) (k1_hw120 : k1_chk120 v544), ∀ a x, ((![v544] : Fin 1 → IVec S16 32) a x).toNat < S13824.size a := fun v544 k1_hw120 => k1_hw120

def k1_chk121 (v552 : IVec S16 32) : Prop :=
  (∀ a x, ((![v552] : Fin 1 → IVec S16 32) a x).toNat < S13824.size a)
theorem k1_idx121_inb : ∀ (v552 : IVec S16 32) (k1_hw121 : k1_chk121 v552), ∀ a x, ((![v552] : Fin 1 → IVec S16 32) a x).toNat < S13824.size a := fun v552 k1_hw121 => k1_hw121

def k1_chk122 (v557 : IVec S16 32) : Prop :=
  (∀ a x, ((![v557] : Fin 1 → IVec S16 32) a x).toNat < S13824.size a)
theorem k1_idx122_inb : ∀ (v557 : IVec S16 32) (k1_hw122 : k1_chk122 v557), ∀ a x, ((![v557] : Fin 1 → IVec S16 32) a x).toNat < S13824.size a := fun v557 k1_hw122 => k1_hw122

def k1_chk123 (v565 : IVec S16 32) : Prop :=
  (∀ a x, ((![v565] : Fin 1 → IVec S16 32) a x).toNat < S13824.size a)
theorem k1_idx123_inb : ∀ (v565 : IVec S16 32) (k1_hw123 : k1_chk123 v565), ∀ a x, ((![v565] : Fin 1 → IVec S16 32) a x).toNat < S13824.size a := fun v565 k1_hw123 => k1_hw123

def k1_chk124 (v573 : IVec S16 32) : Prop :=
  (∀ a x, ((![v573] : Fin 1 → IVec S16 32) a x).toNat < S13824.size a)
theorem k1_idx124_inb : ∀ (v573 : IVec S16 32) (k1_hw124 : k1_chk124 v573), ∀ a x, ((![v573] : Fin 1 → IVec S16 32) a x).toNat < S13824.size a := fun v573 k1_hw124 => k1_hw124

def k1_chk125 (v581 : IVec S16 32) : Prop :=
  (∀ a x, ((![v581] : Fin 1 → IVec S16 32) a x).toNat < S13824.size a)
theorem k1_idx125_inb : ∀ (v581 : IVec S16 32) (k1_hw125 : k1_chk125 v581), ∀ a x, ((![v581] : Fin 1 → IVec S16 32) a x).toNat < S13824.size a := fun v581 k1_hw125 => k1_hw125

def k1_chk126 (v589 : IVec S16 32) : Prop :=
  (∀ a x, ((![v589] : Fin 1 → IVec S16 32) a x).toNat < S13824.size a)
theorem k1_idx126_inb : ∀ (v589 : IVec S16 32) (k1_hw126 : k1_chk126 v589), ∀ a x, ((![v589] : Fin 1 → IVec S16 32) a x).toNat < S13824.size a := fun v589 k1_hw126 => k1_hw126

def k1_chk127 (v600 : IVec S16 32) : Prop :=
  (∀ a x, ((![v600] : Fin 1 → IVec S16 32) a x).toNat < S256.size a)
theorem k1_idx127_inb : ∀ (v600 : IVec S16 32) (k1_hw127 : k1_chk127 v600), ∀ a x, ((![v600] : Fin 1 → IVec S16 32) a x).toNat < S256.size a := fun v600 k1_hw127 => k1_hw127

def k1_chk128 (v605 : IVec S16 32) : Prop :=
  (∀ a x, ((![v605] : Fin 1 → IVec S16 32) a x).toNat < S256.size a)
theorem k1_idx128_inb : ∀ (v605 : IVec S16 32) (k1_hw128 : k1_chk128 v605), ∀ a x, ((![v605] : Fin 1 → IVec S16 32) a x).toNat < S256.size a := fun v605 k1_hw128 => k1_hw128

def k1_chk129 (v610 : IVec S16 32) : Prop :=
  (∀ a x, ((![v610] : Fin 1 → IVec S16 32) a x).toNat < S256.size a)
theorem k1_idx129_inb : ∀ (v610 : IVec S16 32) (k1_hw129 : k1_chk129 v610), ∀ a x, ((![v610] : Fin 1 → IVec S16 32) a x).toNat < S256.size a := fun v610 k1_hw129 => k1_hw129

def k1_chk130 (v615 : IVec S16 32) : Prop :=
  (∀ a x, ((![v615] : Fin 1 → IVec S16 32) a x).toNat < S256.size a)
theorem k1_idx130_inb : ∀ (v615 : IVec S16 32) (k1_hw130 : k1_chk130 v615), ∀ a x, ((![v615] : Fin 1 → IVec S16 32) a x).toNat < S256.size a := fun v615 k1_hw130 => k1_hw130

def k1_chk131 (v620 : IVec S16 32) : Prop :=
  (∀ a x, ((![v620] : Fin 1 → IVec S16 32) a x).toNat < S256.size a)
theorem k1_idx131_inb : ∀ (v620 : IVec S16 32) (k1_hw131 : k1_chk131 v620), ∀ a x, ((![v620] : Fin 1 → IVec S16 32) a x).toNat < S256.size a := fun v620 k1_hw131 => k1_hw131

def k1_chk132 (v625 : IVec S16 32) : Prop :=
  (∀ a x, ((![v625] : Fin 1 → IVec S16 32) a x).toNat < S256.size a)
theorem k1_idx132_inb : ∀ (v625 : IVec S16 32) (k1_hw132 : k1_chk132 v625), ∀ a x, ((![v625] : Fin 1 → IVec S16 32) a x).toNat < S256.size a := fun v625 k1_hw132 => k1_hw132

def k1_chk133 (v635 : IVec S16 32) : Prop :=
  (∀ a x, ((![v635] : Fin 1 → IVec S16 32) a x).toNat < S256.size a)
theorem k1_idx133_inb : ∀ (v635 : IVec S16 32) (k1_hw133 : k1_chk133 v635), ∀ a x, ((![v635] : Fin 1 → IVec S16 32) a x).toNat < S256.size a := fun v635 k1_hw133 => k1_hw133

def k1_chk134 (v652 : IVec S16 32) : Prop :=
  (∀ a x, ((![v652] : Fin 1 → IVec S16 32) a x).toNat < S13824.size a)
theorem k1_idx134_inb : ∀ (v652 : IVec S16 32) (k1_hw134 : k1_chk134 v652), ∀ a x, ((![v652] : Fin 1 → IVec S16 32) a x).toNat < S13824.size a := fun v652 k1_hw134 => k1_hw134

def k1_chk135 (v657 : IVec S16 32) : Prop :=
  (∀ a x, ((![v657] : Fin 1 → IVec S16 32) a x).toNat < S13824.size a)
theorem k1_idx135_inb : ∀ (v657 : IVec S16 32) (k1_hw135 : k1_chk135 v657), ∀ a x, ((![v657] : Fin 1 → IVec S16 32) a x).toNat < S13824.size a := fun v657 k1_hw135 => k1_hw135

def k1_chk136 (v665 : IVec S16 32) : Prop :=
  (∀ a x, ((![v665] : Fin 1 → IVec S16 32) a x).toNat < S13824.size a)
theorem k1_idx136_inb : ∀ (v665 : IVec S16 32) (k1_hw136 : k1_chk136 v665), ∀ a x, ((![v665] : Fin 1 → IVec S16 32) a x).toNat < S13824.size a := fun v665 k1_hw136 => k1_hw136

def k1_chk137 (v673 : IVec S16 32) : Prop :=
  (∀ a x, ((![v673] : Fin 1 → IVec S16 32) a x).toNat < S13824.size a)
theorem k1_idx137_inb : ∀ (v673 : IVec S16 32) (k1_hw137 : k1_chk137 v673), ∀ a x, ((![v673] : Fin 1 → IVec S16 32) a x).toNat < S13824.size a := fun v673 k1_hw137 => k1_hw137

def k1_chk138 (v681 : IVec S16 32) : Prop :=
  (∀ a x, ((![v681] : Fin 1 → IVec S16 32) a x).toNat < S13824.size a)
theorem k1_idx138_inb : ∀ (v681 : IVec S16 32) (k1_hw138 : k1_chk138 v681), ∀ a x, ((![v681] : Fin 1 → IVec S16 32) a x).toNat < S13824.size a := fun v681 k1_hw138 => k1_hw138

def k1_chk139 (v689 : IVec S16 32) : Prop :=
  (∀ a x, ((![v689] : Fin 1 → IVec S16 32) a x).toNat < S13824.size a)
theorem k1_idx139_inb : ∀ (v689 : IVec S16 32) (k1_hw139 : k1_chk139 v689), ∀ a x, ((![v689] : Fin 1 → IVec S16 32) a x).toNat < S13824.size a := fun v689 k1_hw139 => k1_hw139

def k1_chk140 (v697 : IVec S16 32) : Prop :=
  (∀ a x, ((![v697] : Fin 1 → IVec S16 32) a x).toNat < S13824.size a)
theorem k1_idx140_inb : ∀ (v697 : IVec S16 32) (k1_hw140 : k1_chk140 v697), ∀ a x, ((![v697] : Fin 1 → IVec S16 32) a x).toNat < S13824.size a := fun v697 k1_hw140 => k1_hw140

def k1_chk141 (v702 : IVec S16 32) : Prop :=
  (∀ a x, ((![v702] : Fin 1 → IVec S16 32) a x).toNat < S13824.size a)
theorem k1_idx141_inb : ∀ (v702 : IVec S16 32) (k1_hw141 : k1_chk141 v702), ∀ a x, ((![v702] : Fin 1 → IVec S16 32) a x).toNat < S13824.size a := fun v702 k1_hw141 => k1_hw141

def k1_chk142 (v710 : IVec S16 32) : Prop :=
  (∀ a x, ((![v710] : Fin 1 → IVec S16 32) a x).toNat < S13824.size a)
theorem k1_idx142_inb : ∀ (v710 : IVec S16 32) (k1_hw142 : k1_chk142 v710), ∀ a x, ((![v710] : Fin 1 → IVec S16 32) a x).toNat < S13824.size a := fun v710 k1_hw142 => k1_hw142

def k1_chk143 (v718 : IVec S16 32) : Prop :=
  (∀ a x, ((![v718] : Fin 1 → IVec S16 32) a x).toNat < S13824.size a)
theorem k1_idx143_inb : ∀ (v718 : IVec S16 32) (k1_hw143 : k1_chk143 v718), ∀ a x, ((![v718] : Fin 1 → IVec S16 32) a x).toNat < S13824.size a := fun v718 k1_hw143 => k1_hw143

def k1_chk144 (v726 : IVec S16 32) : Prop :=
  (∀ a x, ((![v726] : Fin 1 → IVec S16 32) a x).toNat < S13824.size a)
theorem k1_idx144_inb : ∀ (v726 : IVec S16 32) (k1_hw144 : k1_chk144 v726), ∀ a x, ((![v726] : Fin 1 → IVec S16 32) a x).toNat < S13824.size a := fun v726 k1_hw144 => k1_hw144

def k1_chk145 (v734 : IVec S16 32) : Prop :=
  (∀ a x, ((![v734] : Fin 1 → IVec S16 32) a x).toNat < S13824.size a)
theorem k1_idx145_inb : ∀ (v734 : IVec S16 32) (k1_hw145 : k1_chk145 v734), ∀ a x, ((![v734] : Fin 1 → IVec S16 32) a x).toNat < S13824.size a := fun v734 k1_hw145 => k1_hw145

def k1_chk146 (v745 : IVec S16 32) : Prop :=
  (∀ a x, ((![v745] : Fin 1 → IVec S16 32) a x).toNat < S256.size a)
theorem k1_idx146_inb : ∀ (v745 : IVec S16 32) (k1_hw146 : k1_chk146 v745), ∀ a x, ((![v745] : Fin 1 → IVec S16 32) a x).toNat < S256.size a := fun v745 k1_hw146 => k1_hw146

def k1_chk147 (v750 : IVec S16 32) : Prop :=
  (∀ a x, ((![v750] : Fin 1 → IVec S16 32) a x).toNat < S256.size a)
theorem k1_idx147_inb : ∀ (v750 : IVec S16 32) (k1_hw147 : k1_chk147 v750), ∀ a x, ((![v750] : Fin 1 → IVec S16 32) a x).toNat < S256.size a := fun v750 k1_hw147 => k1_hw147

def k1_chk148 (v755 : IVec S16 32) : Prop :=
  (∀ a x, ((![v755] : Fin 1 → IVec S16 32) a x).toNat < S256.size a)
theorem k1_idx148_inb : ∀ (v755 : IVec S16 32) (k1_hw148 : k1_chk148 v755), ∀ a x, ((![v755] : Fin 1 → IVec S16 32) a x).toNat < S256.size a := fun v755 k1_hw148 => k1_hw148

def k1_chk149 (v760 : IVec S16 32) : Prop :=
  (∀ a x, ((![v760] : Fin 1 → IVec S16 32) a x).toNat < S256.size a)
theorem k1_idx149_inb : ∀ (v760 : IVec S16 32) (k1_hw149 : k1_chk149 v760), ∀ a x, ((![v760] : Fin 1 → IVec S16 32) a x).toNat < S256.size a := fun v760 k1_hw149 => k1_hw149

def k1_chk150 (v765 : IVec S16 32) : Prop :=
  (∀ a x, ((![v765] : Fin 1 → IVec S16 32) a x).toNat < S256.size a)
theorem k1_idx150_inb : ∀ (v765 : IVec S16 32) (k1_hw150 : k1_chk150 v765), ∀ a x, ((![v765] : Fin 1 → IVec S16 32) a x).toNat < S256.size a := fun v765 k1_hw150 => k1_hw150

def k1_chk151 (v770 : IVec S16 32) : Prop :=
  (∀ a x, ((![v770] : Fin 1 → IVec S16 32) a x).toNat < S256.size a)
theorem k1_idx151_inb : ∀ (v770 : IVec S16 32) (k1_hw151 : k1_chk151 v770), ∀ a x, ((![v770] : Fin 1 → IVec S16 32) a x).toNat < S256.size a := fun v770 k1_hw151 => k1_hw151

def k1_chk152 (v780 : IVec S16 32) : Prop :=
  (∀ a x, ((![v780] : Fin 1 → IVec S16 32) a x).toNat < S256.size a)
theorem k1_idx152_inb : ∀ (v780 : IVec S16 32) (k1_hw152 : k1_chk152 v780), ∀ a x, ((![v780] : Fin 1 → IVec S16 32) a x).toNat < S256.size a := fun v780 k1_hw152 => k1_hw152

def k1_chk153 (v797 : IVec S16 32) : Prop :=
  (∀ a x, ((![v797] : Fin 1 → IVec S16 32) a x).toNat < S13824.size a)
theorem k1_idx153_inb : ∀ (v797 : IVec S16 32) (k1_hw153 : k1_chk153 v797), ∀ a x, ((![v797] : Fin 1 → IVec S16 32) a x).toNat < S13824.size a := fun v797 k1_hw153 => k1_hw153

def k1_chk154 (v802 : IVec S16 32) : Prop :=
  (∀ a x, ((![v802] : Fin 1 → IVec S16 32) a x).toNat < S13824.size a)
theorem k1_idx154_inb : ∀ (v802 : IVec S16 32) (k1_hw154 : k1_chk154 v802), ∀ a x, ((![v802] : Fin 1 → IVec S16 32) a x).toNat < S13824.size a := fun v802 k1_hw154 => k1_hw154

def k1_chk155 (v810 : IVec S16 32) : Prop :=
  (∀ a x, ((![v810] : Fin 1 → IVec S16 32) a x).toNat < S13824.size a)
theorem k1_idx155_inb : ∀ (v810 : IVec S16 32) (k1_hw155 : k1_chk155 v810), ∀ a x, ((![v810] : Fin 1 → IVec S16 32) a x).toNat < S13824.size a := fun v810 k1_hw155 => k1_hw155

def k1_chk156 (v818 : IVec S16 32) : Prop :=
  (∀ a x, ((![v818] : Fin 1 → IVec S16 32) a x).toNat < S13824.size a)
theorem k1_idx156_inb : ∀ (v818 : IVec S16 32) (k1_hw156 : k1_chk156 v818), ∀ a x, ((![v818] : Fin 1 → IVec S16 32) a x).toNat < S13824.size a := fun v818 k1_hw156 => k1_hw156

def k1_chk157 (v826 : IVec S16 32) : Prop :=
  (∀ a x, ((![v826] : Fin 1 → IVec S16 32) a x).toNat < S13824.size a)
theorem k1_idx157_inb : ∀ (v826 : IVec S16 32) (k1_hw157 : k1_chk157 v826), ∀ a x, ((![v826] : Fin 1 → IVec S16 32) a x).toNat < S13824.size a := fun v826 k1_hw157 => k1_hw157

def k1_chk158 (v834 : IVec S16 32) : Prop :=
  (∀ a x, ((![v834] : Fin 1 → IVec S16 32) a x).toNat < S13824.size a)
theorem k1_idx158_inb : ∀ (v834 : IVec S16 32) (k1_hw158 : k1_chk158 v834), ∀ a x, ((![v834] : Fin 1 → IVec S16 32) a x).toNat < S13824.size a := fun v834 k1_hw158 => k1_hw158

def k1_chk159 (v842 : IVec S16 32) : Prop :=
  (∀ a x, ((![v842] : Fin 1 → IVec S16 32) a x).toNat < S13824.size a)
theorem k1_idx159_inb : ∀ (v842 : IVec S16 32) (k1_hw159 : k1_chk159 v842), ∀ a x, ((![v842] : Fin 1 → IVec S16 32) a x).toNat < S13824.size a := fun v842 k1_hw159 => k1_hw159

def k1_chk160 (v847 : IVec S16 32) : Prop :=
  (∀ a x, ((![v847] : Fin 1 → IVec S16 32) a x).toNat < S13824.size a)
theorem k1_idx160_inb : ∀ (v847 : IVec S16 32) (k1_hw160 : k1_chk160 v847), ∀ a x, ((![v847] : Fin 1 → IVec S16 32) a x).toNat < S13824.size a := fun v847 k1_hw160 => k1_hw160

def k1_chk161 (v855 : IVec S16 32) : Prop :=
  (∀ a x, ((![v855] : Fin 1 → IVec S16 32) a x).toNat < S13824.size a)
theorem k1_idx161_inb : ∀ (v855 : IVec S16 32) (k1_hw161 : k1_chk161 v855), ∀ a x, ((![v855] : Fin 1 → IVec S16 32) a x).toNat < S13824.size a := fun v855 k1_hw161 => k1_hw161

def k1_chk162 (v863 : IVec S16 32) : Prop :=
  (∀ a x, ((![v863] : Fin 1 → IVec S16 32) a x).toNat < S13824.size a)
theorem k1_idx162_inb : ∀ (v863 : IVec S16 32) (k1_hw162 : k1_chk162 v863), ∀ a x, ((![v863] : Fin 1 → IVec S16 32) a x).toNat < S13824.size a := fun v863 k1_hw162 => k1_hw162

def k1_chk163 (v871 : IVec S16 32) : Prop :=
  (∀ a x, ((![v871] : Fin 1 → IVec S16 32) a x).toNat < S13824.size a)
theorem k1_idx163_inb : ∀ (v871 : IVec S16 32) (k1_hw163 : k1_chk163 v871), ∀ a x, ((![v871] : Fin 1 → IVec S16 32) a x).toNat < S13824.size a := fun v871 k1_hw163 => k1_hw163

def k1_chk164 (v879 : IVec S16 32) : Prop :=
  (∀ a x, ((![v879] : Fin 1 → IVec S16 32) a x).toNat < S13824.size a)
theorem k1_idx164_inb : ∀ (v879 : IVec S16 32) (k1_hw164 : k1_chk164 v879), ∀ a x, ((![v879] : Fin 1 → IVec S16 32) a x).toNat < S13824.size a := fun v879 k1_hw164 => k1_hw164

def k1_chk165 (v890 : IVec S16 32) : Prop :=
  (∀ a x, ((![v890] : Fin 1 → IVec S16 32) a x).toNat < S256.size a)
theorem k1_idx165_inb : ∀ (v890 : IVec S16 32) (k1_hw165 : k1_chk165 v890), ∀ a x, ((![v890] : Fin 1 → IVec S16 32) a x).toNat < S256.size a := fun v890 k1_hw165 => k1_hw165

def k1_chk166 (v895 : IVec S16 32) : Prop :=
  (∀ a x, ((![v895] : Fin 1 → IVec S16 32) a x).toNat < S256.size a)
theorem k1_idx166_inb : ∀ (v895 : IVec S16 32) (k1_hw166 : k1_chk166 v895), ∀ a x, ((![v895] : Fin 1 → IVec S16 32) a x).toNat < S256.size a := fun v895 k1_hw166 => k1_hw166

def k1_chk167 (v900 : IVec S16 32) : Prop :=
  (∀ a x, ((![v900] : Fin 1 → IVec S16 32) a x).toNat < S256.size a)
theorem k1_idx167_inb : ∀ (v900 : IVec S16 32) (k1_hw167 : k1_chk167 v900), ∀ a x, ((![v900] : Fin 1 → IVec S16 32) a x).toNat < S256.size a := fun v900 k1_hw167 => k1_hw167

def k1_chk168 (v905 : IVec S16 32) : Prop :=
  (∀ a x, ((![v905] : Fin 1 → IVec S16 32) a x).toNat < S256.size a)
theorem k1_idx168_inb : ∀ (v905 : IVec S16 32) (k1_hw168 : k1_chk168 v905), ∀ a x, ((![v905] : Fin 1 → IVec S16 32) a x).toNat < S256.size a := fun v905 k1_hw168 => k1_hw168

def k1_chk169 (v910 : IVec S16 32) : Prop :=
  (∀ a x, ((![v910] : Fin 1 → IVec S16 32) a x).toNat < S256.size a)
theorem k1_idx169_inb : ∀ (v910 : IVec S16 32) (k1_hw169 : k1_chk169 v910), ∀ a x, ((![v910] : Fin 1 → IVec S16 32) a x).toNat < S256.size a := fun v910 k1_hw169 => k1_hw169

def k1_chk170 (v915 : IVec S16 32) : Prop :=
  (∀ a x, ((![v915] : Fin 1 → IVec S16 32) a x).toNat < S256.size a)
theorem k1_idx170_inb : ∀ (v915 : IVec S16 32) (k1_hw170 : k1_chk170 v915), ∀ a x, ((![v915] : Fin 1 → IVec S16 32) a x).toNat < S256.size a := fun v915 k1_hw170 => k1_hw170

def k1_chk171 (v925 : IVec S16 32) : Prop :=
  (∀ a x, ((![v925] : Fin 1 → IVec S16 32) a x).toNat < S256.size a)
theorem k1_idx171_inb : ∀ (v925 : IVec S16 32) (k1_hw171 : k1_chk171 v925), ∀ a x, ((![v925] : Fin 1 → IVec S16 32) a x).toNat < S256.size a := fun v925 k1_hw171 => k1_hw171

def k1_chk172 (v942 : IVec S16 32) : Prop :=
  (∀ a x, ((![v942] : Fin 1 → IVec S16 32) a x).toNat < S13824.size a)
theorem k1_idx172_inb : ∀ (v942 : IVec S16 32) (k1_hw172 : k1_chk172 v942), ∀ a x, ((![v942] : Fin 1 → IVec S16 32) a x).toNat < S13824.size a := fun v942 k1_hw172 => k1_hw172

def k1_chk173 (v947 : IVec S16 32) : Prop :=
  (∀ a x, ((![v947] : Fin 1 → IVec S16 32) a x).toNat < S13824.size a)
theorem k1_idx173_inb : ∀ (v947 : IVec S16 32) (k1_hw173 : k1_chk173 v947), ∀ a x, ((![v947] : Fin 1 → IVec S16 32) a x).toNat < S13824.size a := fun v947 k1_hw173 => k1_hw173

def k1_chk174 (v955 : IVec S16 32) : Prop :=
  (∀ a x, ((![v955] : Fin 1 → IVec S16 32) a x).toNat < S13824.size a)
theorem k1_idx174_inb : ∀ (v955 : IVec S16 32) (k1_hw174 : k1_chk174 v955), ∀ a x, ((![v955] : Fin 1 → IVec S16 32) a x).toNat < S13824.size a := fun v955 k1_hw174 => k1_hw174

def k1_chk175 (v963 : IVec S16 32) : Prop :=
  (∀ a x, ((![v963] : Fin 1 → IVec S16 32) a x).toNat < S13824.size a)
theorem k1_idx175_inb : ∀ (v963 : IVec S16 32) (k1_hw175 : k1_chk175 v963), ∀ a x, ((![v963] : Fin 1 → IVec S16 32) a x).toNat < S13824.size a := fun v963 k1_hw175 => k1_hw175

def k1_chk176 (v971 : IVec S16 32) : Prop :=
  (∀ a x, ((![v971] : Fin 1 → IVec S16 32) a x).toNat < S13824.size a)
theorem k1_idx176_inb : ∀ (v971 : IVec S16 32) (k1_hw176 : k1_chk176 v971), ∀ a x, ((![v971] : Fin 1 → IVec S16 32) a x).toNat < S13824.size a := fun v971 k1_hw176 => k1_hw176

def k1_chk177 (v979 : IVec S16 32) : Prop :=
  (∀ a x, ((![v979] : Fin 1 → IVec S16 32) a x).toNat < S13824.size a)
theorem k1_idx177_inb : ∀ (v979 : IVec S16 32) (k1_hw177 : k1_chk177 v979), ∀ a x, ((![v979] : Fin 1 → IVec S16 32) a x).toNat < S13824.size a := fun v979 k1_hw177 => k1_hw177

def k1_chk178 (v987 : IVec S16 32) : Prop :=
  (∀ a x, ((![v987] : Fin 1 → IVec S16 32) a x).toNat < S13824.size a)
theorem k1_idx178_inb : ∀ (v987 : IVec S16 32) (k1_hw178 : k1_chk178 v987), ∀ a x, ((![v987] : Fin 1 → IVec S16 32) a x).toNat < S13824.size a := fun v987 k1_hw178 => k1_hw178

def k1_chk179 (v992 : IVec S16 32) : Prop :=
  (∀ a x, ((![v992] : Fin 1 → IVec S16 32) a x).toNat < S13824.size a)
theorem k1_idx179_inb : ∀ (v992 : IVec S16 32) (k1_hw179 : k1_chk179 v992), ∀ a x, ((![v992] : Fin 1 → IVec S16 32) a x).toNat < S13824.size a := fun v992 k1_hw179 => k1_hw179

def k1_chk180 (v1000 : IVec S16 32) : Prop :=
  (∀ a x, ((![v1000] : Fin 1 → IVec S16 32) a x).toNat < S13824.size a)
theorem k1_idx180_inb : ∀ (v1000 : IVec S16 32) (k1_hw180 : k1_chk180 v1000), ∀ a x, ((![v1000] : Fin 1 → IVec S16 32) a x).toNat < S13824.size a := fun v1000 k1_hw180 => k1_hw180

def k1_chk181 (v1008 : IVec S16 32) : Prop :=
  (∀ a x, ((![v1008] : Fin 1 → IVec S16 32) a x).toNat < S13824.size a)
theorem k1_idx181_inb : ∀ (v1008 : IVec S16 32) (k1_hw181 : k1_chk181 v1008), ∀ a x, ((![v1008] : Fin 1 → IVec S16 32) a x).toNat < S13824.size a := fun v1008 k1_hw181 => k1_hw181

def k1_chk182 (v1016 : IVec S16 32) : Prop :=
  (∀ a x, ((![v1016] : Fin 1 → IVec S16 32) a x).toNat < S13824.size a)
theorem k1_idx182_inb : ∀ (v1016 : IVec S16 32) (k1_hw182 : k1_chk182 v1016), ∀ a x, ((![v1016] : Fin 1 → IVec S16 32) a x).toNat < S13824.size a := fun v1016 k1_hw182 => k1_hw182

def k1_chk183 (v1024 : IVec S16 32) : Prop :=
  (∀ a x, ((![v1024] : Fin 1 → IVec S16 32) a x).toNat < S13824.size a)
theorem k1_idx183_inb : ∀ (v1024 : IVec S16 32) (k1_hw183 : k1_chk183 v1024), ∀ a x, ((![v1024] : Fin 1 → IVec S16 32) a x).toNat < S13824.size a := fun v1024 k1_hw183 => k1_hw183

def k1_chk184 (v1035 : IVec S16 32) : Prop :=
  (∀ a x, ((![v1035] : Fin 1 → IVec S16 32) a x).toNat < S256.size a)
theorem k1_idx184_inb : ∀ (v1035 : IVec S16 32) (k1_hw184 : k1_chk184 v1035), ∀ a x, ((![v1035] : Fin 1 → IVec S16 32) a x).toNat < S256.size a := fun v1035 k1_hw184 => k1_hw184

def k1_chk185 (v1040 : IVec S16 32) : Prop :=
  (∀ a x, ((![v1040] : Fin 1 → IVec S16 32) a x).toNat < S256.size a)
theorem k1_idx185_inb : ∀ (v1040 : IVec S16 32) (k1_hw185 : k1_chk185 v1040), ∀ a x, ((![v1040] : Fin 1 → IVec S16 32) a x).toNat < S256.size a := fun v1040 k1_hw185 => k1_hw185

def k1_chk186 (v1045 : IVec S16 32) : Prop :=
  (∀ a x, ((![v1045] : Fin 1 → IVec S16 32) a x).toNat < S256.size a)
theorem k1_idx186_inb : ∀ (v1045 : IVec S16 32) (k1_hw186 : k1_chk186 v1045), ∀ a x, ((![v1045] : Fin 1 → IVec S16 32) a x).toNat < S256.size a := fun v1045 k1_hw186 => k1_hw186

def k1_chk187 (v1050 : IVec S16 32) : Prop :=
  (∀ a x, ((![v1050] : Fin 1 → IVec S16 32) a x).toNat < S256.size a)
theorem k1_idx187_inb : ∀ (v1050 : IVec S16 32) (k1_hw187 : k1_chk187 v1050), ∀ a x, ((![v1050] : Fin 1 → IVec S16 32) a x).toNat < S256.size a := fun v1050 k1_hw187 => k1_hw187

def k1_chk188 (v1055 : IVec S16 32) : Prop :=
  (∀ a x, ((![v1055] : Fin 1 → IVec S16 32) a x).toNat < S256.size a)
theorem k1_idx188_inb : ∀ (v1055 : IVec S16 32) (k1_hw188 : k1_chk188 v1055), ∀ a x, ((![v1055] : Fin 1 → IVec S16 32) a x).toNat < S256.size a := fun v1055 k1_hw188 => k1_hw188

def k1_chk189 (v1060 : IVec S16 32) : Prop :=
  (∀ a x, ((![v1060] : Fin 1 → IVec S16 32) a x).toNat < S256.size a)
theorem k1_idx189_inb : ∀ (v1060 : IVec S16 32) (k1_hw189 : k1_chk189 v1060), ∀ a x, ((![v1060] : Fin 1 → IVec S16 32) a x).toNat < S256.size a := fun v1060 k1_hw189 => k1_hw189

def k1_chk190 (v1070 : IVec S16 32) : Prop :=
  (∀ a x, ((![v1070] : Fin 1 → IVec S16 32) a x).toNat < S256.size a)
theorem k1_idx190_inb : ∀ (v1070 : IVec S16 32) (k1_hw190 : k1_chk190 v1070), ∀ a x, ((![v1070] : Fin 1 → IVec S16 32) a x).toNat < S256.size a := fun v1070 k1_hw190 => k1_hw190

def k1_chk191 (v1087 : IVec S16 32) : Prop :=
  (∀ a x, ((![v1087] : Fin 1 → IVec S16 32) a x).toNat < S13824.size a)
theorem k1_idx191_inb : ∀ (v1087 : IVec S16 32) (k1_hw191 : k1_chk191 v1087), ∀ a x, ((![v1087] : Fin 1 → IVec S16 32) a x).toNat < S13824.size a := fun v1087 k1_hw191 => k1_hw191

def k1_chk192 (v1092 : IVec S16 32) : Prop :=
  (∀ a x, ((![v1092] : Fin 1 → IVec S16 32) a x).toNat < S13824.size a)
theorem k1_idx192_inb : ∀ (v1092 : IVec S16 32) (k1_hw192 : k1_chk192 v1092), ∀ a x, ((![v1092] : Fin 1 → IVec S16 32) a x).toNat < S13824.size a := fun v1092 k1_hw192 => k1_hw192

def k1_chk193 (v1100 : IVec S16 32) : Prop :=
  (∀ a x, ((![v1100] : Fin 1 → IVec S16 32) a x).toNat < S13824.size a)
theorem k1_idx193_inb : ∀ (v1100 : IVec S16 32) (k1_hw193 : k1_chk193 v1100), ∀ a x, ((![v1100] : Fin 1 → IVec S16 32) a x).toNat < S13824.size a := fun v1100 k1_hw193 => k1_hw193

def k1_chk194 (v1108 : IVec S16 32) : Prop :=
  (∀ a x, ((![v1108] : Fin 1 → IVec S16 32) a x).toNat < S13824.size a)
theorem k1_idx194_inb : ∀ (v1108 : IVec S16 32) (k1_hw194 : k1_chk194 v1108), ∀ a x, ((![v1108] : Fin 1 → IVec S16 32) a x).toNat < S13824.size a := fun v1108 k1_hw194 => k1_hw194

def k1_chk195 (v1116 : IVec S16 32) : Prop :=
  (∀ a x, ((![v1116] : Fin 1 → IVec S16 32) a x).toNat < S13824.size a)
theorem k1_idx195_inb : ∀ (v1116 : IVec S16 32) (k1_hw195 : k1_chk195 v1116), ∀ a x, ((![v1116] : Fin 1 → IVec S16 32) a x).toNat < S13824.size a := fun v1116 k1_hw195 => k1_hw195

def k1_chk196 (v1124 : IVec S16 32) : Prop :=
  (∀ a x, ((![v1124] : Fin 1 → IVec S16 32) a x).toNat < S13824.size a)
theorem k1_idx196_inb : ∀ (v1124 : IVec S16 32) (k1_hw196 : k1_chk196 v1124), ∀ a x, ((![v1124] : Fin 1 → IVec S16 32) a x).toNat < S13824.size a := fun v1124 k1_hw196 => k1_hw196

def k1_chk197 (v1132 : IVec S16 32) : Prop :=
  (∀ a x, ((![v1132] : Fin 1 → IVec S16 32) a x).toNat < S13824.size a)
theorem k1_idx197_inb : ∀ (v1132 : IVec S16 32) (k1_hw197 : k1_chk197 v1132), ∀ a x, ((![v1132] : Fin 1 → IVec S16 32) a x).toNat < S13824.size a := fun v1132 k1_hw197 => k1_hw197

def k1_chk198 (v1137 : IVec S16 32) : Prop :=
  (∀ a x, ((![v1137] : Fin 1 → IVec S16 32) a x).toNat < S13824.size a)
theorem k1_idx198_inb : ∀ (v1137 : IVec S16 32) (k1_hw198 : k1_chk198 v1137), ∀ a x, ((![v1137] : Fin 1 → IVec S16 32) a x).toNat < S13824.size a := fun v1137 k1_hw198 => k1_hw198

def k1_chk199 (v1145 : IVec S16 32) : Prop :=
  (∀ a x, ((![v1145] : Fin 1 → IVec S16 32) a x).toNat < S13824.size a)
theorem k1_idx199_inb : ∀ (v1145 : IVec S16 32) (k1_hw199 : k1_chk199 v1145), ∀ a x, ((![v1145] : Fin 1 → IVec S16 32) a x).toNat < S13824.size a := fun v1145 k1_hw199 => k1_hw199

def k1_chk200 (v1153 : IVec S16 32) : Prop :=
  (∀ a x, ((![v1153] : Fin 1 → IVec S16 32) a x).toNat < S13824.size a)
theorem k1_idx200_inb : ∀ (v1153 : IVec S16 32) (k1_hw200 : k1_chk200 v1153), ∀ a x, ((![v1153] : Fin 1 → IVec S16 32) a x).toNat < S13824.size a := fun v1153 k1_hw200 => k1_hw200

def k1_chk201 (v1161 : IVec S16 32) : Prop :=
  (∀ a x, ((![v1161] : Fin 1 → IVec S16 32) a x).toNat < S13824.size a)
theorem k1_idx201_inb : ∀ (v1161 : IVec S16 32) (k1_hw201 : k1_chk201 v1161), ∀ a x, ((![v1161] : Fin 1 → IVec S16 32) a x).toNat < S13824.size a := fun v1161 k1_hw201 => k1_hw201

def k1_chk202 (v1169 : IVec S16 32) : Prop :=
  (∀ a x, ((![v1169] : Fin 1 → IVec S16 32) a x).toNat < S13824.size a)
theorem k1_idx202_inb : ∀ (v1169 : IVec S16 32) (k1_hw202 : k1_chk202 v1169), ∀ a x, ((![v1169] : Fin 1 → IVec S16 32) a x).toNat < S13824.size a := fun v1169 k1_hw202 => k1_hw202

def k1_chk203 (v1180 : IVec S16 32) : Prop :=
  (∀ a x, ((![v1180] : Fin 1 → IVec S16 32) a x).toNat < S256.size a)
theorem k1_idx203_inb : ∀ (v1180 : IVec S16 32) (k1_hw203 : k1_chk203 v1180), ∀ a x, ((![v1180] : Fin 1 → IVec S16 32) a x).toNat < S256.size a := fun v1180 k1_hw203 => k1_hw203

def k1_chk204 (v1185 : IVec S16 32) : Prop :=
  (∀ a x, ((![v1185] : Fin 1 → IVec S16 32) a x).toNat < S256.size a)
theorem k1_idx204_inb : ∀ (v1185 : IVec S16 32) (k1_hw204 : k1_chk204 v1185), ∀ a x, ((![v1185] : Fin 1 → IVec S16 32) a x).toNat < S256.size a := fun v1185 k1_hw204 => k1_hw204

def k1_chk205 (v1190 : IVec S16 32) : Prop :=
  (∀ a x, ((![v1190] : Fin 1 → IVec S16 32) a x).toNat < S256.size a)
theorem k1_idx205_inb : ∀ (v1190 : IVec S16 32) (k1_hw205 : k1_chk205 v1190), ∀ a x, ((![v1190] : Fin 1 → IVec S16 32) a x).toNat < S256.size a := fun v1190 k1_hw205 => k1_hw205

def k1_chk206 (v1195 : IVec S16 32) : Prop :=
  (∀ a x, ((![v1195] : Fin 1 → IVec S16 32) a x).toNat < S256.size a)
theorem k1_idx206_inb : ∀ (v1195 : IVec S16 32) (k1_hw206 : k1_chk206 v1195), ∀ a x, ((![v1195] : Fin 1 → IVec S16 32) a x).toNat < S256.size a := fun v1195 k1_hw206 => k1_hw206

def k1_chk207 (v1200 : IVec S16 32) : Prop :=
  (∀ a x, ((![v1200] : Fin 1 → IVec S16 32) a x).toNat < S256.size a)
theorem k1_idx207_inb : ∀ (v1200 : IVec S16 32) (k1_hw207 : k1_chk207 v1200), ∀ a x, ((![v1200] : Fin 1 → IVec S16 32) a x).toNat < S256.size a := fun v1200 k1_hw207 => k1_hw207

def k1_chk208 (v1205 : IVec S16 32) : Prop :=
  (∀ a x, ((![v1205] : Fin 1 → IVec S16 32) a x).toNat < S256.size a)
theorem k1_idx208_inb : ∀ (v1205 : IVec S16 32) (k1_hw208 : k1_chk208 v1205), ∀ a x, ((![v1205] : Fin 1 → IVec S16 32) a x).toNat < S256.size a := fun v1205 k1_hw208 => k1_hw208

def k1_chk209 (v1215 : IVec S16 32) : Prop :=
  (∀ a x, ((![v1215] : Fin 1 → IVec S16 32) a x).toNat < S256.size a)
theorem k1_idx209_inb : ∀ (v1215 : IVec S16 32) (k1_hw209 : k1_chk209 v1215), ∀ a x, ((![v1215] : Fin 1 → IVec S16 32) a x).toNat < S256.size a := fun v1215 k1_hw209 => k1_hw209

def k1_chk210 (v1232 : IVec S16 32) : Prop :=
  (∀ a x, ((![v1232] : Fin 1 → IVec S16 32) a x).toNat < S13824.size a)
theorem k1_idx210_inb : ∀ (v1232 : IVec S16 32) (k1_hw210 : k1_chk210 v1232), ∀ a x, ((![v1232] : Fin 1 → IVec S16 32) a x).toNat < S13824.size a := fun v1232 k1_hw210 => k1_hw210

def k1_chk211 (v1237 : IVec S16 32) : Prop :=
  (∀ a x, ((![v1237] : Fin 1 → IVec S16 32) a x).toNat < S13824.size a)
theorem k1_idx211_inb : ∀ (v1237 : IVec S16 32) (k1_hw211 : k1_chk211 v1237), ∀ a x, ((![v1237] : Fin 1 → IVec S16 32) a x).toNat < S13824.size a := fun v1237 k1_hw211 => k1_hw211

def k1_chk212 (v1245 : IVec S16 32) : Prop :=
  (∀ a x, ((![v1245] : Fin 1 → IVec S16 32) a x).toNat < S13824.size a)
theorem k1_idx212_inb : ∀ (v1245 : IVec S16 32) (k1_hw212 : k1_chk212 v1245), ∀ a x, ((![v1245] : Fin 1 → IVec S16 32) a x).toNat < S13824.size a := fun v1245 k1_hw212 => k1_hw212

def k1_chk213 (v1253 : IVec S16 32) : Prop :=
  (∀ a x, ((![v1253] : Fin 1 → IVec S16 32) a x).toNat < S13824.size a)
theorem k1_idx213_inb : ∀ (v1253 : IVec S16 32) (k1_hw213 : k1_chk213 v1253), ∀ a x, ((![v1253] : Fin 1 → IVec S16 32) a x).toNat < S13824.size a := fun v1253 k1_hw213 => k1_hw213

def k1_chk214 (v1261 : IVec S16 32) : Prop :=
  (∀ a x, ((![v1261] : Fin 1 → IVec S16 32) a x).toNat < S13824.size a)
theorem k1_idx214_inb : ∀ (v1261 : IVec S16 32) (k1_hw214 : k1_chk214 v1261), ∀ a x, ((![v1261] : Fin 1 → IVec S16 32) a x).toNat < S13824.size a := fun v1261 k1_hw214 => k1_hw214

def k1_chk215 (v1269 : IVec S16 32) : Prop :=
  (∀ a x, ((![v1269] : Fin 1 → IVec S16 32) a x).toNat < S13824.size a)
theorem k1_idx215_inb : ∀ (v1269 : IVec S16 32) (k1_hw215 : k1_chk215 v1269), ∀ a x, ((![v1269] : Fin 1 → IVec S16 32) a x).toNat < S13824.size a := fun v1269 k1_hw215 => k1_hw215

def k1_chk216 (v1277 : IVec S16 32) : Prop :=
  (∀ a x, ((![v1277] : Fin 1 → IVec S16 32) a x).toNat < S13824.size a)
theorem k1_idx216_inb : ∀ (v1277 : IVec S16 32) (k1_hw216 : k1_chk216 v1277), ∀ a x, ((![v1277] : Fin 1 → IVec S16 32) a x).toNat < S13824.size a := fun v1277 k1_hw216 => k1_hw216

def k1_chk217 (v1282 : IVec S16 32) : Prop :=
  (∀ a x, ((![v1282] : Fin 1 → IVec S16 32) a x).toNat < S13824.size a)
theorem k1_idx217_inb : ∀ (v1282 : IVec S16 32) (k1_hw217 : k1_chk217 v1282), ∀ a x, ((![v1282] : Fin 1 → IVec S16 32) a x).toNat < S13824.size a := fun v1282 k1_hw217 => k1_hw217

def k1_chk218 (v1290 : IVec S16 32) : Prop :=
  (∀ a x, ((![v1290] : Fin 1 → IVec S16 32) a x).toNat < S13824.size a)
theorem k1_idx218_inb : ∀ (v1290 : IVec S16 32) (k1_hw218 : k1_chk218 v1290), ∀ a x, ((![v1290] : Fin 1 → IVec S16 32) a x).toNat < S13824.size a := fun v1290 k1_hw218 => k1_hw218

def k1_chk219 (v1298 : IVec S16 32) : Prop :=
  (∀ a x, ((![v1298] : Fin 1 → IVec S16 32) a x).toNat < S13824.size a)
theorem k1_idx219_inb : ∀ (v1298 : IVec S16 32) (k1_hw219 : k1_chk219 v1298), ∀ a x, ((![v1298] : Fin 1 → IVec S16 32) a x).toNat < S13824.size a := fun v1298 k1_hw219 => k1_hw219

def k1_chk220 (v1306 : IVec S16 32) : Prop :=
  (∀ a x, ((![v1306] : Fin 1 → IVec S16 32) a x).toNat < S13824.size a)
theorem k1_idx220_inb : ∀ (v1306 : IVec S16 32) (k1_hw220 : k1_chk220 v1306), ∀ a x, ((![v1306] : Fin 1 → IVec S16 32) a x).toNat < S13824.size a := fun v1306 k1_hw220 => k1_hw220

def k1_chk221 (v1314 : IVec S16 32) : Prop :=
  (∀ a x, ((![v1314] : Fin 1 → IVec S16 32) a x).toNat < S13824.size a)
theorem k1_idx221_inb : ∀ (v1314 : IVec S16 32) (k1_hw221 : k1_chk221 v1314), ∀ a x, ((![v1314] : Fin 1 → IVec S16 32) a x).toNat < S13824.size a := fun v1314 k1_hw221 => k1_hw221

def k1_chk222 (v1325 : IVec S16 32) : Prop :=
  (∀ a x, ((![v1325] : Fin 1 → IVec S16 32) a x).toNat < S256.size a)
theorem k1_idx222_inb : ∀ (v1325 : IVec S16 32) (k1_hw222 : k1_chk222 v1325), ∀ a x, ((![v1325] : Fin 1 → IVec S16 32) a x).toNat < S256.size a := fun v1325 k1_hw222 => k1_hw222

def k1_chk223 (v1330 : IVec S16 32) : Prop :=
  (∀ a x, ((![v1330] : Fin 1 → IVec S16 32) a x).toNat < S256.size a)
theorem k1_idx223_inb : ∀ (v1330 : IVec S16 32) (k1_hw223 : k1_chk223 v1330), ∀ a x, ((![v1330] : Fin 1 → IVec S16 32) a x).toNat < S256.size a := fun v1330 k1_hw223 => k1_hw223

def k1_chk224 (v1335 : IVec S16 32) : Prop :=
  (∀ a x, ((![v1335] : Fin 1 → IVec S16 32) a x).toNat < S256.size a)
theorem k1_idx224_inb : ∀ (v1335 : IVec S16 32) (k1_hw224 : k1_chk224 v1335), ∀ a x, ((![v1335] : Fin 1 → IVec S16 32) a x).toNat < S256.size a := fun v1335 k1_hw224 => k1_hw224

def k1_chk225 (v1340 : IVec S16 32) : Prop :=
  (∀ a x, ((![v1340] : Fin 1 → IVec S16 32) a x).toNat < S256.size a)
theorem k1_idx225_inb : ∀ (v1340 : IVec S16 32) (k1_hw225 : k1_chk225 v1340), ∀ a x, ((![v1340] : Fin 1 → IVec S16 32) a x).toNat < S256.size a := fun v1340 k1_hw225 => k1_hw225

def k1_chk226 (v1345 : IVec S16 32) : Prop :=
  (∀ a x, ((![v1345] : Fin 1 → IVec S16 32) a x).toNat < S256.size a)
theorem k1_idx226_inb : ∀ (v1345 : IVec S16 32) (k1_hw226 : k1_chk226 v1345), ∀ a x, ((![v1345] : Fin 1 → IVec S16 32) a x).toNat < S256.size a := fun v1345 k1_hw226 => k1_hw226

def k1_chk227 (v1350 : IVec S16 32) : Prop :=
  (∀ a x, ((![v1350] : Fin 1 → IVec S16 32) a x).toNat < S256.size a)
theorem k1_idx227_inb : ∀ (v1350 : IVec S16 32) (k1_hw227 : k1_chk227 v1350), ∀ a x, ((![v1350] : Fin 1 → IVec S16 32) a x).toNat < S256.size a := fun v1350 k1_hw227 => k1_hw227

def k1_chk228 (v1360 : IVec S16 32) : Prop :=
  (∀ a x, ((![v1360] : Fin 1 → IVec S16 32) a x).toNat < S256.size a)
theorem k1_idx228_inb : ∀ (v1360 : IVec S16 32) (k1_hw228 : k1_chk228 v1360), ∀ a x, ((![v1360] : Fin 1 → IVec S16 32) a x).toNat < S256.size a := fun v1360 k1_hw228 => k1_hw228

def k1_chk229 (v1377 : IVec S16 32) : Prop :=
  (∀ a x, ((![v1377] : Fin 1 → IVec S16 32) a x).toNat < S13824.size a)
theorem k1_idx229_inb : ∀ (v1377 : IVec S16 32) (k1_hw229 : k1_chk229 v1377), ∀ a x, ((![v1377] : Fin 1 → IVec S16 32) a x).toNat < S13824.size a := fun v1377 k1_hw229 => k1_hw229

def k1_chk230 (v1382 : IVec S16 32) : Prop :=
  (∀ a x, ((![v1382] : Fin 1 → IVec S16 32) a x).toNat < S13824.size a)
theorem k1_idx230_inb : ∀ (v1382 : IVec S16 32) (k1_hw230 : k1_chk230 v1382), ∀ a x, ((![v1382] : Fin 1 → IVec S16 32) a x).toNat < S13824.size a := fun v1382 k1_hw230 => k1_hw230

def k1_chk231 (v1390 : IVec S16 32) : Prop :=
  (∀ a x, ((![v1390] : Fin 1 → IVec S16 32) a x).toNat < S13824.size a)
theorem k1_idx231_inb : ∀ (v1390 : IVec S16 32) (k1_hw231 : k1_chk231 v1390), ∀ a x, ((![v1390] : Fin 1 → IVec S16 32) a x).toNat < S13824.size a := fun v1390 k1_hw231 => k1_hw231

def k1_chk232 (v1398 : IVec S16 32) : Prop :=
  (∀ a x, ((![v1398] : Fin 1 → IVec S16 32) a x).toNat < S13824.size a)
theorem k1_idx232_inb : ∀ (v1398 : IVec S16 32) (k1_hw232 : k1_chk232 v1398), ∀ a x, ((![v1398] : Fin 1 → IVec S16 32) a x).toNat < S13824.size a := fun v1398 k1_hw232 => k1_hw232

def k1_chk233 (v1406 : IVec S16 32) : Prop :=
  (∀ a x, ((![v1406] : Fin 1 → IVec S16 32) a x).toNat < S13824.size a)
theorem k1_idx233_inb : ∀ (v1406 : IVec S16 32) (k1_hw233 : k1_chk233 v1406), ∀ a x, ((![v1406] : Fin 1 → IVec S16 32) a x).toNat < S13824.size a := fun v1406 k1_hw233 => k1_hw233

def k1_chk234 (v1414 : IVec S16 32) : Prop :=
  (∀ a x, ((![v1414] : Fin 1 → IVec S16 32) a x).toNat < S13824.size a)
theorem k1_idx234_inb : ∀ (v1414 : IVec S16 32) (k1_hw234 : k1_chk234 v1414), ∀ a x, ((![v1414] : Fin 1 → IVec S16 32) a x).toNat < S13824.size a := fun v1414 k1_hw234 => k1_hw234

def k1_chk235 (v1422 : IVec S16 32) : Prop :=
  (∀ a x, ((![v1422] : Fin 1 → IVec S16 32) a x).toNat < S13824.size a)
theorem k1_idx235_inb : ∀ (v1422 : IVec S16 32) (k1_hw235 : k1_chk235 v1422), ∀ a x, ((![v1422] : Fin 1 → IVec S16 32) a x).toNat < S13824.size a := fun v1422 k1_hw235 => k1_hw235

def k1_chk236 (v1427 : IVec S16 32) : Prop :=
  (∀ a x, ((![v1427] : Fin 1 → IVec S16 32) a x).toNat < S13824.size a)
theorem k1_idx236_inb : ∀ (v1427 : IVec S16 32) (k1_hw236 : k1_chk236 v1427), ∀ a x, ((![v1427] : Fin 1 → IVec S16 32) a x).toNat < S13824.size a := fun v1427 k1_hw236 => k1_hw236

def k1_chk237 (v1435 : IVec S16 32) : Prop :=
  (∀ a x, ((![v1435] : Fin 1 → IVec S16 32) a x).toNat < S13824.size a)
theorem k1_idx237_inb : ∀ (v1435 : IVec S16 32) (k1_hw237 : k1_chk237 v1435), ∀ a x, ((![v1435] : Fin 1 → IVec S16 32) a x).toNat < S13824.size a := fun v1435 k1_hw237 => k1_hw237

def k1_chk238 (v1443 : IVec S16 32) : Prop :=
  (∀ a x, ((![v1443] : Fin 1 → IVec S16 32) a x).toNat < S13824.size a)
theorem k1_idx238_inb : ∀ (v1443 : IVec S16 32) (k1_hw238 : k1_chk238 v1443), ∀ a x, ((![v1443] : Fin 1 → IVec S16 32) a x).toNat < S13824.size a := fun v1443 k1_hw238 => k1_hw238

def k1_chk239 (v1451 : IVec S16 32) : Prop :=
  (∀ a x, ((![v1451] : Fin 1 → IVec S16 32) a x).toNat < S13824.size a)
theorem k1_idx239_inb : ∀ (v1451 : IVec S16 32) (k1_hw239 : k1_chk239 v1451), ∀ a x, ((![v1451] : Fin 1 → IVec S16 32) a x).toNat < S13824.size a := fun v1451 k1_hw239 => k1_hw239

def k1_chk240 (v1459 : IVec S16 32) : Prop :=
  (∀ a x, ((![v1459] : Fin 1 → IVec S16 32) a x).toNat < S13824.size a)
theorem k1_idx240_inb : ∀ (v1459 : IVec S16 32) (k1_hw240 : k1_chk240 v1459), ∀ a x, ((![v1459] : Fin 1 → IVec S16 32) a x).toNat < S13824.size a := fun v1459 k1_hw240 => k1_hw240

def k1_chk241 (v1470 : IVec S16 32) : Prop :=
  (∀ a x, ((![v1470] : Fin 1 → IVec S16 32) a x).toNat < S256.size a)
theorem k1_idx241_inb : ∀ (v1470 : IVec S16 32) (k1_hw241 : k1_chk241 v1470), ∀ a x, ((![v1470] : Fin 1 → IVec S16 32) a x).toNat < S256.size a := fun v1470 k1_hw241 => k1_hw241

def k1_chk242 (v1475 : IVec S16 32) : Prop :=
  (∀ a x, ((![v1475] : Fin 1 → IVec S16 32) a x).toNat < S256.size a)
theorem k1_idx242_inb : ∀ (v1475 : IVec S16 32) (k1_hw242 : k1_chk242 v1475), ∀ a x, ((![v1475] : Fin 1 → IVec S16 32) a x).toNat < S256.size a := fun v1475 k1_hw242 => k1_hw242

def k1_chk243 (v1480 : IVec S16 32) : Prop :=
  (∀ a x, ((![v1480] : Fin 1 → IVec S16 32) a x).toNat < S256.size a)
theorem k1_idx243_inb : ∀ (v1480 : IVec S16 32) (k1_hw243 : k1_chk243 v1480), ∀ a x, ((![v1480] : Fin 1 → IVec S16 32) a x).toNat < S256.size a := fun v1480 k1_hw243 => k1_hw243

def k1_chk244 (v1485 : IVec S16 32) : Prop :=
  (∀ a x, ((![v1485] : Fin 1 → IVec S16 32) a x).toNat < S256.size a)
theorem k1_idx244_inb : ∀ (v1485 : IVec S16 32) (k1_hw244 : k1_chk244 v1485), ∀ a x, ((![v1485] : Fin 1 → IVec S16 32) a x).toNat < S256.size a := fun v1485 k1_hw244 => k1_hw244

def k1_chk245 (v1490 : IVec S16 32) : Prop :=
  (∀ a x, ((![v1490] : Fin 1 → IVec S16 32) a x).toNat < S256.size a)
theorem k1_idx245_inb : ∀ (v1490 : IVec S16 32) (k1_hw245 : k1_chk245 v1490), ∀ a x, ((![v1490] : Fin 1 → IVec S16 32) a x).toNat < S256.size a := fun v1490 k1_hw245 => k1_hw245

def k1_chk246 (v1495 : IVec S16 32) : Prop :=
  (∀ a x, ((![v1495] : Fin 1 → IVec S16 32) a x).toNat < S256.size a)
theorem k1_idx246_inb : ∀ (v1495 : IVec S16 32) (k1_hw246 : k1_chk246 v1495), ∀ a x, ((![v1495] : Fin 1 → IVec S16 32) a x).toNat < S256.size a := fun v1495 k1_hw246 => k1_hw246

def k1_chk247 (v1505 : IVec S16 32) : Prop :=
  (∀ a x, ((![v1505] : Fin 1 → IVec S16 32) a x).toNat < S256.size a)
theorem k1_idx247_inb : ∀ (v1505 : IVec S16 32) (k1_hw247 : k1_chk247 v1505), ∀ a x, ((![v1505] : Fin 1 → IVec S16 32) a x).toNat < S256.size a := fun v1505 k1_hw247 => k1_hw247

def k1_chk248 (v1522 : IVec S16 32) : Prop :=
  (∀ a x, ((![v1522] : Fin 1 → IVec S16 32) a x).toNat < S13824.size a)
theorem k1_idx248_inb : ∀ (v1522 : IVec S16 32) (k1_hw248 : k1_chk248 v1522), ∀ a x, ((![v1522] : Fin 1 → IVec S16 32) a x).toNat < S13824.size a := fun v1522 k1_hw248 => k1_hw248

def k1_chk249 (v1527 : IVec S16 32) : Prop :=
  (∀ a x, ((![v1527] : Fin 1 → IVec S16 32) a x).toNat < S13824.size a)
theorem k1_idx249_inb : ∀ (v1527 : IVec S16 32) (k1_hw249 : k1_chk249 v1527), ∀ a x, ((![v1527] : Fin 1 → IVec S16 32) a x).toNat < S13824.size a := fun v1527 k1_hw249 => k1_hw249

def k1_chk250 (v1535 : IVec S16 32) : Prop :=
  (∀ a x, ((![v1535] : Fin 1 → IVec S16 32) a x).toNat < S13824.size a)
theorem k1_idx250_inb : ∀ (v1535 : IVec S16 32) (k1_hw250 : k1_chk250 v1535), ∀ a x, ((![v1535] : Fin 1 → IVec S16 32) a x).toNat < S13824.size a := fun v1535 k1_hw250 => k1_hw250

def k1_chk251 (v1543 : IVec S16 32) : Prop :=
  (∀ a x, ((![v1543] : Fin 1 → IVec S16 32) a x).toNat < S13824.size a)
theorem k1_idx251_inb : ∀ (v1543 : IVec S16 32) (k1_hw251 : k1_chk251 v1543), ∀ a x, ((![v1543] : Fin 1 → IVec S16 32) a x).toNat < S13824.size a := fun v1543 k1_hw251 => k1_hw251

def k1_chk252 (v1551 : IVec S16 32) : Prop :=
  (∀ a x, ((![v1551] : Fin 1 → IVec S16 32) a x).toNat < S13824.size a)
theorem k1_idx252_inb : ∀ (v1551 : IVec S16 32) (k1_hw252 : k1_chk252 v1551), ∀ a x, ((![v1551] : Fin 1 → IVec S16 32) a x).toNat < S13824.size a := fun v1551 k1_hw252 => k1_hw252

def k1_chk253 (v1559 : IVec S16 32) : Prop :=
  (∀ a x, ((![v1559] : Fin 1 → IVec S16 32) a x).toNat < S13824.size a)
theorem k1_idx253_inb : ∀ (v1559 : IVec S16 32) (k1_hw253 : k1_chk253 v1559), ∀ a x, ((![v1559] : Fin 1 → IVec S16 32) a x).toNat < S13824.size a := fun v1559 k1_hw253 => k1_hw253

def k1_chk254 (v1567 : IVec S16 32) : Prop :=
  (∀ a x, ((![v1567] : Fin 1 → IVec S16 32) a x).toNat < S13824.size a)
theorem k1_idx254_inb : ∀ (v1567 : IVec S16 32) (k1_hw254 : k1_chk254 v1567), ∀ a x, ((![v1567] : Fin 1 → IVec S16 32) a x).toNat < S13824.size a := fun v1567 k1_hw254 => k1_hw254

def k1_chk255 (v1572 : IVec S16 32) : Prop :=
  (∀ a x, ((![v1572] : Fin 1 → IVec S16 32) a x).toNat < S13824.size a)
theorem k1_idx255_inb : ∀ (v1572 : IVec S16 32) (k1_hw255 : k1_chk255 v1572), ∀ a x, ((![v1572] : Fin 1 → IVec S16 32) a x).toNat < S13824.size a := fun v1572 k1_hw255 => k1_hw255

def k1_chk256 (v1580 : IVec S16 32) : Prop :=
  (∀ a x, ((![v1580] : Fin 1 → IVec S16 32) a x).toNat < S13824.size a)
theorem k1_idx256_inb : ∀ (v1580 : IVec S16 32) (k1_hw256 : k1_chk256 v1580), ∀ a x, ((![v1580] : Fin 1 → IVec S16 32) a x).toNat < S13824.size a := fun v1580 k1_hw256 => k1_hw256

def k1_chk257 (v1588 : IVec S16 32) : Prop :=
  (∀ a x, ((![v1588] : Fin 1 → IVec S16 32) a x).toNat < S13824.size a)
theorem k1_idx257_inb : ∀ (v1588 : IVec S16 32) (k1_hw257 : k1_chk257 v1588), ∀ a x, ((![v1588] : Fin 1 → IVec S16 32) a x).toNat < S13824.size a := fun v1588 k1_hw257 => k1_hw257

def k1_chk258 (v1596 : IVec S16 32) : Prop :=
  (∀ a x, ((![v1596] : Fin 1 → IVec S16 32) a x).toNat < S13824.size a)
theorem k1_idx258_inb : ∀ (v1596 : IVec S16 32) (k1_hw258 : k1_chk258 v1596), ∀ a x, ((![v1596] : Fin 1 → IVec S16 32) a x).toNat < S13824.size a := fun v1596 k1_hw258 => k1_hw258

def k1_chk259 (v1604 : IVec S16 32) : Prop :=
  (∀ a x, ((![v1604] : Fin 1 → IVec S16 32) a x).toNat < S13824.size a)
theorem k1_idx259_inb : ∀ (v1604 : IVec S16 32) (k1_hw259 : k1_chk259 v1604), ∀ a x, ((![v1604] : Fin 1 → IVec S16 32) a x).toNat < S13824.size a := fun v1604 k1_hw259 => k1_hw259

def k1_chk260 (v1615 : IVec S16 32) : Prop :=
  (∀ a x, ((![v1615] : Fin 1 → IVec S16 32) a x).toNat < S256.size a)
theorem k1_idx260_inb : ∀ (v1615 : IVec S16 32) (k1_hw260 : k1_chk260 v1615), ∀ a x, ((![v1615] : Fin 1 → IVec S16 32) a x).toNat < S256.size a := fun v1615 k1_hw260 => k1_hw260

def k1_chk261 (v1620 : IVec S16 32) : Prop :=
  (∀ a x, ((![v1620] : Fin 1 → IVec S16 32) a x).toNat < S256.size a)
theorem k1_idx261_inb : ∀ (v1620 : IVec S16 32) (k1_hw261 : k1_chk261 v1620), ∀ a x, ((![v1620] : Fin 1 → IVec S16 32) a x).toNat < S256.size a := fun v1620 k1_hw261 => k1_hw261

def k1_chk262 (v1625 : IVec S16 32) : Prop :=
  (∀ a x, ((![v1625] : Fin 1 → IVec S16 32) a x).toNat < S256.size a)
theorem k1_idx262_inb : ∀ (v1625 : IVec S16 32) (k1_hw262 : k1_chk262 v1625), ∀ a x, ((![v1625] : Fin 1 → IVec S16 32) a x).toNat < S256.size a := fun v1625 k1_hw262 => k1_hw262

def k1_chk263 (v1630 : IVec S16 32) : Prop :=
  (∀ a x, ((![v1630] : Fin 1 → IVec S16 32) a x).toNat < S256.size a)
theorem k1_idx263_inb : ∀ (v1630 : IVec S16 32) (k1_hw263 : k1_chk263 v1630), ∀ a x, ((![v1630] : Fin 1 → IVec S16 32) a x).toNat < S256.size a := fun v1630 k1_hw263 => k1_hw263

def k1_chk264 (v1635 : IVec S16 32) : Prop :=
  (∀ a x, ((![v1635] : Fin 1 → IVec S16 32) a x).toNat < S256.size a)
theorem k1_idx264_inb : ∀ (v1635 : IVec S16 32) (k1_hw264 : k1_chk264 v1635), ∀ a x, ((![v1635] : Fin 1 → IVec S16 32) a x).toNat < S256.size a := fun v1635 k1_hw264 => k1_hw264

def k1_chk265 (v1640 : IVec S16 32) : Prop :=
  (∀ a x, ((![v1640] : Fin 1 → IVec S16 32) a x).toNat < S256.size a)
theorem k1_idx265_inb : ∀ (v1640 : IVec S16 32) (k1_hw265 : k1_chk265 v1640), ∀ a x, ((![v1640] : Fin 1 → IVec S16 32) a x).toNat < S256.size a := fun v1640 k1_hw265 => k1_hw265

def k1_chk266 (v1650 : IVec S16 32) : Prop :=
  (∀ a x, ((![v1650] : Fin 1 → IVec S16 32) a x).toNat < S256.size a)
theorem k1_idx266_inb : ∀ (v1650 : IVec S16 32) (k1_hw266 : k1_chk266 v1650), ∀ a x, ((![v1650] : Fin 1 → IVec S16 32) a x).toNat < S256.size a := fun v1650 k1_hw266 => k1_hw266

def k1_chk267 (v1667 : IVec S16 32) : Prop :=
  (∀ a x, ((![v1667] : Fin 1 → IVec S16 32) a x).toNat < S13824.size a)
theorem k1_idx267_inb : ∀ (v1667 : IVec S16 32) (k1_hw267 : k1_chk267 v1667), ∀ a x, ((![v1667] : Fin 1 → IVec S16 32) a x).toNat < S13824.size a := fun v1667 k1_hw267 => k1_hw267

def k1_chk268 (v1672 : IVec S16 32) : Prop :=
  (∀ a x, ((![v1672] : Fin 1 → IVec S16 32) a x).toNat < S13824.size a)
theorem k1_idx268_inb : ∀ (v1672 : IVec S16 32) (k1_hw268 : k1_chk268 v1672), ∀ a x, ((![v1672] : Fin 1 → IVec S16 32) a x).toNat < S13824.size a := fun v1672 k1_hw268 => k1_hw268

def k1_chk269 (v1680 : IVec S16 32) : Prop :=
  (∀ a x, ((![v1680] : Fin 1 → IVec S16 32) a x).toNat < S13824.size a)
theorem k1_idx269_inb : ∀ (v1680 : IVec S16 32) (k1_hw269 : k1_chk269 v1680), ∀ a x, ((![v1680] : Fin 1 → IVec S16 32) a x).toNat < S13824.size a := fun v1680 k1_hw269 => k1_hw269

def k1_chk270 (v1688 : IVec S16 32) : Prop :=
  (∀ a x, ((![v1688] : Fin 1 → IVec S16 32) a x).toNat < S13824.size a)
theorem k1_idx270_inb : ∀ (v1688 : IVec S16 32) (k1_hw270 : k1_chk270 v1688), ∀ a x, ((![v1688] : Fin 1 → IVec S16 32) a x).toNat < S13824.size a := fun v1688 k1_hw270 => k1_hw270

def k1_chk271 (v1696 : IVec S16 32) : Prop :=
  (∀ a x, ((![v1696] : Fin 1 → IVec S16 32) a x).toNat < S13824.size a)
theorem k1_idx271_inb : ∀ (v1696 : IVec S16 32) (k1_hw271 : k1_chk271 v1696), ∀ a x, ((![v1696] : Fin 1 → IVec S16 32) a x).toNat < S13824.size a := fun v1696 k1_hw271 => k1_hw271

def k1_chk272 (v1704 : IVec S16 32) : Prop :=
  (∀ a x, ((![v1704] : Fin 1 → IVec S16 32) a x).toNat < S13824.size a)
theorem k1_idx272_inb : ∀ (v1704 : IVec S16 32) (k1_hw272 : k1_chk272 v1704), ∀ a x, ((![v1704] : Fin 1 → IVec S16 32) a x).toNat < S13824.size a := fun v1704 k1_hw272 => k1_hw272

def k1_chk273 (v1712 : IVec S16 32) : Prop :=
  (∀ a x, ((![v1712] : Fin 1 → IVec S16 32) a x).toNat < S13824.size a)
theorem k1_idx273_inb : ∀ (v1712 : IVec S16 32) (k1_hw273 : k1_chk273 v1712), ∀ a x, ((![v1712] : Fin 1 → IVec S16 32) a x).toNat < S13824.size a := fun v1712 k1_hw273 => k1_hw273

def k1_chk274 (v1717 : IVec S16 32) : Prop :=
  (∀ a x, ((![v1717] : Fin 1 → IVec S16 32) a x).toNat < S13824.size a)
theorem k1_idx274_inb : ∀ (v1717 : IVec S16 32) (k1_hw274 : k1_chk274 v1717), ∀ a x, ((![v1717] : Fin 1 → IVec S16 32) a x).toNat < S13824.size a := fun v1717 k1_hw274 => k1_hw274

def k1_chk275 (v1725 : IVec S16 32) : Prop :=
  (∀ a x, ((![v1725] : Fin 1 → IVec S16 32) a x).toNat < S13824.size a)
theorem k1_idx275_inb : ∀ (v1725 : IVec S16 32) (k1_hw275 : k1_chk275 v1725), ∀ a x, ((![v1725] : Fin 1 → IVec S16 32) a x).toNat < S13824.size a := fun v1725 k1_hw275 => k1_hw275

def k1_chk276 (v1733 : IVec S16 32) : Prop :=
  (∀ a x, ((![v1733] : Fin 1 → IVec S16 32) a x).toNat < S13824.size a)
theorem k1_idx276_inb : ∀ (v1733 : IVec S16 32) (k1_hw276 : k1_chk276 v1733), ∀ a x, ((![v1733] : Fin 1 → IVec S16 32) a x).toNat < S13824.size a := fun v1733 k1_hw276 => k1_hw276

def k1_chk277 (v1741 : IVec S16 32) : Prop :=
  (∀ a x, ((![v1741] : Fin 1 → IVec S16 32) a x).toNat < S13824.size a)
theorem k1_idx277_inb : ∀ (v1741 : IVec S16 32) (k1_hw277 : k1_chk277 v1741), ∀ a x, ((![v1741] : Fin 1 → IVec S16 32) a x).toNat < S13824.size a := fun v1741 k1_hw277 => k1_hw277

def k1_chk278 (v1749 : IVec S16 32) : Prop :=
  (∀ a x, ((![v1749] : Fin 1 → IVec S16 32) a x).toNat < S13824.size a)
theorem k1_idx278_inb : ∀ (v1749 : IVec S16 32) (k1_hw278 : k1_chk278 v1749), ∀ a x, ((![v1749] : Fin 1 → IVec S16 32) a x).toNat < S13824.size a := fun v1749 k1_hw278 => k1_hw278

def k1_chk279 (v1760 : IVec S16 32) : Prop :=
  (∀ a x, ((![v1760] : Fin 1 → IVec S16 32) a x).toNat < S256.size a)
theorem k1_idx279_inb : ∀ (v1760 : IVec S16 32) (k1_hw279 : k1_chk279 v1760), ∀ a x, ((![v1760] : Fin 1 → IVec S16 32) a x).toNat < S256.size a := fun v1760 k1_hw279 => k1_hw279

def k1_chk280 (v1765 : IVec S16 32) : Prop :=
  (∀ a x, ((![v1765] : Fin 1 → IVec S16 32) a x).toNat < S256.size a)
theorem k1_idx280_inb : ∀ (v1765 : IVec S16 32) (k1_hw280 : k1_chk280 v1765), ∀ a x, ((![v1765] : Fin 1 → IVec S16 32) a x).toNat < S256.size a := fun v1765 k1_hw280 => k1_hw280

def k1_chk281 (v1770 : IVec S16 32) : Prop :=
  (∀ a x, ((![v1770] : Fin 1 → IVec S16 32) a x).toNat < S256.size a)
theorem k1_idx281_inb : ∀ (v1770 : IVec S16 32) (k1_hw281 : k1_chk281 v1770), ∀ a x, ((![v1770] : Fin 1 → IVec S16 32) a x).toNat < S256.size a := fun v1770 k1_hw281 => k1_hw281

def k1_chk282 (v1775 : IVec S16 32) : Prop :=
  (∀ a x, ((![v1775] : Fin 1 → IVec S16 32) a x).toNat < S256.size a)
theorem k1_idx282_inb : ∀ (v1775 : IVec S16 32) (k1_hw282 : k1_chk282 v1775), ∀ a x, ((![v1775] : Fin 1 → IVec S16 32) a x).toNat < S256.size a := fun v1775 k1_hw282 => k1_hw282

def k1_chk283 (v1780 : IVec S16 32) : Prop :=
  (∀ a x, ((![v1780] : Fin 1 → IVec S16 32) a x).toNat < S256.size a)
theorem k1_idx283_inb : ∀ (v1780 : IVec S16 32) (k1_hw283 : k1_chk283 v1780), ∀ a x, ((![v1780] : Fin 1 → IVec S16 32) a x).toNat < S256.size a := fun v1780 k1_hw283 => k1_hw283

def k1_chk284 (v1785 : IVec S16 32) : Prop :=
  (∀ a x, ((![v1785] : Fin 1 → IVec S16 32) a x).toNat < S256.size a)
theorem k1_idx284_inb : ∀ (v1785 : IVec S16 32) (k1_hw284 : k1_chk284 v1785), ∀ a x, ((![v1785] : Fin 1 → IVec S16 32) a x).toNat < S256.size a := fun v1785 k1_hw284 => k1_hw284

def k1_chk285 (v1795 : IVec S16 32) : Prop :=
  (∀ a x, ((![v1795] : Fin 1 → IVec S16 32) a x).toNat < S256.size a)
theorem k1_idx285_inb : ∀ (v1795 : IVec S16 32) (k1_hw285 : k1_chk285 v1795), ∀ a x, ((![v1795] : Fin 1 → IVec S16 32) a x).toNat < S256.size a := fun v1795 k1_hw285 => k1_hw285

def k1_chk286 (v1812 : IVec S16 32) : Prop :=
  (∀ a x, ((![v1812] : Fin 1 → IVec S16 32) a x).toNat < S13824.size a)
theorem k1_idx286_inb : ∀ (v1812 : IVec S16 32) (k1_hw286 : k1_chk286 v1812), ∀ a x, ((![v1812] : Fin 1 → IVec S16 32) a x).toNat < S13824.size a := fun v1812 k1_hw286 => k1_hw286

def k1_chk287 (v1817 : IVec S16 32) : Prop :=
  (∀ a x, ((![v1817] : Fin 1 → IVec S16 32) a x).toNat < S13824.size a)
theorem k1_idx287_inb : ∀ (v1817 : IVec S16 32) (k1_hw287 : k1_chk287 v1817), ∀ a x, ((![v1817] : Fin 1 → IVec S16 32) a x).toNat < S13824.size a := fun v1817 k1_hw287 => k1_hw287

def k1_chk288 (v1825 : IVec S16 32) : Prop :=
  (∀ a x, ((![v1825] : Fin 1 → IVec S16 32) a x).toNat < S13824.size a)
theorem k1_idx288_inb : ∀ (v1825 : IVec S16 32) (k1_hw288 : k1_chk288 v1825), ∀ a x, ((![v1825] : Fin 1 → IVec S16 32) a x).toNat < S13824.size a := fun v1825 k1_hw288 => k1_hw288

def k1_chk289 (v1833 : IVec S16 32) : Prop :=
  (∀ a x, ((![v1833] : Fin 1 → IVec S16 32) a x).toNat < S13824.size a)
theorem k1_idx289_inb : ∀ (v1833 : IVec S16 32) (k1_hw289 : k1_chk289 v1833), ∀ a x, ((![v1833] : Fin 1 → IVec S16 32) a x).toNat < S13824.size a := fun v1833 k1_hw289 => k1_hw289

def k1_chk290 (v1841 : IVec S16 32) : Prop :=
  (∀ a x, ((![v1841] : Fin 1 → IVec S16 32) a x).toNat < S13824.size a)
theorem k1_idx290_inb : ∀ (v1841 : IVec S16 32) (k1_hw290 : k1_chk290 v1841), ∀ a x, ((![v1841] : Fin 1 → IVec S16 32) a x).toNat < S13824.size a := fun v1841 k1_hw290 => k1_hw290

def k1_chk291 (v1849 : IVec S16 32) : Prop :=
  (∀ a x, ((![v1849] : Fin 1 → IVec S16 32) a x).toNat < S13824.size a)
theorem k1_idx291_inb : ∀ (v1849 : IVec S16 32) (k1_hw291 : k1_chk291 v1849), ∀ a x, ((![v1849] : Fin 1 → IVec S16 32) a x).toNat < S13824.size a := fun v1849 k1_hw291 => k1_hw291

def k1_chk292 (v1857 : IVec S16 32) : Prop :=
  (∀ a x, ((![v1857] : Fin 1 → IVec S16 32) a x).toNat < S13824.size a)
theorem k1_idx292_inb : ∀ (v1857 : IVec S16 32) (k1_hw292 : k1_chk292 v1857), ∀ a x, ((![v1857] : Fin 1 → IVec S16 32) a x).toNat < S13824.size a := fun v1857 k1_hw292 => k1_hw292

def k1_chk293 (v1862 : IVec S16 32) : Prop :=
  (∀ a x, ((![v1862] : Fin 1 → IVec S16 32) a x).toNat < S13824.size a)
theorem k1_idx293_inb : ∀ (v1862 : IVec S16 32) (k1_hw293 : k1_chk293 v1862), ∀ a x, ((![v1862] : Fin 1 → IVec S16 32) a x).toNat < S13824.size a := fun v1862 k1_hw293 => k1_hw293

def k1_chk294 (v1870 : IVec S16 32) : Prop :=
  (∀ a x, ((![v1870] : Fin 1 → IVec S16 32) a x).toNat < S13824.size a)
theorem k1_idx294_inb : ∀ (v1870 : IVec S16 32) (k1_hw294 : k1_chk294 v1870), ∀ a x, ((![v1870] : Fin 1 → IVec S16 32) a x).toNat < S13824.size a := fun v1870 k1_hw294 => k1_hw294

def k1_chk295 (v1878 : IVec S16 32) : Prop :=
  (∀ a x, ((![v1878] : Fin 1 → IVec S16 32) a x).toNat < S13824.size a)
theorem k1_idx295_inb : ∀ (v1878 : IVec S16 32) (k1_hw295 : k1_chk295 v1878), ∀ a x, ((![v1878] : Fin 1 → IVec S16 32) a x).toNat < S13824.size a := fun v1878 k1_hw295 => k1_hw295

def k1_chk296 (v1886 : IVec S16 32) : Prop :=
  (∀ a x, ((![v1886] : Fin 1 → IVec S16 32) a x).toNat < S13824.size a)
theorem k1_idx296_inb : ∀ (v1886 : IVec S16 32) (k1_hw296 : k1_chk296 v1886), ∀ a x, ((![v1886] : Fin 1 → IVec S16 32) a x).toNat < S13824.size a := fun v1886 k1_hw296 => k1_hw296

def k1_chk297 (v1894 : IVec S16 32) : Prop :=
  (∀ a x, ((![v1894] : Fin 1 → IVec S16 32) a x).toNat < S13824.size a)
theorem k1_idx297_inb : ∀ (v1894 : IVec S16 32) (k1_hw297 : k1_chk297 v1894), ∀ a x, ((![v1894] : Fin 1 → IVec S16 32) a x).toNat < S13824.size a := fun v1894 k1_hw297 => k1_hw297

def k1_chk298 (v1905 : IVec S16 32) : Prop :=
  (∀ a x, ((![v1905] : Fin 1 → IVec S16 32) a x).toNat < S256.size a)
theorem k1_idx298_inb : ∀ (v1905 : IVec S16 32) (k1_hw298 : k1_chk298 v1905), ∀ a x, ((![v1905] : Fin 1 → IVec S16 32) a x).toNat < S256.size a := fun v1905 k1_hw298 => k1_hw298

def k1_chk299 (v1910 : IVec S16 32) : Prop :=
  (∀ a x, ((![v1910] : Fin 1 → IVec S16 32) a x).toNat < S256.size a)
theorem k1_idx299_inb : ∀ (v1910 : IVec S16 32) (k1_hw299 : k1_chk299 v1910), ∀ a x, ((![v1910] : Fin 1 → IVec S16 32) a x).toNat < S256.size a := fun v1910 k1_hw299 => k1_hw299

def k1_chk300 (v1915 : IVec S16 32) : Prop :=
  (∀ a x, ((![v1915] : Fin 1 → IVec S16 32) a x).toNat < S256.size a)
theorem k1_idx300_inb : ∀ (v1915 : IVec S16 32) (k1_hw300 : k1_chk300 v1915), ∀ a x, ((![v1915] : Fin 1 → IVec S16 32) a x).toNat < S256.size a := fun v1915 k1_hw300 => k1_hw300

def k1_chk301 (v1920 : IVec S16 32) : Prop :=
  (∀ a x, ((![v1920] : Fin 1 → IVec S16 32) a x).toNat < S256.size a)
theorem k1_idx301_inb : ∀ (v1920 : IVec S16 32) (k1_hw301 : k1_chk301 v1920), ∀ a x, ((![v1920] : Fin 1 → IVec S16 32) a x).toNat < S256.size a := fun v1920 k1_hw301 => k1_hw301

def k1_chk302 (v1925 : IVec S16 32) : Prop :=
  (∀ a x, ((![v1925] : Fin 1 → IVec S16 32) a x).toNat < S256.size a)
theorem k1_idx302_inb : ∀ (v1925 : IVec S16 32) (k1_hw302 : k1_chk302 v1925), ∀ a x, ((![v1925] : Fin 1 → IVec S16 32) a x).toNat < S256.size a := fun v1925 k1_hw302 => k1_hw302

def k1_chk303 (v1930 : IVec S16 32) : Prop :=
  (∀ a x, ((![v1930] : Fin 1 → IVec S16 32) a x).toNat < S256.size a)
theorem k1_idx303_inb : ∀ (v1930 : IVec S16 32) (k1_hw303 : k1_chk303 v1930), ∀ a x, ((![v1930] : Fin 1 → IVec S16 32) a x).toNat < S256.size a := fun v1930 k1_hw303 => k1_hw303

def k1_chk304 (v1940 : IVec S16 32) : Prop :=
  (∀ a x, ((![v1940] : Fin 1 → IVec S16 32) a x).toNat < S256.size a)
theorem k1_idx304_inb : ∀ (v1940 : IVec S16 32) (k1_hw304 : k1_chk304 v1940), ∀ a x, ((![v1940] : Fin 1 → IVec S16 32) a x).toNat < S256.size a := fun v1940 k1_hw304 => k1_hw304

def k1_chk305 (v1957 : IVec S16 32) : Prop :=
  (∀ a x, ((![v1957] : Fin 1 → IVec S16 32) a x).toNat < S13824.size a)
theorem k1_idx305_inb : ∀ (v1957 : IVec S16 32) (k1_hw305 : k1_chk305 v1957), ∀ a x, ((![v1957] : Fin 1 → IVec S16 32) a x).toNat < S13824.size a := fun v1957 k1_hw305 => k1_hw305

def k1_chk306 (v1962 : IVec S16 32) : Prop :=
  (∀ a x, ((![v1962] : Fin 1 → IVec S16 32) a x).toNat < S13824.size a)
theorem k1_idx306_inb : ∀ (v1962 : IVec S16 32) (k1_hw306 : k1_chk306 v1962), ∀ a x, ((![v1962] : Fin 1 → IVec S16 32) a x).toNat < S13824.size a := fun v1962 k1_hw306 => k1_hw306

def k1_chk307 (v1970 : IVec S16 32) : Prop :=
  (∀ a x, ((![v1970] : Fin 1 → IVec S16 32) a x).toNat < S13824.size a)
theorem k1_idx307_inb : ∀ (v1970 : IVec S16 32) (k1_hw307 : k1_chk307 v1970), ∀ a x, ((![v1970] : Fin 1 → IVec S16 32) a x).toNat < S13824.size a := fun v1970 k1_hw307 => k1_hw307

def k1_chk308 (v1978 : IVec S16 32) : Prop :=
  (∀ a x, ((![v1978] : Fin 1 → IVec S16 32) a x).toNat < S13824.size a)
theorem k1_idx308_inb : ∀ (v1978 : IVec S16 32) (k1_hw308 : k1_chk308 v1978), ∀ a x, ((![v1978] : Fin 1 → IVec S16 32) a x).toNat < S13824.size a := fun v1978 k1_hw308 => k1_hw308

def k1_chk309 (v1986 : IVec S16 32) : Prop :=
  (∀ a x, ((![v1986] : Fin 1 → IVec S16 32) a x).toNat < S13824.size a)
theorem k1_idx309_inb : ∀ (v1986 : IVec S16 32) (k1_hw309 : k1_chk309 v1986), ∀ a x, ((![v1986] : Fin 1 → IVec S16 32) a x).toNat < S13824.size a := fun v1986 k1_hw309 => k1_hw309

def k1_chk310 (v1994 : IVec S16 32) : Prop :=
  (∀ a x, ((![v1994] : Fin 1 → IVec S16 32) a x).toNat < S13824.size a)
theorem k1_idx310_inb : ∀ (v1994 : IVec S16 32) (k1_hw310 : k1_chk310 v1994), ∀ a x, ((![v1994] : Fin 1 → IVec S16 32) a x).toNat < S13824.size a := fun v1994 k1_hw310 => k1_hw310

def k1_chk311 (v2002 : IVec S16 32) : Prop :=
  (∀ a x, ((![v2002] : Fin 1 → IVec S16 32) a x).toNat < S13824.size a)
theorem k1_idx311_inb : ∀ (v2002 : IVec S16 32) (k1_hw311 : k1_chk311 v2002), ∀ a x, ((![v2002] : Fin 1 → IVec S16 32) a x).toNat < S13824.size a := fun v2002 k1_hw311 => k1_hw311

def k1_chk312 (v2007 : IVec S16 32) : Prop :=
  (∀ a x, ((![v2007] : Fin 1 → IVec S16 32) a x).toNat < S13824.size a)
theorem k1_idx312_inb : ∀ (v2007 : IVec S16 32) (k1_hw312 : k1_chk312 v2007), ∀ a x, ((![v2007] : Fin 1 → IVec S16 32) a x).toNat < S13824.size a := fun v2007 k1_hw312 => k1_hw312

def k1_chk313 (v2015 : IVec S16 32) : Prop :=
  (∀ a x, ((![v2015] : Fin 1 → IVec S16 32) a x).toNat < S13824.size a)
theorem k1_idx313_inb : ∀ (v2015 : IVec S16 32) (k1_hw313 : k1_chk313 v2015), ∀ a x, ((![v2015] : Fin 1 → IVec S16 32) a x).toNat < S13824.size a := fun v2015 k1_hw313 => k1_hw313

def k1_chk314 (v2023 : IVec S16 32) : Prop :=
  (∀ a x, ((![v2023] : Fin 1 → IVec S16 32) a x).toNat < S13824.size a)
theorem k1_idx314_inb : ∀ (v2023 : IVec S16 32) (k1_hw314 : k1_chk314 v2023), ∀ a x, ((![v2023] : Fin 1 → IVec S16 32) a x).toNat < S13824.size a := fun v2023 k1_hw314 => k1_hw314

def k1_chk315 (v2031 : IVec S16 32) : Prop :=
  (∀ a x, ((![v2031] : Fin 1 → IVec S16 32) a x).toNat < S13824.size a)
theorem k1_idx315_inb : ∀ (v2031 : IVec S16 32) (k1_hw315 : k1_chk315 v2031), ∀ a x, ((![v2031] : Fin 1 → IVec S16 32) a x).toNat < S13824.size a := fun v2031 k1_hw315 => k1_hw315

def k1_chk316 (v2039 : IVec S16 32) : Prop :=
  (∀ a x, ((![v2039] : Fin 1 → IVec S16 32) a x).toNat < S13824.size a)
theorem k1_idx316_inb : ∀ (v2039 : IVec S16 32) (k1_hw316 : k1_chk316 v2039), ∀ a x, ((![v2039] : Fin 1 → IVec S16 32) a x).toNat < S13824.size a := fun v2039 k1_hw316 => k1_hw316

def k1_chk317 (v2050 : IVec S16 32) : Prop :=
  (∀ a x, ((![v2050] : Fin 1 → IVec S16 32) a x).toNat < S256.size a)
theorem k1_idx317_inb : ∀ (v2050 : IVec S16 32) (k1_hw317 : k1_chk317 v2050), ∀ a x, ((![v2050] : Fin 1 → IVec S16 32) a x).toNat < S256.size a := fun v2050 k1_hw317 => k1_hw317

def k1_chk318 (v2055 : IVec S16 32) : Prop :=
  (∀ a x, ((![v2055] : Fin 1 → IVec S16 32) a x).toNat < S256.size a)
theorem k1_idx318_inb : ∀ (v2055 : IVec S16 32) (k1_hw318 : k1_chk318 v2055), ∀ a x, ((![v2055] : Fin 1 → IVec S16 32) a x).toNat < S256.size a := fun v2055 k1_hw318 => k1_hw318

def k1_chk319 (v2060 : IVec S16 32) : Prop :=
  (∀ a x, ((![v2060] : Fin 1 → IVec S16 32) a x).toNat < S256.size a)
theorem k1_idx319_inb : ∀ (v2060 : IVec S16 32) (k1_hw319 : k1_chk319 v2060), ∀ a x, ((![v2060] : Fin 1 → IVec S16 32) a x).toNat < S256.size a := fun v2060 k1_hw319 => k1_hw319

def k1_chk320 (v2065 : IVec S16 32) : Prop :=
  (∀ a x, ((![v2065] : Fin 1 → IVec S16 32) a x).toNat < S256.size a)
theorem k1_idx320_inb : ∀ (v2065 : IVec S16 32) (k1_hw320 : k1_chk320 v2065), ∀ a x, ((![v2065] : Fin 1 → IVec S16 32) a x).toNat < S256.size a := fun v2065 k1_hw320 => k1_hw320

def k1_chk321 (v2070 : IVec S16 32) : Prop :=
  (∀ a x, ((![v2070] : Fin 1 → IVec S16 32) a x).toNat < S256.size a)
theorem k1_idx321_inb : ∀ (v2070 : IVec S16 32) (k1_hw321 : k1_chk321 v2070), ∀ a x, ((![v2070] : Fin 1 → IVec S16 32) a x).toNat < S256.size a := fun v2070 k1_hw321 => k1_hw321

def k1_chk322 (v2075 : IVec S16 32) : Prop :=
  (∀ a x, ((![v2075] : Fin 1 → IVec S16 32) a x).toNat < S256.size a)
theorem k1_idx322_inb : ∀ (v2075 : IVec S16 32) (k1_hw322 : k1_chk322 v2075), ∀ a x, ((![v2075] : Fin 1 → IVec S16 32) a x).toNat < S256.size a := fun v2075 k1_hw322 => k1_hw322

def k1_chk323 (v2085 : IVec S16 32) : Prop :=
  (∀ a x, ((![v2085] : Fin 1 → IVec S16 32) a x).toNat < S256.size a)
theorem k1_idx323_inb : ∀ (v2085 : IVec S16 32) (k1_hw323 : k1_chk323 v2085), ∀ a x, ((![v2085] : Fin 1 → IVec S16 32) a x).toNat < S256.size a := fun v2085 k1_hw323 => k1_hw323

def k1_chk324 (v2102 : IVec S16 32) : Prop :=
  (∀ a x, ((![v2102] : Fin 1 → IVec S16 32) a x).toNat < S13824.size a)
theorem k1_idx324_inb : ∀ (v2102 : IVec S16 32) (k1_hw324 : k1_chk324 v2102), ∀ a x, ((![v2102] : Fin 1 → IVec S16 32) a x).toNat < S13824.size a := fun v2102 k1_hw324 => k1_hw324

def k1_chk325 (v2107 : IVec S16 32) : Prop :=
  (∀ a x, ((![v2107] : Fin 1 → IVec S16 32) a x).toNat < S13824.size a)
theorem k1_idx325_inb : ∀ (v2107 : IVec S16 32) (k1_hw325 : k1_chk325 v2107), ∀ a x, ((![v2107] : Fin 1 → IVec S16 32) a x).toNat < S13824.size a := fun v2107 k1_hw325 => k1_hw325

def k1_chk326 (v2115 : IVec S16 32) : Prop :=
  (∀ a x, ((![v2115] : Fin 1 → IVec S16 32) a x).toNat < S13824.size a)
theorem k1_idx326_inb : ∀ (v2115 : IVec S16 32) (k1_hw326 : k1_chk326 v2115), ∀ a x, ((![v2115] : Fin 1 → IVec S16 32) a x).toNat < S13824.size a := fun v2115 k1_hw326 => k1_hw326

def k1_chk327 (v2123 : IVec S16 32) : Prop :=
  (∀ a x, ((![v2123] : Fin 1 → IVec S16 32) a x).toNat < S13824.size a)
theorem k1_idx327_inb : ∀ (v2123 : IVec S16 32) (k1_hw327 : k1_chk327 v2123), ∀ a x, ((![v2123] : Fin 1 → IVec S16 32) a x).toNat < S13824.size a := fun v2123 k1_hw327 => k1_hw327

def k1_chk328 (v2131 : IVec S16 32) : Prop :=
  (∀ a x, ((![v2131] : Fin 1 → IVec S16 32) a x).toNat < S13824.size a)
theorem k1_idx328_inb : ∀ (v2131 : IVec S16 32) (k1_hw328 : k1_chk328 v2131), ∀ a x, ((![v2131] : Fin 1 → IVec S16 32) a x).toNat < S13824.size a := fun v2131 k1_hw328 => k1_hw328

def k1_chk329 (v2139 : IVec S16 32) : Prop :=
  (∀ a x, ((![v2139] : Fin 1 → IVec S16 32) a x).toNat < S13824.size a)
theorem k1_idx329_inb : ∀ (v2139 : IVec S16 32) (k1_hw329 : k1_chk329 v2139), ∀ a x, ((![v2139] : Fin 1 → IVec S16 32) a x).toNat < S13824.size a := fun v2139 k1_hw329 => k1_hw329

def k1_chk330 (v2147 : IVec S16 32) : Prop :=
  (∀ a x, ((![v2147] : Fin 1 → IVec S16 32) a x).toNat < S13824.size a)
theorem k1_idx330_inb : ∀ (v2147 : IVec S16 32) (k1_hw330 : k1_chk330 v2147), ∀ a x, ((![v2147] : Fin 1 → IVec S16 32) a x).toNat < S13824.size a := fun v2147 k1_hw330 => k1_hw330

def k1_chk331 (v2152 : IVec S16 32) : Prop :=
  (∀ a x, ((![v2152] : Fin 1 → IVec S16 32) a x).toNat < S13824.size a)
theorem k1_idx331_inb : ∀ (v2152 : IVec S16 32) (k1_hw331 : k1_chk331 v2152), ∀ a x, ((![v2152] : Fin 1 → IVec S16 32) a x).toNat < S13824.size a := fun v2152 k1_hw331 => k1_hw331

def k1_chk332 (v2160 : IVec S16 32) : Prop :=
  (∀ a x, ((![v2160] : Fin 1 → IVec S16 32) a x).toNat < S13824.size a)
theorem k1_idx332_inb : ∀ (v2160 : IVec S16 32) (k1_hw332 : k1_chk332 v2160), ∀ a x, ((![v2160] : Fin 1 → IVec S16 32) a x).toNat < S13824.size a := fun v2160 k1_hw332 => k1_hw332

def k1_chk333 (v2168 : IVec S16 32) : Prop :=
  (∀ a x, ((![v2168] : Fin 1 → IVec S16 32) a x).toNat < S13824.size a)
theorem k1_idx333_inb : ∀ (v2168 : IVec S16 32) (k1_hw333 : k1_chk333 v2168), ∀ a x, ((![v2168] : Fin 1 → IVec S16 32) a x).toNat < S13824.size a := fun v2168 k1_hw333 => k1_hw333

def k1_chk334 (v2176 : IVec S16 32) : Prop :=
  (∀ a x, ((![v2176] : Fin 1 → IVec S16 32) a x).toNat < S13824.size a)
theorem k1_idx334_inb : ∀ (v2176 : IVec S16 32) (k1_hw334 : k1_chk334 v2176), ∀ a x, ((![v2176] : Fin 1 → IVec S16 32) a x).toNat < S13824.size a := fun v2176 k1_hw334 => k1_hw334

def k1_chk335 (v2184 : IVec S16 32) : Prop :=
  (∀ a x, ((![v2184] : Fin 1 → IVec S16 32) a x).toNat < S13824.size a)
theorem k1_idx335_inb : ∀ (v2184 : IVec S16 32) (k1_hw335 : k1_chk335 v2184), ∀ a x, ((![v2184] : Fin 1 → IVec S16 32) a x).toNat < S13824.size a := fun v2184 k1_hw335 => k1_hw335

def k1_chk336 (v2195 : IVec S16 32) : Prop :=
  (∀ a x, ((![v2195] : Fin 1 → IVec S16 32) a x).toNat < S256.size a)
theorem k1_idx336_inb : ∀ (v2195 : IVec S16 32) (k1_hw336 : k1_chk336 v2195), ∀ a x, ((![v2195] : Fin 1 → IVec S16 32) a x).toNat < S256.size a := fun v2195 k1_hw336 => k1_hw336

def k1_chk337 (v2200 : IVec S16 32) : Prop :=
  (∀ a x, ((![v2200] : Fin 1 → IVec S16 32) a x).toNat < S256.size a)
theorem k1_idx337_inb : ∀ (v2200 : IVec S16 32) (k1_hw337 : k1_chk337 v2200), ∀ a x, ((![v2200] : Fin 1 → IVec S16 32) a x).toNat < S256.size a := fun v2200 k1_hw337 => k1_hw337

def k1_chk338 (v2205 : IVec S16 32) : Prop :=
  (∀ a x, ((![v2205] : Fin 1 → IVec S16 32) a x).toNat < S256.size a)
theorem k1_idx338_inb : ∀ (v2205 : IVec S16 32) (k1_hw338 : k1_chk338 v2205), ∀ a x, ((![v2205] : Fin 1 → IVec S16 32) a x).toNat < S256.size a := fun v2205 k1_hw338 => k1_hw338

def k1_chk339 (v2210 : IVec S16 32) : Prop :=
  (∀ a x, ((![v2210] : Fin 1 → IVec S16 32) a x).toNat < S256.size a)
theorem k1_idx339_inb : ∀ (v2210 : IVec S16 32) (k1_hw339 : k1_chk339 v2210), ∀ a x, ((![v2210] : Fin 1 → IVec S16 32) a x).toNat < S256.size a := fun v2210 k1_hw339 => k1_hw339

def k1_chk340 (v2215 : IVec S16 32) : Prop :=
  (∀ a x, ((![v2215] : Fin 1 → IVec S16 32) a x).toNat < S256.size a)
theorem k1_idx340_inb : ∀ (v2215 : IVec S16 32) (k1_hw340 : k1_chk340 v2215), ∀ a x, ((![v2215] : Fin 1 → IVec S16 32) a x).toNat < S256.size a := fun v2215 k1_hw340 => k1_hw340

def k1_chk341 (v2220 : IVec S16 32) : Prop :=
  (∀ a x, ((![v2220] : Fin 1 → IVec S16 32) a x).toNat < S256.size a)
theorem k1_idx341_inb : ∀ (v2220 : IVec S16 32) (k1_hw341 : k1_chk341 v2220), ∀ a x, ((![v2220] : Fin 1 → IVec S16 32) a x).toNat < S256.size a := fun v2220 k1_hw341 => k1_hw341

def k1_chk342 (v2230 : IVec S16 32) : Prop :=
  (∀ a x, ((![v2230] : Fin 1 → IVec S16 32) a x).toNat < S256.size a)
theorem k1_idx342_inb : ∀ (v2230 : IVec S16 32) (k1_hw342 : k1_chk342 v2230), ∀ a x, ((![v2230] : Fin 1 → IVec S16 32) a x).toNat < S256.size a := fun v2230 k1_hw342 => k1_hw342

def k1_chk343 (v2247 : IVec S16 32) : Prop :=
  (∀ a x, ((![v2247] : Fin 1 → IVec S16 32) a x).toNat < S13824.size a)
theorem k1_idx343_inb : ∀ (v2247 : IVec S16 32) (k1_hw343 : k1_chk343 v2247), ∀ a x, ((![v2247] : Fin 1 → IVec S16 32) a x).toNat < S13824.size a := fun v2247 k1_hw343 => k1_hw343

def k1_chk344 (v2252 : IVec S16 32) : Prop :=
  (∀ a x, ((![v2252] : Fin 1 → IVec S16 32) a x).toNat < S13824.size a)
theorem k1_idx344_inb : ∀ (v2252 : IVec S16 32) (k1_hw344 : k1_chk344 v2252), ∀ a x, ((![v2252] : Fin 1 → IVec S16 32) a x).toNat < S13824.size a := fun v2252 k1_hw344 => k1_hw344

def k1_chk345 (v2260 : IVec S16 32) : Prop :=
  (∀ a x, ((![v2260] : Fin 1 → IVec S16 32) a x).toNat < S13824.size a)
theorem k1_idx345_inb : ∀ (v2260 : IVec S16 32) (k1_hw345 : k1_chk345 v2260), ∀ a x, ((![v2260] : Fin 1 → IVec S16 32) a x).toNat < S13824.size a := fun v2260 k1_hw345 => k1_hw345

def k1_chk346 (v2268 : IVec S16 32) : Prop :=
  (∀ a x, ((![v2268] : Fin 1 → IVec S16 32) a x).toNat < S13824.size a)
theorem k1_idx346_inb : ∀ (v2268 : IVec S16 32) (k1_hw346 : k1_chk346 v2268), ∀ a x, ((![v2268] : Fin 1 → IVec S16 32) a x).toNat < S13824.size a := fun v2268 k1_hw346 => k1_hw346

def k1_chk347 (v2276 : IVec S16 32) : Prop :=
  (∀ a x, ((![v2276] : Fin 1 → IVec S16 32) a x).toNat < S13824.size a)
theorem k1_idx347_inb : ∀ (v2276 : IVec S16 32) (k1_hw347 : k1_chk347 v2276), ∀ a x, ((![v2276] : Fin 1 → IVec S16 32) a x).toNat < S13824.size a := fun v2276 k1_hw347 => k1_hw347

def k1_chk348 (v2284 : IVec S16 32) : Prop :=
  (∀ a x, ((![v2284] : Fin 1 → IVec S16 32) a x).toNat < S13824.size a)
theorem k1_idx348_inb : ∀ (v2284 : IVec S16 32) (k1_hw348 : k1_chk348 v2284), ∀ a x, ((![v2284] : Fin 1 → IVec S16 32) a x).toNat < S13824.size a := fun v2284 k1_hw348 => k1_hw348

def k1_chk349 (v2292 : IVec S16 32) : Prop :=
  (∀ a x, ((![v2292] : Fin 1 → IVec S16 32) a x).toNat < S13824.size a)
theorem k1_idx349_inb : ∀ (v2292 : IVec S16 32) (k1_hw349 : k1_chk349 v2292), ∀ a x, ((![v2292] : Fin 1 → IVec S16 32) a x).toNat < S13824.size a := fun v2292 k1_hw349 => k1_hw349

def k1_chk350 (v2297 : IVec S16 32) : Prop :=
  (∀ a x, ((![v2297] : Fin 1 → IVec S16 32) a x).toNat < S13824.size a)
theorem k1_idx350_inb : ∀ (v2297 : IVec S16 32) (k1_hw350 : k1_chk350 v2297), ∀ a x, ((![v2297] : Fin 1 → IVec S16 32) a x).toNat < S13824.size a := fun v2297 k1_hw350 => k1_hw350

def k1_chk351 (v2305 : IVec S16 32) : Prop :=
  (∀ a x, ((![v2305] : Fin 1 → IVec S16 32) a x).toNat < S13824.size a)
theorem k1_idx351_inb : ∀ (v2305 : IVec S16 32) (k1_hw351 : k1_chk351 v2305), ∀ a x, ((![v2305] : Fin 1 → IVec S16 32) a x).toNat < S13824.size a := fun v2305 k1_hw351 => k1_hw351

def k1_chk352 (v2313 : IVec S16 32) : Prop :=
  (∀ a x, ((![v2313] : Fin 1 → IVec S16 32) a x).toNat < S13824.size a)
theorem k1_idx352_inb : ∀ (v2313 : IVec S16 32) (k1_hw352 : k1_chk352 v2313), ∀ a x, ((![v2313] : Fin 1 → IVec S16 32) a x).toNat < S13824.size a := fun v2313 k1_hw352 => k1_hw352

def k1_chk353 (v2321 : IVec S16 32) : Prop :=
  (∀ a x, ((![v2321] : Fin 1 → IVec S16 32) a x).toNat < S13824.size a)
theorem k1_idx353_inb : ∀ (v2321 : IVec S16 32) (k1_hw353 : k1_chk353 v2321), ∀ a x, ((![v2321] : Fin 1 → IVec S16 32) a x).toNat < S13824.size a := fun v2321 k1_hw353 => k1_hw353

def k1_chk354 (v2329 : IVec S16 32) : Prop :=
  (∀ a x, ((![v2329] : Fin 1 → IVec S16 32) a x).toNat < S13824.size a)
theorem k1_idx354_inb : ∀ (v2329 : IVec S16 32) (k1_hw354 : k1_chk354 v2329), ∀ a x, ((![v2329] : Fin 1 → IVec S16 32) a x).toNat < S13824.size a := fun v2329 k1_hw354 => k1_hw354

def k1_chk355 (v2340 : IVec S16 32) : Prop :=
  (∀ a x, ((![v2340] : Fin 1 → IVec S16 32) a x).toNat < S256.size a)
theorem k1_idx355_inb : ∀ (v2340 : IVec S16 32) (k1_hw355 : k1_chk355 v2340), ∀ a x, ((![v2340] : Fin 1 → IVec S16 32) a x).toNat < S256.size a := fun v2340 k1_hw355 => k1_hw355

def k1_chk356 (v2345 : IVec S16 32) : Prop :=
  (∀ a x, ((![v2345] : Fin 1 → IVec S16 32) a x).toNat < S256.size a)
theorem k1_idx356_inb : ∀ (v2345 : IVec S16 32) (k1_hw356 : k1_chk356 v2345), ∀ a x, ((![v2345] : Fin 1 → IVec S16 32) a x).toNat < S256.size a := fun v2345 k1_hw356 => k1_hw356

def k1_chk357 (v2350 : IVec S16 32) : Prop :=
  (∀ a x, ((![v2350] : Fin 1 → IVec S16 32) a x).toNat < S256.size a)
theorem k1_idx357_inb : ∀ (v2350 : IVec S16 32) (k1_hw357 : k1_chk357 v2350), ∀ a x, ((![v2350] : Fin 1 → IVec S16 32) a x).toNat < S256.size a := fun v2350 k1_hw357 => k1_hw357

def k1_chk358 (v2355 : IVec S16 32) : Prop :=
  (∀ a x, ((![v2355] : Fin 1 → IVec S16 32) a x).toNat < S256.size a)
theorem k1_idx358_inb : ∀ (v2355 : IVec S16 32) (k1_hw358 : k1_chk358 v2355), ∀ a x, ((![v2355] : Fin 1 → IVec S16 32) a x).toNat < S256.size a := fun v2355 k1_hw358 => k1_hw358

def k1_chk359 (v2360 : IVec S16 32) : Prop :=
  (∀ a x, ((![v2360] : Fin 1 → IVec S16 32) a x).toNat < S256.size a)
theorem k1_idx359_inb : ∀ (v2360 : IVec S16 32) (k1_hw359 : k1_chk359 v2360), ∀ a x, ((![v2360] : Fin 1 → IVec S16 32) a x).toNat < S256.size a := fun v2360 k1_hw359 => k1_hw359

def k1_chk360 (v2365 : IVec S16 32) : Prop :=
  (∀ a x, ((![v2365] : Fin 1 → IVec S16 32) a x).toNat < S256.size a)
theorem k1_idx360_inb : ∀ (v2365 : IVec S16 32) (k1_hw360 : k1_chk360 v2365), ∀ a x, ((![v2365] : Fin 1 → IVec S16 32) a x).toNat < S256.size a := fun v2365 k1_hw360 => k1_hw360

def k1_chk361 (v2375 : IVec S16 32) : Prop :=
  (∀ a x, ((![v2375] : Fin 1 → IVec S16 32) a x).toNat < S256.size a)
theorem k1_idx361_inb : ∀ (v2375 : IVec S16 32) (k1_hw361 : k1_chk361 v2375), ∀ a x, ((![v2375] : Fin 1 → IVec S16 32) a x).toNat < S256.size a := fun v2375 k1_hw361 => k1_hw361

def k1_chk362 (v2392 : IVec S16 32) : Prop :=
  (∀ a x, ((![v2392] : Fin 1 → IVec S16 32) a x).toNat < S13824.size a)
theorem k1_idx362_inb : ∀ (v2392 : IVec S16 32) (k1_hw362 : k1_chk362 v2392), ∀ a x, ((![v2392] : Fin 1 → IVec S16 32) a x).toNat < S13824.size a := fun v2392 k1_hw362 => k1_hw362

def k1_chk363 (v2397 : IVec S16 32) : Prop :=
  (∀ a x, ((![v2397] : Fin 1 → IVec S16 32) a x).toNat < S13824.size a)
theorem k1_idx363_inb : ∀ (v2397 : IVec S16 32) (k1_hw363 : k1_chk363 v2397), ∀ a x, ((![v2397] : Fin 1 → IVec S16 32) a x).toNat < S13824.size a := fun v2397 k1_hw363 => k1_hw363

def k1_chk364 (v2405 : IVec S16 32) : Prop :=
  (∀ a x, ((![v2405] : Fin 1 → IVec S16 32) a x).toNat < S13824.size a)
theorem k1_idx364_inb : ∀ (v2405 : IVec S16 32) (k1_hw364 : k1_chk364 v2405), ∀ a x, ((![v2405] : Fin 1 → IVec S16 32) a x).toNat < S13824.size a := fun v2405 k1_hw364 => k1_hw364

def k1_chk365 (v2413 : IVec S16 32) : Prop :=
  (∀ a x, ((![v2413] : Fin 1 → IVec S16 32) a x).toNat < S13824.size a)
theorem k1_idx365_inb : ∀ (v2413 : IVec S16 32) (k1_hw365 : k1_chk365 v2413), ∀ a x, ((![v2413] : Fin 1 → IVec S16 32) a x).toNat < S13824.size a := fun v2413 k1_hw365 => k1_hw365

def k1_chk366 (v2421 : IVec S16 32) : Prop :=
  (∀ a x, ((![v2421] : Fin 1 → IVec S16 32) a x).toNat < S13824.size a)
theorem k1_idx366_inb : ∀ (v2421 : IVec S16 32) (k1_hw366 : k1_chk366 v2421), ∀ a x, ((![v2421] : Fin 1 → IVec S16 32) a x).toNat < S13824.size a := fun v2421 k1_hw366 => k1_hw366

def k1_chk367 (v2429 : IVec S16 32) : Prop :=
  (∀ a x, ((![v2429] : Fin 1 → IVec S16 32) a x).toNat < S13824.size a)
theorem k1_idx367_inb : ∀ (v2429 : IVec S16 32) (k1_hw367 : k1_chk367 v2429), ∀ a x, ((![v2429] : Fin 1 → IVec S16 32) a x).toNat < S13824.size a := fun v2429 k1_hw367 => k1_hw367

def k1_chk368 (v2437 : IVec S16 32) : Prop :=
  (∀ a x, ((![v2437] : Fin 1 → IVec S16 32) a x).toNat < S13824.size a)
theorem k1_idx368_inb : ∀ (v2437 : IVec S16 32) (k1_hw368 : k1_chk368 v2437), ∀ a x, ((![v2437] : Fin 1 → IVec S16 32) a x).toNat < S13824.size a := fun v2437 k1_hw368 => k1_hw368

def k1_chk369 (v2442 : IVec S16 32) : Prop :=
  (∀ a x, ((![v2442] : Fin 1 → IVec S16 32) a x).toNat < S13824.size a)
theorem k1_idx369_inb : ∀ (v2442 : IVec S16 32) (k1_hw369 : k1_chk369 v2442), ∀ a x, ((![v2442] : Fin 1 → IVec S16 32) a x).toNat < S13824.size a := fun v2442 k1_hw369 => k1_hw369

def k1_chk370 (v2450 : IVec S16 32) : Prop :=
  (∀ a x, ((![v2450] : Fin 1 → IVec S16 32) a x).toNat < S13824.size a)
theorem k1_idx370_inb : ∀ (v2450 : IVec S16 32) (k1_hw370 : k1_chk370 v2450), ∀ a x, ((![v2450] : Fin 1 → IVec S16 32) a x).toNat < S13824.size a := fun v2450 k1_hw370 => k1_hw370

def k1_chk371 (v2458 : IVec S16 32) : Prop :=
  (∀ a x, ((![v2458] : Fin 1 → IVec S16 32) a x).toNat < S13824.size a)
theorem k1_idx371_inb : ∀ (v2458 : IVec S16 32) (k1_hw371 : k1_chk371 v2458), ∀ a x, ((![v2458] : Fin 1 → IVec S16 32) a x).toNat < S13824.size a := fun v2458 k1_hw371 => k1_hw371

def k1_chk372 (v2466 : IVec S16 32) : Prop :=
  (∀ a x, ((![v2466] : Fin 1 → IVec S16 32) a x).toNat < S13824.size a)
theorem k1_idx372_inb : ∀ (v2466 : IVec S16 32) (k1_hw372 : k1_chk372 v2466), ∀ a x, ((![v2466] : Fin 1 → IVec S16 32) a x).toNat < S13824.size a := fun v2466 k1_hw372 => k1_hw372

def k1_chk373 (v2474 : IVec S16 32) : Prop :=
  (∀ a x, ((![v2474] : Fin 1 → IVec S16 32) a x).toNat < S13824.size a)
theorem k1_idx373_inb : ∀ (v2474 : IVec S16 32) (k1_hw373 : k1_chk373 v2474), ∀ a x, ((![v2474] : Fin 1 → IVec S16 32) a x).toNat < S13824.size a := fun v2474 k1_hw373 => k1_hw373

def k1_chk374 (v2485 : IVec S16 32) : Prop :=
  (∀ a x, ((![v2485] : Fin 1 → IVec S16 32) a x).toNat < S256.size a)
theorem k1_idx374_inb : ∀ (v2485 : IVec S16 32) (k1_hw374 : k1_chk374 v2485), ∀ a x, ((![v2485] : Fin 1 → IVec S16 32) a x).toNat < S256.size a := fun v2485 k1_hw374 => k1_hw374

def k1_chk375 (v2490 : IVec S16 32) : Prop :=
  (∀ a x, ((![v2490] : Fin 1 → IVec S16 32) a x).toNat < S256.size a)
theorem k1_idx375_inb : ∀ (v2490 : IVec S16 32) (k1_hw375 : k1_chk375 v2490), ∀ a x, ((![v2490] : Fin 1 → IVec S16 32) a x).toNat < S256.size a := fun v2490 k1_hw375 => k1_hw375

def k1_chk376 (v2495 : IVec S16 32) : Prop :=
  (∀ a x, ((![v2495] : Fin 1 → IVec S16 32) a x).toNat < S256.size a)
theorem k1_idx376_inb : ∀ (v2495 : IVec S16 32) (k1_hw376 : k1_chk376 v2495), ∀ a x, ((![v2495] : Fin 1 → IVec S16 32) a x).toNat < S256.size a := fun v2495 k1_hw376 => k1_hw376

def k1_chk377 (v2500 : IVec S16 32) : Prop :=
  (∀ a x, ((![v2500] : Fin 1 → IVec S16 32) a x).toNat < S256.size a)
theorem k1_idx377_inb : ∀ (v2500 : IVec S16 32) (k1_hw377 : k1_chk377 v2500), ∀ a x, ((![v2500] : Fin 1 → IVec S16 32) a x).toNat < S256.size a := fun v2500 k1_hw377 => k1_hw377

def k1_chk378 (v2505 : IVec S16 32) : Prop :=
  (∀ a x, ((![v2505] : Fin 1 → IVec S16 32) a x).toNat < S256.size a)
theorem k1_idx378_inb : ∀ (v2505 : IVec S16 32) (k1_hw378 : k1_chk378 v2505), ∀ a x, ((![v2505] : Fin 1 → IVec S16 32) a x).toNat < S256.size a := fun v2505 k1_hw378 => k1_hw378

def k1_chk379 (v2510 : IVec S16 32) : Prop :=
  (∀ a x, ((![v2510] : Fin 1 → IVec S16 32) a x).toNat < S256.size a)
theorem k1_idx379_inb : ∀ (v2510 : IVec S16 32) (k1_hw379 : k1_chk379 v2510), ∀ a x, ((![v2510] : Fin 1 → IVec S16 32) a x).toNat < S256.size a := fun v2510 k1_hw379 => k1_hw379

def k1_chk380 (v2520 : IVec S16 32) : Prop :=
  (∀ a x, ((![v2520] : Fin 1 → IVec S16 32) a x).toNat < S256.size a)
theorem k1_idx380_inb : ∀ (v2520 : IVec S16 32) (k1_hw380 : k1_chk380 v2520), ∀ a x, ((![v2520] : Fin 1 → IVec S16 32) a x).toNat < S256.size a := fun v2520 k1_hw380 => k1_hw380

def k1_chk381 (v2537 : IVec S16 32) : Prop :=
  (∀ a x, ((![v2537] : Fin 1 → IVec S16 32) a x).toNat < S13824.size a)
theorem k1_idx381_inb : ∀ (v2537 : IVec S16 32) (k1_hw381 : k1_chk381 v2537), ∀ a x, ((![v2537] : Fin 1 → IVec S16 32) a x).toNat < S13824.size a := fun v2537 k1_hw381 => k1_hw381

def k1_chk382 (v2542 : IVec S16 32) : Prop :=
  (∀ a x, ((![v2542] : Fin 1 → IVec S16 32) a x).toNat < S13824.size a)
theorem k1_idx382_inb : ∀ (v2542 : IVec S16 32) (k1_hw382 : k1_chk382 v2542), ∀ a x, ((![v2542] : Fin 1 → IVec S16 32) a x).toNat < S13824.size a := fun v2542 k1_hw382 => k1_hw382

def k1_chk383 (v2550 : IVec S16 32) : Prop :=
  (∀ a x, ((![v2550] : Fin 1 → IVec S16 32) a x).toNat < S13824.size a)
theorem k1_idx383_inb : ∀ (v2550 : IVec S16 32) (k1_hw383 : k1_chk383 v2550), ∀ a x, ((![v2550] : Fin 1 → IVec S16 32) a x).toNat < S13824.size a := fun v2550 k1_hw383 => k1_hw383

def k1_chk384 (v2558 : IVec S16 32) : Prop :=
  (∀ a x, ((![v2558] : Fin 1 → IVec S16 32) a x).toNat < S13824.size a)
theorem k1_idx384_inb : ∀ (v2558 : IVec S16 32) (k1_hw384 : k1_chk384 v2558), ∀ a x, ((![v2558] : Fin 1 → IVec S16 32) a x).toNat < S13824.size a := fun v2558 k1_hw384 => k1_hw384

def k1_chk385 (v2566 : IVec S16 32) : Prop :=
  (∀ a x, ((![v2566] : Fin 1 → IVec S16 32) a x).toNat < S13824.size a)
theorem k1_idx385_inb : ∀ (v2566 : IVec S16 32) (k1_hw385 : k1_chk385 v2566), ∀ a x, ((![v2566] : Fin 1 → IVec S16 32) a x).toNat < S13824.size a := fun v2566 k1_hw385 => k1_hw385

def k1_chk386 (v2574 : IVec S16 32) : Prop :=
  (∀ a x, ((![v2574] : Fin 1 → IVec S16 32) a x).toNat < S13824.size a)
theorem k1_idx386_inb : ∀ (v2574 : IVec S16 32) (k1_hw386 : k1_chk386 v2574), ∀ a x, ((![v2574] : Fin 1 → IVec S16 32) a x).toNat < S13824.size a := fun v2574 k1_hw386 => k1_hw386

def k1_chk387 (v2582 : IVec S16 32) : Prop :=
  (∀ a x, ((![v2582] : Fin 1 → IVec S16 32) a x).toNat < S13824.size a)
theorem k1_idx387_inb : ∀ (v2582 : IVec S16 32) (k1_hw387 : k1_chk387 v2582), ∀ a x, ((![v2582] : Fin 1 → IVec S16 32) a x).toNat < S13824.size a := fun v2582 k1_hw387 => k1_hw387

def k1_chk388 (v2587 : IVec S16 32) : Prop :=
  (∀ a x, ((![v2587] : Fin 1 → IVec S16 32) a x).toNat < S13824.size a)
theorem k1_idx388_inb : ∀ (v2587 : IVec S16 32) (k1_hw388 : k1_chk388 v2587), ∀ a x, ((![v2587] : Fin 1 → IVec S16 32) a x).toNat < S13824.size a := fun v2587 k1_hw388 => k1_hw388

def k1_chk389 (v2595 : IVec S16 32) : Prop :=
  (∀ a x, ((![v2595] : Fin 1 → IVec S16 32) a x).toNat < S13824.size a)
theorem k1_idx389_inb : ∀ (v2595 : IVec S16 32) (k1_hw389 : k1_chk389 v2595), ∀ a x, ((![v2595] : Fin 1 → IVec S16 32) a x).toNat < S13824.size a := fun v2595 k1_hw389 => k1_hw389

def k1_chk390 (v2603 : IVec S16 32) : Prop :=
  (∀ a x, ((![v2603] : Fin 1 → IVec S16 32) a x).toNat < S13824.size a)
theorem k1_idx390_inb : ∀ (v2603 : IVec S16 32) (k1_hw390 : k1_chk390 v2603), ∀ a x, ((![v2603] : Fin 1 → IVec S16 32) a x).toNat < S13824.size a := fun v2603 k1_hw390 => k1_hw390

def k1_chk391 (v2611 : IVec S16 32) : Prop :=
  (∀ a x, ((![v2611] : Fin 1 → IVec S16 32) a x).toNat < S13824.size a)
theorem k1_idx391_inb : ∀ (v2611 : IVec S16 32) (k1_hw391 : k1_chk391 v2611), ∀ a x, ((![v2611] : Fin 1 → IVec S16 32) a x).toNat < S13824.size a := fun v2611 k1_hw391 => k1_hw391

def k1_chk392 (v2619 : IVec S16 32) : Prop :=
  (∀ a x, ((![v2619] : Fin 1 → IVec S16 32) a x).toNat < S13824.size a)
theorem k1_idx392_inb : ∀ (v2619 : IVec S16 32) (k1_hw392 : k1_chk392 v2619), ∀ a x, ((![v2619] : Fin 1 → IVec S16 32) a x).toNat < S13824.size a := fun v2619 k1_hw392 => k1_hw392

def k1_chk393 (v2630 : IVec S16 32) : Prop :=
  (∀ a x, ((![v2630] : Fin 1 → IVec S16 32) a x).toNat < S256.size a)
theorem k1_idx393_inb : ∀ (v2630 : IVec S16 32) (k1_hw393 : k1_chk393 v2630), ∀ a x, ((![v2630] : Fin 1 → IVec S16 32) a x).toNat < S256.size a := fun v2630 k1_hw393 => k1_hw393

def k1_chk394 (v2635 : IVec S16 32) : Prop :=
  (∀ a x, ((![v2635] : Fin 1 → IVec S16 32) a x).toNat < S256.size a)
theorem k1_idx394_inb : ∀ (v2635 : IVec S16 32) (k1_hw394 : k1_chk394 v2635), ∀ a x, ((![v2635] : Fin 1 → IVec S16 32) a x).toNat < S256.size a := fun v2635 k1_hw394 => k1_hw394

def k1_chk395 (v2640 : IVec S16 32) : Prop :=
  (∀ a x, ((![v2640] : Fin 1 → IVec S16 32) a x).toNat < S256.size a)
theorem k1_idx395_inb : ∀ (v2640 : IVec S16 32) (k1_hw395 : k1_chk395 v2640), ∀ a x, ((![v2640] : Fin 1 → IVec S16 32) a x).toNat < S256.size a := fun v2640 k1_hw395 => k1_hw395

def k1_chk396 (v2645 : IVec S16 32) : Prop :=
  (∀ a x, ((![v2645] : Fin 1 → IVec S16 32) a x).toNat < S256.size a)
theorem k1_idx396_inb : ∀ (v2645 : IVec S16 32) (k1_hw396 : k1_chk396 v2645), ∀ a x, ((![v2645] : Fin 1 → IVec S16 32) a x).toNat < S256.size a := fun v2645 k1_hw396 => k1_hw396

def k1_chk397 (v2650 : IVec S16 32) : Prop :=
  (∀ a x, ((![v2650] : Fin 1 → IVec S16 32) a x).toNat < S256.size a)
theorem k1_idx397_inb : ∀ (v2650 : IVec S16 32) (k1_hw397 : k1_chk397 v2650), ∀ a x, ((![v2650] : Fin 1 → IVec S16 32) a x).toNat < S256.size a := fun v2650 k1_hw397 => k1_hw397

def k1_chk398 (v2655 : IVec S16 32) : Prop :=
  (∀ a x, ((![v2655] : Fin 1 → IVec S16 32) a x).toNat < S256.size a)
theorem k1_idx398_inb : ∀ (v2655 : IVec S16 32) (k1_hw398 : k1_chk398 v2655), ∀ a x, ((![v2655] : Fin 1 → IVec S16 32) a x).toNat < S256.size a := fun v2655 k1_hw398 => k1_hw398

def k1_chk399 (v2665 : IVec S16 32) : Prop :=
  (∀ a x, ((![v2665] : Fin 1 → IVec S16 32) a x).toNat < S256.size a)
theorem k1_idx399_inb : ∀ (v2665 : IVec S16 32) (k1_hw399 : k1_chk399 v2665), ∀ a x, ((![v2665] : Fin 1 → IVec S16 32) a x).toNat < S256.size a := fun v2665 k1_hw399 => k1_hw399

def k1_chk400 (v2682 : IVec S16 32) : Prop :=
  (∀ a x, ((![v2682] : Fin 1 → IVec S16 32) a x).toNat < S13824.size a)
theorem k1_idx400_inb : ∀ (v2682 : IVec S16 32) (k1_hw400 : k1_chk400 v2682), ∀ a x, ((![v2682] : Fin 1 → IVec S16 32) a x).toNat < S13824.size a := fun v2682 k1_hw400 => k1_hw400

def k1_chk401 (v2687 : IVec S16 32) : Prop :=
  (∀ a x, ((![v2687] : Fin 1 → IVec S16 32) a x).toNat < S13824.size a)
theorem k1_idx401_inb : ∀ (v2687 : IVec S16 32) (k1_hw401 : k1_chk401 v2687), ∀ a x, ((![v2687] : Fin 1 → IVec S16 32) a x).toNat < S13824.size a := fun v2687 k1_hw401 => k1_hw401

def k1_chk402 (v2695 : IVec S16 32) : Prop :=
  (∀ a x, ((![v2695] : Fin 1 → IVec S16 32) a x).toNat < S13824.size a)
theorem k1_idx402_inb : ∀ (v2695 : IVec S16 32) (k1_hw402 : k1_chk402 v2695), ∀ a x, ((![v2695] : Fin 1 → IVec S16 32) a x).toNat < S13824.size a := fun v2695 k1_hw402 => k1_hw402

def k1_chk403 (v2703 : IVec S16 32) : Prop :=
  (∀ a x, ((![v2703] : Fin 1 → IVec S16 32) a x).toNat < S13824.size a)
theorem k1_idx403_inb : ∀ (v2703 : IVec S16 32) (k1_hw403 : k1_chk403 v2703), ∀ a x, ((![v2703] : Fin 1 → IVec S16 32) a x).toNat < S13824.size a := fun v2703 k1_hw403 => k1_hw403

def k1_chk404 (v2711 : IVec S16 32) : Prop :=
  (∀ a x, ((![v2711] : Fin 1 → IVec S16 32) a x).toNat < S13824.size a)
theorem k1_idx404_inb : ∀ (v2711 : IVec S16 32) (k1_hw404 : k1_chk404 v2711), ∀ a x, ((![v2711] : Fin 1 → IVec S16 32) a x).toNat < S13824.size a := fun v2711 k1_hw404 => k1_hw404

def k1_chk405 (v2719 : IVec S16 32) : Prop :=
  (∀ a x, ((![v2719] : Fin 1 → IVec S16 32) a x).toNat < S13824.size a)
theorem k1_idx405_inb : ∀ (v2719 : IVec S16 32) (k1_hw405 : k1_chk405 v2719), ∀ a x, ((![v2719] : Fin 1 → IVec S16 32) a x).toNat < S13824.size a := fun v2719 k1_hw405 => k1_hw405

def k1_chk406 (v2727 : IVec S16 32) : Prop :=
  (∀ a x, ((![v2727] : Fin 1 → IVec S16 32) a x).toNat < S13824.size a)
theorem k1_idx406_inb : ∀ (v2727 : IVec S16 32) (k1_hw406 : k1_chk406 v2727), ∀ a x, ((![v2727] : Fin 1 → IVec S16 32) a x).toNat < S13824.size a := fun v2727 k1_hw406 => k1_hw406

def k1_chk407 (v2732 : IVec S16 32) : Prop :=
  (∀ a x, ((![v2732] : Fin 1 → IVec S16 32) a x).toNat < S13824.size a)
theorem k1_idx407_inb : ∀ (v2732 : IVec S16 32) (k1_hw407 : k1_chk407 v2732), ∀ a x, ((![v2732] : Fin 1 → IVec S16 32) a x).toNat < S13824.size a := fun v2732 k1_hw407 => k1_hw407

def k1_chk408 (v2740 : IVec S16 32) : Prop :=
  (∀ a x, ((![v2740] : Fin 1 → IVec S16 32) a x).toNat < S13824.size a)
theorem k1_idx408_inb : ∀ (v2740 : IVec S16 32) (k1_hw408 : k1_chk408 v2740), ∀ a x, ((![v2740] : Fin 1 → IVec S16 32) a x).toNat < S13824.size a := fun v2740 k1_hw408 => k1_hw408

def k1_chk409 (v2748 : IVec S16 32) : Prop :=
  (∀ a x, ((![v2748] : Fin 1 → IVec S16 32) a x).toNat < S13824.size a)
theorem k1_idx409_inb : ∀ (v2748 : IVec S16 32) (k1_hw409 : k1_chk409 v2748), ∀ a x, ((![v2748] : Fin 1 → IVec S16 32) a x).toNat < S13824.size a := fun v2748 k1_hw409 => k1_hw409

def k1_chk410 (v2756 : IVec S16 32) : Prop :=
  (∀ a x, ((![v2756] : Fin 1 → IVec S16 32) a x).toNat < S13824.size a)
theorem k1_idx410_inb : ∀ (v2756 : IVec S16 32) (k1_hw410 : k1_chk410 v2756), ∀ a x, ((![v2756] : Fin 1 → IVec S16 32) a x).toNat < S13824.size a := fun v2756 k1_hw410 => k1_hw410

def k1_chk411 (v2764 : IVec S16 32) : Prop :=
  (∀ a x, ((![v2764] : Fin 1 → IVec S16 32) a x).toNat < S13824.size a)
theorem k1_idx411_inb : ∀ (v2764 : IVec S16 32) (k1_hw411 : k1_chk411 v2764), ∀ a x, ((![v2764] : Fin 1 → IVec S16 32) a x).toNat < S13824.size a := fun v2764 k1_hw411 => k1_hw411

def k1_chk412 (v2775 : IVec S16 32) : Prop :=
  (∀ a x, ((![v2775] : Fin 1 → IVec S16 32) a x).toNat < S256.size a)
theorem k1_idx412_inb : ∀ (v2775 : IVec S16 32) (k1_hw412 : k1_chk412 v2775), ∀ a x, ((![v2775] : Fin 1 → IVec S16 32) a x).toNat < S256.size a := fun v2775 k1_hw412 => k1_hw412

def k1_chk413 (v2780 : IVec S16 32) : Prop :=
  (∀ a x, ((![v2780] : Fin 1 → IVec S16 32) a x).toNat < S256.size a)
theorem k1_idx413_inb : ∀ (v2780 : IVec S16 32) (k1_hw413 : k1_chk413 v2780), ∀ a x, ((![v2780] : Fin 1 → IVec S16 32) a x).toNat < S256.size a := fun v2780 k1_hw413 => k1_hw413

def k1_chk414 (v2785 : IVec S16 32) : Prop :=
  (∀ a x, ((![v2785] : Fin 1 → IVec S16 32) a x).toNat < S256.size a)
theorem k1_idx414_inb : ∀ (v2785 : IVec S16 32) (k1_hw414 : k1_chk414 v2785), ∀ a x, ((![v2785] : Fin 1 → IVec S16 32) a x).toNat < S256.size a := fun v2785 k1_hw414 => k1_hw414

def k1_chk415 (v2790 : IVec S16 32) : Prop :=
  (∀ a x, ((![v2790] : Fin 1 → IVec S16 32) a x).toNat < S256.size a)
theorem k1_idx415_inb : ∀ (v2790 : IVec S16 32) (k1_hw415 : k1_chk415 v2790), ∀ a x, ((![v2790] : Fin 1 → IVec S16 32) a x).toNat < S256.size a := fun v2790 k1_hw415 => k1_hw415

def k1_chk416 (v2795 : IVec S16 32) : Prop :=
  (∀ a x, ((![v2795] : Fin 1 → IVec S16 32) a x).toNat < S256.size a)
theorem k1_idx416_inb : ∀ (v2795 : IVec S16 32) (k1_hw416 : k1_chk416 v2795), ∀ a x, ((![v2795] : Fin 1 → IVec S16 32) a x).toNat < S256.size a := fun v2795 k1_hw416 => k1_hw416

def k1_chk417 (v2800 : IVec S16 32) : Prop :=
  (∀ a x, ((![v2800] : Fin 1 → IVec S16 32) a x).toNat < S256.size a)
theorem k1_idx417_inb : ∀ (v2800 : IVec S16 32) (k1_hw417 : k1_chk417 v2800), ∀ a x, ((![v2800] : Fin 1 → IVec S16 32) a x).toNat < S256.size a := fun v2800 k1_hw417 => k1_hw417

def k1_chk418 (v2810 : IVec S16 32) : Prop :=
  (∀ a x, ((![v2810] : Fin 1 → IVec S16 32) a x).toNat < S256.size a)
theorem k1_idx418_inb : ∀ (v2810 : IVec S16 32) (k1_hw418 : k1_chk418 v2810), ∀ a x, ((![v2810] : Fin 1 → IVec S16 32) a x).toNat < S256.size a := fun v2810 k1_hw418 => k1_hw418

def k1_chk419 (v2827 : IVec S16 32) : Prop :=
  (∀ a x, ((![v2827] : Fin 1 → IVec S16 32) a x).toNat < S13824.size a)
theorem k1_idx419_inb : ∀ (v2827 : IVec S16 32) (k1_hw419 : k1_chk419 v2827), ∀ a x, ((![v2827] : Fin 1 → IVec S16 32) a x).toNat < S13824.size a := fun v2827 k1_hw419 => k1_hw419

def k1_chk420 (v2832 : IVec S16 32) : Prop :=
  (∀ a x, ((![v2832] : Fin 1 → IVec S16 32) a x).toNat < S13824.size a)
theorem k1_idx420_inb : ∀ (v2832 : IVec S16 32) (k1_hw420 : k1_chk420 v2832), ∀ a x, ((![v2832] : Fin 1 → IVec S16 32) a x).toNat < S13824.size a := fun v2832 k1_hw420 => k1_hw420

def k1_chk421 (v2840 : IVec S16 32) : Prop :=
  (∀ a x, ((![v2840] : Fin 1 → IVec S16 32) a x).toNat < S13824.size a)
theorem k1_idx421_inb : ∀ (v2840 : IVec S16 32) (k1_hw421 : k1_chk421 v2840), ∀ a x, ((![v2840] : Fin 1 → IVec S16 32) a x).toNat < S13824.size a := fun v2840 k1_hw421 => k1_hw421

def k1_chk422 (v2848 : IVec S16 32) : Prop :=
  (∀ a x, ((![v2848] : Fin 1 → IVec S16 32) a x).toNat < S13824.size a)
theorem k1_idx422_inb : ∀ (v2848 : IVec S16 32) (k1_hw422 : k1_chk422 v2848), ∀ a x, ((![v2848] : Fin 1 → IVec S16 32) a x).toNat < S13824.size a := fun v2848 k1_hw422 => k1_hw422

def k1_chk423 (v2856 : IVec S16 32) : Prop :=
  (∀ a x, ((![v2856] : Fin 1 → IVec S16 32) a x).toNat < S13824.size a)
theorem k1_idx423_inb : ∀ (v2856 : IVec S16 32) (k1_hw423 : k1_chk423 v2856), ∀ a x, ((![v2856] : Fin 1 → IVec S16 32) a x).toNat < S13824.size a := fun v2856 k1_hw423 => k1_hw423

def k1_chk424 (v2864 : IVec S16 32) : Prop :=
  (∀ a x, ((![v2864] : Fin 1 → IVec S16 32) a x).toNat < S13824.size a)
theorem k1_idx424_inb : ∀ (v2864 : IVec S16 32) (k1_hw424 : k1_chk424 v2864), ∀ a x, ((![v2864] : Fin 1 → IVec S16 32) a x).toNat < S13824.size a := fun v2864 k1_hw424 => k1_hw424

def k1_chk425 (v2872 : IVec S16 32) : Prop :=
  (∀ a x, ((![v2872] : Fin 1 → IVec S16 32) a x).toNat < S13824.size a)
theorem k1_idx425_inb : ∀ (v2872 : IVec S16 32) (k1_hw425 : k1_chk425 v2872), ∀ a x, ((![v2872] : Fin 1 → IVec S16 32) a x).toNat < S13824.size a := fun v2872 k1_hw425 => k1_hw425

def k1_chk426 (v2877 : IVec S16 32) : Prop :=
  (∀ a x, ((![v2877] : Fin 1 → IVec S16 32) a x).toNat < S13824.size a)
theorem k1_idx426_inb : ∀ (v2877 : IVec S16 32) (k1_hw426 : k1_chk426 v2877), ∀ a x, ((![v2877] : Fin 1 → IVec S16 32) a x).toNat < S13824.size a := fun v2877 k1_hw426 => k1_hw426

def k1_chk427 (v2885 : IVec S16 32) : Prop :=
  (∀ a x, ((![v2885] : Fin 1 → IVec S16 32) a x).toNat < S13824.size a)
theorem k1_idx427_inb : ∀ (v2885 : IVec S16 32) (k1_hw427 : k1_chk427 v2885), ∀ a x, ((![v2885] : Fin 1 → IVec S16 32) a x).toNat < S13824.size a := fun v2885 k1_hw427 => k1_hw427

def k1_chk428 (v2893 : IVec S16 32) : Prop :=
  (∀ a x, ((![v2893] : Fin 1 → IVec S16 32) a x).toNat < S13824.size a)
theorem k1_idx428_inb : ∀ (v2893 : IVec S16 32) (k1_hw428 : k1_chk428 v2893), ∀ a x, ((![v2893] : Fin 1 → IVec S16 32) a x).toNat < S13824.size a := fun v2893 k1_hw428 => k1_hw428

def k1_chk429 (v2901 : IVec S16 32) : Prop :=
  (∀ a x, ((![v2901] : Fin 1 → IVec S16 32) a x).toNat < S13824.size a)
theorem k1_idx429_inb : ∀ (v2901 : IVec S16 32) (k1_hw429 : k1_chk429 v2901), ∀ a x, ((![v2901] : Fin 1 → IVec S16 32) a x).toNat < S13824.size a := fun v2901 k1_hw429 => k1_hw429

def k1_chk430 (v2909 : IVec S16 32) : Prop :=
  (∀ a x, ((![v2909] : Fin 1 → IVec S16 32) a x).toNat < S13824.size a)
theorem k1_idx430_inb : ∀ (v2909 : IVec S16 32) (k1_hw430 : k1_chk430 v2909), ∀ a x, ((![v2909] : Fin 1 → IVec S16 32) a x).toNat < S13824.size a := fun v2909 k1_hw430 => k1_hw430

def k1_chk431 (v2920 : IVec S16 32) : Prop :=
  (∀ a x, ((![v2920] : Fin 1 → IVec S16 32) a x).toNat < S256.size a)
theorem k1_idx431_inb : ∀ (v2920 : IVec S16 32) (k1_hw431 : k1_chk431 v2920), ∀ a x, ((![v2920] : Fin 1 → IVec S16 32) a x).toNat < S256.size a := fun v2920 k1_hw431 => k1_hw431

def k1_chk432 (v2925 : IVec S16 32) : Prop :=
  (∀ a x, ((![v2925] : Fin 1 → IVec S16 32) a x).toNat < S256.size a)
theorem k1_idx432_inb : ∀ (v2925 : IVec S16 32) (k1_hw432 : k1_chk432 v2925), ∀ a x, ((![v2925] : Fin 1 → IVec S16 32) a x).toNat < S256.size a := fun v2925 k1_hw432 => k1_hw432

def k1_chk433 (v2930 : IVec S16 32) : Prop :=
  (∀ a x, ((![v2930] : Fin 1 → IVec S16 32) a x).toNat < S256.size a)
theorem k1_idx433_inb : ∀ (v2930 : IVec S16 32) (k1_hw433 : k1_chk433 v2930), ∀ a x, ((![v2930] : Fin 1 → IVec S16 32) a x).toNat < S256.size a := fun v2930 k1_hw433 => k1_hw433

def k1_chk434 (v2935 : IVec S16 32) : Prop :=
  (∀ a x, ((![v2935] : Fin 1 → IVec S16 32) a x).toNat < S256.size a)
theorem k1_idx434_inb : ∀ (v2935 : IVec S16 32) (k1_hw434 : k1_chk434 v2935), ∀ a x, ((![v2935] : Fin 1 → IVec S16 32) a x).toNat < S256.size a := fun v2935 k1_hw434 => k1_hw434

def k1_chk435 (v2940 : IVec S16 32) : Prop :=
  (∀ a x, ((![v2940] : Fin 1 → IVec S16 32) a x).toNat < S256.size a)
theorem k1_idx435_inb : ∀ (v2940 : IVec S16 32) (k1_hw435 : k1_chk435 v2940), ∀ a x, ((![v2940] : Fin 1 → IVec S16 32) a x).toNat < S256.size a := fun v2940 k1_hw435 => k1_hw435

def k1_chk436 (v2945 : IVec S16 32) : Prop :=
  (∀ a x, ((![v2945] : Fin 1 → IVec S16 32) a x).toNat < S256.size a)
theorem k1_idx436_inb : ∀ (v2945 : IVec S16 32) (k1_hw436 : k1_chk436 v2945), ∀ a x, ((![v2945] : Fin 1 → IVec S16 32) a x).toNat < S256.size a := fun v2945 k1_hw436 => k1_hw436

def k1_chk437 (v2955 : IVec S16 32) : Prop :=
  (∀ a x, ((![v2955] : Fin 1 → IVec S16 32) a x).toNat < S256.size a)
theorem k1_idx437_inb : ∀ (v2955 : IVec S16 32) (k1_hw437 : k1_chk437 v2955), ∀ a x, ((![v2955] : Fin 1 → IVec S16 32) a x).toNat < S256.size a := fun v2955 k1_hw437 => k1_hw437

def k1_chk438 (v317 : IVec S16 32) (v2973 : IVec S16 32) : Prop :=
  (∀ a x, ((![v317, v2973] : Fin 2 → IVec S16 32) a x).toNat < S128x6.size a)
theorem k1_idx438_inb : ∀ (v317 : IVec S16 32) (v2973 : IVec S16 32) (k1_hw438 : k1_chk438 v317 v2973), ∀ a x, ((![v317, v2973] : Fin 2 → IVec S16 32) a x).toNat < S128x6.size a := fun v317 v2973 k1_hw438 => k1_hw438

def k1_chk439 (v317 : IVec S16 32) (v2975 : IVec S16 32) : Prop :=
  (∀ a x, ((![v317, v2975] : Fin 2 → IVec S16 32) a x).toNat < S128x6.size a)
theorem k1_idx439_inb : ∀ (v317 : IVec S16 32) (v2975 : IVec S16 32) (k1_hw439 : k1_chk439 v317 v2975), ∀ a x, ((![v317, v2975] : Fin 2 → IVec S16 32) a x).toNat < S128x6.size a := fun v317 v2975 k1_hw439 => k1_hw439

def k1_chk440 (v317 : IVec S16 32) (v2977 : IVec S16 32) : Prop :=
  (∀ a x, ((![v317, v2977] : Fin 2 → IVec S16 32) a x).toNat < S128x6.size a)
theorem k1_idx440_inb : ∀ (v317 : IVec S16 32) (v2977 : IVec S16 32) (k1_hw440 : k1_chk440 v317 v2977), ∀ a x, ((![v317, v2977] : Fin 2 → IVec S16 32) a x).toNat < S128x6.size a := fun v317 v2977 k1_hw440 => k1_hw440

def k1_chk441 (v317 : IVec S16 32) (v2979 : IVec S16 32) : Prop :=
  (∀ a x, ((![v317, v2979] : Fin 2 → IVec S16 32) a x).toNat < S128x6.size a)
theorem k1_idx441_inb : ∀ (v317 : IVec S16 32) (v2979 : IVec S16 32) (k1_hw441 : k1_chk441 v317 v2979), ∀ a x, ((![v317, v2979] : Fin 2 → IVec S16 32) a x).toNat < S128x6.size a := fun v317 v2979 k1_hw441 => k1_hw441

def k1_chk442 (v317 : IVec S16 32) (v2981 : IVec S16 32) : Prop :=
  (∀ a x, ((![v317, v2981] : Fin 2 → IVec S16 32) a x).toNat < S128x6.size a)
theorem k1_idx442_inb : ∀ (v317 : IVec S16 32) (v2981 : IVec S16 32) (k1_hw442 : k1_chk442 v317 v2981), ∀ a x, ((![v317, v2981] : Fin 2 → IVec S16 32) a x).toNat < S128x6.size a := fun v317 v2981 k1_hw442 => k1_hw442

def k1_chk443 (v317 : IVec S16 32) (v2983 : IVec S16 32) : Prop :=
  (∀ a x, ((![v317, v2983] : Fin 2 → IVec S16 32) a x).toNat < S128x6.size a)
theorem k1_idx443_inb : ∀ (v317 : IVec S16 32) (v2983 : IVec S16 32) (k1_hw443 : k1_chk443 v317 v2983), ∀ a x, ((![v317, v2983] : Fin 2 → IVec S16 32) a x).toNat < S128x6.size a := fun v317 v2983 k1_hw443 => k1_hw443
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_73_r5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S6x256 : Shape := ⟨2, ![6, 256]⟩
abbrev S6 : Shape := ⟨1, ![6]⟩
abbrev S6x268 : Shape := ⟨2, ![6, 268]⟩
abbrev S18x4096x6 : Shape := ⟨3, ![18, 4096, 6]⟩
abbrev S256x6 : Shape := ⟨2, ![256, 6]⟩
abbrev S4096x6 : Shape := ⟨2, ![4096, 6]⟩
abbrev S1x6 : Shape := ⟨2, ![1, 6]⟩
abbrev S_ : Shape := ⟨0, ![]⟩
abbrev S4096 : Shape := ⟨1, ![4096]⟩
abbrev S4096x1 : Shape := ⟨2, ![4096, 1]⟩
abbrev S1x4096x6 : Shape := ⟨3, ![1, 4096, 6]⟩
abbrev S18x4096 : Shape := ⟨2, ![18, 4096]⟩
abbrev S18x4096x1 : Shape := ⟨3, ![18, 4096, 1]⟩
abbrev S1 : Shape := ⟨1, ![1]⟩
abbrev S1x1x1 : Shape := ⟨3, ![1, 1, 1]⟩
abbrev S4096x18 : Shape := ⟨2, ![4096, 18]⟩
abbrev S4096x1x18 : Shape := ⟨3, ![4096, 1, 18]⟩
abbrev S4096x36 : Shape := ⟨2, ![4096, 36]⟩
abbrev S4096x2x18 : Shape := ⟨3, ![4096, 2, 18]⟩
abbrev S4096x18x2 : Shape := ⟨3, ![4096, 18, 2]⟩
abbrev S4096x18x2x1 : Shape := ⟨4, ![4096, 18, 2, 1]⟩
abbrev S1x1x1x6 : Shape := ⟨4, ![1, 1, 1, 6]⟩
abbrev S4096x18x2x6 : Shape := ⟨4, ![4096, 18, 2, 6]⟩
abbrev S4096x18x12 : Shape := ⟨3, ![4096, 18, 12]⟩
abbrev S4096x1x256 : Shape := ⟨3, ![4096, 1, 256]⟩
abbrev S4096x18x256 : Shape := ⟨3, ![4096, 18, 256]⟩
abbrev S4096x18x268 : Shape := ⟨3, ![4096, 18, 268]⟩
abbrev S268x6 : Shape := ⟨2, ![268, 6]⟩
abbrev S4096x18x6 : Shape := ⟨3, ![4096, 18, 6]⟩
abbrev S1x1x6 : Shape := ⟨3, ![1, 1, 6]⟩
abbrev S4096x18x1 : Shape := ⟨3, ![4096, 18, 1]⟩
abbrev S4096x1x6 : Shape := ⟨3, ![4096, 1, 6]⟩

abbrev nBuf : Space → Nat
  | .hbm => 164
  | .vmem => 0
  | .smem => 0
  | _ => 0

abbrev hbmTy0_0 (i : Nat) : BufTy := match i % 128 with
  | 0 => ⟨S4096x256, .f32⟩
  | 1 => ⟨S6x256, .f32⟩
  | 2 => ⟨S6, .f32⟩
  | 3 => ⟨S6x256, .f32⟩
  | 4 => ⟨S6, .f32⟩
  | 5 => ⟨S6x268, .f32⟩
  | 6 => ⟨S6, .f32⟩
  | 7 => ⟨S18x4096x6, .f32⟩
  | 8 => ⟨S18x4096x6, .f32⟩
  | 9 => ⟨S256x6, .f32⟩
  | 10 => ⟨S4096x6, .f32⟩
  | 11 => ⟨S1x6, .f32⟩
  | 12 => ⟨S4096x6, .f32⟩
  | 13 => ⟨S4096x6, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x6, .f32⟩
  | 21 => ⟨S4096x6, .f32⟩
  | 22 => ⟨S4096x6, .f32⟩
  | 23 => ⟨S_, .f32⟩
  | 24 => ⟨S4096, .f32⟩
  | 25 => ⟨S4096x1, .f32⟩
  | 26 => ⟨S4096x6, .f32⟩
  | 27 => ⟨S4096x6, .f32⟩
  | 28 => ⟨S4096x6, .f32⟩
  | 29 => ⟨S1x4096x6, .f32⟩
  | 30 => ⟨S18x4096x6, .f32⟩
  | 31 => ⟨S18x4096x6, .f32⟩
  | 32 => ⟨S18x4096x6, .i32⟩
  | 33 => ⟨S_, .f32⟩
  | 34 => ⟨S_, .i32⟩
  | 35 => ⟨S18x4096, .f32⟩
  | 36 => ⟨S18x4096, .i32⟩
  | 37 => ⟨S18x4096x1, .i32⟩
  | 38 => ⟨S1x4096x6, .f32⟩
  | 39 => ⟨S18x4096x6, .f32⟩
  | 40 => ⟨S_, .i32⟩
  | 41 => ⟨S18x4096x1, .i32⟩
  | 42 => ⟨S18x4096x1, .i1⟩
  | 43 => ⟨S_, .i32⟩
  | 44 => ⟨S18x4096x1, .i32⟩
  | 45 => ⟨S18x4096x1, .i32⟩
  | 46 => ⟨S18x4096x1, .i32⟩
  | 47 => ⟨S1, .i32⟩
  | 48 => ⟨S_, .i32⟩
  | 49 => ⟨S18x4096x1, .i32⟩
  | 50 => ⟨S18x4096x1, .i1⟩
  | 51 => ⟨S1x1x1, .i32⟩
  | 52 => ⟨S18x4096x1, .i32⟩
  | 53 => ⟨S18x4096x1, .i1⟩
  | 54 => ⟨S18x4096x1, .i1⟩
  | 55 => ⟨S_, .i1⟩
  | 56 => ⟨S18x4096, .i1⟩
  | 57 => ⟨S18x4096x6, .f32⟩
  | 58 => ⟨S18x4096x6, .i1⟩
  | 59 => ⟨S_, .f32⟩
  | 60 => ⟨S18x4096x6, .f32⟩
  | 61 => ⟨S18x4096x6, .f32⟩
  | 62 => ⟨S18x4096x1, .f32⟩
  | 63 => ⟨S4096x18, .i32⟩
  | 64 => ⟨S18x4096, .f32⟩
  | 65 => ⟨S4096x18, .f32⟩
  | 66 => ⟨S256x6, .f32⟩
  | 67 => ⟨S4096x6, .f32⟩
  | 68 => ⟨S1x6, .f32⟩
  | 69 => ⟨S4096x6, .f32⟩
  | 70 => ⟨S4096x6, .f32⟩
  | 71 => ⟨S_, .f32⟩
  | 72 => ⟨S4096, .f32⟩
  | 73 => ⟨S_, .f32⟩
  | 74 => ⟨S4096, .f32⟩
  | 75 => ⟨S4096, .f32⟩
  | 76 => ⟨S4096x1, .f32⟩
  | 77 => ⟨S4096x6, .f32⟩
  | 78 => ⟨S4096x6, .f32⟩
  | 79 => ⟨S4096x6, .f32⟩
  | 80 => ⟨S_, .f32⟩
  | 81 => ⟨S4096, .f32⟩
  | 82 => ⟨S4096x1, .f32⟩
  | 83 => ⟨S4096x6, .f32⟩
  | 84 => ⟨S4096x6, .f32⟩
  | 85 => ⟨S4096x6, .f32⟩
  | 86 => ⟨S1x4096x6, .f32⟩
  | 87 => ⟨S18x4096x6, .f32⟩
  | 88 => ⟨S18x4096x6, .f32⟩
  | 89 => ⟨S18x4096x6, .i32⟩
  | 90 => ⟨S_, .f32⟩
  | 91 => ⟨S_, .i32⟩
  | 92 => ⟨S18x4096, .f32⟩
  | 93 => ⟨S18x4096, .i32⟩
  | 94 => ⟨S18x4096x1, .i32⟩
  | 95 => ⟨S1x4096x6, .f32⟩
  | 96 => ⟨S18x4096x6, .f32⟩
  | 97 => ⟨S_, .i32⟩
  | 98 => ⟨S18x4096x1, .i32⟩
  | 99 => ⟨S18x4096x1, .i1⟩
  | 100 => ⟨S_, .i32⟩
  | 101 => ⟨S18x4096x1, .i32⟩
  | 102 => ⟨S18x4096x1, .i32⟩
  | 103 => ⟨S18x4096x1, .i32⟩
  | 104 => ⟨S1, .i32⟩
  | 105 => ⟨S_, .i32⟩
  | 106 => ⟨S18x4096x1, .i32⟩
  | 107 => ⟨S18x4096x1, .i1⟩
  | 108 => ⟨S1x1x1, .i32⟩
  | 109 => ⟨S18x4096x1, .i32⟩
  | 110 => ⟨S18x4096x1, .i1⟩
  | 111 => ⟨S18x4096x1, .i1⟩
  | 112 => ⟨S_, .i1⟩
  | 113 => ⟨S18x4096, .i1⟩
  | 114 => ⟨S18x4096x6, .f32⟩
  | 115 => ⟨S18x4096x6, .i1⟩
  | 116 => ⟨S_, .f32⟩
  | 117 => ⟨S18x4096x6, .f32⟩
  | 118 => ⟨S18x4096x6, .f32⟩
  | 119 => ⟨S18x4096x1, .f32⟩
  | 120 => ⟨S4096x18, .i32⟩
  | 121 => ⟨S18x4096, .f32⟩
  | 122 => ⟨S4096x18, .f32⟩
  | 123 => ⟨S4096x18, .f32⟩
  | 124 => ⟨S_, .f32⟩
  | 125 => ⟨S4096, .f32⟩
  | 126 => ⟨S4096x1, .f32⟩
  | 127 => ⟨S4096x18, .f32⟩
  | _ => ⟨S4096x256, .f32⟩

abbrev hbmTy0_1 (i : Nat) : BufTy := match i % 128 with
  | 0 => ⟨S4096x18, .f32⟩
  | 1 => ⟨S4096x1x18, .f32⟩
  | 2 => ⟨S4096x36, .i32⟩
  | 3 => ⟨S4096x2x18, .i32⟩
  | 4 => ⟨S4096x18x2, .i32⟩
  | 5 => ⟨S4096x18x2x1, .i32⟩
  | 6 => ⟨S1x1x1x6, .i32⟩
  | 7 => ⟨S4096x18x2x6, .i32⟩
  | 8 => ⟨S4096x18x2x6, .i32⟩
  | 9 => ⟨S4096x18x2x6, .i1⟩
  | 10 => ⟨S4096x18x2x6, .f32⟩
  | 11 => ⟨S4096x18x12, .f32⟩
  | 12 => ⟨S4096x1x256, .f32⟩
  | 13 => ⟨S4096x18x256, .f32⟩
  | 14 => ⟨S4096x18x268, .f32⟩
  | 15 => ⟨S268x6, .f32⟩
  | 16 => ⟨S4096x18x6, .f32⟩
  | 17 => ⟨S1x1x6, .f32⟩
  | 18 => ⟨S4096x18x6, .f32⟩
  | 19 => ⟨S4096x18x6, .f32⟩
  | 20 => ⟨S_, .f32⟩
  | 21 => ⟨S4096x18, .f32⟩
  | 22 => ⟨S_, .f32⟩
  | 23 => ⟨S4096x18, .f32⟩
  | 24 => ⟨S4096x18, .f32⟩
  | 25 => ⟨S4096x18x1, .f32⟩
  | 26 => ⟨S4096x18x6, .f32⟩
  | 27 => ⟨S4096x18x6, .f32⟩
  | 28 => ⟨S4096x18x6, .f32⟩
  | 29 => ⟨S_, .f32⟩
  | 30 => ⟨S4096x18, .f32⟩
  | 31 => ⟨S4096x18x1, .f32⟩
  | 32 => ⟨S4096x18x6, .f32⟩
  | 33 => ⟨S4096x18x6, .f32⟩
  | 34 => ⟨S4096x1x6, .f32⟩
  | 35 => ⟨S4096x6, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_c_2 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_c_3 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_2 : Ref sig .tc := ⟨.hbm, 71, rfl⟩
abbrev main_v34 : Ref sig .tc := ⟨.hbm, 72, rfl⟩
abbrev main_cst_3 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_4 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call2_v0 : Ref sig .tc := ⟨.hbm, 89, rfl⟩
abbrev main_call2_cst : Ref sig .tc := ⟨.hbm, 90, rfl⟩
abbrev main_call2_c : Ref sig .tc := ⟨.hbm, 91, rfl⟩
abbrev main_call2_v1_0 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_1 : Ref sig .tc := ⟨.hbm, 104, rfl⟩
abbrev main_call3_c_2 : Ref sig .tc := ⟨.hbm, 105, rfl⟩
abbrev main_call3_v5 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_c_3 : Ref sig .tc := ⟨.hbm, 112, rfl⟩
abbrev main_call3_v11 : Ref sig .tc := ⟨.hbm, 113, rfl⟩
abbrev main_call3_v12 : Ref sig .tc := ⟨.hbm, 114, rfl⟩
abbrev main_call3_v13 : Ref sig .tc := ⟨.hbm, 115, rfl⟩
abbrev main_call3_cst : Ref sig .tc := ⟨.hbm, 116, rfl⟩
abbrev main_call3_v14 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_cst_5 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_6 : Ref sig .tc := ⟨.hbm, 148, rfl⟩
abbrev main_v77 : Ref sig .tc := ⟨.hbm, 149, rfl⟩
abbrev main_cst_7 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_cst_8 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩

abbrev nD : Nat := 1
abbrev τ : Topo := Topo.v7x

variable {F : FTy → Type} [FloatOps F]
-- ==== Proof.Model.lean ====
/- The counted loop's trip as a program of this file's own: eighteen gathers of the block's columns,
   one function per sample run eighteen times, six scatters. `trip_eq` says that the printed trip,
   which writes every sample out, is that program. -/
module

public import proofs.«01_k».proof.Proof.Gen.KernelIdeal.Skeleton

@[expose] public section

noncomputable section

namespace Cert.KernelIdeal.Model

open Idealize.ShloMosaic Idealize.SL.Sem Cert.KernelIdeal Cert.KernelIdeal.Gen

variable {F : FTy → Type} [FloatOps F]

/-- Programs that begin alike are equal where their rests are. -/
theorem op_congr {E : Type → Type} {α β : Type} {e : E β} {k k' : β → Prog E α}
    (h : ∀ x, k x = k' x) : Prog.op e k = Prog.op e k' := congrArg _ (funext h)

/-- What a tile runs. -/
abbrev TP (i : grid1.Coords) (α : Type) : Type 1 :=
  Prog (TpuEff nD τ sig (Elt F) Λ₀ (.scVector ((i 0).castLE hcore1) ((i 1).castLE hsub1))) α

/-- Every word of an index vector is below `n`. -/
def Chk1 (d : Fin 1 → Nat) (v : IVec S16 32) : Prop :=
  (∀ a x, ((![v] : Fin 1 → IVec S16 32) a x).toNat < (⟨1, d⟩ : Shape).size a)

instance Chk1.dec : ∀ (d : Fin 1 → Nat) (v : IVec S16 32), Decidable (Chk1 d v) :=
  fun d v => decidable_of_iff' _ (Iff.of_eq (Chk1.eq_1 d v))

/-- Every pair of words of two index vectors is inside a matrix. -/
def Chk (d : Fin 2 → Nat) (v w : IVec S16 32) : Prop :=
  (∀ a x, ((![v, w] : Fin 2 → IVec S16 32) a x).toNat < (⟨2, d⟩ : Shape).size a)

instance Chk.dec : ∀ (d : Fin 2 → Nat) (v w : IVec S16 32), Decidable (Chk d v w) :=
  fun d v w => decidable_of_iff' _ (Iff.of_eq (Chk.eq_1 d v w))

variable (i : grid1.Coords)

/-- A gather from a vector. -/
def ld1 {d : Fin 1 → Nat} (m : Memref sig .scVector .vmem ⟨1, d⟩ .f32) (hl : m.view.Loads)
    (v : IVec S16 32) : TP (F := F) i (Vec F S16 .f32) := do
  have hw : Chk1 d v := (← Prog.lift (TpuEff.assume (Chk1 d v) (Chk1.dec d v))).down
  SparseCore.vectorLoadIdx m ![v] hw hl

/-- A gather from a matrix. -/
def ld2 {d : Fin 2 → Nat} (m : Memref sig .scVector .vmem ⟨2, d⟩ .f32) (hl : m.view.Loads)
    (v w : IVec S16 32) : TP (F := F) i (Vec F S16 .f32) := do
  have hw : Chk d v w := (← Prog.lift (TpuEff.assume (Chk d v w) (Chk.dec d v w))).down
  SparseCore.vectorLoadIdx m ![v, w] hw hl

/-- A masked scatter to a vector. -/
def st1 {d : Fin 1 → Nat} (m : Memref sig .scVector .vmem ⟨1, d⟩ .f32)
    (hs : (m.access (.whole ⟨1, d⟩)).Stores Finset.univ)
    (v : IVec S16 32) (u : Vec F S16 .f32) (mask : IVec S16 1) : TP (F := F) i PUnit := do
  have hw : Chk1 d v := (← Prog.lift (TpuEff.assume (Chk1 d v) (Chk1.dec d v))).down
  SparseCore.vectorStoreIdx m ![v] u mask false hw hs

/-- A scatter to a matrix. -/
def st2 {d : Fin 2 → Nat} (m : Memref sig .scVector .vmem ⟨2, d⟩ .f32)
    (hs : (m.access (.whole ⟨2, d⟩)).Stores Finset.univ)
    (v w : IVec S16 32) (u : Vec F S16 .f32) : TP (F := F) i PUnit := do
  have hw : Chk d v w := (← Prog.lift (TpuEff.assume (Chk d v w) (Chk.dec d v w))).down
  SparseCore.vectorStoreIdx m ![v, w] u (fun _ => 1#1) false hw hs

/-- A word in every lane. -/
abbrev kon (n : Nat) : IVec S16 32 := broadcast S16 (BitVec.ofNat 32 n)

/-- Six of a kind. -/
structure Six (α : Type) where
  (a0 a1 a2 a3 a4 a5 : α)

/-- Six columns gathered from row `r` of the block of logits on. -/
def six (m : Memref sig .scVector .vmem S24x128 .f32) (r : Nat) (b : IVec S16 32) :
    TP (F := F) i (Six (Vec F S16 .f32)) := do
  let a0 ← ld2 i m (View.loads_vmem h_S24x128) (kon r) b
  let a1 ← ld2 i m (View.loads_vmem h_S24x128) (kon (r + 1)) b
  let a2 ← ld2 i m (View.loads_vmem h_S24x128) (kon (r + 2)) b
  let a3 ← ld2 i m (View.loads_vmem h_S24x128) (kon (r + 3)) b
  let a4 ← ld2 i m (View.loads_vmem h_S24x128) (kon (r + 4)) b
  let a5 ← ld2 i m (View.loads_vmem h_S24x128) (kon (r + 5)) b
  pure ⟨a0, a1, a2, a3, a4, a5⟩

/-- The running maximum's step: the new class where its value is above the maximum so far. -/
abbrev pickI (k : Nat) (u m : FVec F S16 .f32) (a : IVec S16 32) : IVec S16 32 :=
  select (cmpf .ogt u m) (kon k) a

abbrev pickV (u m : FVec F S16 .f32) : FVec F S16 .f32 :=
  select (cmpf .ogt u m) u m

/-- One opponent's sampled class: the noise of sample `s` gathered, the first maximum kept. -/
def scan (g : Memref sig .scVector .vmem S13824 .f32) (b : IVec S16 32) (s : Nat)
    (z : Six (Vec F S16 .f32)) : TP (F := F) i (IVec S16 32) := do
  let g0 ← ld1 i g (View.loads_vmem h_S13824) (addi b (kon (768 * s)))
  let m0 : FVec F S16 .f32 := addf z.a0 g0
  let g1 ← ld1 i g (View.loads_vmem h_S13824) (addi b (kon (768 * s + 128)))
  let u1 : FVec F S16 .f32 := addf z.a1 g1
  let i1 := pickI 1 u1 m0 (kon 0)
  let m1 := pickV u1 m0
  let g2 ← ld1 i g (View.loads_vmem h_S13824) (addi b (kon (768 * s + 256)))
  let u2 : FVec F S16 .f32 := addf z.a2 g2
  let i2 := pickI 2 u2 m1 i1
  let m2 := pickV u2 m1
  let g3 ← ld1 i g (View.loads_vmem h_S13824) (addi b (kon (768 * s + 384)))
  let u3 : FVec F S16 .f32 := addf z.a3 g3
  let i3 := pickI 3 u3 m2 i2
  let m3 := pickV u3 m2
  let g4 ← ld1 i g (View.loads_vmem h_S13824) (addi b (kon (768 * s + 512)))
  let u4 : FVec F S16 .f32 := addf z.a4 g4
  let i4 := pickI 4 u4 m3 i3
  let m4 := pickV u4 m3
  let g5 ← ld1 i g (View.loads_vmem h_S13824) (addi b (kon (768 * s + 640)))
  let u5 : FVec F S16 .f32 := addf z.a5 g5
  pure (pickI 5 u5 m4 i4)

/-- The sums kept over the samples: six weighted classes and the weights' own. -/
structure Acc (F : FTy → Type) where
  a : Six (FVec F S16 .f32)
  w : FVec F S16 .f32

/-- One sample: both opponents' classes, the six exponentials, the weight, the sums. -/
def sample (g1 g2 : Memref sig .scVector .vmem S13824 .f32) (t : Memref sig .scVector .vmem S256 .f32)
    (b : IVec S16 32) (z1 z2 zx : Six (Vec F S16 .f32)) (s : Nat) (A : Acc F) :
    TP (F := F) i (Acc F) := do
  let i1 ← scan i g1 b s z1
  let i2 ← scan i g2 b s z2
  let p : IVec S16 32 := addi (muli i1 (kon 6)) i2
  let p0 ← ld1 i t (View.loads_vmem h_S256) (addi p (kon 0))
  let e0 : FVec F S16 .f32 := exp (addf zx.a0 p0)
  let p1 ← ld1 i t (View.loads_vmem h_S256) (addi p (kon 36))
  let e1 : FVec F S16 .f32 := exp (addf zx.a1 p1)
  let p2 ← ld1 i t (View.loads_vmem h_S256) (addi p (kon 72))
  let e2 : FVec F S16 .f32 := exp (addf zx.a2 p2)
  let p3 ← ld1 i t (View.loads_vmem h_S256) (addi p (kon 108))
  let e3 : FVec F S16 .f32 := exp (addf zx.a3 p3)
  let p4 ← ld1 i t (View.loads_vmem h_S256) (addi p (kon 144))
  let e4 : FVec F S16 .f32 := exp (addf zx.a4 p4)
  let p5 ← ld1 i t (View.loads_vmem h_S256) (addi p (kon 180))
  let e5 : FVec F S16 .f32 := exp (addf zx.a5 p5)
  let q : FVec F S16 .f32 := addf (addf (addf (addf (addf e0 e1) e2) e3) e4) e5
  let w ← ld1 i t (View.loads_vmem h_S256) (addi p (kon 216))
  let r : FVec F S16 .f32 := divf w q
  pure ⟨⟨addf A.a.a0 (mulf r e0), addf A.a.a1 (mulf r e1), addf A.a.a2 (mulf r e2),
    addf A.a.a3 (mulf r e3), addf A.a.a4 (mulf r e4), addf A.a.a5 (mulf r e5)⟩, addf A.w w⟩

/-- The samples of a list in turn. -/
def samples (g1 g2 : Memref sig .scVector .vmem S13824 .f32) (t : Memref sig .scVector .vmem S256 .f32)
    (b : IVec S16 32) (z1 z2 zx : Six (Vec F S16 .f32)) : List Nat → Acc F → TP (F := F) i (Acc F)
  | [], A => pure A
  | s :: l, A => do
    let A' ← sample i g1 g2 t b z1 z2 zx s A
    samples g1 g2 t b z1 z2 zx l A'

abbrev zeroV : FVec F S16 .f32 := broadcast S16 (Scalar.ofBits .f32 0x00000000#32)

/-- The trip over sixteen rows. -/
def trip (zv : Memref sig .scVector .vmem S24x128 .f32) (g1 g2 : Memref sig .scVector .vmem S13824 .f32)
    (t : Memref sig .scVector .vmem S256 .f32) (o : Memref sig .scVector .vmem S128x6 .f32)
    (b : IVec S16 32) : TP (F := F) i Unit := do
  let z1 ← six i zv 0 b
  let z2 ← six i zv 6 b
  let zx ← six i zv 12 b
  let A ← samples i g1 g2 t b z1 z2 zx
    [0, 1, 2, 3, 4, 5, 6, 7, 8, 9, 10, 11, 12, 13, 14, 15, 16, 17]
    ⟨⟨zeroV, zeroV, zeroV, zeroV, zeroV, zeroV⟩, zeroV⟩
  let v : FVec F S16 .f32 := divf (broadcast S16 (Scalar.ofBits .f32 0x3F800000#32)) A.w
  st2 i o (View.stores_vmem_bits_univ h_S128x6 rfl) b (kon 0) (mulf A.a.a0 v)
  st2 i o (View.stores_vmem_bits_univ h_S128x6 rfl) b (kon 1) (mulf A.a.a1 v)
  st2 i o (View.stores_vmem_bits_univ h_S128x6 rfl) b (kon 2) (mulf A.a.a2 v)
  st2 i o (View.stores_vmem_bits_univ h_S128x6 rfl) b (kon 3) (mulf A.a.a3 v)
  st2 i o (View.stores_vmem_bits_univ h_S128x6 rfl) b (kon 4) (mulf A.a.a4 v)
  st2 i o (View.stores_vmem_bits_univ h_S128x6 rfl) b (kon 5) (mulf A.a.a5 v)
  pure ⟨⟩

end Cert.KernelIdeal.Model
-- ==== Proof.Tables.lean ====
/- The kernel's program as this file's own: the five copies in, the two probability tables and the
   table over pairs of actions, the counted loop, the copy out. -/
module

public import proofs.«01_k».proof.Proof.Model

@[expose] public section

noncomputable section

namespace Cert.KernelIdeal.Model

open Idealize.ShloMosaic Idealize.SL.Sem Cert.KernelIdeal Cert.KernelIdeal.Gen

variable {F : FTy → Type} [FloatOps F]
variable (i : grid1.Coords)

/-- Six maxima kept, left to right. -/
abbrev maxV (z : Six (Vec F S16 .f32)) : FVec F S16 .f32 :=
  maximumf (maximumf (maximumf (maximumf (maximumf z.a0 z.a1) z.a2) z.a3) z.a4) z.a5

/-- The first class's softmax of six vectors of logits. -/
abbrev softV (z : Six (Vec F S16 .f32)) : FVec F S16 .f32 :=
  divf (exp (subf z.a0 (maxV z)))
    (addf (addf (addf (addf (addf (exp (subf z.a0 (maxV z))) (exp (subf z.a1 (maxV z)))) (exp (subf z.a2 (maxV z))))
      (exp (subf z.a3 (maxV z)))) (exp (subf z.a4 (maxV z)))) (exp (subf z.a5 (maxV z))))

/-- The lanes' numbers. -/
abbrev lanes : IVec S16 32 := iota .scVector S16 32 [0] iota_S16_d0_w32_scVector

/-- The lanes' rows of the first block, the last repeated. -/
abbrev rows : IVec S16 32 := minsi lanes (kon 7)

/-- One opponent's probabilities of the first class in the first six rows, put at `t`. -/
def probs (z8 : Memref sig .scVector .vmem S24x128 .f32) (t : Memref sig .scVector .vmem S96 .f32)
    (r o : Nat) : TP (F := F) i PUnit := do
  let z ← six i z8 r rows
  st1 i t (View.stores_vmem_bits_univ h_S96 rfl) (addi (kon o) lanes) (softV z) (cmpi .slt lanes (kon 6))

/-- Pairs of actions, sixteen from `16 n` on. -/
abbrev pairs (n : Nat) : IVec S16 32 := addi (kon (16 * n)) lanes

/-- A pair's first action. -/
abbrev act1 (p : IVec S16 32) : IVec S16 32 := shrsi (muli p (kon 43)) (kon 8)

/-- A pair's second action. -/
abbrev act2 (p : IVec S16 32) : IVec S16 32 := subi p (muli (act1 p) (kon 6))

/-- The table's entries of class `k` at sixteen pairs. -/
def pairLogit (t : Memref sig .scVector .vmem S96 .f32) (o : Memref sig .scVector .vmem S256 .f32)
    (p : IVec S16 32) (k : Nat) : TP (F := F) i PUnit := do
  let u ← ld1 i t (View.loads_vmem h_S96) (addi (kon (6 * k)) (act1 p))
  let w ← ld1 i t (View.loads_vmem h_S96) (addi (kon (36 + 6 * k)) (act2 p))
  st1 i o (View.stores_vmem_bits_univ h_S256 rfl) (addi (kon (36 * k)) p)
    (addf (u : FVec F S16 .f32) w) (cmpi .slt p (kon 36))

/-- The classes of a list in turn. -/
def pairLogits (t : Memref sig .scVector .vmem S96 .f32) (o : Memref sig .scVector .vmem S256 .f32)
    (p : IVec S16 32) : List Nat → TP (F := F) i PUnit
  | [] => pure ⟨⟩
  | k :: l => do
    pairLogit i t o p k
    pairLogits t o p l

/-- The table's weights at sixteen pairs. -/
def pairWeight (t : Memref sig .scVector .vmem S96 .f32) (o : Memref sig .scVector .vmem S256 .f32)
    (p : IVec S16 32) : TP (F := F) i PUnit := do
  let u ← ld1 i t (View.loads_vmem h_S96) (addi (kon 72) (act1 p))
  let w ← ld1 i t (View.loads_vmem h_S96) (addi (kon 78) (act2 p))
  st1 i o (View.stores_vmem_bits_univ h_S256 rfl) (minsi (addi (kon 216) p) (kon 255))
    (mulf (u : FVec F S16 .f32) w) (cmpi .slt p (kon 36))

/-- The whole table. -/
def pairTable (t : Memref sig .scVector .vmem S96 .f32) (o : Memref sig .scVector .vmem S256 .f32) :
    List Nat → TP (F := F) i PUnit
  | [] => pure ⟨⟩
  | n :: l => do
    pairLogits i t o (pairs n) [0, 1, 2, 3, 4, 5]
    pairWeight i t o (pairs n)
    pairTable t o l

/-- What the tile computes before its loop. -/
def tables (z8 : Memref sig .scVector .vmem S24x128 .f32) (t : Memref sig .scVector .vmem S96 .f32)
    (o : Memref sig .scVector .vmem S256 .f32) : TP (F := F) i PUnit := do
  probs i z8 t 0 72
  probs i z8 t 6 78
  pairTable i t o [0, 1, 2]

/-- The row vectors of the loop's trips. -/
abbrev blk (j : Fin k1_t1_loop.trips) : IVec S16 32 := k1_pay13 lanes 0#32 1#32 j

/-- The tile's program, over what a trip of its loop runs. -/
def body (tr : Fin k1_t1_loop.trips → PUnit → TP (F := F) i PUnit) (a2 : Memref sig .scVector .hbm S24x4096 .f32)
    (a3 a4 : Memref sig .scVector .hbm S442368 .f32)
    (a5 : Memref sig .scVector .hbm S96 .f32) (h5 : a5.IsWhole)
    (a6 : Memref sig .scVector .hbm S4096x6 .f32)
    (a7 : Memref sig .scVector .vmem S24x128 .f32) (h7 : a7.IsWhole)
    (a8 : Memref sig .scVector .vmem S13824 .f32) (h8 : a8.IsWhole)
    (a9 : Memref sig .scVector .vmem S13824 .f32) (h9 : a9.IsWhole)
    (a10 : Memref sig .scVector .vmem S96 .f32) (h10 : a10.IsWhole)
    (a11 : Memref sig .scVector .vmem S256 .f32)
    (a12 : Memref sig .scVector .vmem S128x6 .f32) (h12 : a12.IsWhole)
    (a13 : Memref sig .scVector .vmem S24x128 .f32) (h13 : a13.IsWhole)
    (q0 q1 q2 q3 q4 q5 : DmaSems sig S_) : TP (F := F) i PUnit := do
  let s0 : Memref sig .scVector .hbm S24x128 .f32 := a2.slice (Rect.unit (s := S24x4096) (k1_off1 i) S24x128.size (k1_off1_inb i)) (fun _ => rfl)
  Prog.lift (.enqueueDma s0 (.here a7) (.dma q0.sem) (View.wordExact_bits rfl) h7.wordExact ⟨Or.inl rfl, trivial⟩)
  Prog.lift (.waitDma2 q0.sem s0 a7 (View.wordExact_bits rfl) h7.wordExact)
  let s1 : Memref sig .scVector .hbm S13824 .f32 := a3.slice (Rect.unit (s := S442368) (k1_off2 i) S13824.size (k1_off2_inb i)) (fun _ => rfl)
  Prog.lift (.enqueueDma s1 (.here a8) (.dma q1.sem) (View.wordExact_bits rfl) h8.wordExact ⟨Or.inl rfl, trivial⟩)
  Prog.lift (.waitDma2 q1.sem s1 a8 (View.wordExact_bits rfl) h8.wordExact)
  let s2 : Memref sig .scVector .hbm S13824 .f32 := a4.slice (Rect.unit (s := S442368) (k1_off2 i) S13824.size (k1_off2_inb i)) (fun _ => rfl)
  Prog.lift (.enqueueDma s2 (.here a9) (.dma q2.sem) (View.wordExact_bits rfl) h9.wordExact ⟨Or.inl rfl, trivial⟩)
  Prog.lift (.waitDma2 q2.sem s2 a9 (View.wordExact_bits rfl) h9.wordExact)
  Prog.lift (.enqueueDma a5 (.here a10) (.dma q3.sem) h5.wordExact h10.wordExact ⟨Or.inl rfl, trivial⟩)
  Prog.lift (.waitDma2 q3.sem a5 a10 h5.wordExact h10.wordExact)
  let s4 : Memref sig .scVector .hbm S24x128 .f32 := a2.slice (Rect.unit (s := S24x4096) ![0, 0] S24x128.size inb_S24x4096_S24x128_0_0) (fun _ => rfl)
  Prog.lift (.enqueueDma s4 (.here a13) (.dma q4.sem) (View.wordExact_bits rfl) h13.wordExact ⟨Or.inl rfl, trivial⟩)
  Prog.lift (.waitDma2 q4.sem s4 a13 (View.wordExact_bits rfl) h13.wordExact)
  tables i a13 a10 a11
  Scf.Loop.for k1_t1_loop k1_t1_ok ⟨⟩ tr
  let s5 : Memref sig .scVector .hbm S128x6 .f32 := a6.slice (Rect.unit (s := S4096x6) (k1_off3 i) S128x6.size (k1_off3_inb i)) (fun _ => rfl)
  Prog.lift (.enqueueDma a12 (.here s5) (.dma q5.sem) h12.wordExact (View.wordExact_bits rfl) ⟨Or.inl rfl, trivial⟩)
  Prog.lift (.waitDma2 q5.sem a12 s5 h12.wordExact (View.wordExact_bits rfl))
  pure ⟨⟩

end Cert.KernelIdeal.Model
-- ==== Proof.Common.lean ====
/- The launch's set-up: the program as the launch theorem reads it, the ghost state of the launch's
   handshakes, of the matrix kernel's pipeline and of the tiles' copies side by side. -/
module

public import proofs.«01_k».proof.Defs
public import proofs.«01_k».proof.Proof.Tables
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Launch
public import proofs.«01_k».proof.Proof.Gen.KernelIdeal.Points

@[expose] public section

noncomputable section

namespace Cert.KernelIdeal.Model

open Idealize.ShloMosaic Cert.KernelIdeal Cert.KernelIdeal.Gen
open Idealize.SL Idealize.SL.RA Idealize.SL.BI Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipeline's rounds, the copies' counters. -/
abbrev UH : Type := URounds (GSem nD τ sig) ℕ
abbrev UP : Type := URounds (GSem nD τ sig) Unit
abbrev UU : Type := UH × (UP × Counters)

/-- The machine's algebra. -/
abbrev MM (F : FTy → Type) := MT nD τ sig (SparseCore.Cfg.HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by
  unfold EP embR; infer_instance

end Cert.KernelIdeal.Model
-- ==== Proof.Steps.lean ====
/- Straight pieces of a tile's program and what they do: a gather reads the buffer as a function of
   the place, a scatter changes that function at the lanes' places. -/
module

public import proofs.«01_k».proof.Proof.Common

@[expose] public section

noncomputable section

namespace Cert.KernelIdeal.Model

open Idealize.ShloMosaic Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type}

local notation "𝕄" => MM F

/-- The tile's thread. -/
abbrev thr (d : Dev nD) (i : grid1.Coords) : Thread nD τ :=
  SparseCore.V d ((i 0).castLE hcore1) ((i 1).castLE hsub1)

variable (d : Dev nD) (i : grid1.Coords)

/-- A vector buffer holds `g`, as a function of the place. -/
def Holds1 {b : Fin 1 → Nat} (m : Memref sig .scVector .vmem ⟨1, b⟩ .f32) (g : ℕ → F .f32) : sProp 𝕄 :=
  iprop(∃ f : Buf (Elt F) ((m.access (.whole ⟨1, b⟩)).loc (thr d i)),
    ⌜∀ x : (⟨1, b⟩ : Shape).Idx, (m.access (.whole ⟨1, b⟩)).read (Elt F) f x = g (x 0).val⌝
      ∗ ((m.access (.whole ⟨1, b⟩)).loc (thr d i) ↦[(m.access (.whole ⟨1, b⟩)).set]{fullShare} f))

/-- A matrix buffer holds `g`, as a function of the row and the column. -/
def Holds2 {b : Fin 2 → Nat} (m : Memref sig .scVector .vmem ⟨2, b⟩ .f32) (g : ℕ → ℕ → F .f32) : sProp 𝕄 :=
  iprop(∃ f : Buf (Elt F) ((m.access (.whole ⟨2, b⟩)).loc (thr d i)),
    ⌜∀ x : (⟨2, b⟩ : Shape).Idx, (m.access (.whole ⟨2, b⟩)).read (Elt F) f x = g (x 0).val (x 1).val⌝
      ∗ ((m.access (.whole ⟨2, b⟩)).loc (thr d i) ↦[(m.access (.whole ⟨2, b⟩)).set]{fullShare} f))

/-- The elements of a vector at the lanes' places. -/
abbrev gat1 (g : ℕ → F .f32) (v : IVec S16 32) : Vec F S16 .f32 := fun l => g (v l).toNat

abbrev gat2 (g : ℕ → ℕ → F .f32) (v w : IVec S16 32) : Vec F S16 .f32 := fun l => g (v l).toNat (w l).toNat

/-- A vector with the set lanes' values put at their places, the highest lane's staying. -/
def put1 (g : ℕ → F .f32) (v : IVec S16 32) (u : Vec F S16 .f32) (mask : IVec S16 1) : ℕ → F .f32 :=
  fun n => (List.finRange 16).foldl
    (fun y k => if mask (Shape.ofLane k) = 1 ∧ n = (v (Shape.ofLane k)).toNat then u (Shape.ofLane k) else y) (g n)

def put2 (g : ℕ → ℕ → F .f32) (v w : IVec S16 32) (u : Vec F S16 .f32) : ℕ → ℕ → F .f32 :=
  fun n c => (List.finRange 16).foldl
    (fun y k => if n = (v (Shape.ofLane k)).toNat ∧ c = (w (Shape.ofLane k)).toNat then u (Shape.ofLane k) else y) (g n c)

variable [FloatOps F]

/-- `p` goes from `R` to `R'` returning `v`. -/
def Steps {α : Type} (R : sProp 𝕄) (p : TP (F := F) i α) (v : α) (R' : sProp 𝕄) : Prop :=
  ∀ Q : α → sProp 𝕄, iprop(R ∗ (R' -∗ Q v))
    ⊢ wp frame (wpE (defs₀ (F := F)) 𝒱₀ (thr d i) none) Set.univ p Q

variable {d i}

theorem Steps.ret {α : Type} (R : sProp 𝕄) (v : α) : Steps d i R (pure v) v R := by
  intro Q
  rw [wp_pure]
  iintro ⟨HR, HQ⟩
  imodintro
  iapply HQ; iexact HR

theorem Steps.apply {α : Type} {R R' P : sProp 𝕄} {p : TP (F := F) i α} {v : α} {Q : α → sProp 𝕄}
    (h : Steps d i R p v R') (hP : P ⊢ iprop(R ∗ (R' -∗ Q v))) :
    P ⊢ wp frame (wpE (defs₀ (F := F)) 𝒱₀ (thr d i) none) Set.univ p Q :=
  BI.Entails.trans hP (h Q)

theorem Steps.bind {α β : Type} {R R' R'' : sProp 𝕄} {p : TP (F := F) i α} {v : α} {f : α → TP (F := F) i β} {w : β}
    (h : Steps d i R p v R') (h' : Steps d i R' (f v) w R'') : Steps d i R (p >>= f) w R'' := by
  intro Q
  rw [wp_bind]
  refine h.apply ?_
  iintro ⟨HR, HQ⟩
  isplitl [HR]; · iexact HR
  iintro HR'
  iapply (h'.apply (P := iprop(R' ∗ (R'' -∗ Q w))) .rfl)
  isplitl [HR']; · iexact HR'
  iexact HQ

theorem Steps.frame {α : Type} {R R' : sProp 𝕄} {p : TP (F := F) i α} {v : α} (S : sProp 𝕄)
    (h : Steps d i R p v R') : Steps d i iprop(R ∗ S) p v iprop(R' ∗ S) := by
  intro Q
  refine h.apply ?_
  iintro ⟨⟨HR, HS⟩, HQ⟩
  isplitl [HR]; · iexact HR
  iintro HR'
  iapply HQ
  isplitl [HR']; · iexact HR'
  iexact HS

theorem Steps.conv {α : Type} {R R' S S' : sProp 𝕄} {p : TP (F := F) i α} {v : α}
    (h : Steps d i R p v R') (h1 : S ⊢ R) (h2 : R' ⊢ S') : Steps d i S p v S' := by
  intro Q
  refine h.apply ?_
  iintro ⟨HS, HQ⟩
  isplitl [HS]; · iapply h1; iexact HS
  iintro HR'
  iapply HQ; iapply h2; iexact HR'

theorem ld1_op {b : Fin 1 → Nat} (m : Memref sig .scVector .vmem ⟨1, b⟩ .f32) (hl : m.view.Loads)
    (v : IVec S16 32) :
    ld1 (F := F) i m hl v = .op (.assume (Chk1 b v) (Chk1.dec b v)) fun h =>
      SparseCore.vectorLoadIdx (s := ⟨1, b⟩) m ![v] h.down hl >>= pure := rfl

theorem ld2_op {b : Fin 2 → Nat} (m : Memref sig .scVector .vmem ⟨2, b⟩ .f32) (hl : m.view.Loads)
    (v w : IVec S16 32) :
    ld2 (F := F) i m hl v w = .op (.assume (Chk b v w) (Chk.dec b v w)) fun h =>
      SparseCore.vectorLoadIdx (s := ⟨2, b⟩) m ![v, w] h.down hl >>= pure := rfl

theorem ld1_steps {b : Fin 1 → Nat} (m : Memref sig .scVector .vmem ⟨1, b⟩ .f32) (hl : m.view.Loads)
    (v : IVec S16 32) (g : ℕ → F .f32) (hv : ∀ l, (v l).toNat < b 0) :
    Steps d i (Holds1 d i m g) (ld1 i m hl v) (gat1 g v) (Holds1 d i m g) := by
  have hc : Chk1 b v := by
    intro a x
    obtain rfl : a = 0 := Subsingleton.elim _ _
    exact hv x
  intro Q
  rw [ld1_op]
  rw [wp_assume_of _ _ _ _ hc]
  unfold Holds1
  iintro ⟨⟨%f, %hf, Hm⟩, HQ⟩
  iapply (SparseCore.wp_vectorLoadIdx 𝒱₀ (thr d i) none Set.univ (base := m) (q := fullShare) (Finset.Subset.refl _)) $$ Hm
  iintro Hm
  have e : loadIdx ((m.access (.whole ⟨1, b⟩)).read (Elt F) f) ![v] hc = gat1 g v := funext fun l => hf _
  rw [e, wp_pure]
  imodintro
  iapply HQ
  iexists f
  isplitr; · ipureintro; exact hf
  iexact Hm

theorem ld2_steps {b : Fin 2 → Nat} (m : Memref sig .scVector .vmem ⟨2, b⟩ .f32) (hl : m.view.Loads)
    (v w : IVec S16 32) (g : ℕ → ℕ → F .f32) (hv : ∀ l, (v l).toNat < b 0) (hw : ∀ l, (w l).toNat < b 1) :
    Steps d i (Holds2 d i m g) (ld2 i m hl v w) (gat2 g v w) (Holds2 d i m g) := by
  have hc : Chk b v w := by
    intro a x
    match a with
    | 0 => exact hv x
    | 1 => exact hw x
  intro Q
  rw [ld2_op]
  rw [wp_assume_of _ _ _ _ hc]
  unfold Holds2
  iintro ⟨⟨%f, %hf, Hm⟩, HQ⟩
  iapply (SparseCore.wp_vectorLoadIdx 𝒱₀ (thr d i) none Set.univ (base := m) (q := fullShare) (Finset.Subset.refl _)) $$ Hm
  iintro Hm
  have e : loadIdx ((m.access (.whole ⟨2, b⟩)).read (Elt F) f) ![v, w] hc = gat2 g v w := funext fun l => hf _
  rw [e, wp_pure]
  imodintro
  iapply HQ
  iexists f
  isplitr; · ipureintro; exact hf
  iexact Hm

/-- A fold of functions, read at one place. -/
theorem foldl_at {X β ι : Type} {s : (X → β) → ι → X → β} {t : β → ι → β} {x : X}
    (h : ∀ f y k, f x = y → s f k x = t y k) :
    ∀ (L : List ι) (f : X → β) (y : β), f x = y → L.foldl s f x = L.foldl t y
  | [], _, _, e => e
  | k :: L, f, y, e => foldl_at h L (s f k) (t y k) (h f y k e)

theorem storeIdx_put1 {b : Fin 1 → Nat} (f : Vec F ⟨1, b⟩ .f32) (g : ℕ → F .f32) (hf : ∀ x, f x = g (x 0).val)
    (v : IVec S16 32) (u : Vec F S16 .f32) (mask : IVec S16 1)
    (h : ∀ a x, ((![v] : Fin 1 → IVec S16 32) a x).toNat < (⟨1, b⟩ : Shape).size a) (x : (⟨1, b⟩ : Shape).Idx) :
    storeIdx f ![v] u mask false h x = put1 g v u mask (x 0).val := by
  unfold storeIdx put1
  refine foldl_at (fun f y k e => ?_) _ _ _ (hf x)
  have hx : (∀ a, (x a).val = (idxAt ![v] h (Shape.ofLane k) a).val) ↔ (x 0).val = (v (Shape.ofLane k)).toNat :=
    ⟨fun hh => hh 0, fun hh a => by obtain rfl : a = 0 := Subsingleton.elim _ _; exact hh⟩
  by_cases hm : mask (Shape.ofLane k) = 1
  · by_cases hv : (x 0).val = (v (Shape.ofLane k)).toNat
    · exact (congrFun (if_pos hm) x).trans ((if_pos (hx.mpr hv)).trans (if_pos ⟨hm, hv⟩).symm)
    · exact (congrFun (if_pos hm) x).trans ((if_neg (mt hx.mp hv)).trans (e.trans (if_neg fun hh => hv hh.2).symm))
  · exact (congrFun (if_neg hm) x).trans (e.trans (if_neg fun hh => hm hh.1).symm)

theorem storeIdx_put2 {b : Fin 2 → Nat} (f : Vec F ⟨2, b⟩ .f32) (g : ℕ → ℕ → F .f32)
    (hf : ∀ x, f x = g (x 0).val (x 1).val)
    (v w : IVec S16 32) (u : Vec F S16 .f32)
    (h : ∀ a x, ((![v, w] : Fin 2 → IVec S16 32) a x).toNat < (⟨2, b⟩ : Shape).size a) (x : (⟨2, b⟩ : Shape).Idx) :
    storeIdx f ![v, w] u (fun _ => 1#1) false h x = put2 g v w u (x 0).val (x 1).val := by
  unfold storeIdx put2
  refine foldl_at (fun f y k e => ?_) _ _ _ (hf x)
  have hx : (∀ a, (x a).val = (idxAt ![v, w] h (Shape.ofLane k) a).val)
      ↔ ((x 0).val = (v (Shape.ofLane k)).toNat ∧ (x 1).val = (w (Shape.ofLane k)).toNat) :=
    ⟨fun hh => ⟨hh 0, hh 1⟩, fun hh a => match a with
      | 0 => hh.1
      | 1 => hh.2⟩
  by_cases hv : (x 0).val = (v (Shape.ofLane k)).toNat ∧ (x 1).val = (w (Shape.ofLane k)).toNat
  · exact (congrFun (if_pos rfl) x).trans ((if_pos (hx.mpr hv)).trans (if_pos hv).symm)
  · exact (congrFun (if_pos rfl) x).trans ((if_neg (mt hx.mp hv)).trans (e.trans (if_neg hv).symm))

theorem st1_op {b : Fin 1 → Nat} (m : Memref sig .scVector .vmem ⟨1, b⟩ .f32)
    (hs : (m.access (.whole ⟨1, b⟩)).Stores Finset.univ)
    (v : IVec S16 32) (u : Vec F S16 .f32) (mask : IVec S16 1) :
    st1 i m hs v u mask = .op (.assume (Chk1 b v) (Chk1.dec b v)) fun h =>
      SparseCore.vectorStoreIdx (s := ⟨1, b⟩) m ![v] u mask false h.down hs >>= pure := rfl

theorem st2_op {b : Fin 2 → Nat} (m : Memref sig .scVector .vmem ⟨2, b⟩ .f32)
    (hs : (m.access (.whole ⟨2, b⟩)).Stores Finset.univ)
    (v w : IVec S16 32) (u : Vec F S16 .f32) :
    st2 i m hs v w u = .op (.assume (Chk b v w) (Chk.dec b v w)) fun h =>
      SparseCore.vectorStoreIdx (s := ⟨2, b⟩) m ![v, w] u (fun _ => 1#1) false h.down hs >>= pure := rfl

theorem st1_steps {b : Fin 1 → Nat} (m : Memref sig .scVector .vmem ⟨1, b⟩ .f32)
    (hs : (m.access (.whole ⟨1, b⟩)).Stores Finset.univ)
    (v : IVec S16 32) (u : Vec F S16 .f32) (mask : IVec S16 1) (g : ℕ → F .f32) (hv : ∀ l, (v l).toNat < b 0) :
    Steps d i (Holds1 d i m g) (st1 i m hs v u mask) ⟨⟩ (Holds1 d i m (put1 g v u mask)) := by
  have hc : Chk1 b v := by
    intro a x
    obtain rfl : a = 0 := Subsingleton.elim _ _
    exact hv x
  intro Q
  rw [st1_op]
  rw [wp_assume_of _ _ _ _ hc]
  unfold Holds1
  iintro ⟨⟨%f, %hf, Hm⟩, HQ⟩
  iapply (SparseCore.wp_vectorStoreIdx 𝒱₀ (thr d i) none Set.univ (base := m)) $$ Hm
  iintro Hm
  rw [wp_pure]
  imodintro
  iapply HQ
  iexists _
  isplitr
  rotate_left
  · iexact Hm
  · ipureintro
    intro x
    rw [View.read_write_univ]
    exact storeIdx_put1 _ g hf v u mask hc x

theorem st2_steps {b : Fin 2 → Nat} (m : Memref sig .scVector .vmem ⟨2, b⟩ .f32)
    (hs : (m.access (.whole ⟨2, b⟩)).Stores Finset.univ)
    (v w : IVec S16 32) (u : Vec F S16 .f32) (g : ℕ → ℕ → F .f32)
    (hv : ∀ l, (v l).toNat < b 0) (hw : ∀ l, (w l).toNat < b 1) :
    Steps d i (Holds2 d i m g) (st2 i m hs v w u) ⟨⟩ (Holds2 d i m (put2 g v w u)) := by
  have hc : Chk b v w := by
    intro a x
    match a with
    | 0 => exact hv x
    | 1 => exact hw x
  intro Q
  rw [st2_op]
  rw [wp_assume_of _ _ _ _ hc]
  unfold Holds2
  iintro ⟨⟨%f, %hf, Hm⟩, HQ⟩
  iapply (SparseCore.wp_vectorStoreIdx 𝒱₀ (thr d i) none Set.univ (base := m)) $$ Hm
  iintro Hm
  rw [wp_pure]
  imodintro
  iapply HQ
  iexists _
  isplitr
  rotate_left
  · iexact Hm
  · ipureintro
    intro x
    rw [View.read_write_univ]
    exact storeIdx_put2 _ g hf v w u hc x

end Cert.KernelIdeal.Model
-- ==== Proof.Values.lean ====
/- What the trip and the tables compute, as functions of what the buffers hold, and that they do. -/
module

public import proofs.«01_k».proof.Proof.Steps

@[expose] public section

noncomputable section

namespace Cert.KernelIdeal.Model

open Idealize.ShloMosaic Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MM F

/-- Every lane's word is below `n`. -/
abbrev Below (v : IVec S16 32) (n : ℕ) : Prop := ∀ l, (v l).toNat < n

theorem Below.mono {v : IVec S16 32} {m n : ℕ} (h : Below v m) (hn : m ≤ n) : Below v n := fun l => (h l).trans_le hn

theorem below_kon {n B : ℕ} (h : n < B) : Below (kon n) B := fun _ => by
  show (BitVec.ofNat 32 n).toNat < B
  rw [BitVec.toNat_ofNat]; exact (Nat.mod_le _ _).trans_lt h

theorem toNat_add_kon (v : IVec S16 32) {n B : ℕ} (h : Below v B) (hB : B + n ≤ 2 ^ 32) (l : S16.Idx) :
    (addi v (kon n) l).toNat = (v l).toNat + n := by
  show (v l + BitVec.ofNat 32 n).toNat = _
  have := h l
  rw [BitVec.toNat_add, BitVec.toNat_ofNat]
  rw [Nat.mod_eq_of_lt (show n < 2 ^ 32 by omega), Nat.mod_eq_of_lt (by omega)]

theorem toNat_kon_add (v : IVec S16 32) {n B : ℕ} (h : Below v B) (hB : B + n ≤ 2 ^ 32) (l : S16.Idx) :
    (addi (kon n) v l).toNat = n + (v l).toNat := by
  show (BitVec.ofNat 32 n + v l).toNat = _
  have := h l
  rw [BitVec.toNat_add, BitVec.toNat_ofNat]
  rw [Nat.mod_eq_of_lt (show n < 2 ^ 32 by omega), Nat.mod_eq_of_lt (by omega)]

theorem below_add_kon {v : IVec S16 32} {n B C : ℕ} (h : Below v B) (hB : B + n ≤ C) (hC : C ≤ 2 ^ 32) :
    Below (addi v (kon n)) C := fun l => by
  rw [toNat_add_kon v h (hB.trans hC)]; have := h l; omega

theorem below_kon_add {v : IVec S16 32} {n B C : ℕ} (h : Below v B) (hB : B + n ≤ C) (hC : C ≤ 2 ^ 32) :
    Below (addi (kon n) v) C := fun l => by
  rw [toNat_kon_add v h (hB.trans hC)]; have := h l; omega

theorem below_pickI {k : ℕ} {u m : FVec F S16 .f32} {a : IVec S16 32} (hk : k < 6) (ha : Below a 6) :
    Below (pickI k u m a) 6 := fun l => by
  show (Scalar.select _ (kon k l) (a l)).toNat < 6
  unfold Scalar.select
  split
  · exact below_kon hk l
  · exact ha l

/-- The place of a pair of classes in a table over pairs. -/
abbrev pairAt (a c : IVec S16 32) : IVec S16 32 := addi (muli a (kon 6)) c

theorem toNat_pairAt {a c : IVec S16 32} (ha : Below a 6) (hc : Below c 6) (l : S16.Idx) :
    (pairAt a c l).toNat = 6 * (a l).toNat + (c l).toNat := by
  show (a l * BitVec.ofNat 32 6 + c l).toNat = _
  have := ha l; have := hc l
  rw [BitVec.toNat_add, BitVec.toNat_mul]
  simp only [BitVec.toNat_ofNat]
  omega

theorem below_pairAt {a c : IVec S16 32} (ha : Below a 6) (hc : Below c 6) : Below (pairAt a c) 36 := fun l => by
  rw [toNat_pairAt ha hc]; have := ha l; have := hc l; omega

/-! ## The values -/

/-- Six rows' elements at the lanes' columns. -/
abbrev sixV (Z : ℕ → ℕ → F .f32) (r : ℕ) (b : IVec S16 32) : Six (FVec F S16 .f32) :=
  ⟨gat2 Z (kon r) b, gat2 Z (kon (r + 1)) b, gat2 Z (kon (r + 2)) b, gat2 Z (kon (r + 3)) b,
    gat2 Z (kon (r + 4)) b, gat2 Z (kon (r + 5)) b⟩

/-- The class with the first greatest of six. -/
def bestV (u : Six (FVec F S16 .f32)) : IVec S16 32 :=
  pickI 5 u.a5 (pickV u.a4 (pickV u.a3 (pickV u.a2 (pickV u.a1 u.a0))))
    (pickI 4 u.a4 (pickV u.a3 (pickV u.a2 (pickV u.a1 u.a0)))
      (pickI 3 u.a3 (pickV u.a2 (pickV u.a1 u.a0))
        (pickI 2 u.a2 (pickV u.a1 u.a0) (pickI 1 u.a1 u.a0 (kon 0)))))

theorem below_bestV (u : Six (FVec F S16 .f32)) : Below (bestV u) 6 :=
  below_pickI (by decide) <| below_pickI (by decide) <| below_pickI (by decide) <| below_pickI (by decide) <|
    below_pickI (by decide) (below_kon (by decide))

/-- The class sampled: the noise of sample `s` added, the first greatest kept. -/
def scanV (G : ℕ → F .f32) (b : IVec S16 32) (s : ℕ) (z : Six (FVec F S16 .f32)) : IVec S16 32 :=
  bestV ⟨addf z.a0 (gat1 G (addi b (kon (768 * s)))), addf z.a1 (gat1 G (addi b (kon (768 * s + 128)))),
    addf z.a2 (gat1 G (addi b (kon (768 * s + 256)))), addf z.a3 (gat1 G (addi b (kon (768 * s + 384)))),
    addf z.a4 (gat1 G (addi b (kon (768 * s + 512)))), addf z.a5 (gat1 G (addi b (kon (768 * s + 640))))⟩

/-- The six exponentials of a pair. -/
abbrev expsV (T : ℕ → F .f32) (p : IVec S16 32) (zx : Six (FVec F S16 .f32)) : Six (FVec F S16 .f32) :=
  ⟨exp (addf zx.a0 (gat1 T (addi p (kon 0)))), exp (addf zx.a1 (gat1 T (addi p (kon 36)))),
    exp (addf zx.a2 (gat1 T (addi p (kon 72)))), exp (addf zx.a3 (gat1 T (addi p (kon 108)))),
    exp (addf zx.a4 (gat1 T (addi p (kon 144)))), exp (addf zx.a5 (gat1 T (addi p (kon 180))))⟩

/-- Six summed, left to right. -/
abbrev sumV (e : Six (FVec F S16 .f32)) : FVec F S16 .f32 :=
  addf (addf (addf (addf (addf e.a0 e.a1) e.a2) e.a3) e.a4) e.a5

/-- The sums after one more pair. -/
def accV (T : ℕ → F .f32) (p : IVec S16 32) (zx : Six (FVec F S16 .f32)) (A : Acc F) : Acc F :=
  let e := expsV T p zx
  let w : FVec F S16 .f32 := gat1 T (addi p (kon 216))
  let r := divf w (sumV e)
  ⟨⟨addf A.a.a0 (mulf r e.a0), addf A.a.a1 (mulf r e.a1), addf A.a.a2 (mulf r e.a2),
    addf A.a.a3 (mulf r e.a3), addf A.a.a4 (mulf r e.a4), addf A.a.a5 (mulf r e.a5)⟩, addf A.w w⟩

/-- The sums after one more sample. -/
abbrev sampleV (G1 G2 T : ℕ → F .f32) (b : IVec S16 32) (z1 z2 zx : Six (FVec F S16 .f32)) (s : ℕ) (A : Acc F) : Acc F :=
  accV T (pairAt (scanV G1 b s z1) (scanV G2 b s z2)) zx A

/-- The sums after a list of samples. -/
def samplesV (G1 G2 T : ℕ → F .f32) (b : IVec S16 32) (z1 z2 zx : Six (FVec F S16 .f32)) : List ℕ → Acc F → Acc F
  | [], A => A
  | s :: l, A => samplesV G1 G2 T b z1 z2 zx l (sampleV G1 G2 T b z1 z2 zx s A)

/-- No sample yet. -/
abbrev acc0 : Acc F := ⟨⟨zeroV, zeroV, zeroV, zeroV, zeroV, zeroV⟩, zeroV⟩

/-- All the samples' sums at sixteen rows. -/
def sumsV (Z : ℕ → ℕ → F .f32) (G1 G2 T : ℕ → F .f32) (b : IVec S16 32) : Acc F :=
  samplesV G1 G2 T b (sixV Z 0 b) (sixV Z 6 b) (sixV Z 12 b)
    [0, 1, 2, 3, 4, 5, 6, 7, 8, 9, 10, 11, 12, 13, 14, 15, 16, 17] acc0

/-- The result's block after a trip. -/
def tripV (Z : ℕ → ℕ → F .f32) (G1 G2 T : ℕ → F .f32) (b : IVec S16 32) (O : ℕ → ℕ → F .f32) : ℕ → ℕ → F .f32 :=
  let A := sumsV Z G1 G2 T b
  let v : FVec F S16 .f32 := divf (broadcast S16 (Scalar.ofBits .f32 0x3F800000#32)) A.w
  put2 (put2 (put2 (put2 (put2 (put2 O b (kon 0) (mulf A.a.a0 v)) b (kon 1) (mulf A.a.a1 v)) b (kon 2) (mulf A.a.a2 v))
    b (kon 3) (mulf A.a.a3 v)) b (kon 4) (mulf A.a.a4 v)) b (kon 5) (mulf A.a.a5 v)

/-! ## The trip -/

variable {d : Dev nD} {i : grid1.Coords}

/-- A step under a resource that the step's own can be taken out of. -/
theorem Steps.of {α : Type} {R H : sProp 𝕄} {p : TP (F := F) i α} {v : α}
    (h : Steps d i H p v H) (hR : R ⊢ iprop(H ∗ (H -∗ R))) : Steps d i R p v R := by
  intro Q
  refine h.apply ?_
  iintro ⟨HR, HQ⟩
  ihave Hx := hR $$ HR
  icases Hx with ⟨HH, Hb⟩
  isplitl [HH]; · iexact HH
  iintro HH
  iapply HQ; iapply Hb; iexact HH

theorem six_steps {R : sProp 𝕄} {m : Memref sig .scVector .vmem S24x128 .f32} {Z : ℕ → ℕ → F .f32}
    (hZ : R ⊢ iprop(Holds2 d i m Z ∗ (Holds2 d i m Z -∗ R))) {r : ℕ} (hr : r + 5 < 24) {b : IVec S16 32} (hb : Below b 128) :
    Steps d i R (six i m r b) (sixV Z r b) R := by
  have h : ∀ n, n < 24 → Steps d i R (ld2 i m (View.loads_vmem h_S24x128) (kon n) b) (gat2 Z (kon n) b) R :=
    fun n hn => (ld2_steps m _ _ _ Z (below_kon hn) hb).of hZ
  exact (h _ (by omega)).bind <| (h _ (by omega)).bind <| (h _ (by omega)).bind <| (h _ (by omega)).bind <|
    (h _ (by omega)).bind <| (h _ (by omega)).bind <| Steps.ret _ _

theorem scan_steps {R : sProp 𝕄} {g : Memref sig .scVector .vmem S13824 .f32} {G : ℕ → F .f32}
    (hG : R ⊢ iprop(Holds1 d i g G ∗ (Holds1 d i g G -∗ R))) {b : IVec S16 32} (hb : Below b 128) {s : ℕ} (hs : s < 18)
    (z : Six (FVec F S16 .f32)) :
    Steps d i R (scan i g b s z) (scanV G b s z) R := by
  have h : ∀ n, 128 + n ≤ 13824 → Steps d i R (ld1 i g (View.loads_vmem h_S13824) (addi b (kon n))) (gat1 G (addi b (kon n))) R :=
    fun n hn => (ld1_steps g _ _ G (below_add_kon hb hn (by decide))).of hG
  exact (h _ (by omega)).bind <| (h _ (by omega)).bind <| (h _ (by omega)).bind <| (h _ (by omega)).bind <|
    (h _ (by omega)).bind <| (h _ (by omega)).bind <| Steps.ret _ _

/-- A resource holding both noises and the pairs' table. -/
structure Tabs (R : sProp 𝕄) (g1 g2 : Memref sig .scVector .vmem S13824 .f32) (t : Memref sig .scVector .vmem S256 .f32)
    (G1 G2 T : ℕ → F .f32) : Prop where
  hG1 : R ⊢ iprop(Holds1 d i g1 G1 ∗ (Holds1 d i g1 G1 -∗ R))
  hG2 : R ⊢ iprop(Holds1 d i g2 G2 ∗ (Holds1 d i g2 G2 -∗ R))
  hT : R ⊢ iprop(Holds1 d i t T ∗ (Holds1 d i t T -∗ R))

theorem sample_steps {R : sProp 𝕄} {g1 g2 : Memref sig .scVector .vmem S13824 .f32} {t : Memref sig .scVector .vmem S256 .f32}
  {G1 G2 T : ℕ → F .f32}
    (H : Tabs (d := d) (i := i) R g1 g2 t G1 G2 T) {b : IVec S16 32} (hb : Below b 128) (z1 z2 zx : Six (FVec F S16 .f32)) {s : ℕ} (hs : s < 18) (A : Acc F) :
    Steps d i R (sample i g1 g2 t b z1 z2 zx s A) (sampleV G1 G2 T b z1 z2 zx s A) R := by
  have h : ∀ (p : IVec S16 32), Below p 36 → ∀ n, 36 + n ≤ 256 →
      Steps d i R (ld1 i t (View.loads_vmem h_S256) (addi p (kon n))) (gat1 T (addi p (kon n))) R :=
    fun p hp n hn => (ld1_steps t _ _ T (below_add_kon hp hn (by decide))).of H.hT
  replace h := h (pairAt (scanV G1 b s z1) (scanV G2 b s z2)) (below_pairAt (below_bestV _) (below_bestV _))
  exact (scan_steps H.hG1 hb hs z1).bind <| (scan_steps H.hG2 hb hs z2).bind <|
    (h _ (by omega)).bind <| (h _ (by omega)).bind <| (h _ (by omega)).bind <| (h _ (by omega)).bind <|
    (h _ (by omega)).bind <| (h _ (by omega)).bind <| (h _ (by omega)).bind <| Steps.ret _ _

theorem samples_steps {R : sProp 𝕄} {g1 g2 : Memref sig .scVector .vmem S13824 .f32} {t : Memref sig .scVector .vmem S256 .f32}
  {G1 G2 T : ℕ → F .f32}
    (H : Tabs (d := d) (i := i) R g1 g2 t G1 G2 T) {b : IVec S16 32} (hb : Below b 128) (z1 z2 zx : Six (FVec F S16 .f32)) : ∀ (l : List ℕ) (_ : ∀ s ∈ l, s < 18) (A : Acc F),
    Steps d i R (samples i g1 g2 t b z1 z2 zx l A) (samplesV G1 G2 T b z1 z2 zx l A) R
  | [], _, A => Steps.ret (F := F) R A
  | s :: l, h, A => (sample_steps H hb z1 z2 zx (h s List.mem_cons_self) A).bind
      (samples_steps H hb z1 z2 zx l (fun s' h' => h s' (List.mem_cons_of_mem _ h')) _)

theorem trip_steps {R : sProp 𝕄} {g1 g2 : Memref sig .scVector .vmem S13824 .f32} {t : Memref sig .scVector .vmem S256 .f32}
  {G1 G2 T : ℕ → F .f32}
    (H : Tabs (d := d) (i := i) R g1 g2 t G1 G2 T) {b : IVec S16 32} (hb : Below b 128)
    {zv : Memref sig .scVector .vmem S24x128 .f32} {Z : ℕ → ℕ → F .f32}
    (hZ : R ⊢ iprop(Holds2 d i zv Z ∗ (Holds2 d i zv Z -∗ R)))
    (o : Memref sig .scVector .vmem S128x6 .f32) (O : ℕ → ℕ → F .f32) :
    Steps d i iprop(R ∗ Holds2 d i o O) (trip i zv g1 g2 t o b) ⟨⟩ iprop(R ∗ Holds2 d i o (tripV Z G1 G2 T b O)) := by
  have h : ∀ (k : ℕ) (u : FVec F S16 .f32) (O : ℕ → ℕ → F .f32), k < 6 →
      Steps d i iprop(R ∗ Holds2 d i o O) (st2 i o (View.stores_vmem_bits_univ h_S128x6 rfl) b (kon k) u) ⟨⟩
        iprop(R ∗ Holds2 d i o (put2 O b (kon k) u)) := fun k u O hk =>
    ((st2_steps o _ b (kon k) u O hb (below_kon hk)).frame R).conv (sep_comm.1) (sep_comm.1)
  exact ((six_steps hZ (by decide) hb).frame _).bind <| ((six_steps hZ (by decide) hb).frame _).bind <|
    ((six_steps hZ (by decide) hb).frame _).bind <|
    ((samples_steps H hb _ _ _ _ (by decide) _).frame _).bind <|
    (h 0 _ _ (by decide)).bind <| (h 1 _ _ (by decide)).bind <| (h 2 _ _ (by decide)).bind <|
    (h 3 _ _ (by decide)).bind <| (h 4 _ _ (by decide)).bind <| (h 5 _ _ (by decide)).bind <| Steps.ret _ _

end Cert.KernelIdeal.Model
-- ==== Proof.TableSteps.lean ====
/- What the tile computes before its loop: both probability tables, the table over pairs. -/
module

public import proofs.«01_k».proof.Proof.Values

@[expose] public section

noncomputable section

namespace Cert.KernelIdeal.Model

open Idealize.ShloMosaic Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MM F

/-! ## The index vectors -/

theorem lanes_at (l : S16.Idx) : lanes l = BitVec.ofNat 32 (l 0).val := by
  show BitVec.ofNat 32 (([0] : List (Fin 1)).foldl (fun n a => n * S16.size a + (l a).val) 0) = _
  simp

theorem lane_lt (l : S16.Idx) : (l 0).val < 16 := (l 0).isLt

theorem toNat_lanes (l : S16.Idx) : (lanes l).toNat = (l 0).val := by
  rw [lanes_at, BitVec.toNat_ofNat]
  have := lane_lt l
  omega

theorem below_lanes : Below lanes 16 := fun l => by rw [toNat_lanes]; exact lane_lt l

theorem toNat_rows (l : S16.Idx) : (rows l).toNat = min (l 0).val 7 := by
  show (IntOp.minsi (lanes l) (BitVec.ofNat 32 7)).toNat = _
  rw [lanes_at]
  have h : ∀ k : Fin 16, (IntOp.minsi (BitVec.ofNat 32 k.val) (BitVec.ofNat 32 7)).toNat = min k.val 7 := by decide
  exact h ⟨(l 0).val, lane_lt l⟩

theorem below_rows : Below rows 128 := fun l => by rw [toNat_rows]; omega

theorem toNat_pairs {n : ℕ} (hn : n < 3) (l : S16.Idx) : (pairs n l).toNat = 16 * n + (l 0).val := by
  rw [toNat_kon_add lanes below_lanes (by omega), toNat_lanes]

theorem below_pairs {n : ℕ} (hn : n < 3) : Below (pairs n) 48 := fun l => by
  rw [toNat_pairs hn]; have := lane_lt l; omega

theorem toNat_act1 {p : IVec S16 32} (hp : Below p 48) (l : S16.Idx) : (act1 p l).toNat = (p l).toNat / 6 := by
  have h : ∀ k : Fin 48, (IntOp.shrsi .vector (BitVec.ofNat 32 k.val * BitVec.ofNat 32 43) (BitVec.ofNat 32 8)).toNat = k.val / 6 := by
    intro k
    unfold IntOp.shrsi
    rw [if_pos (by decide)]
    revert k
    decide
  have := h ⟨(p l).toNat, hp l⟩
  rw [show (BitVec.ofNat 32 (p l).toNat) = p l from BitVec.ofNat_toNat _ _ |>.trans (by simp)] at this
  exact this

theorem toNat_act2 {p : IVec S16 32} (hp : Below p 48) (l : S16.Idx) : (act2 p l).toNat = (p l).toNat % 6 := by
  show (p l - act1 p l * BitVec.ofNat 32 6).toNat = _
  rw [BitVec.toNat_sub, BitVec.toNat_mul, toNat_act1 hp]
  have := hp l
  simp only [BitVec.toNat_ofNat]
  omega

theorem below_act1 {p : IVec S16 32} (hp : Below p 48) : Below (act1 p) 8 := fun l => by
  rw [toNat_act1 hp]; have := hp l; omega

theorem below_act2 {p : IVec S16 32} (hp : Below p 48) : Below (act2 p) 6 := fun l => by
  rw [toNat_act2 hp]; omega

theorem below_min (v : IVec S16 32) : Below v 2147483648 → Below (minsi v (kon 255)) 256 := fun h l => by
  show (IntOp.minsi (v l) (BitVec.ofNat 32 255)).toNat < 256
  unfold IntOp.minsi
  have := h l
  split
  · rename_i hs
    rw [BitVec.slt_iff_toInt_lt, BitVec.toInt_eq_toNat_cond, BitVec.toInt_eq_toNat_cond] at hs
    simp only [BitVec.toNat_ofNat] at hs
    rw [if_pos (by omega), if_pos (by decide)] at hs
    omega
  · decide

/-! ## The values -/

/-- One opponent's probabilities put at `o` on. -/
abbrev probV (Z : ℕ → ℕ → F .f32) (r o : ℕ) (W : ℕ → F .f32) : ℕ → F .f32 :=
  put1 W (addi (kon o) lanes) (softV (sixV Z r rows)) (cmpi .slt lanes (kon 6))

/-- The weights with both opponents' probabilities after them. -/
def probsV (Z : ℕ → ℕ → F .f32) (W : ℕ → F .f32) : ℕ → F .f32 := probV Z 6 78 (probV Z 0 72 W)

/-- Sixteen pairs' entries of class `k` put into the pairs' table. -/
abbrev pairLogitV (W : ℕ → F .f32) (p : IVec S16 32) (k : ℕ) (T : ℕ → F .f32) : ℕ → F .f32 :=
  put1 T (addi (kon (36 * k)) p)
    (addf (gat1 W (addi (kon (6 * k)) (act1 p)) : FVec F S16 .f32) (gat1 W (addi (kon (36 + 6 * k)) (act2 p))))
    (cmpi .slt p (kon 36))

def pairLogitsV (W : ℕ → F .f32) (p : IVec S16 32) : List ℕ → (ℕ → F .f32) → ℕ → F .f32
  | [], T => T
  | k :: l, T => pairLogitsV W p l (pairLogitV W p k T)

/-- Sixteen pairs' weights put into the pairs' table. -/
abbrev pairWeightV (W : ℕ → F .f32) (p : IVec S16 32) (T : ℕ → F .f32) : ℕ → F .f32 :=
  put1 T (minsi (addi (kon 216) p) (kon 255))
    (mulf (gat1 W (addi (kon 72) (act1 p)) : FVec F S16 .f32) (gat1 W (addi (kon 78) (act2 p)))) (cmpi .slt p (kon 36))

def pairTableV (W : ℕ → F .f32) : List ℕ → (ℕ → F .f32) → ℕ → F .f32
  | [], T => T
  | n :: l, T => pairTableV W l (pairWeightV W (pairs n) (pairLogitsV W (pairs n) [0, 1, 2, 3, 4, 5] T))

/-- The pairs' table from the first block of logits and the weights. -/
abbrev tableV (Z : ℕ → ℕ → F .f32) (W T : ℕ → F .f32) : ℕ → F .f32 := pairTableV (probsV Z W) [0, 1, 2] T

/-! ## The steps -/

variable {d : Dev nD} {i : grid1.Coords}

theorem probs_steps {R : sProp 𝕄} {z8 : Memref sig .scVector .vmem S24x128 .f32} {Z : ℕ → ℕ → F .f32}
    (hZ : R ⊢ iprop(Holds2 d i z8 Z ∗ (Holds2 d i z8 Z -∗ R))) (t : Memref sig .scVector .vmem S96 .f32)
    {r o : ℕ} (hr : r + 5 < 24) (ho : 16 + o ≤ 96) (W : ℕ → F .f32) :
    Steps d i iprop(R ∗ Holds1 d i t W) (probs i z8 t r o) ⟨⟩ iprop(R ∗ Holds1 d i t (probV Z r o W)) :=
  ((six_steps hZ hr below_rows).frame _).bind
    (((st1_steps t _ _ _ _ W (below_kon_add below_lanes ho (by decide))).frame R).conv sep_comm.1 sep_comm.1)

theorem pairLogit_steps (t : Memref sig .scVector .vmem S96 .f32) (o : Memref sig .scVector .vmem S256 .f32)
    {p : IVec S16 32} (hp : Below p 48) {k : ℕ} (hk : k < 6) (W T : ℕ → F .f32) :
    Steps d i iprop(Holds1 d i t W ∗ Holds1 d i o T) (pairLogit i t o p k) ⟨⟩
      iprop(Holds1 d i t W ∗ Holds1 d i o (pairLogitV W p k T)) :=
  ((ld1_steps t _ _ W (below_kon_add (below_act1 hp) (show 8 + 6 * k ≤ 96 by omega) (by decide))).frame _).bind <|
  ((ld1_steps t _ _ W (below_kon_add (below_act2 hp) (show 6 + (36 + 6 * k) ≤ 96 by omega) (by decide))).frame _).bind <|
  ((st1_steps o _ _ _ _ T (below_kon_add hp (show 48 + 36 * k ≤ 256 by omega) (by decide))).frame _).conv sep_comm.1 sep_comm.1

theorem pairLogits_steps (t : Memref sig .scVector .vmem S96 .f32) (o : Memref sig .scVector .vmem S256 .f32)
    {p : IVec S16 32} (hp : Below p 48) (W : ℕ → F .f32) : ∀ (l : List ℕ) (_ : ∀ k ∈ l, k < 6) (T : ℕ → F .f32),
    Steps d i iprop(Holds1 d i t W ∗ Holds1 d i o T) (pairLogits i t o p l) ⟨⟩
      iprop(Holds1 d i t W ∗ Holds1 d i o (pairLogitsV W p l T))
  | [], _, T => Steps.ret (F := F) _ _
  | k :: l, h, T => (pairLogit_steps t o hp (h k List.mem_cons_self) W T).bind
      (pairLogits_steps t o hp W l (fun k' h' => h k' (List.mem_cons_of_mem _ h')) _)

theorem pairWeight_steps (t : Memref sig .scVector .vmem S96 .f32) (o : Memref sig .scVector .vmem S256 .f32)
    {p : IVec S16 32} (hp : Below p 48) (W T : ℕ → F .f32) :
    Steps d i iprop(Holds1 d i t W ∗ Holds1 d i o T) (pairWeight i t o p) ⟨⟩
      iprop(Holds1 d i t W ∗ Holds1 d i o (pairWeightV W p T)) :=
  ((ld1_steps t _ _ W (below_kon_add (below_act1 hp) (show 8 + 72 ≤ 96 by omega) (by decide))).frame _).bind <|
  ((ld1_steps t _ _ W (below_kon_add (below_act2 hp) (show 6 + 78 ≤ 96 by omega) (by decide))).frame _).bind <|
  ((st1_steps o _ _ _ _ T (below_min _ (below_kon_add hp (show 48 + 216 ≤ 2147483648 by omega) (by decide)))).frame _).conv
    sep_comm.1 sep_comm.1

theorem pairTable_steps (t : Memref sig .scVector .vmem S96 .f32) (o : Memref sig .scVector .vmem S256 .f32)
    (W : ℕ → F .f32) : ∀ (l : List ℕ) (_ : ∀ n ∈ l, n < 3) (T : ℕ → F .f32),
    Steps d i iprop(Holds1 d i t W ∗ Holds1 d i o T) (pairTable i t o l) ⟨⟩
      iprop(Holds1 d i t W ∗ Holds1 d i o (pairTableV W l T))
  | [], _, T => Steps.ret (F := F) _ _
  | n :: l, h, T =>
    (pairLogits_steps t o (below_pairs (h n List.mem_cons_self)) W _ (by decide) T).bind <|
    (pairWeight_steps t o (below_pairs (h n List.mem_cons_self)) W _).bind
      (pairTable_steps t o W l (fun k' h' => h k' (List.mem_cons_of_mem _ h')) _)

theorem tables_steps {R : sProp 𝕄} {z8 : Memref sig .scVector .vmem S24x128 .f32} {Z : ℕ → ℕ → F .f32}
    (hZ : R ⊢ iprop(Holds2 d i z8 Z ∗ (Holds2 d i z8 Z -∗ R)))
    (t : Memref sig .scVector .vmem S96 .f32) (o : Memref sig .scVector .vmem S256 .f32) (W T : ℕ → F .f32) :
    Steps d i iprop((R ∗ Holds1 d i t W) ∗ Holds1 d i o T) (tables i z8 t o) ⟨⟩
      iprop((R ∗ Holds1 d i t (probsV Z W)) ∗ Holds1 d i o (tableV Z W T)) :=
  ((probs_steps hZ t (by decide) (by decide) W).frame _).bind <|
  ((probs_steps hZ t (by decide) (by decide) _).frame _).bind <|
  ((pairTable_steps t o _ _ (by decide) T).frame R).conv
    (sep_assoc.1.trans sep_comm.1) (sep_comm.1.trans sep_assoc.2)

end Cert.KernelIdeal.Model
-- ==== Proof.Rows.lean ====
/- The tile's values one row at a time: what the loop leaves in the block's rows is a function of the row's logits,
   the row's noise and the table over pairs, and the table is a function of the first rows' logits and the weights. -/
module

public import proofs.«01_k».proof.Proof.TableSteps

@[expose] public section

noncomputable section

namespace Cert.KernelIdeal.Model

open Idealize.ShloMosaic Cert.KernelIdeal Cert.KernelIdeal.Gen

variable {F : FTy → Type} [FloatOps F]

/-! ## Stores at consecutive places -/

theorem ofLane_val (k : Fin 16) : ((Shape.ofLane k : S16.Idx) 0).val = k.val := rfl

/-- A fold that puts at most one lane's value, where that lane is among the folded. -/
theorem foldl_hit {β : Type} (C : Fin 16 → Prop) [DecidablePred C] (u : Fin 16 → β) (k₀ : Fin 16)
    (h : ∀ k, C k ↔ k = k₀) : ∀ (L : List (Fin 16)) (y : β), (k₀ ∈ L ∨ y = u k₀) →
      L.foldl (fun y k => if C k then u k else y) y = u k₀
  | [], y, hy => hy.resolve_left (by simp)
  | k :: L, y, hy => foldl_hit C u k₀ h L _ (by
      show k₀ ∈ L ∨ (if C k then u k else y) = u k₀
      by_cases hk : k = k₀
      · right; rw [if_pos ((h k).2 hk), hk]
      · rw [if_neg (fun hc => hk ((h k).1 hc))]
        rcases hy with hy | hy
        · exact .inl ((List.mem_cons.1 hy).resolve_left (Ne.symm hk))
        · exact .inr hy)

theorem foldl_miss {β : Type} (C : Fin 16 → Prop) [DecidablePred C] (u : Fin 16 → β)
    (h : ∀ k, ¬ C k) : ∀ (L : List (Fin 16)) (y : β),
      L.foldl (fun y k => if C k then u k else y) y = y
  | [], _ => rfl
  | k :: L, y => by rw [List.foldl_cons, if_neg (h k)]; exact foldl_miss C u h L y

/-- Lane `k`'s own index. -/
abbrev lane (k : Fin 16) : S16.Idx := Shape.ofLane k

theorem put1_hit (g : ℕ → F .f32) {v : IVec S16 32} (u : Vec F S16 .f32) {mask : IVec S16 1} {c m : ℕ}
    (hm : ∀ k : Fin 16, mask (lane k) = 1 ↔ k.val < m) (hv : ∀ k : Fin 16, k.val < m → (v (lane k)).toNat = c + k.val)
    (k₀ : Fin 16) (hk : k₀.val < m) : put1 g v u mask (c + k₀.val) = u (lane k₀) := by
  unfold put1
  exact foldl_hit (fun k => mask (lane k) = 1 ∧ c + k₀.val = (v (lane k)).toNat) (fun k => u (lane k)) k₀
    (fun k => ⟨fun ⟨h1, h2⟩ => by have := hv k ((hm k).1 h1); exact Fin.ext (by omega),
      fun e => by subst e; exact ⟨(hm k).2 hk, (hv k hk).symm⟩⟩) _ _ (.inl (List.mem_finRange k₀))

theorem put1_miss (g : ℕ → F .f32) {v : IVec S16 32} (u : Vec F S16 .f32) {mask : IVec S16 1} {c m : ℕ}
    (hm : ∀ k : Fin 16, mask (lane k) = 1 ↔ k.val < m) (hv : ∀ k : Fin 16, k.val < m → (v (lane k)).toNat = c + k.val)
    {n : ℕ} (hn : n < c ∨ c + m ≤ n) : put1 g v u mask n = g n := by
  unfold put1
  exact foldl_miss (fun k => mask (lane k) = 1 ∧ n = (v (lane k)).toNat) (fun k => u (lane k))
    (fun k ⟨h1, h2⟩ => by have := (hm k).1 h1; have := hv k this; omega) _ _

/-- A masked store of consecutive places keeps every place that agrees with `S`, where the stored do. -/
theorem put1_keep {g S : ℕ → F .f32} {v : IVec S16 32} {u : Vec F S16 .f32} {mask : IVec S16 1} {c m : ℕ}
    (hm : ∀ k : Fin 16, mask (lane k) = 1 ↔ k.val < m) (hv : ∀ k : Fin 16, k.val < m → (v (lane k)).toNat = c + k.val)
    (hu : ∀ k : Fin 16, k.val < m → u (lane k) = S (c + k.val)) (hm16 : m ≤ 16) {n : ℕ}
    (h : (c ≤ n ∧ n < c + m) ∨ g n = S n) : put1 g v u mask n = S n := by
  by_cases hn : c ≤ n ∧ n < c + m
  · obtain ⟨k, rfl⟩ := Nat.exists_eq_add_of_le hn.1
    have hk : k < m := by omega
    exact (put1_hit g u hm hv ⟨k, by omega⟩ hk).trans (hu ⟨k, by omega⟩ hk)
  · exact (put1_miss g u hm hv (by omega)).trans (h.resolve_left hn)

theorem put2_hit (g : ℕ → ℕ → F .f32) {v : IVec S16 32} (u : Vec F S16 .f32) {c q : ℕ} (hq : q < 2 ^ 32)
    (hv : ∀ k : Fin 16, (v (lane k)).toNat = c + k.val) (k₀ : Fin 16) :
    put2 g v (kon q) u (c + k₀.val) q = u (lane k₀) := by
  unfold put2
  have hq' : (BitVec.ofNat 32 q).toNat = q := by rw [BitVec.toNat_ofNat]; exact Nat.mod_eq_of_lt hq
  exact foldl_hit (fun k => c + k₀.val = (v (lane k)).toNat ∧ q = (BitVec.ofNat 32 q).toNat) (fun k => u (lane k)) k₀
    (fun k => ⟨fun ⟨h1, _⟩ => by have := hv k; exact Fin.ext (by omega),
      fun e => by subst e; exact ⟨(hv k).symm, hq'.symm⟩⟩) _ _ (.inl (List.mem_finRange k₀))

theorem put2_miss (g : ℕ → ℕ → F .f32) {v : IVec S16 32} (u : Vec F S16 .f32) {c q : ℕ} (hq : q < 2 ^ 32)
    (hv : ∀ k : Fin 16, (v (lane k)).toNat = c + k.val) {n p : ℕ} (hn : n < c ∨ c + 16 ≤ n ∨ p ≠ q) :
    put2 g v (kon q) u n p = g n p := by
  unfold put2
  have hq' : (BitVec.ofNat 32 q).toNat = q := by rw [BitVec.toNat_ofNat]; exact Nat.mod_eq_of_lt hq
  exact foldl_miss (fun k => n = (v (lane k)).toNat ∧ p = (BitVec.ofNat 32 q).toNat) (fun k => u (lane k))
    (fun k ⟨h1, h2⟩ => by have := hv k; have := k.isLt; omega) _ _

/-! ## The tables -/

theorem mask_lt {v : IVec S16 32} {n B : ℕ} (hn : n < 2 ^ 31) (hB : B ≤ 2 ^ 31) (h : Below v B) (l : S16.Idx) :
    cmpi .slt v (kon n) l = 1 ↔ (v l).toNat < n := by
  show BitVec.ofBool ((v l).slt (BitVec.ofNat 32 n)) = 1#1 ↔ _
  have := h l
  have e : (v l).slt (BitVec.ofNat 32 n) = decide ((v l).toNat < n) := by
    rw [BitVec.slt_eq_decide, BitVec.toInt_eq_toNat_cond, BitVec.toInt_eq_toNat_cond]
    simp only [BitVec.toNat_ofNat]
    rw [if_pos (by omega), if_pos (by omega)]
    rw [Nat.mod_eq_of_lt (by omega)]
    simp
  rw [e]
  by_cases hh : (v l).toNat < n <;> simp [hh]

/-- The greatest of six, kept left to right. -/
abbrev maxS (z : ℕ → F .f32) : F .f32 :=
  FloatOps.maximumf (FloatOps.maximumf (FloatOps.maximumf (FloatOps.maximumf (FloatOps.maximumf (z 0) (z 1)) (z 2)) (z 3)) (z 4)) (z 5)

/-- Six summed, left to right. -/
abbrev sumS (e : ℕ → F .f32) : F .f32 :=
  FloatOps.addf (FloatOps.addf (FloatOps.addf (FloatOps.addf (FloatOps.addf (e 0) (e 1)) (e 2)) (e 3)) (e 4)) (e 5)

/-- The first class's softmax of six logits. -/
def softS (z : ℕ → F .f32) : F .f32 :=
  FloatOps.divf (FloatOps.exp (FloatOps.subf (z 0) (maxS z))) (sumS fun k => FloatOps.exp (FloatOps.subf (z k) (maxS z)))

/-- The weights followed by both opponents' probabilities of the first class, action by action. -/
def weightS (Z : ℕ → ℕ → F .f32) (W : ℕ → F .f32) (n : ℕ) : F .f32 :=
  if n < 72 then W n else if n < 78 then softS fun k => Z k (n - 72) else softS fun k => Z (6 + k) (n - 78)

/-- The table over pairs: six classes' logits of a pair of actions, and the pair's weight. -/
def pairS (V : ℕ → F .f32) (n : ℕ) : F .f32 :=
  if n < 216 then FloatOps.addf (V (6 * (n / 36) + n % 36 / 6)) (V (36 + 6 * (n / 36) + n % 36 % 6))
  else FloatOps.mulf (V (72 + (n - 216) / 6)) (V (78 + (n - 216) % 6))

theorem toNat_kon {n : ℕ} (h : n < 2 ^ 32) (l : S16.Idx) : (kon n l).toNat = n := by
  show (BitVec.ofNat 32 n).toNat = n
  rw [BitVec.toNat_ofNat]; exact Nat.mod_eq_of_lt h

theorem softV_lane (Z : ℕ → ℕ → F .f32) {r : ℕ} (hr : r + 5 < 2 ^ 32) (k : Fin 16) (hk : k.val < 6) :
    softV (sixV Z r rows) (lane k) = softS fun c => Z (r + c) k.val := by
  have e : ∀ n, n < 2 ^ 32 → gat2 Z (kon n) rows (lane k) = Z n k.val := fun n hn => by
    show Z (kon n (lane k)).toNat (rows (lane k)).toNat = _
    rw [toNat_kon hn, toNat_rows, ofLane_val, Nat.min_eq_left (by omega)]
  show FloatOps.divf (FloatOps.exp (FloatOps.subf (gat2 Z (kon r) rows (lane k)) _)) _ = _
  unfold softS
  have h0 := e r (by omega); have h1 := e (r + 1) (by omega); have h2 := e (r + 2) (by omega)
  have h3 := e (r + 3) (by omega); have h4 := e (r + 4) (by omega); have h5 := e (r + 5) (by omega)
  show FloatOps.divf (FloatOps.exp (FloatOps.subf (gat2 Z (kon r) rows (lane k))
      (maxS fun c => match c with
        | 0 => gat2 Z (kon r) rows (lane k) | 1 => gat2 Z (kon (r + 1)) rows (lane k)
        | 2 => gat2 Z (kon (r + 2)) rows (lane k) | 3 => gat2 Z (kon (r + 3)) rows (lane k)
        | 4 => gat2 Z (kon (r + 4)) rows (lane k) | _ => gat2 Z (kon (r + 5)) rows (lane k))))
    (sumS fun c => FloatOps.exp (FloatOps.subf (match c with
        | 0 => gat2 Z (kon r) rows (lane k) | 1 => gat2 Z (kon (r + 1)) rows (lane k)
        | 2 => gat2 Z (kon (r + 2)) rows (lane k) | 3 => gat2 Z (kon (r + 3)) rows (lane k)
        | 4 => gat2 Z (kon (r + 4)) rows (lane k) | _ => gat2 Z (kon (r + 5)) rows (lane k))
      (maxS fun c => match c with
        | 0 => gat2 Z (kon r) rows (lane k) | 1 => gat2 Z (kon (r + 1)) rows (lane k)
        | 2 => gat2 Z (kon (r + 2)) rows (lane k) | 3 => gat2 Z (kon (r + 3)) rows (lane k)
        | 4 => gat2 Z (kon (r + 4)) rows (lane k) | _ => gat2 Z (kon (r + 5)) rows (lane k)))) = _
  rw [h0, h1, h2, h3, h4, h5]
  rfl

theorem probsV_eq (Z : ℕ → ℕ → F .f32) (W : ℕ → F .f32) {n : ℕ} (hn : n < 84) : probsV Z W n = weightS Z W n := by
  have hm : ∀ k : Fin 16, cmpi .slt lanes (kon 6) (lane k) = 1 ↔ k.val < 6 := fun k => by
    rw [mask_lt (by decide) (show 16 ≤ 2 ^ 31 by decide) below_lanes, toNat_lanes, ofLane_val]
  have hv : ∀ o : ℕ, o ≤ 78 → ∀ k : Fin 16, k.val < 6 → (addi (kon o) lanes (lane k)).toNat = o + k.val := fun o ho k _ => by
    rw [toNat_kon_add lanes below_lanes (by omega), toNat_lanes, ofLane_val]
  unfold probsV
  have h1 : n < 78 → probV Z 0 72 W n = weightS Z W n := fun h => by
    refine put1_keep hm (hv 72 (by omega)) (fun k hk => ?_) (by decide) ?_
    · rw [softV_lane Z (by decide) k hk]
      unfold weightS; rw [if_neg (by omega), if_pos (by omega)]
      simp only [Nat.zero_add, Nat.add_sub_cancel_left]
    · by_cases h' : n < 72
      · right; unfold weightS; rw [if_pos h']
      · left; omega
  refine put1_keep hm (hv 78 (by omega)) (fun k hk => ?_) (by decide) ?_
  · rw [softV_lane Z (by decide) k hk]
    unfold weightS; rw [if_neg (by omega), if_neg (by omega)]
    simp only [Nat.add_sub_cancel_left]
  · by_cases h' : n < 78
    · right; exact h1 h'
    · left; omega

/-- How many of sixteen pairs from `16 n` on there are. -/
abbrev cnt (n : ℕ) : ℕ := min 16 (36 - 16 * n)

theorem pmask {n : ℕ} (hn : n < 3) (k : Fin 16) : cmpi .slt (pairs n) (kon 36) (lane k) = 1 ↔ k.val < cnt n := by
  rw [mask_lt (by decide) (show 48 ≤ 2 ^ 31 by decide) (below_pairs hn), toNat_pairs hn, ofLane_val]
  have := k.isLt; have hc : cnt n = min 16 (36 - 16 * n) := rfl; omega

theorem pairLogitV_keep (V T : ℕ → F .f32) {n k : ℕ} (hn : n < 3) (hk : k < 6) {q : ℕ}
    (h : (36 * k + 16 * n ≤ q ∧ q < 36 * k + 16 * n + cnt n) ∨ T q = pairS V q) :
    pairLogitV V (pairs n) k T q = pairS V q := by
  have hc : cnt n = min 16 (36 - 16 * n) := rfl
  refine put1_keep (c := 36 * k + 16 * n) (pmask hn) (fun l _ => ?_) (fun l hl => ?_) (Nat.min_le_left _ _) h
  · rw [toNat_kon_add _ (below_pairs hn) (by omega), toNat_pairs hn, ofLane_val]; omega
  · show FloatOps.addf (V (addi (kon (6 * k)) (act1 (pairs n)) (lane l)).toNat) (V (addi (kon (36 + 6 * k)) (act2 (pairs n)) (lane l)).toNat) = _
    rw [toNat_kon_add _ (below_act1 (below_pairs hn)) (by omega), toNat_kon_add _ (below_act2 (below_pairs hn)) (by omega),
      toNat_act1 (below_pairs hn), toNat_act2 (below_pairs hn), toNat_pairs hn, ofLane_val]
    unfold pairS
    rw [if_pos (by omega)]
    have e1 : (36 * k + 16 * n + l.val) / 36 = k := by omega
    have e2 : (36 * k + 16 * n + l.val) % 36 = 16 * n + l.val := by omega
    rw [e1, e2]

theorem pairLogitsV_keep (V : ℕ → F .f32) {n : ℕ} (hn : n < 3) {q : ℕ} : ∀ (L : List ℕ) (_ : ∀ k ∈ L, k < 6) (T : ℕ → F .f32),
    ((∃ k ∈ L, 36 * k + 16 * n ≤ q ∧ q < 36 * k + 16 * n + cnt n) ∨ T q = pairS V q) →
    pairLogitsV V (pairs n) L T q = pairS V q
  | [], _, T, h => h.resolve_left (by rintro ⟨k, hk, _⟩; cases hk)
  | k :: L, hL, T, h => pairLogitsV_keep V hn L (fun k' h' => hL k' (List.mem_cons_of_mem _ h')) _ (by
      rcases h with ⟨k', hk', h⟩ | h
      · rcases List.mem_cons.1 hk' with rfl | hk'
        · exact .inr (pairLogitV_keep V T hn (hL _ List.mem_cons_self) (.inl h))
        · exact .inl ⟨k', hk', h⟩
      · exact .inr (pairLogitV_keep V T hn (hL _ List.mem_cons_self) (.inr h)))

theorem pairWeightV_keep (V T : ℕ → F .f32) {n : ℕ} (hn : n < 3) {q : ℕ}
    (h : (216 + 16 * n ≤ q ∧ q < 216 + 16 * n + cnt n) ∨ T q = pairS V q) :
    pairWeightV V (pairs n) T q = pairS V q := by
  have hc : cnt n = min 16 (36 - 16 * n) := rfl
  refine put1_keep (c := 216 + 16 * n) (pmask hn) (fun l hl => ?_) (fun l hl => ?_) (Nat.min_le_left _ _) h
  · show (IntOp.minsi (addi (kon 216) (pairs n) (lane l)) (BitVec.ofNat 32 255)).toNat = _
    have e : (addi (kon 216) (pairs n) (lane l)).toNat = 216 + 16 * n + l.val := by
      rw [toNat_kon_add _ (below_pairs hn) (by omega), toNat_pairs hn, ofLane_val]; omega
    unfold IntOp.minsi
    rw [if_pos, e]
    rw [BitVec.slt_iff_toInt_lt, BitVec.toInt_eq_toNat_cond, BitVec.toInt_eq_toNat_cond, e]
    simp only [BitVec.toNat_ofNat]
    rw [if_pos (by omega), if_pos (by decide)]
    have : l.val < cnt n := hl
    omega
  · show FloatOps.mulf (V (addi (kon 72) (act1 (pairs n)) (lane l)).toNat) (V (addi (kon 78) (act2 (pairs n)) (lane l)).toNat) = _
    rw [toNat_kon_add _ (below_act1 (below_pairs hn)) (by omega), toNat_kon_add _ (below_act2 (below_pairs hn)) (by omega),
      toNat_act1 (below_pairs hn), toNat_act2 (below_pairs hn), toNat_pairs hn, ofLane_val]
    unfold pairS
    rw [if_neg (by omega)]
    have e1 : 216 + 16 * n + l.val - 216 = 16 * n + l.val := by omega
    rw [e1]

theorem pairTableV_keep (V : ℕ → F .f32) {q : ℕ} : ∀ (L : List ℕ) (_ : ∀ n ∈ L, n < 3) (T : ℕ → F .f32),
    ((∃ n ∈ L, ∃ k < 7, 36 * k + 16 * n ≤ q ∧ q < 36 * k + 16 * n + cnt n) ∨ T q = pairS V q) →
    pairTableV V L T q = pairS V q
  | [], _, T, h => h.resolve_left (by rintro ⟨n, hn, _⟩; cases hn)
  | n :: L, hL, T, h => pairTableV_keep V L (fun k' h' => hL k' (List.mem_cons_of_mem _ h')) _ (by
      have hn := hL _ List.mem_cons_self
      rcases h with ⟨n', hn', k, hk, h⟩ | h
      · rcases List.mem_cons.1 hn' with rfl | hn'
        · right
          by_cases h6 : k < 6
          · exact pairWeightV_keep V _ hn (.inr (pairLogitsV_keep V hn _ (by decide) T
              (.inl ⟨k, by simp only [List.mem_cons, List.not_mem_nil, or_false]; omega, h⟩)))
          · obtain rfl : k = 6 := by omega
            exact pairWeightV_keep V _ hn (.inl h)
        · exact .inl ⟨n', hn', k, hk, h⟩
      · exact .inr (pairWeightV_keep V _ hn (.inr (pairLogitsV_keep V hn _ (by decide) T (.inr h)))))

/-- A table over pairs reads the weights and probabilities below 84 alone. -/
theorem pairS_congr {V V' : ℕ → F .f32} (h : ∀ n < 84, V n = V' n) {q : ℕ} (hq : q < 252) : pairS V q = pairS V' q := by
  unfold pairS
  split
  · rw [h _ (by omega), h _ (by omega)]
  · rw [h _ (by omega), h _ (by omega)]

/-- The table the tile fills, entry by entry. -/
theorem tableV_eq (Z : ℕ → ℕ → F .f32) (W T : ℕ → F .f32) {q : ℕ} (hq : q < 252) : tableV Z W T q = pairS (weightS Z W) q := by
  refine (pairTableV_keep _ _ (by decide) T (.inl ?_)).trans (pairS_congr (fun n hn => probsV_eq Z W hn) hq)
  refine ⟨q % 36 / 16, ?_, q / 36, by omega, by omega, ?_⟩
  · simp only [List.mem_cons, List.not_mem_nil, or_false]; omega
  · have : cnt (q % 36 / 16) = min 16 (36 - 16 * (q % 36 / 16)) := rfl
    omega

/-! ## The rows -/

/-- A step of the running maximum. -/
abbrev pickIS (k : ℕ) (u m : F .f32) (a : BitVec 32) : BitVec 32 :=
  Scalar.select (FloatOps.cmpf .ogt u m) (BitVec.ofNat 32 k) a

abbrev pickVS (u m : F .f32) : F .f32 := Scalar.select (FloatOps.cmpf .ogt u m) u m

/-- The class with the first greatest of six. -/
def bestS (u : ℕ → F .f32) : BitVec 32 :=
  pickIS 5 (u 5) (pickVS (u 4) (pickVS (u 3) (pickVS (u 2) (pickVS (u 1) (u 0)))))
    (pickIS 4 (u 4) (pickVS (u 3) (pickVS (u 2) (pickVS (u 1) (u 0))))
      (pickIS 3 (u 3) (pickVS (u 2) (pickVS (u 1) (u 0)))
        (pickIS 2 (u 2) (pickVS (u 1) (u 0)) (pickIS 1 (u 1) (u 0) (BitVec.ofNat 32 0)))))

/-- The sampled class: logits `z` with noise `g`. -/
abbrev classS (z g : ℕ → F .f32) : ℕ := (bestS fun k => FloatOps.addf (z k) (g k)).toNat

/-- The sums over the samples after one more pair of classes. -/
def accS (T zx : ℕ → F .f32) (p : ℕ) (A : (ℕ → F .f32) × F .f32) : (ℕ → F .f32) × F .f32 :=
  (fun c => FloatOps.addf (A.1 c) (FloatOps.mulf
      (FloatOps.divf (T (p + 216)) (sumS fun k => FloatOps.exp (FloatOps.addf (zx k) (T (p + 36 * k)))))
      (FloatOps.exp (FloatOps.addf (zx c) (T (p + 36 * c))))),
    FloatOps.addf A.2 (T (p + 216)))

/-- A row's result at class `c`: its twenty-four logits `z`, the noises `g1 s k` and `g2 s k`, the table over pairs. -/
def rowS (z : ℕ → F .f32) (g1 g2 : ℕ → ℕ → F .f32) (T : ℕ → F .f32) (c : ℕ) : F .f32 :=
  let A := (List.range 18).foldl (fun A s => accS T (fun k => z (12 + k))
      (6 * classS z (g1 s) + classS (fun k => z (6 + k)) (g2 s)) A)
    (fun _ => Scalar.ofBits .f32 0x00000000#32, Scalar.ofBits .f32 0x00000000#32)
  FloatOps.mulf (A.1 c) (FloatOps.divf (Scalar.ofBits .f32 0x3F800000#32) A.2)

/-- Sums of vectors, read at a lane. -/
def AtLane (A : Acc F) (l : S16.Idx) (S : (ℕ → F .f32) × F .f32) : Prop :=
  (A.a.a0 l = S.1 0 ∧ A.a.a1 l = S.1 1 ∧ A.a.a2 l = S.1 2 ∧ A.a.a3 l = S.1 3 ∧ A.a.a4 l = S.1 4 ∧ A.a.a5 l = S.1 5) ∧ A.w l = S.2

/-- Six vectors, read at a lane. -/
def SixAt (z : Six (FVec F S16 .f32)) (l : S16.Idx) (s : ℕ → F .f32) : Prop :=
  z.a0 l = s 0 ∧ z.a1 l = s 1 ∧ z.a2 l = s 2 ∧ z.a3 l = s 3 ∧ z.a4 l = s 4 ∧ z.a5 l = s 5

theorem sixV_at (Z : ℕ → ℕ → F .f32) {r : ℕ} (hr : r + 5 < 2 ^ 32) (b : IVec S16 32) (l : S16.Idx) :
    SixAt (sixV Z r b) l (fun k => Z (r + k) (b l).toNat) := by
  have e : ∀ n, n < 2 ^ 32 → gat2 Z (kon n) b l = Z n (b l).toNat := fun n hn => by
    show Z (kon n l).toNat (b l).toNat = _
    rw [toNat_kon hn]
  exact ⟨e _ (by omega), e _ (by omega), e _ (by omega), e _ (by omega), e _ (by omega), e _ (by omega)⟩

theorem bestV_at {u : Six (FVec F S16 .f32)} {l : S16.Idx} {s : ℕ → F .f32} (h : SixAt u l s) : bestV u l = bestS s := by
  obtain ⟨h0, h1, h2, h3, h4, h5⟩ := h
  unfold bestS
  rw [← h0, ← h1, ← h2, ← h3, ← h4, ← h5]
  rfl

theorem scanV_at {G : ℕ → F .f32} {b : IVec S16 32} {s : ℕ} (hb : Below b 128) (hs : s < 18) {z : Six (FVec F S16 .f32)} {l : S16.Idx}
    {zs : ℕ → F .f32} (h : SixAt z l zs) :
    (scanV G b s z l).toNat = classS zs (fun k => G (768 * s + 128 * k + (b l).toNat)) := by
  obtain ⟨h0, h1, h2, h3, h4, h5⟩ := h
  have e : ∀ n, n ≤ 14000 → gat1 G (addi b (kon n)) l = G (n + (b l).toNat) := fun n hn => by
    show G (addi b (kon n) l).toNat = _
    rw [toNat_add_kon b hb (by omega), Nat.add_comm]
  have key : ∀ (x : FVec F S16 .f32) (y : F .f32) (n m : ℕ), x l = y → n ≤ 14000 → n = m →
      addf x (gat1 G (addi b (kon n)) : FVec F S16 .f32) l = FloatOps.addf y (G (m + (b l).toNat)) := by
    rintro x y n m rfl hn rfl
    exact congrArg (FloatOps.addf (x l)) (e n hn)
  unfold scanV classS
  rw [bestV_at (s := fun k => FloatOps.addf (zs k) (G (768 * s + 128 * k + (b l).toNat)))]
  exact ⟨key _ _ _ _ h0 (by omega) rfl, key _ _ _ _ h1 (by omega) rfl, key _ _ _ _ h2 (by omega) rfl,
    key _ _ _ _ h3 (by omega) rfl, key _ _ _ _ h4 (by omega) rfl, key _ _ _ _ h5 (by omega) rfl⟩

theorem accV_at {T : ℕ → F .f32} {p : IVec S16 32} (hp : Below p 36) {zx : Six (FVec F S16 .f32)} {l : S16.Idx} {zs : ℕ → F .f32}
    (hz : SixAt zx l zs) {A : Acc F} {S : (ℕ → F .f32) × F .f32} (hA : AtLane A l S) :
    AtLane (accV T p zx A) l (accS T zs (p l).toNat S) := by
  obtain ⟨h0, h1, h2, h3, h4, h5⟩ := hz
  obtain ⟨⟨a0, a1, a2, a3, a4, a5⟩, aw⟩ := hA
  have e : ∀ n, n ≤ 1000 → gat1 T (addi p (kon n)) l = T ((p l).toNat + n) := fun n hn => by
    show T (addi p (kon n) l).toNat = _
    rw [toNat_add_kon p hp (by omega)]
  have key : ∀ (x : FVec F S16 .f32) (c : ℕ), x l = zs c → c ≤ 5 → ∀ n, n = 36 * c →
      exp (addf x (gat1 T (addi p (kon n)) : FVec F S16 .f32)) l = FloatOps.exp (FloatOps.addf (zs c) (T ((p l).toNat + 36 * c))) := by
    rintro x c hx hc n rfl
    rw [← hx, ← e _ (by omega)]; rfl
  have k0 := key _ 0 h0 (by omega) 0 rfl
  have k1 := key _ 1 h1 (by omega) 36 rfl
  have k2 := key _ 2 h2 (by omega) 72 rfl
  have k3 := key _ 3 h3 (by omega) 108 rfl
  have k4 := key _ 4 h4 (by omega) 144 rfl
  have k5 := key _ 5 h5 (by omega) 180 rfl
  have kw := e 216 (by omega)
  have hs := congrArg₂ FloatOps.addf (congrArg₂ FloatOps.addf (congrArg₂ FloatOps.addf
    (congrArg₂ FloatOps.addf (congrArg₂ FloatOps.addf k0 k1) k2) k3) k4) k5
  have hr := congrArg₂ FloatOps.divf kw hs
  exact ⟨⟨congrArg₂ FloatOps.addf a0 (congrArg₂ FloatOps.mulf hr k0), congrArg₂ FloatOps.addf a1 (congrArg₂ FloatOps.mulf hr k1),
    congrArg₂ FloatOps.addf a2 (congrArg₂ FloatOps.mulf hr k2), congrArg₂ FloatOps.addf a3 (congrArg₂ FloatOps.mulf hr k3),
    congrArg₂ FloatOps.addf a4 (congrArg₂ FloatOps.mulf hr k4), congrArg₂ FloatOps.addf a5 (congrArg₂ FloatOps.mulf hr k5)⟩,
    congrArg₂ FloatOps.addf aw kw⟩

theorem samplesV_at {G1 G2 T : ℕ → F .f32} {b : IVec S16 32} (hb : Below b 128) {z1 z2 zx : Six (FVec F S16 .f32)} {l : S16.Idx}
    {s1 s2 sx : ℕ → F .f32} (h1 : SixAt z1 l s1) (h2 : SixAt z2 l s2) (hx : SixAt zx l sx) :
    ∀ (L : List ℕ) (_ : ∀ s ∈ L, s < 18) (A : Acc F) (S : (ℕ → F .f32) × F .f32) (_ : AtLane A l S),
      AtLane (samplesV G1 G2 T b z1 z2 zx L A) l
        (L.foldl (fun S s => accS T sx (6 * classS s1 (fun k => G1 (768 * s + 128 * k + (b l).toNat))
          + classS s2 (fun k => G2 (768 * s + 128 * k + (b l).toNat))) S) S)
  | [], _, A, S, h => h
  | s :: L, hL, A, S, h => by
    refine samplesV_at hb h1 h2 hx L (fun s' h' => hL s' (List.mem_cons_of_mem _ h')) _ _ ?_
    have hs := hL s List.mem_cons_self
    have := accV_at (T := T) (below_pairAt (below_bestV _) (below_bestV _)) hx h (p := pairAt (scanV G1 b s z1) (scanV G2 b s z2))
    rw [toNat_pairAt (a := scanV G1 b s z1) (c := scanV G2 b s z2) (below_bestV _) (below_bestV _), scanV_at hb hs h1,
      scanV_at hb hs h2] at this
    exact this

/-- The trip's row vectors. -/
theorem toNat_blk (j : Fin k1_t1_loop.trips) (l : S16.Idx) : (blk j l).toNat = 16 * j.val + (l 0).val := by
  have hj : j.val < 8 := j.isLt
  show (Scalar.muli (Scf.iv 0#32 1#32 j) 16#32 + lanes l).toNat = _
  rw [BitVec.toNat_add, toNat_lanes]
  have := lane_lt l
  have e : (Scalar.muli (Scf.iv 0#32 1#32 j) 16#32).toNat = 16 * j.val := by
    show ((0#32 + BitVec.ofNat 32 j.val * 1#32) * 16#32).toNat = _
    simp only [BitVec.toNat_mul, BitVec.toNat_add, BitVec.toNat_ofNat]
    omega
  rw [e]; omega

theorem below_blk (j : Fin k1_t1_loop.trips) : Below (blk j) 128 := fun l => by
  have hj : j.val < 8 := j.isLt
  rw [toNat_blk]; have := lane_lt l; omega

/-- A row's result from the tile's block of logits and its noise. -/
abbrev tileRow (Z : ℕ → ℕ → F .f32) (G1 G2 T : ℕ → F .f32) (r c : ℕ) : F .f32 :=
  rowS (fun k => Z k r) (fun s k => G1 (768 * s + 128 * k + r)) (fun s k => G2 (768 * s + 128 * k + r)) T c

/-- A trip of the loop puts its sixteen rows' results and leaves the others. -/
theorem tripV_eq (Z : ℕ → ℕ → F .f32) (G1 G2 T : ℕ → F .f32) (j : Fin k1_t1_loop.trips) (O : ℕ → ℕ → F .f32) {r c : ℕ} (hc : c < 6)
    (h : (16 * j.val ≤ r ∧ r < 16 * j.val + 16) ∨ O r c = tileRow Z G1 G2 T r c) :
    tripV Z G1 G2 T (blk j) O r c = tileRow Z G1 G2 T r c := by
  have hv : ∀ k : Fin 16, (blk j (lane k)).toNat = 16 * j.val + k.val := fun k => toNat_blk j _
  unfold tripV
  by_cases hr : 16 * j.val ≤ r ∧ r < 16 * j.val + 16
  · obtain ⟨k, rfl⟩ := Nat.exists_eq_add_of_le hr.1
    have hA := samplesV_at (G1 := G1) (G2 := G2) (T := T) (below_blk j)
      (sixV_at Z (r := 0) (by decide) (blk j) (lane ⟨k, by omega⟩)) (sixV_at Z (r := 6) (by decide) (blk j) (lane ⟨k, by omega⟩))
      (sixV_at Z (r := 12) (by decide) (blk j) (lane ⟨k, by omega⟩))
      [0, 1, 2, 3, 4, 5, 6, 7, 8, 9, 10, 11, 12, 13, 14, 15, 16, 17] (by decide) acc0
      (fun _ => Scalar.ofBits .f32 0x00000000#32, Scalar.ofBits .f32 0x00000000#32) ⟨⟨rfl, rfl, rfl, rfl, rfl, rfl⟩, rfl⟩
    rw [hv ⟨k, by omega⟩] at hA
    simp only [Nat.zero_add] at hA
    obtain ⟨⟨a0, a1, a2, a3, a4, a5⟩, aw⟩ := hA
    have hit := fun (O : ℕ → ℕ → F .f32) (u : FVec F S16 .f32) (q : ℕ) (hq : q < 2 ^ 32) =>
      put2_hit O u hq hv (⟨k, by omega⟩ : Fin 16)
    have miss := fun (O : ℕ → ℕ → F .f32) (u : FVec F S16 .f32) (q p : ℕ) (hq : q < 2 ^ 32) (hp : p ≠ q) =>
      put2_miss O u hq hv (n := 16 * j.val + k) (p := p) (.inr (.inr hp))
    have fin := fun (x : FVec F S16 .f32) (c : ℕ) (hx : x (lane ⟨k, by omega⟩) = _) =>
      (congrArg₂ FloatOps.mulf hx (congrArg (FloatOps.divf (Scalar.ofBits .f32 0x3F800000#32)) aw) :
        FloatOps.mulf (x (lane ⟨k, by omega⟩)) (FloatOps.divf (Scalar.ofBits .f32 0x3F800000#32) _) = tileRow Z G1 G2 T (16 * j.val + k) c)
    match c, hc with
    | 0, _ =>
      rw [miss _ _ _ _ (by decide) (by decide), miss _ _ _ _ (by decide) (by decide), miss _ _ _ _ (by decide) (by decide),
        miss _ _ _ _ (by decide) (by decide), miss _ _ _ _ (by decide) (by decide)]
      exact (hit _ _ _ (by decide)).trans (fin _ 0 a0)
    | 1, _ =>
      rw [miss _ _ _ _ (by decide) (by decide), miss _ _ _ _ (by decide) (by decide), miss _ _ _ _ (by decide) (by decide),
        miss _ _ _ _ (by decide) (by decide)]
      exact (hit _ _ _ (by decide)).trans (fin _ 1 a1)
    | 2, _ =>
      rw [miss _ _ _ _ (by decide) (by decide), miss _ _ _ _ (by decide) (by decide), miss _ _ _ _ (by decide) (by decide)]
      exact (hit _ _ _ (by decide)).trans (fin _ 2 a2)
    | 3, _ =>
      rw [miss _ _ _ _ (by decide) (by decide), miss _ _ _ _ (by decide) (by decide)]
      exact (hit _ _ _ (by decide)).trans (fin _ 3 a3)
    | 4, _ =>
      rw [miss _ _ _ _ (by decide) (by decide)]
      exact (hit _ _ _ (by decide)).trans (fin _ 4 a4)
    | 5, _ => exact (hit _ _ _ (by decide)).trans (fin _ 5 a5)
  · have miss := fun (O : ℕ → ℕ → F .f32) (u : FVec F S16 .f32) (q : ℕ) (hq : q < 2 ^ 32) =>
      put2_miss O u hq hv (n := r) (p := c) (by omega)
    rw [miss _ _ _ (by decide), miss _ _ _ (by decide), miss _ _ _ (by decide), miss _ _ _ (by decide), miss _ _ _ (by decide),
      miss _ _ _ (by decide)]
    exact h.resolve_left hr

/-- A row's result reads the table below 252 alone. -/
theorem rowS_congr {z : ℕ → F .f32} {g1 g2 : ℕ → ℕ → F .f32} {T T' : ℕ → F .f32} (h : ∀ n < 252, T n = T' n) {c : ℕ} (hc : c < 6) :
    rowS z g1 g2 T c = rowS z g1 g2 T' c := by
  have hb : ∀ u : ℕ → F .f32, (bestS u).toNat < 6 := fun u => by
    have : bestS u = bestV (⟨fun _ => u 0, fun _ => u 1, fun _ => u 2, fun _ => u 3, fun _ => u 4, fun _ => u 5⟩ : Six (FVec F S16 .f32)) (lane 0) :=
      (bestV_at ⟨rfl, rfl, rfl, rfl, rfl, rfl⟩).symm
    rw [this]; exact below_bestV _ _
  have key : ∀ (p : ℕ → ℕ) (_ : ∀ s, p s < 36) (zx : ℕ → F .f32) (L : List ℕ) (S S' : (ℕ → F .f32) × F .f32),
      ((∀ c < 6, S.1 c = S'.1 c) ∧ S.2 = S'.2) →
      (∀ c < 6, (L.foldl (fun A s => accS T zx (p s) A) S).1 c = (L.foldl (fun A s => accS T' zx (p s) A) S').1 c)
        ∧ (L.foldl (fun A s => accS T zx (p s) A) S).2 = (L.foldl (fun A s => accS T' zx (p s) A) S').2 := by
    intro p hp zx L
    induction L with
    | nil => intro S S' h; exact h
    | cons s L ih =>
      intro S S' hS
      refine ih _ _ ?_
      have := hp s
      have hw : T (p s + 216) = T' (p s + 216) := h _ (by omega)
      have he : ∀ k < 6, T (p s + 36 * k) = T' (p s + 36 * k) := fun k hk => h _ (by omega)
      have hsum : (sumS fun k => FloatOps.exp (FloatOps.addf (zx k) (T (p s + 36 * k))))
          = sumS fun k => FloatOps.exp (FloatOps.addf (zx k) (T' (p s + 36 * k))) := by
        show FloatOps.addf _ _ = FloatOps.addf _ _
        simp only []
        rw [he 0 (by omega), he 1 (by omega), he 2 (by omega), he 3 (by omega), he 4 (by omega), he 5 (by omega)]
      unfold accS
      refine ⟨fun c hc => ?_, ?_⟩
      · show FloatOps.addf (S.1 c) _ = FloatOps.addf (S'.1 c) _
        rw [hS.1 c hc, hw, hsum, he c hc]
      · show FloatOps.addf S.2 _ = FloatOps.addf S'.2 _
        rw [hS.2, hw]
  have := key (fun s => 6 * classS z (g1 s) + classS (fun k => z (6 + k)) (g2 s))
    (fun s => by
      have := hb (fun k => FloatOps.addf (z k) (g1 s k))
      have := hb (fun k => FloatOps.addf (z (6 + k)) (g2 s k))
      show 6 * (bestS fun k => FloatOps.addf (z k) (g1 s k)).toNat + (bestS fun k => FloatOps.addf (z (6 + k)) (g2 s k)).toNat < 36
      omega)
    (fun k => z (12 + k)) (List.range 18) (fun _ => Scalar.ofBits .f32 0x00000000#32, Scalar.ofBits .f32 0x00000000#32)
    (fun _ => Scalar.ofBits .f32 0x00000000#32, Scalar.ofBits .f32 0x00000000#32) ⟨fun c _ => rfl, rfl⟩
  unfold rowS
  exact congrArg₂ FloatOps.mulf (this.1 c hc) (congrArg _ this.2)

end Cert.KernelIdeal.Model
-- ==== Proof.BodyEq.lean ====
/- The printed kernel is the program over its tables and its loop, operation by operation. -/
module

public import proofs.«01_k».proof.Proof.Tables

@[expose] public section

noncomputable section

namespace Cert.KernelIdeal.Model

open Idealize.ShloMosaic Idealize.SL.Sem Cert.KernelIdeal Cert.KernelIdeal.Gen

variable {F : FTy → Type} [FloatOps F]
variable (i : grid1.Coords)

set_option maxRecDepth 65536 in
set_option maxHeartbeats 0 in
theorem body_eq (a2 : Memref sig .scVector .hbm S24x4096 .f32) (h2 : a2.IsWhole) (a3 : Memref sig .scVector .hbm S442368 .f32) (h3 : a3.IsWhole) (a4 : Memref sig .scVector .hbm S442368 .f32) (h4 : a4.IsWhole) (a5 : Memref sig .scVector .hbm S96 .f32) (h5 : a5.IsWhole) (a6 : Memref sig .scVector .hbm S4096x6 .f32) (h6 : a6.IsWhole) (a7 : Memref sig .scVector .vmem S24x128 .f32) (h7 : a7.IsWhole) (a8 : Memref sig .scVector .vmem S13824 .f32) (h8 : a8.IsWhole) (a9 : Memref sig .scVector .vmem S13824 .f32) (h9 : a9.IsWhole) (a10 : Memref sig .scVector .vmem S96 .f32) (h10 : a10.IsWhole) (a11 : Memref sig .scVector .vmem S256 .f32) (h11 : a11.IsWhole) (a12 : Memref sig .scVector .vmem S128x6 .f32) (h12 : a12.IsWhole) (a13 : Memref sig .scVector .vmem S24x128 .f32) (h13 : a13.IsWhole) (q0 q1 q2 q3 q4 q5 : DmaSems sig S_)
    :
    cc1__sc_body_skel (F := F) i a2 h2 a3 h3 a4 h4 a5 h5 a6 h6 a7 h7 a8 h8 a9 h9 a10 h10 a11 h11 a12 h12 a13 h13 q0 q1 q2 q3 q4 q5
    = body i (k1_t1_body (F := F) i a2 h2 a3 h3 a4 h4 a5 h5 a6 h6 a7 h7 a8 h8 a9 h9 a10 h10 a11 h11 a12 h12 a13 h13 q0 q1 q2 q3 q4 q5 lanes)
        a2 a3 a4 a5 h5 a6 a7 h7 a8 h8 a9 h9 a10 h10 a11 a12 h12 a13 h13 q0 q1 q2 q3 q4 q5 := by
  iterate 187 (refine op_congr fun _ => ?_)
  rfl

end Cert.KernelIdeal.Model
-- ==== Proof.Trip.lean ====
/- The printed trip of the loop is the program over samples, operation by operation. -/
module

public import proofs.«01_k».proof.Proof.Model

@[expose] public section

noncomputable section

namespace Cert.KernelIdeal.Model

open Idealize.ShloMosaic Idealize.SL.Sem Cert.KernelIdeal Cert.KernelIdeal.Gen

variable {F : FTy → Type} [FloatOps F]
variable (i : grid1.Coords)

set_option maxRecDepth 65536 in
set_option maxHeartbeats 0 in
theorem trip_eq (a2 : Memref sig .scVector .hbm S24x4096 .f32) (h2 : a2.IsWhole) (a3 : Memref sig .scVector .hbm S442368 .f32) (h3 : a3.IsWhole) (a4 : Memref sig .scVector .hbm S442368 .f32) (h4 : a4.IsWhole) (a5 : Memref sig .scVector .hbm S96 .f32) (h5 : a5.IsWhole) (a6 : Memref sig .scVector .hbm S4096x6 .f32) (h6 : a6.IsWhole) (a7 : Memref sig .scVector .vmem S24x128 .f32) (h7 : a7.IsWhole) (a8 : Memref sig .scVector .vmem S13824 .f32) (h8 : a8.IsWhole) (a9 : Memref sig .scVector .vmem S13824 .f32) (h9 : a9.IsWhole) (a10 : Memref sig .scVector .vmem S96 .f32) (h10 : a10.IsWhole) (a11 : Memref sig .scVector .vmem S256 .f32) (h11 : a11.IsWhole) (a12 : Memref sig .scVector .vmem S128x6 .f32) (h12 : a12.IsWhole) (a13 : Memref sig .scVector .vmem S24x128 .f32) (h13 : a13.IsWhole) (q0 q1 q2 q3 q4 q5 : DmaSems sig S_)
    (v5 : IVec S16 32) (j : Fin k1_t1_loop.trips) :
    k1_t1_body (F := F) i a2 h2 a3 h3 a4 h4 a5 h5 a6 h6 a7 h7 a8 h8 a9 h9 a10 h10 a11 h11 a12 h12 a13 h13 q0 q1 q2 q3 q4 q5 v5 j ()
    = trip i a7 a8 a9 a11 a12 (k1_pay13 v5 0#32 1#32 j) := by
  iterate 738 (refine op_congr fun _ => ?_)
  rfl

end Cert.KernelIdeal.Model
-- ==== Proof.Tile.lean ====
/- A tile's program: five copies in, the tables, eight trips, the copy out; the tile's block of the result. -/
module

public import proofs.«01_k».proof.Proof.Rows
public import proofs.«01_k».proof.Proof.BodyEq
public import proofs.«01_k».proof.Proof.Trip

@[expose] public section

noncomputable section

namespace Cert.KernelIdeal.Model

open Idealize.ShloMosaic Cert.KernelIdeal Cert.KernelIdeal.Gen
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type}

local notation "𝕄" => MM F

/-! ## Places in arrays as numbers -/

/-- The place of a vector with the given number. -/
def at1 {b : Fin 1 → Nat} (h : ∀ a, 0 < b a) (x : ℕ) : (⟨1, b⟩ : Shape).Idx := fun a => ⟨x % b a, Nat.mod_lt _ (h a)⟩

/-- The place of a matrix with the given row and column. -/
def at2 {b : Fin 2 → Nat} (h : ∀ a, 0 < b a) (x y : ℕ) : (⟨2, b⟩ : Shape).Idx :=
  fun a => ⟨(![x, y] : Fin 2 → ℕ) a % b a, Nat.mod_lt _ (h a)⟩

theorem at1_eq {b : Fin 1 → Nat} (h : ∀ a, 0 < b a) (y : (⟨1, b⟩ : Shape).Idx) {x : ℕ} (e : x = (y 0).val) : at1 h x = y := by
  subst e
  funext a
  obtain rfl : a = 0 := Subsingleton.elim _ _
  exact Fin.ext (Nat.mod_eq_of_lt (y 0).isLt)

theorem at2_eq {b : Fin 2 → Nat} (h : ∀ a, 0 < b a) (z : (⟨2, b⟩ : Shape).Idx) {x y : ℕ} (e : x = (z 0).val) (e' : y = (z 1).val) :
    at2 h x y = z := by
  subst e e'
  funext a
  match a with
  | 0 => exact Fin.ext (Nat.mod_eq_of_lt (z 0).isLt)
  | 1 => exact Fin.ext (Nat.mod_eq_of_lt (z 1).isLt)

theorem pos_z : ∀ a, 0 < S24x4096.size a := by decide
theorem pos_n : ∀ a, 0 < S442368.size a := by decide
theorem pos_w : ∀ a, 0 < S96.size a := by decide
theorem pos_p : ∀ a, 0 < S256.size a := by decide
theorem pos_o : ∀ a, 0 < S128x6.size a := by decide

variable [FloatOps F]

/-- Block `w` of the logits, the noise of block `w`, the weights. -/
abbrev zB (fz : S24x4096.Idx → F .f32) (w : ℕ) : ℕ → ℕ → F .f32 := fun k r => fz (at2 pos_z k (128 * w + r))
abbrev nB (f : S442368.Idx → F .f32) (w : ℕ) : ℕ → F .f32 := fun n => f (at1 pos_n (13824 * w + n))
abbrev wB (fw : S96.Idx → F .f32) : ℕ → F .f32 := fun n => fw (at1 pos_w n)

/-- The table over pairs: from the first block's logits and the weights. -/
abbrev tabF (fz : S24x4096.Idx → F .f32) (fw : S96.Idx → F .f32) : ℕ → F .f32 := pairS (weightS (zB fz 0) (wB fw))

/-- The result: row `n` belongs to block `n / 128`, whose logits and noise it reads. -/
def outF (fz : S24x4096.Idx → F .f32) (f1 f2 : S442368.Idx → F .f32) (fw : S96.Idx → F .f32) : S4096x6.Idx → F .f32 := fun x =>
  tileRow (zB fz ((x 0).val / 128)) (nB f1 ((x 0).val / 128)) (nB f2 ((x 0).val / 128)) (tabF fz fw) ((x 0).val % 128) (x 1).val

/-! ## The buffers -/

abbrev zLoc (d : Dev nD) : Loc nD τ sig := (SparseCore.T d).loc main_v3
abbrev n1Loc (d : Dev nD) : Loc nD τ sig := (SparseCore.T d).loc main_v12
abbrev n2Loc (d : Dev nD) : Loc nD τ sig := (SparseCore.T d).loc main_v15
abbrev wLoc (d : Dev nD) : Loc nD τ sig := (SparseCore.T d).loc main_v9
abbrev oLoc (d : Dev nD) : Loc nD τ sig := (SparseCore.T d).loc main_v16

local notation "zM" => (Memref.whole Cert.KernelIdeal.main_v3_scv : Memref Cert.KernelIdeal.sig Kind.scVector Space.hbm Cert.KernelIdeal.S24x4096 EltTy.f32)
local notation "n1M" => (Memref.whole Cert.KernelIdeal.main_v12_scv : Memref Cert.KernelIdeal.sig Kind.scVector Space.hbm Cert.KernelIdeal.S442368 EltTy.f32)
local notation "n2M" => (Memref.whole Cert.KernelIdeal.main_v15_scv : Memref Cert.KernelIdeal.sig Kind.scVector Space.hbm Cert.KernelIdeal.S442368 EltTy.f32)
local notation "wM" => (Memref.whole Cert.KernelIdeal.main_v9_scv : Memref Cert.KernelIdeal.sig Kind.scVector Space.hbm Cert.KernelIdeal.S96 EltTy.f32)
local notation "oM" => (Memref.whole Cert.KernelIdeal.main_v16_scv : Memref Cert.KernelIdeal.sig Kind.scVector Space.hbm Cert.KernelIdeal.S4096x6 EltTy.f32)
local notation "b0" => (Memref.whole Cert.KernelIdeal.cc1_scratch0 : Memref Cert.KernelIdeal.sig Kind.scVector Space.vmem Cert.KernelIdeal.S24x128 EltTy.f32)
local notation "b1" => (Memref.whole Cert.KernelIdeal.cc1_scratch1 : Memref Cert.KernelIdeal.sig Kind.scVector Space.vmem Cert.KernelIdeal.S13824 EltTy.f32)
local notation "b2" => (Memref.whole Cert.KernelIdeal.cc1_scratch2 : Memref Cert.KernelIdeal.sig Kind.scVector Space.vmem Cert.KernelIdeal.S13824 EltTy.f32)
local notation "b3" => (Memref.whole Cert.KernelIdeal.cc1_scratch3 : Memref Cert.KernelIdeal.sig Kind.scVector Space.vmem Cert.KernelIdeal.S96 EltTy.f32)
local notation "b4" => (Memref.whole Cert.KernelIdeal.cc1_scratch4 : Memref Cert.KernelIdeal.sig Kind.scVector Space.vmem Cert.KernelIdeal.S256 EltTy.f32)
local notation "b5" => (Memref.whole Cert.KernelIdeal.cc1_scratch5 : Memref Cert.KernelIdeal.sig Kind.scVector Space.vmem Cert.KernelIdeal.S128x6 EltTy.f32)
local notation "b6" => (Memref.whole Cert.KernelIdeal.cc1_scratch6 : Memref Cert.KernelIdeal.sig Kind.scVector Space.vmem Cert.KernelIdeal.S24x128 EltTy.f32)

theorem odiv : 32 ∣ S4096x6.size 0 := ⟨128, rfl⟩
/-- Block `j` of the result's rows. -/
abbrev oRow (j : Fin 32) : Rect S4096x6 := Rect.part (s := S4096x6) (a₀ := 0) odiv j
abbrev oSet (j : Fin 32) : Finset S4096x6.Idx := (oRow j).set

/-- A tile's block. -/
def wid (i : grid1.Coords) : Fin 32 :=
  ⟨2 * (i 1).val + (i 0).val, by have h0 : (i 0).val < 2 := (i 0).isLt; have h1 : (i 1).val < 16 := (i 1).isLt; omega⟩

section Tile

variable (d : Dev nD) (i : grid1.Coords)

abbrev cV (i : grid1.Coords) : Fin τ.nSC := (i 0).castLE hcore1
abbrev jV (i : grid1.Coords) : Fin τ.nSub := (i 1).castLE hsub1

abbrev oK : Memref sig .scVector .hbm S128x6 .f32 :=
  (oM).slice (Rect.unit (s := S4096x6) (k1_off3 i) S128x6.size (k1_off3_inb i)) (fun _ => rfl)

theorem oK_rect : Rect.unit (s := S4096x6) (k1_off3 i) S128x6.size (k1_off3_inb i) = oRow (wid i) := by
  unfold oRow Rect.part Rect.block
  congr 1 <;> funext a
  · rw [k1_off3_eq]
    match a with
    | 0 => simp [Shape.partIx, Shape.partSize, wid]; omega
    | 1 => simp [Shape.partIx, Shape.partSize]
  · match a with
    | 0 => simp [Shape.partSize]
    | 1 => simp [Shape.partSize]

theorem set_oK : (oK i).view.set = oSet (wid i) := by
  show ((View.whole (main_v16_scv : Ref sig .scVector)).slice (Rect.unit (s := S4096x6) (k1_off3 i) S128x6.size (k1_off3_inb i))).set = _
  rw [View.set_slice, oK_rect]; exact Finset.map_refl

theorem pts_oK (f : Buf (Elt F) (oLoc d)) :
    ((oK i).view.loc (thr d i) ↦[(oK i).view.set]{fullShare} f : sProp 𝕄) = oLoc d ↦[oSet (wid i)]{fullShare} f := by
  rw [set_oK]

abbrev cell (q : DmaSems sig S_) : GSem nD τ sig := (thr d i, .dma q.sem)

theorem ownSems0_V :
    (ownSems0 (V d (cV i) (jV i)) : sProp 𝕄)
      = iprop(semVal (cell d i cc1_scoped0) 0 ∗ semVal (cell d i cc1_scoped1) 0 ∗ semVal (cell d i cc1_scoped2) 0
          ∗ semVal (cell d i cc1_scoped3) 0 ∗ semVal (cell d i cc1_scoped4) 0 ∗ semVal (cell d i cc1_scoped5) 0
          ∗ bigSep (((((((ownCells (V d (cV i) (jV i))).erase (cell d i cc1_scoped0)).erase (cell d i cc1_scoped1)).erase
              (cell d i cc1_scoped2)).erase (cell d i cc1_scoped3)).erase (cell d i cc1_scoped4)).erase (cell d i cc1_scoped5)) fun g => semVal g 0) := by
  unfold SparseCore.Cfg.ownSems0
  have own : ∀ q : DmaSems sig S_, (SemLoc.dma q.sem : SemLoc sig).isScoped .scVector = true → cell d i q ∈ ownCells (V d (cV i) (jV i)) :=
    fun q h => mem_ownCells.mpr ⟨rfl, h⟩
  have ne : ∀ q q' : DmaSems sig S_, (SemLoc.dma q.sem : SemLoc sig) ≠ .dma q'.sem → cell d i q ≠ cell d i q' :=
    fun q q' h e => h (congrArg Prod.snd e)
  rw [SparseCore.bigSep_erase' (own cc1_scoped0 (by decide)),
    SparseCore.bigSep_erase' (Finset.mem_erase.mpr ⟨ne _ _ (by decide), own cc1_scoped1 (by decide)⟩),
    SparseCore.bigSep_erase' (Finset.mem_erase.mpr ⟨ne _ _ (by decide), Finset.mem_erase.mpr ⟨ne _ _ (by decide), own cc1_scoped2 (by decide)⟩⟩),
    SparseCore.bigSep_erase' (Finset.mem_erase.mpr ⟨ne _ _ (by decide), Finset.mem_erase.mpr ⟨ne _ _ (by decide),
      Finset.mem_erase.mpr ⟨ne _ _ (by decide), own cc1_scoped3 (by decide)⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), own cc1_scoped4 (by decide)⟩⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), Finset.mem_erase.mpr ⟨ne _ _ (by decide), own cc1_scoped5 (by decide)⟩⟩⟩⟩⟩)]

abbrev bref (r : Ref sig .scVector) : DevRef τ sig := (Proc.scVector (cV i) (jV i)).devRef r

theorem ownBufs_V :
    (ownBufs (V d (cV i) (jV i)) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f)
          ∗ (∃ f, (thr d i).loc cc1_scratch4 ↦{fullShare} f) ∗ (∃ f, (thr d i).loc cc1_scratch5 ↦{fullShare} f)
          ∗ (∃ f, (thr d i).loc cc1_scratch6 ↦{fullShare} f)
          ∗ bigSep ((((((((ownRefs (τ := τ) (.scVector (cV i) (jV i))).erase (bref i cc1_scratch0)).erase (bref i cc1_scratch1)).erase
              (bref i cc1_scratch2)).erase (bref i cc1_scratch3)).erase (bref i cc1_scratch4)).erase (bref i cc1_scratch5)).erase (bref i cc1_scratch6))
              fun b => iprop(∃ f, ((d, b) : Loc nD τ sig) ↦{fullShare} f)) := by
  unfold SparseCore.Cfg.ownBufs
  have own : ∀ r : Ref sig .scVector, (bref i r).owner = .proc (.scVector (cV i) (jV i)) → bref i r ∈ ownRefs (τ := τ) (.scVector (cV i) (jV i)) :=
    fun r h => SparseCore.Cfg.mem_ownRefs_of_owner (p := Proc.scVector (cV i) (jV i)) h
  have ne : ∀ r r' : Ref sig .scVector, r ≠ r' → bref i r ≠ bref i r' := fun r r' h e => h (Proc.devRef_injective _ e)
  refine (SparseCore.bigSep_erase' (own cc1_scratch0 rfl)).trans ?_
  rw [SparseCore.bigSep_erase' (Finset.mem_erase.mpr ⟨ne _ _ (by decide), own cc1_scratch1 rfl⟩),
    SparseCore.bigSep_erase' (Finset.mem_erase.mpr ⟨ne _ _ (by decide), Finset.mem_erase.mpr ⟨ne _ _ (by decide), own cc1_scratch2 rfl⟩⟩),
    SparseCore.bigSep_erase' (Finset.mem_erase.mpr ⟨ne _ _ (by decide), Finset.mem_erase.mpr ⟨ne _ _ (by decide),
      Finset.mem_erase.mpr ⟨ne _ _ (by decide), own cc1_scratch3 rfl⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), own cc1_scratch4 rfl⟩⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), Finset.mem_erase.mpr ⟨ne _ _ (by decide), own cc1_scratch5 rfl⟩⟩⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), Finset.mem_erase.mpr ⟨ne _ _ (by decide),
      Finset.mem_erase.mpr ⟨ne _ _ (by decide), own cc1_scratch6 rfl⟩⟩⟩⟩⟩⟩)]

/-- What a buffer held as a function holds. -/
theorem holds2_get {n : Fin 2 → Nat} (m : Memref sig .scVector .vmem ⟨2, n⟩ .f32)
    (hset : (m.access (.whole ⟨2, n⟩)).set = Finset.univ) (g : ℕ → ℕ → F .f32) :
    (Holds2 d i m g : sProp 𝕄)
      ⊢ iprop(∃ f : Buf (Elt F) (m.view.loc (thr d i)), ⌜∀ x, (m.access (.whole ⟨2, n⟩)).read (Elt F) f x = g (x 0).val (x 1).val⌝
          ∗ (m.view.loc (thr d i) ↦{fullShare} f)) := by
  unfold Holds2
  rw [hset]
  iintro ⟨%f, %hf, H⟩
  iexists f
  isplitr; · ipureintro; exact hf
  iexact H

/-- Contents put in a buffer held whole, as a function. -/
theorem holds2_put {n : Fin 2 → Nat} (m : Memref sig .scVector .vmem ⟨2, n⟩ .f32)
    (hset : (m.access (.whole ⟨2, n⟩)).set = Finset.univ) (f : Buf (Elt F) (m.view.loc (thr d i))) (rd : (⟨2, n⟩ : Shape).Idx → F .f32)
    (hrd : (m.access (.whole ⟨2, n⟩)).read (Elt F) f = rd) {g : ℕ → ℕ → F .f32} (h : ∀ x, rd x = g (x 0).val (x 1).val) :
    (m.view.loc (thr d i) ↦{fullShare} f : sProp 𝕄) ⊢ Holds2 d i m g := by
  unfold Holds2
  rw [hset]
  iintro H
  iexists f
  isplitr; · ipureintro; intro x; rw [hrd]; exact h x
  iexact H

theorem holds1_put {n : Fin 1 → Nat} (m : Memref sig .scVector .vmem ⟨1, n⟩ .f32)
    (hset : (m.access (.whole ⟨1, n⟩)).set = Finset.univ) (f : Buf (Elt F) (m.view.loc (thr d i))) (rd : (⟨1, n⟩ : Shape).Idx → F .f32)
    (hrd : (m.access (.whole ⟨1, n⟩)).read (Elt F) f = rd) {g : ℕ → F .f32} (h : ∀ x, rd x = g (x 0).val) :
    (m.view.loc (thr d i) ↦{fullShare} f : sProp 𝕄) ⊢ Holds1 d i m g := by
  unfold Holds1
  rw [hset]
  iintro H
  iexists f
  isplitr; · ipureintro; intro x; rw [hrd]; exact h x
  iexact H

theorem holds2_forget {n : Fin 2 → Nat} (m : Memref sig .scVector .vmem ⟨2, n⟩ .f32)
    (hset : (m.access (.whole ⟨2, n⟩)).set = Finset.univ) (g : ℕ → ℕ → F .f32) :
    (Holds2 d i m g : sProp 𝕄) ⊢ iprop(∃ f, m.view.loc (thr d i) ↦{fullShare} f) := by
  unfold Holds2
  rw [hset]
  iintro ⟨%f, -, H⟩
  iexists f; iexact H

theorem holds1_forget {n : Fin 1 → Nat} (m : Memref sig .scVector .vmem ⟨1, n⟩ .f32)
    (hset : (m.access (.whole ⟨1, n⟩)).set = Finset.univ) (g : ℕ → F .f32) :
    (Holds1 d i m g : sProp 𝕄) ⊢ iprop(∃ f, m.view.loc (thr d i) ↦{fullShare} f) := by
  unfold Holds1
  rw [hset]
  iintro ⟨%f, -, H⟩
  iexists f; iexact H

/-! ## What the copies bring -/

abbrev zK : Memref sig .scVector .hbm S24x128 .f32 :=
  (zM).slice (Rect.unit (s := S24x4096) (k1_off1 i) S24x128.size (k1_off1_inb i)) (fun _ => rfl)
abbrev z8K : Memref sig .scVector .hbm S24x128 .f32 :=
  (zM).slice (Rect.unit (s := S24x4096) ![0, 0] S24x128.size inb_S24x4096_S24x128_0_0) (fun _ => rfl)
abbrev n1K : Memref sig .scVector .hbm S13824 .f32 :=
  (n1M).slice (Rect.unit (s := S442368) (k1_off2 i) S13824.size (k1_off2_inb i)) (fun _ => rfl)
abbrev n2K : Memref sig .scVector .hbm S13824 .f32 :=
  (n2M).slice (Rect.unit (s := S442368) (k1_off2 i) S13824.size (k1_off2_inb i)) (fun _ => rfl)

theorem read_zK (fz : Buf (Elt F) (zLoc d)) (x : S24x128.Idx) : (zK i).view.read (Elt F) fz x = zB fz (wid i).val (x 0).val (x 1).val := by
  show fz ((Rect.unit (s := S24x4096) (k1_off1 i) S24x128.size (k1_off1_inb i)).emb x) = _
  refine congrArg fz (at2_eq _ _ ?_ ?_).symm
  · rw [Rect.emb_apply]; simp [k1_off1_eq]
  · rw [Rect.emb_apply]; simp [k1_off1_eq, wid]; omega

theorem read_z8K (fz : Buf (Elt F) (zLoc d)) (x : S24x128.Idx) : (z8K).view.read (Elt F) fz x = zB fz 0 (x 0).val (x 1).val := by
  show fz ((Rect.unit (s := S24x4096) ![0, 0] S24x128.size inb_S24x4096_S24x128_0_0).emb x) = _
  refine congrArg fz (at2_eq _ _ ?_ ?_).symm
  · rw [Rect.emb_apply]; simp
  · rw [Rect.emb_apply]; simp

theorem read_n1K (f : Buf (Elt F) (n1Loc d)) (x : S13824.Idx) : (n1K i).view.read (Elt F) f x = nB f (wid i).val (x 0).val := by
  show f ((Rect.unit (s := S442368) (k1_off2 i) S13824.size (k1_off2_inb i)).emb x) = _
  refine congrArg f (at1_eq _ _ ?_).symm
  rw [Rect.emb_apply]; simp [k1_off2_eq, wid]; omega

theorem read_n2K (f : Buf (Elt F) (n2Loc d)) (x : S13824.Idx) : (n2K i).view.read (Elt F) f x = nB f (wid i).val (x 0).val := by
  show f ((Rect.unit (s := S442368) (k1_off2 i) S13824.size (k1_off2_inb i)).emb x) = _
  refine congrArg f (at1_eq _ _ ?_).symm
  rw [Rect.emb_apply]; simp [k1_off2_eq, wid]; omega

/-- The block copied out is the result's. -/
theorem write_oK (fo : Buf (Elt F) (oLoc d)) (fz : Buf (Elt F) (zLoc d)) (f1 : Buf (Elt F) (n1Loc d)) (f2 : Buf (Elt F) (n2Loc d)) (fw : Buf (Elt F) (wLoc d))
    (u : S128x6.Idx → F .f32) {T : ℕ → F .f32} (hT : ∀ n < 252, T n = tabF fz fw n)
    (hu : ∀ x, u x = tileRow (zB fz (wid i).val) (nB f1 (wid i).val) (nB f2 (wid i).val) T (x 0).val (x 1).val) :
    ((oK i).view.loc (thr d i) ↦[(oK i).view.set]{fullShare} (oK i).view.writes (Elt F) fo [⟨Rect.whole S128x6, u⟩] : sProp 𝕄)
      = (oLoc d ↦[oSet (wid i)]{fullShare} outF fz f1 f2 fw) := by
  rw [← pts_oK]
  refine pointsTo_congr fun y hy => ?_
  obtain ⟨x, -, rfl⟩ := Finset.mem_map.1 hy
  have hw : (oK i).view.writes (Elt F) fo [⟨Rect.whole S128x6, u⟩] ((oK i).view.emb x) = u x := by
    have := View.write_emb_of_mem (v := (oK i).view.slice (Rect.whole S128x6)) (Val := Elt F) fo u (Finset.mem_univ x)
    rwa [show ((oK i).view.slice (Rect.whole S128x6)).emb x = (oK i).view.emb x from congrArg (oK i).view.emb (Rect.emb_whole_apply S128x6 x)] at this
  rw [hw]
  show u x = outF fz f1 f2 fw ((Rect.unit (s := S4096x6) (k1_off3 i) S128x6.size (k1_off3_inb i)).emb x)
  have h0 : (x 0).val < 128 := (x 0).isLt
  have e0 : (((Rect.unit (s := S4096x6) (k1_off3 i) S128x6.size (k1_off3_inb i)).emb x) 0).val = 128 * (wid i).val + (x 0).val := by
    rw [Rect.emb_apply]; simp [k1_off3_eq, wid]; omega
  have e1 : (((Rect.unit (s := S4096x6) (k1_off3 i) S128x6.size (k1_off3_inb i)).emb x) 1).val = (x 1).val := by
    rw [Rect.emb_apply]; simp [k1_off3_eq]
  unfold outF
  rw [e0, e1, show (128 * (wid i).val + (x 0).val) / 128 = (wid i).val by omega, show (128 * (wid i).val + (x 0).val) % 128 = (x 0).val by omega]
  exact (hu x).trans (rowS_congr hT (x 1).isLt)

theorem steps_use {α : Type} {R R' : sProp 𝕄} {p : TP (F := F) i α} {v : α} (h : Steps d i R p v R') (Q : α → sProp 𝕄) :
    iprop(R ∗ (R' -∗ Q v)) ⊢ wp frame (wpE (defs₀ (F := F)) 𝒱₀ (thr d i) none) Set.univ p Q := h Q

theorem keep_holds (P : sProp 𝕄) : P ⊢ iprop(P ∗ (P -∗ P)) := by
  iintro H
  isplitl [H]; · iexact H
  iintro H; iexact H

/-- What the loop's trips keep: the block of logits, the noise, the table. -/
abbrev kept (Z : ℕ → ℕ → F .f32) (G1 G2 T : ℕ → F .f32) : sProp 𝕄 :=
  iprop(Holds2 d i b0 Z ∗ Holds1 d i b1 G1 ∗ Holds1 d i b2 G2 ∗ Holds1 d i b4 T)

theorem kept_tabs (Z : ℕ → ℕ → F .f32) (G1 G2 T : ℕ → F .f32) : Tabs (d := d) (i := i) (kept d i Z G1 G2 T) b1 b2 b4 G1 G2 T where
  hG1 := by
    iintro ⟨H0, H1, H2, H4⟩; isplitl [H1]; · iexact H1
    iintro H1; isplitl [H0]; · iexact H0
    isplitl [H1]; · iexact H1
    isplitl [H2] <;> iassumption
  hG2 := by
    iintro ⟨H0, H1, H2, H4⟩; isplitl [H2]; · iexact H2
    iintro H2; isplitl [H0]; · iexact H0
    isplitl [H1]; · iexact H1
    isplitl [H2] <;> iassumption
  hT := by
    iintro ⟨H0, H1, H2, H4⟩; isplitl [H4]; · iexact H4
    iintro H4; isplitl [H0]; · iexact H0
    isplitl [H1]; · iexact H1
    isplitl [H2] <;> iassumption

theorem kept_z (Z : ℕ → ℕ → F .f32) (G1 G2 T : ℕ → F .f32) :
    kept d i Z G1 G2 T ⊢ iprop(Holds2 d i b0 Z ∗ (Holds2 d i b0 Z -∗ kept d i Z G1 G2 T)) := by
  iintro ⟨H0, H1, H2, H4⟩; isplitl [H0]; · iexact H0
  iintro H0; isplitl [H0]; · iexact H0
  isplitl [H1]; · iexact H1
  isplitl [H2] <;> iassumption

/-- Before trip `k`: the rows of the trips run hold their results. -/
def inv (Z : ℕ → ℕ → F .f32) (G1 G2 T : ℕ → F .f32) (k : ℕ) (_ : PUnit) : sProp 𝕄 :=
  iprop(kept d i Z G1 G2 T ∗ ∃ O : ℕ → ℕ → F .f32, ⌜∀ r < 16 * k, ∀ c < 6, O r c = tileRow Z G1 G2 T r c⌝ ∗ Holds2 d i b5 O)

/-- What a tile is handed and brings back: shares of the four operands, its block of the result at `fo`. -/
def tileRes (q : PosShare TreeShare) (fz : Buf (Elt F) (zLoc d)) (f1 : Buf (Elt F) (n1Loc d)) (f2 : Buf (Elt F) (n2Loc d)) (fw : Buf (Elt F) (wLoc d))
    (fo : Buf (Elt F) (oLoc d)) (j : Fin 32) : sProp 𝕄 :=
  iprop((zLoc d ↦{q} fz) ∗ (n1Loc d ↦{q} f1) ∗ (n2Loc d ↦{q} f2) ∗ (wLoc d ↦{q} fw) ∗ oLoc d ↦[oSet j]{fullShare} fo)

set_option maxHeartbeats 4000000 in
theorem tile_body (hF : (K (F := F)).Facts) (q : PosShare TreeShare) (fz : Buf (Elt F) (zLoc d)) (f1 : Buf (Elt F) (n1Loc d)) (f2 : Buf (Elt F) (n2Loc d))
    (fw : Buf (Elt F) (wLoc d)) (fo : Buf (Elt F) (oLoc d)) (O : CellTallies nD τ sig (HIx 1)) (W : Waits sig (HIx 1)) (hO : ∀ g, O g none = 0) :
    iprop(levAts (K (F := F)).L (K (F := F)).lev ∗ emp
        ∗ tileRes d q fz f1 f2 fw fo (wid i)
        ∗ scopedBufs (V d (cV i) (jV i)) ∗ scopedSems0 (V d (cV i) (jV i)) ∗ owes (V d (cV i) (jV i)) O W)
      ⊢ wp frame (wpE (defs₀ (F := F)) 𝒱₀ (thr d i) none) Set.univ
          (cc1__sc_body i zM (Memref.isWhole_whole _) n1M (Memref.isWhole_whole _) n2M (Memref.isWhole_whole _) wM (Memref.isWhole_whole _)
            oM (Memref.isWhole_whole _) b0 (Memref.isWhole_whole _) b1 (Memref.isWhole_whole _) b2 (Memref.isWhole_whole _) b3 (Memref.isWhole_whole _)
            b4 (Memref.isWhole_whole _) b5 (Memref.isWhole_whole _) b6 (Memref.isWhole_whole _)
            cc1_scoped0 cc1_scoped1 cc1_scoped2 cc1_scoped3 cc1_scoped4 cc1_scoped5)
          fun _ => iprop(tileRes d q fz f1 f2 fw (outF fz f1 f2 fw) (wid i)
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [cc1__sc_body_eq_skeleton, body_eq]; unfold body tileRes
  rw [(K (F := F)).scopedBufs_V hF d (cV i) (jV i), SparseCore.Cfg.scopedSems0_V (Val := Elt F) d (cV i) (jV i), ownSems0_V, ownBufs_V]
  iintro ⟨#Hlv, -, ⟨Hz, H1, H2, Hw, Ho⟩, ⟨⟨%c0, Hb0⟩, ⟨%c1, Hb1⟩, ⟨%c2, Hb2⟩, ⟨%c3, Hb3⟩, ⟨%c4, Hb4⟩, ⟨%c5, Hb5⟩, ⟨%c6, Hb6⟩, Hbufs⟩,
    ⟨Hs0, Hs1, Hs2, Hs3, Hs4, Hs5, Hsems⟩, HO⟩
  ihave Hmw := (show levAts (K (F := F)).L (K (F := F)).lev ⊢ Transfers.MayWaits (thr d i) (default : HIx 1) O from
    (K (F := F)).mayWaits_none (thr := thr d i) hO) $$ Hlv
  ihave Ho := (Entails.of_eq (pts_oK (F := F) d i _).symm) $$ Ho
  ihave Hz := (Entails.of_eq (show (zLoc d ↦{q} fz : sProp 𝕄) = (zM).view.loc (thr d i) ↦{q} fz from rfl)) $$ Hz
  ihave H1 := (Entails.of_eq (show (n1Loc d ↦{q} f1 : sProp 𝕄) = (n1M).view.loc (thr d i) ↦{q} f1 from rfl)) $$ H1
  ihave H2 := (Entails.of_eq (show (n2Loc d ↦{q} f2 : sProp 𝕄) = (n2M).view.loc (thr d i) ↦{q} f2 from rfl)) $$ H2
  ihave Hw := (Entails.of_eq (show (wLoc d ↦{q} fw : sProp 𝕄) = (wM).view.loc (thr d i) ↦{q} fw from rfl)) $$ Hw
  ihave Hb0 := (Entails.of_eq (show ((thr d i).loc cc1_scratch0 ↦{fullShare} c0 : sProp 𝕄) = (b0).view.loc (thr d i) ↦{fullShare} c0 from rfl)) $$ Hb0
  ihave Hb1 := (Entails.of_eq (show ((thr d i).loc cc1_scratch1 ↦{fullShare} c1 : sProp 𝕄) = (b1).view.loc (thr d i) ↦{fullShare} c1 from rfl)) $$ Hb1
  ihave Hb2 := (Entails.of_eq (show ((thr d i).loc cc1_scratch2 ↦{fullShare} c2 : sProp 𝕄) = (b2).view.loc (thr d i) ↦{fullShare} c2 from rfl)) $$ Hb2
  ihave Hb3 := (Entails.of_eq (show ((thr d i).loc cc1_scratch3 ↦{fullShare} c3 : sProp 𝕄) = (b3).view.loc (thr d i) ↦{fullShare} c3 from rfl)) $$ Hb3
  ihave Hb6 := (Entails.of_eq (show ((thr d i).loc cc1_scratch6 ↦{fullShare} c6 : sProp 𝕄) = (b6).view.loc (thr d i) ↦{fullShare} c6 from rfl)) $$ Hb6
  have hT := fun (R : sProp 𝕄) (Z : ℕ → ℕ → F .f32) hZ (W' T : ℕ → F .f32) => tables_steps (d := d) (i := i) (R := R) (z8 := b6) (Z := Z) hZ b3 b4 W' T
  have hL := fun (Z : ℕ → ℕ → F .f32) (G1 G2 T : ℕ → F .f32) (k : Fin k1_t1_loop.trips) => (show ∀ acc, inv d i Z G1 G2 T k.val acc ⊢ wp frame (wpE (defs₀ (F := F)) 𝒱₀ (thr d i) none) Set.univ
      (k1_t1_body (F := F) i zM (Memref.isWhole_whole _) n1M (Memref.isWhole_whole _) n2M (Memref.isWhole_whole _) wM (Memref.isWhole_whole _)
            oM (Memref.isWhole_whole _) b0 (Memref.isWhole_whole _) b1 (Memref.isWhole_whole _) b2 (Memref.isWhole_whole _) b3 (Memref.isWhole_whole _)
            b4 (Memref.isWhole_whole _) b5 (Memref.isWhole_whole _) b6 (Memref.isWhole_whole _)
            cc1_scoped0 cc1_scoped1 cc1_scoped2 cc1_scoped3 cc1_scoped4 cc1_scoped5 lanes k acc) (inv d i Z G1 G2 T (k.val + 1)) from by
    intro acc
    rw [show acc = () from rfl, trip_eq]
    unfold inv
    iintro ⟨HR, %O', %hO', H5⟩
    iapply (steps_use d i (trip_steps (kept_tabs d i Z G1 G2 T) (below_blk k) (kept_z d i Z G1 G2 T) b5 O') _) $$ [HR H5]
    isplitl [HR H5]
    · isplitl [HR] <;> iassumption
    iintro ⟨HR, H5⟩
    isplitl [HR]; · iexact HR
    iexists _
    isplitr; swap; · iexact H5
    ipureintro
    intro r hr c hc
    refine tripV_eq Z G1 G2 T k O' hc ?_
    by_cases h : r < 16 * k.val
    · exact .inr (hO' r h c hc)
    · exact .inl ⟨by omega, by omega⟩)
  generalize tables (F := F) i b6 b3 b4 = tb at hT ⊢
  generalize k1_t1_body (F := F) i zM (Memref.isWhole_whole _) n1M (Memref.isWhole_whole _) n2M (Memref.isWhole_whole _) wM (Memref.isWhole_whole _)
            oM (Memref.isWhole_whole _) b0 (Memref.isWhole_whole _) b1 (Memref.isWhole_whole _) b2 (Memref.isWhole_whole _) b3 (Memref.isWhole_whole _)
            b4 (Memref.isWhole_whole _) b5 (Memref.isWhole_whole _) b6 (Memref.isWhole_whole _)
            cc1_scoped0 cc1_scoped1 cc1_scoped2 cc1_scoped3 cc1_scoped4 cc1_scoped5 lanes = tr at hL ⊢
  sl_exec
  ihave Hb0 := (holds2_put d i b0 (Memref.set_access_whole _) _ _ (by rw [View.write_whole_univ]; exact Memref.read_access_whole _ _ _)
    (fun x => read_zK d i fz x)) $$ Hb0
  ihave Hb1 := (holds1_put d i b1 (Memref.set_access_whole _) _ _ (by rw [View.write_whole_univ]; exact Memref.read_access_whole _ _ _)
    (fun x => read_n1K d i f1 x)) $$ Hb1
  ihave Hb2 := (holds1_put d i b2 (Memref.set_access_whole _) _ _ (by rw [View.write_whole_univ]; exact Memref.read_access_whole _ _ _)
    (fun x => read_n2K d i f2 x)) $$ Hb2
  ihave Hb3 := (holds1_put d i b3 (Memref.set_access_whole _) _ _ (by rw [View.write_whole_univ]; exact Memref.read_access_whole _ _ _)
    (g := wB fw) (fun x => congrArg fw (at1_eq pos_w x rfl).symm)) $$ Hb3
  ihave Hb4 := (holds1_put d i b4 (Memref.set_access_whole _) c4 _ (Memref.read_access_whole _ _ _)
    (g := fun n => c4 (at1 pos_p n)) (fun x => congrArg c4 (at1_eq pos_p x rfl).symm)) $$ Hb4
  ihave Hb5 := (holds2_put d i b5 (Memref.set_access_whole _) c5 _ (Memref.read_access_whole _ _ _)
    (g := fun r c => c5 (at2 pos_o r c)) (fun x => congrArg c5 (at2_eq pos_o x rfl rfl).symm)) $$ Hb5
  ihave Hb6 := (holds2_put d i b6 (Memref.set_access_whole _) _ _ (by rw [View.write_whole_univ]; exact Memref.read_access_whole _ _ _)
    (fun x => read_z8K d fz x)) $$ Hb6
  rw [wp_bind]
  iapply (steps_use d i (hT (Holds2 d i b6 (zB fz 0)) (zB fz 0) (keep_holds _) (wB fw) (fun n => c4 (at1 pos_p n))) _)
  isplitl [Hb3 Hb4 Hb6]
  · isplitl [Hb3 Hb6]
    · isplitl [Hb6] <;> iassumption
    iexact Hb4
  iintro ⟨⟨Hb6, Hb3⟩, Hb4⟩
  sl_for (inv d i (zB fz (wid i).val) (nB f1 (wid i).val) (nB f2 (wid i).val) (tableV (zB fz 0) (wB fw) (fun n => c4 (at1 pos_p n)))) $$ [Hb0 Hb1 Hb2 Hb4 Hb5]
  case region => exact fun k acc => hL _ _ _ _ k acc
  · unfold inv
    isplitl [Hb0 Hb1 Hb2 Hb4]
    · isplitl [Hb0]; · iexact Hb0
      isplitl [Hb1]; · iexact Hb1
      isplitl [Hb2] <;> iassumption
    iexists _
    isplitr; swap; · iexact Hb5
    ipureintro
    intro r hr; exact absurd hr (by omega)
  unfold inv
  iintro %acc ⟨⟨Hb0, Hb1, Hb2, Hb4⟩, %O', %hO', Hb5⟩
  ihave Hb5 := (holds2_get d i b5 (Memref.set_access_whole _) O') $$ Hb5
  icases Hb5 with ⟨%u, %hu, Hb5⟩
  sl_exec
  have hu : ∀ x, tile_body.sl.dma0_5 d i u x = O' (x 0).val (x 1).val := fun x => by
    have e : View.read (Elt F) ((b5).access (.whole ⟨2, ![128, 6]⟩)) u = u := Memref.read_access_whole (Elt F) cc1_scratch5 u
    exact (show tile_body.sl.dma0_5 d i u x = u x from rfl).trans ((congrFun e x).symm.trans (hu x))
  ihave Ho := (Entails.of_eq (write_oK d i fo fz f1 f2 fw (tile_body.sl.dma0_5 d i u) (T := tableV (zB fz 0) (wB fw) fun n => c4 (at1 pos_p n)) (fun n hn => tableV_eq _ _ _ hn)
    (fun x => (hu x).trans (hO' (x 0).val (x 0).isLt (x 1).val (x 1).isLt)))) $$ Ho
  ihave Hb0 := (holds2_forget d i b0 (Memref.set_access_whole _) _) $$ Hb0
  ihave Hb1 := (holds1_forget d i b1 (Memref.set_access_whole _) _) $$ Hb1
  ihave Hb2 := (holds1_forget d i b2 (Memref.set_access_whole _) _) $$ Hb2
  ihave Hb3 := (holds1_forget d i b3 (Memref.set_access_whole _) _) $$ Hb3
  ihave Hb4 := (holds1_forget d i b4 (Memref.set_access_whole _) _) $$ Hb4
  ihave Hb6 := (holds2_forget d i b6 (Memref.set_access_whole _) _) $$ Hb6
  rw [wp_ret]
  imodintro
  isplitl [Hz H1 H2 Hw Ho]
  · isplitl [Hz]; · iexact Hz
    isplitl [H1]; · iexact H1
    isplitl [H2]; · iexact H2
    isplitl [Hw]; · iexact Hw
    iexact Ho
  isplitl [Hb0 Hb1 Hb2 Hb3 Hb4 Hb5 Hb6 Hbufs]
  · isplitl [Hb0]; · iexact Hb0
    isplitl [Hb1]; · iexact Hb1
    isplitl [Hb2]; · iexact Hb2
    isplitl [Hb3]; · iexact Hb3
    isplitl [Hb4]; · iexact Hb4
    isplitl [Hb5]; · iexists u; iexact Hb5
    isplitl [Hb6] <;> iassumption
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _
  isplitr; swap; · iexact HO
  ipureintro
  intro p hp
  simp only [Finset.mem_insert] at hp
  rcases hp with h | h | h | h | h | h | h
  iterate 6 exact .inr (h ▸ rfl)
  exact .inl h

end Tile

end Cert.KernelIdeal.Model
-- ==== Proof.Region.lean ====
/- The matrix kernel: one pass over four blocks of rows, each leaving its columns of the logits. -/
module

public import proofs.«01_k».proof.Proof.Tile
public import proofs.«01_k».proof.Proof.Gen.KernelIdeal.Skeleton
public import Idealize.ShloMosaic.Lib.Pipeline.ValueKit
public import Idealize.ShloMosaic.Lib.Pipeline.FrameBody
public import Idealize.ShloMosaic.Lib.SparseCore.Threads

@[expose] public section

noncomputable section

namespace Cert.KernelIdeal.Model

open Idealize.ShloMosaic Idealize.ShloMosaic.TcCoe Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic
open Idealize.ShloMosaic.Pipeline (Dat BodyObligation)

variable {F : FTy → Type}

local notation "𝕄" => MM F

/-- Memref `M`'s buffer on core `c`: its contents' type, and it held whole at `f`. -/
abbrev Bf (F : FTy → Type) (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

variable [FloatOps F]

theorem mm_zero : (![0, 0] : Fin 2 → ℕ) = fun _ => 0 := funext fun a => by fin_cases a <;> rfl

/-- Loads of whole buffers and one store into a whole buffer, read back. -/
theorem mm_read (M1 : Memref sig .tc .vmem S1024x256 .f32) (M2 M3 : Memref sig .tc .vmem S6x256 .f32)
    (M4 : Memref sig .tc .vmem S6x268 .f32) (M5 : Memref sig .tc .vmem S24x1 .f32) (M6 : Memref sig .tc .vmem S24x1024 .f32)
    (f1 : M1.view.ty.Contents (Elt F)) (f2 : M2.view.ty.Contents (Elt F)) (f3 : M3.view.ty.Contents (Elt F))
    (f4 : M4.view.ty.Contents (Elt F)) (f5 : M5.view.ty.Contents (Elt F)) {L : List (View.Piece (Elt F) S24x1024 .f32)}
    (hL : L = [⟨Rect.unit (s := S24x1024) ![0, 0] S24x1024.size inb_S24x1024_S24x1024_0_0,
      k0_pay1 (View.ld (M2.view.read (Elt F) f2) (Rect.unit (s := S6x256) ![0, 0] S6x256.size inb_S6x256_S6x256_0_0))
        (View.ld (M3.view.read (Elt F) f3) (Rect.unit (s := S6x256) ![0, 0] S6x256.size inb_S6x256_S6x256_0_0))
        (View.ld (M4.view.read (Elt F) f4) (Rect.unit (s := S6x268) ![0, 0] S6x268.size inb_S6x268_S6x268_0_0))
        (View.ld (M1.view.read (Elt F) f1) (Rect.unit (s := S1024x256) ![0, 0] S1024x256.size inb_S1024x256_S1024x256_0_0))
        (View.ld (M5.view.read (Elt F) f5) (Rect.unit (s := S24x1) ![0, 0] S24x1.size inb_S24x1_S24x1_0_0))⟩]) :
    M6.view.read (Elt F) (M6.view.writes (Elt F) M6.view.junk L) = k0_pay1 (M2.view.read (Elt F) f2) (M3.view.read (Elt F) f3)
      (M4.view.read (Elt F) f4) (M1.view.read (Elt F) f1) (M5.view.read (Elt F) f5) := by
  subst hL
  rw [View.read_writes_junk_eq_canon, View.canon_unit_zero mm_zero, View.ld_unit_zero mm_zero, View.ld_unit_zero mm_zero,
    View.ld_unit_zero mm_zero, View.ld_unit_zero mm_zero, View.ld_unit_zero mm_zero]

/-- One pass of the matrix kernel over six whole buffers: the last holds the product. -/
theorem mm_run (c : Dev nD) (i : grid0.Coords)
    (M1 : Memref sig .tc .vmem S1024x256 .f32) (h1 : M1.IsWhole) (M2 : Memref sig .tc .vmem S6x256 .f32) (h2 : M2.IsWhole)
    (M3 : Memref sig .tc .vmem S6x256 .f32) (h3 : M3.IsWhole) (M4 : Memref sig .tc .vmem S6x268 .f32) (h4 : M4.IsWhole)
    (M5 : Memref sig .tc .vmem S24x1 .f32) (h5 : M5.IsWhole) (M6 : Memref sig .tc .vmem S24x1024 .f32) (h6 : M6.IsWhole)
    (f1 : Bf F c M1) (f2 : Bf F c M2) (f3 : Bf F c M3) (f4 : Bf F c M4) (f5 : Bf F c M5) (f6 : Bf F c M6)
    (E : Set ℕ) (Q : PUnit → sProp 𝕄) :
    iprop(pt c M1 f1 ∗ pt c M2 f2 ∗ pt c M3 f3 ∗ pt c M4 f4 ∗ pt c M5 f5 ∗ pt c M6 f6
        ∗ (iprop(pt c M1 f1 ∗ pt c M2 f2 ∗ pt c M3 f3 ∗ pt c M4 f4 ∗ pt c M5 f5
            ∗ ∃ g : Bf F c M6, ⌜M6.view.read (Elt F) g = k0_pay1 (M2.view.read (Elt F) f2) (M3.view.read (Elt F) f3)
                (M4.view.read (Elt F) f4) (M1.view.read (Elt F) f1) (M5.view.read (Elt F) f5)⌝ ∗ pt c M6 g) -∗ Q ⟨⟩))
      ⊢ wp frame (wpE (defs₀ (F := F)) 𝒱₀ c none) E (cc0__mm_body i M1 h1 M2 h2 M3 h3 M4 h4 M5 h5 M6 h6) Q := by
  rw [cc0__mm_body_eq_skeleton]
  unfold cc0__mm_body_skel
  iintro ⟨H1, H2, H3, H4, H5, H6, Hk⟩
  sl_exec!
  sl_step
  iapply Hk
  isplitl [H1]; · iexact H1
  isplitl [H2]; · iexact H2
  isplitl [H3]; · iexact H3
  isplitl [H4]; · iexact H4
  isplitl [H5]; · iexact H5
  iexists _
  isplitr; swap
  · iexact H6
  ipureintro
  exact mm_read M1 M2 M3 M4 M5 M6 f1 f2 f3 f4 f5 rfl

/-! ## The proof data, at an entry valuation -/

variable (V : (c : Dev nD) → (b : Ref sig .tc) → Buf (Elt F) ((c : Thread nD τ).loc b))

/-- The input windows' blocks at a point, as the fetch stages them. -/
abbrev stg0 (c : Dev nD) (t : Fin cfg0.N) : (cfg0.win 0).block.Idx → Elt F (cfg0.win 0).elt := ((cfg0.win 0).blk t).view.read (Elt F) (V c main_arg0)
abbrev stg1 (c : Dev nD) (t : Fin cfg0.N) : (cfg0.win 1).block.Idx → Elt F (cfg0.win 1).elt := ((cfg0.win 1).blk t).view.read (Elt F) (V c main_arg1)
abbrev stg2 (c : Dev nD) (t : Fin cfg0.N) : (cfg0.win 2).block.Idx → Elt F (cfg0.win 2).elt := ((cfg0.win 2).blk t).view.read (Elt F) (V c main_arg3)
abbrev stg3 (c : Dev nD) (t : Fin cfg0.N) : (cfg0.win 3).block.Idx → Elt F (cfg0.win 3).elt := ((cfg0.win 3).blk t).view.read (Elt F) (V c main_arg5)
abbrev stg4 (c : Dev nD) (t : Fin cfg0.N) : (cfg0.win 4).block.Idx → Elt F (cfg0.win 4).elt := ((cfg0.win 4).blk t).view.read (Elt F) (V c main_v2)

/-- The product a point leaves. -/
abbrev prodAt (c : Dev nD) (t : Fin cfg0.N) : S24x1024.Idx → Elt F .f32 :=
  k0_pay1 (F := F) (stg1 V c t) (stg2 V c t) (stg3 V c t) (stg0 V c t) (stg4 V c t)

/-- The arrays at `V`; after the body the inputs' buffers as fetched and the result's at the product; the start
    signals owed throughout; waits recorded only outside the handshakes. -/
def dat (c : Dev nD) : Dat τ (Elt F) (SparseCore.Cfg.HIx 1) ℕ UU ℕ cfg0 c where
  A w := V c (Pipeline.arrRef spec0 w)
  after w t := match w with
    | ⟨0, _⟩ => stg0 V c t
    | ⟨1, _⟩ => stg1 V c t
    | ⟨2, _⟩ => stg2 V c t
    | ⟨3, _⟩ => stg3 V c t
    | ⟨4, _⟩ => stg4 V c t
    | ⟨5, _⟩ => prodAt V c t
  Φ _ := Pipeline.scopedRest (Val := Elt F) spec0 c
  q _ := fullShare
  owed _ := (K (F := F)).Otc c 0
  recorded _ := {p | p.2 = none}

variable (adm : (p : Fin 1) → (pcfgs (F := F) p).Adm)

def pdats : (p : Fin 1) → (c : Dev nD) → Dat τ (Elt F) (SparseCore.Cfg.HIx 1) ℕ UU ℕ (Pipeline.pin (pcfgs (F := F)) adm p) c
  | ⟨0, _⟩ => fun c => dat V c

/-- An input's buffer holds its block when the body runs. -/
theorem before0 (c : Dev nD) (t : Fin cfg0.N) (d) : (dat V c).before 0 t d = stg0 V c t :=
  (dat V c).before_in_eq_fetched 0 rfl (fun _ => rfl) (fun _ _ _ => rfl) (fun _ => rfl) t d
theorem before1 (c : Dev nD) (t : Fin cfg0.N) (d) : (dat V c).before 1 t d = stg1 V c t :=
  (dat V c).before_in_eq_fetched 1 rfl (fun _ => rfl) (fun _ _ _ => rfl) (fun _ => rfl) t d
theorem before2 (c : Dev nD) (t : Fin cfg0.N) (d) : (dat V c).before 2 t d = stg2 V c t :=
  (dat V c).before_in_eq_fetched 2 rfl (fun _ => rfl) (fun _ _ _ => rfl) (fun _ => rfl) t d
theorem before3 (c : Dev nD) (t : Fin cfg0.N) (d) : (dat V c).before 3 t d = stg3 V c t :=
  (dat V c).before_in_eq_fetched 3 rfl (fun _ => rfl) (fun _ _ _ => rfl) (fun _ => rfl) t d
theorem before4 (c : Dev nD) (t : Fin cfg0.N) (d) : (dat V c).before 4 t d = stg4 V c t :=
  (dat V c).before_in_eq_fetched 4 rfl (fun _ => rfl) (fun _ _ _ => rfl) (fun _ => rfl) t d

/-- A whole memref owned at what it reads is its buffer held at something that reads so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf F c M, ⌜M.view.read (Elt F) f = X⌝ ∗ pt c M f) := by
  unfold owns
  rw [h.set_eq_univ]

theorem prod_congr {a a' : Vec F S6x256 .f32} {b b' : Vec F S6x256 .f32} {w w' : Vec F S6x268 .f32} {x x' : Vec F S1024x256 .f32}
    {e e' : Vec F S24x1 .f32} (ha : a = a') (hb : b = b') (hw : w = w') (hx : x = x') (he : e = e') :
    k0_pay1 a b w x e = k0_pay1 a' b' w' x' e' := by
  subst ha hb hw hx he; rfl

theorem body_obligation (c : Dev nD) : BodyObligation (dat V c) (defs₀ (F := F)) 𝒱₀ none Set.univ := fun t => by
  rw [bigSep_W0, bigSep_W0]
  simp only [before0, before1, before2, before3, before4]
  iintro ⟨HΦ, Howes, ⟨%d0, H0⟩, ⟨%d1, H1⟩, ⟨%d2, H2⟩, ⟨%d3, H3⟩, ⟨%d4, H4⟩, ⟨%d5, H5⟩⟩
  ihave H0 := (Entails.of_eq (owns_pt c (st0_0 t) (hstage0_0 ((cfg0.slots t 0).cast nbuf0_0)) (stg0 V c t))) $$ H0
  ihave H1 := (Entails.of_eq (owns_pt c (st0_1 t) (hstage0_1 ((cfg0.slots t 1).cast nbuf0_1)) (stg1 V c t))) $$ H1
  ihave H2 := (Entails.of_eq (owns_pt c (st0_2 t) (hstage0_2 ((cfg0.slots t 2).cast nbuf0_2)) (stg2 V c t))) $$ H2
  ihave H3 := (Entails.of_eq (owns_pt c (st0_3 t) (hstage0_3 ((cfg0.slots t 3).cast nbuf0_3)) (stg3 V c t))) $$ H3
  ihave H4 := (Entails.of_eq (owns_pt c (st0_4 t) (hstage0_4 ((cfg0.slots t 4).cast nbuf0_4)) (stg4 V c t))) $$ H4
  ihave H5 := (Entails.of_eq (owns_pt c (st0_5 t) (hstage0_5 ((cfg0.slots t 5).cast nbuf0_5)) ((dat V c).before 5 t d5))) $$ H5
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  icases H5 with ⟨%f5, -, H5⟩
  iapply (mm_run c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) f0 f1 f2 f3 f4 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%g, %eg, H5⟩⟩
  isplitl [HΦ]
  · rw [show (dat V c).Φ t.succ = (dat V c).Φ t.castSucc from rfl]; iexact HΦ
  isplitl [Howes]
  · rw [show (dat V c).owesAt none t.succ = (dat V c).owesAt none t.castSucc from rfl]; iexact Howes
  isplitl [H0]
  · iapply (Entails.of_eq (owns_pt c (st0_0 t) (hstage0_0 ((cfg0.slots t 0).cast nbuf0_0)) (stg0 V c t)).symm)
    iexists f0; isplitr; · ipureintro; exact e0
    iexact H0
  isplitl [H1]
  · iapply (Entails.of_eq (owns_pt c (st0_1 t) (hstage0_1 ((cfg0.slots t 1).cast nbuf0_1)) (stg1 V c t)).symm)
    iexists f1; isplitr; · ipureintro; exact e1
    iexact H1
  isplitl [H2]
  · iapply (Entails.of_eq (owns_pt c (st0_2 t) (hstage0_2 ((cfg0.slots t 2).cast nbuf0_2)) (stg2 V c t)).symm)
    iexists f2; isplitr; · ipureintro; exact e2
    iexact H2
  isplitl [H3]
  · iapply (Entails.of_eq (owns_pt c (st0_3 t) (hstage0_3 ((cfg0.slots t 3).cast nbuf0_3)) (stg3 V c t)).symm)
    iexists f3; isplitr; · ipureintro; exact e3
    iexact H3
  isplitl [H4]
  · iapply (Entails.of_eq (owns_pt c (st0_4 t) (hstage0_4 ((cfg0.slots t 4).cast nbuf0_4)) (stg4 V c t)).symm)
    iexists f4; isplitr; · ipureintro; exact e4
    iexact H4
  iapply (Entails.of_eq (owns_pt c (st0_5 t) (hstage0_5 ((cfg0.slots t 5).cast nbuf0_5)) (prodAt V c t)).symm)
  iexists g; isplitr; swap; · iexact H5
  ipureintro
  refine eg.trans ?_
  exact prod_congr e1 e2 e3 e0 e4

/-! ## The region over the thread state -/

/-- The logits after the region, as its write-backs leave them. -/
def zOut (c : Dev nD) : Buf (Elt F) ((c : Thread nD τ).loc main_v3) := (dat V c).arrAt 5 cfg0.N

/-- Nothing is owed outside the handshakes. -/
theorem Otc_none (d : Dev nD) (g : GSem nD τ sig) : (K (F := F)).Otc d 0 g none = 0 := by
  by_contra h
  have := SparseCore.Cfg.lev_of_Otc_pos (Nat.pos_of_ne_zero h)
  exact absurd (show 8 * _ + 1 ≤ 0 from this) (by omega)

-- the valuation the region leaves
variable (Vp : (c : Dev nD) → (b : Ref sig .tc) → Buf (Elt F) ((c : Thread nD τ).loc b))

/-- What the core owes beside the region: the start signals, its waits recorded outside the handshakes. -/
abbrev owesTc (F : FTy → Type) (c : Dev nD) : sProp (MM F) :=
  iprop(∃ W : Waits sig (SparseCore.Cfg.HIx 1), ⌜∀ p ∈ W, p.2 = none⌝ ∗ owes (c : Thread nD τ) ((K (F := F)).Otc c 0) W)

set_option backward.isDefEq.respectTransparency.types false in
/-- The matrix kernel between two states of the unscoped buffers. -/
def reg (hVp_out : ∀ c, Vp c main_v3 = zOut V c) (hVp_ne : ∀ c (b : Ref sig .tc), b ≠ main_v3 → Vp c b = V c b) :
    Pipeline.RegionSeg (pcfgs (F := F)) adm (pdats V adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ fun g => Otc_none c g
  pre c := iprop(unscopedBufs c (V c) ∗ owesTc F c)
  post c := iprop(unscopedBufs c (Vp c) ∗ owesTc F c)
  X _ := BI.emp
  Y _ := BI.emp
  Z c := Pipeline.unscopedRest spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest spec0 c from rfl]
    iintro ⟨-, -, Hr⟩; iexact Hr
  hout c := by
    rw [Pipeline.ownSems0_none, show (pdats V adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp_ne c main_arg0 (by decide)).symm
        · exact ((pdats V adm 0 c).arrAt_in 1 rfl _).trans (hVp_ne c main_arg1 (by decide)).symm
        · exact ((pdats V adm 0 c).arrAt_in 2 rfl _).trans (hVp_ne c main_arg3 (by decide)).symm
        · exact ((pdats V adm 0 c).arrAt_in 3 rfl _).trans (hVp_ne c main_arg5 (by decide)).symm
        · exact ((pdats V adm 0 c).arrAt_in 4 rfl _).trans (hVp_ne c main_v2 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]
    iexact HO

/-! ## What it leaves -/

theorem pos_x : ∀ a, 0 < S4096x256.size a := by decide
theorem pos_zb : ∀ a, 0 < S24x1024.size a := by decide

/-- Block `b` of the rows. -/
def xBlk (x : S4096x256.Idx → F .f32) (b : ℕ) : S1024x256.Idx → F .f32 := fun y => x (at2 pos_x (1024 * b + (y 0).val) (y 1).val)

/-- The logits: column `n` belongs to block `n / 1024`. -/
def zF (x : S4096x256.Idx → F .f32) (a1 a2 : S6x256.Idx → F .f32) (w : S6x268.Idx → F .f32) (b : S24x1.Idx → F .f32) :
    S24x4096.Idx → F .f32 := fun j =>
  k0_pay1 a1 a2 w (xBlk x ((j 1).val / 1024)) b (at2 pos_zb (j 0).val ((j 1).val % 1024))

/-- Which block each window is on. -/
theorem index_x (t : Fin cfg0.N) : win0_0.index t 0 = t.val ∧ win0_0.index t 1 = 0 := by
  rcases fin_N0 t with rfl | rfl | rfl | rfl <;> decide +kernel
theorem index_z (t : Fin cfg0.N) : win0_5.index t 0 = 0 ∧ win0_5.index t 1 = t.val := by
  rcases fin_N0 t with rfl | rfl | rfl | rfl <;> decide +kernel

theorem stg0_eq (c : Dev nD) (t : Fin cfg0.N) : stg0 V c t = xBlk (V c main_arg0) t.val := by
  funext z
  refine congrArg (V c main_arg0) ((at2_eq pos_x _ ?_ ?_).symm)
  · blk_simp; rw [(index_x t).1]; omega
  · blk_simp; rw [(index_x t).2]; omega
theorem index_1 (t : Fin cfg0.N) : win0_1.index t 0 = 0 ∧ win0_1.index t 1 = 0 := by
  rcases fin_N0 t with rfl | rfl | rfl | rfl <;> decide +kernel
theorem stg1_eq (c : Dev nD) (t : Fin cfg0.N) : stg1 V c t = V c main_arg1 := by
  funext z
  refine congrArg (V c main_arg1) (funext fun a => Fin.ext ?_)
  match a with
  | 0 => blk_simp; rw [(index_1 t).1]; omega
  | 1 => blk_simp; rw [(index_1 t).2]; omega

theorem index_2 (t : Fin cfg0.N) : win0_2.index t 0 = 0 ∧ win0_2.index t 1 = 0 := by
  rcases fin_N0 t with rfl | rfl | rfl | rfl <;> decide +kernel
theorem stg2_eq (c : Dev nD) (t : Fin cfg0.N) : stg2 V c t = V c main_arg3 := by
  funext z
  refine congrArg (V c main_arg3) (funext fun a => Fin.ext ?_)
  match a with
  | 0 => blk_simp; rw [(index_2 t).1]; omega
  | 1 => blk_simp; rw [(index_2 t).2]; omega

theorem index_3 (t : Fin cfg0.N) : win0_3.index t 0 = 0 ∧ win0_3.index t 1 = 0 := by
  rcases fin_N0 t with rfl | rfl | rfl | rfl <;> decide +kernel
theorem stg3_eq (c : Dev nD) (t : Fin cfg0.N) : stg3 V c t = V c main_arg5 := by
  funext z
  refine congrArg (V c main_arg5) (funext fun a => Fin.ext ?_)
  match a with
  | 0 => blk_simp; rw [(index_3 t).1]; omega
  | 1 => blk_simp; rw [(index_3 t).2]; omega

theorem index_4 (t : Fin cfg0.N) : win0_4.index t 0 = 0 ∧ win0_4.index t 1 = 0 := by
  rcases fin_N0 t with rfl | rfl | rfl | rfl <;> decide +kernel
theorem stg4_eq (c : Dev nD) (t : Fin cfg0.N) : stg4 V c t = V c main_v2 := by
  funext z
  refine congrArg (V c main_v2) (funext fun a => Fin.ext ?_)
  match a with
  | 0 => blk_simp; rw [(index_4 t).1]; omega
  | 1 => blk_simp; rw [(index_4 t).2]

/-- The logits read at a place of block `t`. -/
theorem zF_apply (x : S4096x256.Idx → F .f32) (a1 a2 : S6x256.Idx → F .f32) (w : S6x268.Idx → F .f32) (b : S24x1.Idx → F .f32)
    (t : ℕ) (y : S24x1024.Idx) (j : S24x4096.Idx) (h0 : (j 0).val = (y 0).val) (h1 : (j 1).val = t * 1024 + (y 1).val) :
    zF x a1 a2 w b j = k0_pay1 a1 a2 w (xBlk x t) b y := by
  have hy : (y 1).val < 1024 := (y 1).isLt
  unfold zF
  rw [show (j 1).val / 1024 = t by omega, at2_eq pos_zb y h0 (by omega)]

theorem zOut_eq (c : Dev nD) : zOut V c = zF (V c main_arg0) (V c main_arg1) (V c main_arg3) (V c main_arg5) (V c main_v2) := by
  unfold zOut
  refine (dat V c).arrAt_eq_of_covers 5 _ (by decide +kernel) fun t hf y => ?_
  blk_simp
  rw [show (dat V c).after 5 t y = prodAt V c t y from rfl]
  unfold prodAt
  rw [stg0_eq, stg1_eq, stg2_eq, stg3_eq, stg4_eq]
  refine (zF_apply _ _ _ _ _ t.val y _ ?_ ?_).symm
  · blk_simp; rw [(index_z t).1]; omega
  · blk_simp; rw [(index_z t).2]

end Cert.KernelIdeal.Model
-- ==== Proof.Host.lean ====
/- The arrays that the program's own operations make: the biases, the weights' tail and the noise in the tiles' order. -/
module

public import proofs.«01_k».proof.Proof.Region
public import Idealize.ShloMosaic.Lib.StableHlo.RunRead

@[expose] public section

noncomputable section

namespace Cert.KernelIdeal.Model

open Idealize.ShloMosaic Idealize.ShloMosaic.TcCoe Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode

variable {F : FTy → Type} [FloatOps F]

/-- The operations before the matrix kernel. -/
def ops1 : List (HloOp τ sig (Elt F)) :=
   [StableHlo.nullary main_cst (constant S_ .f32 0x00000000#32),
    StableHlo.unary main_cst main_v0 (broadcastInDim S6 ![] bcast_S_S6 : (⟨S_, .f32⟩ : BufTy).Contents (Elt F) → (⟨S6, .f32⟩ : BufTy).Contents (Elt F)),
    StableHlo.nary ![main_arg2, main_arg4, main_arg6, main_v0] main_v1 (fun u => (concatenate S24 0 [⟨S6, (u 0 : (⟨S6, .f32⟩ : BufTy).Contents (Elt F))⟩, ⟨S6, (u 1 : (⟨S6, .f32⟩ : BufTy).Contents (Elt F))⟩, ⟨S6, (u 2 : (⟨S6, .f32⟩ : BufTy).Contents (Elt F))⟩, ⟨S6, (u 3 : (⟨S6, .f32⟩ : BufTy).Contents (Elt F))⟩] concatenates_S6_S6_S6_S6_S24_d0 : (⟨S24, .f32⟩ : BufTy).Contents (Elt F))),
    StableHlo.unary main_v1 main_v2 (broadcastInDim S24x1 ![0] bcast_S24_S24x1_0 : (⟨S24, .f32⟩ : BufTy).Contents (Elt F) → (⟨S24x1, .f32⟩ : BufTy).Contents (Elt F))]

/-- The operations between the two kernels. -/
def ops2 : List (HloOp τ sig (Elt F)) :=
   [StableHlo.unary main_arg5 main_v4 ((extractStridedSlice S6x6 ![0, 256] · slices_S6x268_S6x6_0_256) : (⟨S6x268, .f32⟩ : BufTy).Contents (Elt F) → (⟨S6x6, .f32⟩ : BufTy).Contents (Elt F)),
    StableHlo.reshape main_v4 main_v5 (rfl : (.f32 : EltTy) = .f32) shapeCasts_S6x6_S36,
    StableHlo.unary main_arg5 main_v6 ((extractStridedSlice S6x6 ![0, 262] · slices_S6x268_S6x6_0_262) : (⟨S6x268, .f32⟩ : BufTy).Contents (Elt F) → (⟨S6x6, .f32⟩ : BufTy).Contents (Elt F)),
    StableHlo.reshape main_v6 main_v7 (rfl : (.f32 : EltTy) = .f32) shapeCasts_S6x6_S36,
    StableHlo.nullary main_cst_0 (constant S_ .f32 0x00000000#32),
    StableHlo.unary main_cst_0 main_v8 (broadcastInDim S24 ![] bcast_S_S24 : (⟨S_, .f32⟩ : BufTy).Contents (Elt F) → (⟨S24, .f32⟩ : BufTy).Contents (Elt F)),
    StableHlo.nary ![main_v5, main_v7, main_v8] main_v9 (fun u => (concatenate S96 0 [⟨S36, (u 0 : (⟨S36, .f32⟩ : BufTy).Contents (Elt F))⟩, ⟨S36, (u 1 : (⟨S36, .f32⟩ : BufTy).Contents (Elt F))⟩, ⟨S24, (u 2 : (⟨S24, .f32⟩ : BufTy).Contents (Elt F))⟩] concatenates_S36_S36_S24_S96_d0 : (⟨S96, .f32⟩ : BufTy).Contents (Elt F))),
    StableHlo.reshape main_arg7 main_v10 (rfl : (.f32 : EltTy) = .f32) shapeCasts_S18x4096x6_S18x32x128x6,
    StableHlo.unary main_v10 main_v11 ((transpose S32x18x6x128 [1, 0, 3, 2] · transposes_S18x32x128x6_S32x18x6x128_1_0_3_2) : (⟨S18x32x128x6, .f32⟩ : BufTy).Contents (Elt F) → (⟨S32x18x6x128, .f32⟩ : BufTy).Contents (Elt F)),
    StableHlo.reshape main_v11 main_v12 (rfl : (.f32 : EltTy) = .f32) shapeCasts_S32x18x6x128_S442368,
    StableHlo.reshape main_arg8 main_v13 (rfl : (.f32 : EltTy) = .f32) shapeCasts_S18x4096x6_S18x32x128x6,
    StableHlo.unary main_v13 main_v14 ((transpose S32x18x6x128 [1, 0, 3, 2] · transposes_S18x32x128x6_S32x18x6x128_1_0_3_2) : (⟨S18x32x128x6, .f32⟩ : BufTy).Contents (Elt F) → (⟨S32x18x6x128, .f32⟩ : BufTy).Contents (Elt F)),
    StableHlo.reshape main_v14 main_v15 (rfl : (.f32 : EltTy) = .f32) shapeCasts_S32x18x6x128_S442368]

theorem main_eq (d : Dev nD) : main (F := F) d = (StableHlo.seq ops1 >>= fun _ =>
    Prog.lift (.customCall (SparseCore.inner (Pipeline.entry 0)) ()) >>= fun _ =>
      StableHlo.seq ops2 >>= fun _ => sc.run d 0) := by
  rfl

/-- The twenty-four biases in a column. -/
def biasF (b1 b2 b3 : S6.Idx → F .f32) : S24x1.Idx → F .f32 :=
  broadcastInDim S24x1 ![0] bcast_S24_S24x1_0 (concatenate S24 0 [⟨S6, b1⟩, ⟨S6, b2⟩, ⟨S6, b3⟩,
    ⟨S6, (broadcastInDim S6 ![] bcast_S_S6 (constant S_ .f32 0x00000000#32 : FVec F S_ .f32))⟩] concatenates_S6_S6_S6_S6_S24_d0)

/-- The weights of the one-hot columns, then zeros. -/
def tailF (w : S6x268.Idx → F .f32) : S96.Idx → F .f32 :=
  concatenate S96 0 [⟨S36, shapeCast S36 (extractStridedSlice S6x6 ![0, 256] w slices_S6x268_S6x6_0_256) shapeCasts_S6x6_S36⟩,
    ⟨S36, shapeCast S36 (extractStridedSlice S6x6 ![0, 262] w slices_S6x268_S6x6_0_262) shapeCasts_S6x6_S36⟩,
    ⟨S24, (broadcastInDim S24 ![] bcast_S_S24 (constant S_ .f32 0x00000000#32 : FVec F S_ .f32))⟩] concatenates_S36_S36_S24_S96_d0

/-- The noise in the tiles' order. -/
def noiseF (g : S18x4096x6.Idx → F .f32) : S442368.Idx → F .f32 :=
  shapeCast S442368 (transpose S32x18x6x128 [1, 0, 3, 2] (shapeCast S18x32x128x6 g shapeCasts_S18x4096x6_S18x32x128x6)
    transposes_S18x32x128x6_S32x18x6x128_1_0_3_2) shapeCasts_S32x18x6x128_S442368

variable (V : Valuation τ sig (Elt F))

theorem ops1_bias : StableHlo.after ops1 V main_v2 = biasF (V main_arg2) (V main_arg4) (V main_arg6) := by
  rfl
theorem ops2_tail : StableHlo.after ops2 V main_v9 = tailF (V main_arg5) := by
  rfl
theorem ops2_noise1 : StableHlo.after ops2 V main_v12 = noiseF (V main_arg7) := by
  unfold ops2 noiseF; after_results; rfl
theorem ops2_noise2 : StableHlo.after ops2 V main_v15 = noiseF (V main_arg8) := by
  unfold ops2 noiseF; after_results; rfl

end Cert.KernelIdeal.Model
-- ==== Proof.Obl.lean ====
/- What the SparseCores' launch hands to each tile and takes back, and each tile's obligation. -/
module

public import proofs.«01_k».proof.Proof.Host

@[expose] public section

noncomputable section

namespace Cert.KernelIdeal.Model

open Idealize.ShloMosaic Idealize.ShloMosaic.TcCoe Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode
open Idealize.ShloMosaic.SparseCore (V)
open Idealize.ShloMosaic.SparseCore.Cfg (HIx Pay)
open Idealize.ShloMosaic.Transfers (dealOf pointsTo_deal)

variable {F : FTy → Type}

local notation "𝕄" => MM F

variable [FloatOps F] (m : (ℓ : Loc nD τ sig) → Buf (Elt F) ℓ) (ρ : Dev nD → PrngReg)

/-- The logits, the noise, the weights and the result that the arguments in memory `m` give. -/
abbrev fzOf (d : Dev nD) : Buf (Elt F) (zLoc d) :=
  zF (m ((SparseCore.T d).loc main_arg0)) (m ((SparseCore.T d).loc main_arg1)) (m ((SparseCore.T d).loc main_arg3)) (m ((SparseCore.T d).loc main_arg5))
    (biasF (m ((SparseCore.T d).loc main_arg2)) (m ((SparseCore.T d).loc main_arg4)) (m ((SparseCore.T d).loc main_arg6)))
abbrev f1Of (d : Dev nD) : Buf (Elt F) (n1Loc d) := noiseF (m ((SparseCore.T d).loc main_arg7))
abbrev f2Of (d : Dev nD) : Buf (Elt F) (n2Loc d) := noiseF (m ((SparseCore.T d).loc main_arg8))
abbrev fwOf (d : Dev nD) : Buf (Elt F) (wLoc d) := tailF (m ((SparseCore.T d).loc main_arg5))
abbrev foOf (d : Dev nD) : Buf (Elt F) (oLoc d) := outF (fzOf m d) (f1Of m d) (f2Of m d) (fwOf m d)

/-- The block of subcore `i` of SparseCore `c`. -/
def tileBlk (c : Fin 2) (i : Fin 16) : Fin 32 := ⟨2 * i.val + c.val, by omega⟩

/-- A SparseCore's share of an input, and a tile's share of that. -/
abbrev cq (c : Fin 2) : PosShare TreeShare := dealOf fullShare (Finset.univ : Finset (Fin 2)) c
abbrev tq (c : Fin 2) (i : Fin 16) : PosShare TreeShare := dealOf (cq c) (Finset.univ : Finset (Fin 16)) i

/-- A SparseCore's part of the launch: its share of the inputs and its sixteen blocks of the result. -/
abbrev coreRes (d : Dev nD) (fo : Buf (Elt F) (oLoc d)) (c : Fin 2) : sProp 𝕄 :=
  iprop((zLoc d ↦{cq c} fzOf m d) ∗ (n1Loc d ↦{cq c} f1Of m d) ∗ (n2Loc d ↦{cq c} f2Of m d) ∗ (wLoc d ↦{cq c} fwOf m d)
    ∗ bigSep Finset.univ fun i : Fin 16 => oLoc d ↦[oSet (tileBlk c i)]{fullShare} fo)

/-- A tile's part. -/
abbrev tilePart (d : Dev nD) (fo : Buf (Elt F) (oLoc d)) (c : Fin 2) (i : Fin 16) : sProp 𝕄 :=
  tileRes d (tq c i) (fzOf m d) (f1Of m d) (f2Of m d) (fwOf m d) fo (tileBlk c i)

def P : (K (F := F)).Pay (nD := nD) (Val := Elt F) (Name := ℕ) (U := UU) where
  st := fun q d c => match q with | 0 => coreRes m d (m (oLoc d)) c
  dn := fun q d c => match q with | 0 => coreRes m d (foOf m d) c
  go := fun q d c i => match q with | 0 => tilePart m d (m (oLoc d)) c i
  td := fun q d c i => match q with | 0 => tilePart m d (foOf m d) c i
  x := fun _ _ => iprop(emp)

instance P_storable : (P m).IsStorable where
  st q d c := match q with
    | 0 => (inferInstance : BI.Storable (upEmb : UEmb _ 𝕄) (coreRes m d (m (oLoc d)) c))
  dn q d c := match q with
    | 0 => (inferInstance : BI.Storable (upEmb : UEmb _ 𝕄) (coreRes m d (foOf m d) c))
  go q d c i := match q with
    | 0 => by unfold P tilePart tileRes; infer_instance
  td q d c i := match q with
    | 0 => by unfold P tilePart tileRes; infer_instance

/-! ## A tile's obligation -/

def coordsV (c : Fin (grid1.bound 0)) (s : Fin (grid1.bound 1)) : grid1.Coords :=
  fun | 0 => c | 1 => s | ⟨_ + 2, h⟩ => absurd h (Nat.not_lt.2 (Nat.le_add_left _ _))

omit [FloatOps F] in
theorem wid_coordsV (c : Fin 2) (i : Fin 16) : wid (coordsV c i) = tileBlk c i := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  exact (tile_body d (coordsV ⟨_, hci.1⟩ ⟨_, hci.2⟩) hF (tq c i) (fzOf m d) (f1Of m d) (f2Of m d) (fwOf m d) (m (oLoc d)) O W hO).trans
    (wp_mono frame _ _ fun _ => obl_post)

/-! ## The launch's parts split and join -/

omit [FloatOps F] in
/-- The result's blocks, by SparseCore and subcore. -/
theorem oPts_blocks (d : Dev nD) (f : Buf (Elt F) (oLoc d)) :
    (oLoc d ↦{fullShare} f : sProp 𝕄)
      = bigSep Finset.univ fun c : Fin 2 => bigSep Finset.univ fun i : Fin 16 => oLoc d ↦[oSet (tileBlk c i)]{fullShare} f := by
  have e : (oLoc d ↦{fullShare} f : sProp 𝕄) = bigSep Finset.univ fun j : Fin 32 => oLoc d ↦[oSet j]{fullShare} f := by
    rw [← pointsTo_biUnion Finset.univ (ℓ := oLoc d) oSet fun i _ j _ h => Rect.part_disjoint odiv h]
    rw [show (Finset.univ : Finset (Fin 32)).biUnion oSet = Finset.univ from Rect.biUnion_part odiv]
  rw [e, bigSep_univ_comm, ← bigSep_univ_prod (fun p : Fin 16 × Fin 2 => (oLoc d ↦[oSet (tileBlk p.2 p.1)]{fullShare} f : sProp 𝕄)),
    bigSep_univ_equiv (finProdFinEquiv : Fin 16 × Fin 2 ≃ Fin 32)]
  exact bigSep_congr fun p _ => by
    rw [show finProdFinEquiv p = tileBlk p.2 p.1 from Fin.ext (by show p.2.val + 2 * p.1.val = 2 * p.1.val + p.2.val; omega)]

theorem coreRes_tiles (d : Dev nD) (fo : Buf (Elt F) (oLoc d)) (c : Fin 2) :
    coreRes m d fo c = bigSep Finset.univ fun i : Fin 16 => tilePart m d fo c i := by
  unfold tilePart tileRes coreRes
  rw [bigSep_sep', bigSep_sep', bigSep_sep', bigSep_sep',
    pointsTo_deal (ℓ := zLoc d) (Finset.univ : Finset (Fin 16)) Finset.univ_nonempty (cq c), pointsTo_deal (ℓ := n1Loc d) (Finset.univ : Finset (Fin 16)) Finset.univ_nonempty (cq c),
    pointsTo_deal (ℓ := n2Loc d) (Finset.univ : Finset (Fin 16)) Finset.univ_nonempty (cq c), pointsTo_deal (ℓ := wLoc d) (Finset.univ : Finset (Fin 16)) Finset.univ_nonempty (cq c)]

theorem coreRes_all (d : Dev nD) (fo : Buf (Elt F) (oLoc d)) :
    (bigSep Finset.univ fun c : Fin 2 => coreRes m d fo c)
      = iprop((zLoc d ↦{fullShare} fzOf m d) ∗ (n1Loc d ↦{fullShare} f1Of m d) ∗ (n2Loc d ↦{fullShare} f2Of m d)
        ∗ (wLoc d ↦{fullShare} fwOf m d) ∗ (oLoc d ↦{fullShare} fo)) := by
  unfold coreRes
  rw [bigSep_sep', bigSep_sep', bigSep_sep', bigSep_sep', oPts_blocks,
    pointsTo_deal (ℓ := zLoc d) (Finset.univ : Finset (Fin 2)) Finset.univ_nonempty fullShare, pointsTo_deal (ℓ := n1Loc d) (Finset.univ : Finset (Fin 2)) Finset.univ_nonempty fullShare,
    pointsTo_deal (ℓ := n2Loc d) (Finset.univ : Finset (Fin 2)) Finset.univ_nonempty fullShare, pointsTo_deal (ℓ := wLoc d) (Finset.univ : Finset (Fin 2)) Finset.univ_nonempty fullShare]

theorem vecSplit : (K (F := F)).VecSplit' (P m) 0 := by
  intro d c
  show coreRes m d (m (oLoc d)) c ⊢ |={Set.univ}=> iprop(
      (bigSep Finset.univ fun i : Fin 16 => tilePart m d (m (oLoc d)) c i)
      ∗ ((bigSep Finset.univ fun i : Fin 16 => tilePart m d (foOf m d) c i) -∗ coreRes m d (foOf m d) c))
  rw [coreRes_tiles m d (m (oLoc d)) c, coreRes_tiles m d (foOf m d) c]
  iintro H; imodintro
  isplitl [H]; · iexact H
  iintro H'; iexact H'

end Cert.KernelIdeal.Model
-- ==== Proof.Launch.lean ====
/- The whole program: the bias column, the matrix kernel, the arrays the tiles read, the SparseCores' launch. -/
module

public import proofs.«01_k».proof.Proof.Obl

@[expose] public section

noncomputable section

namespace Cert.KernelIdeal.Model

open Idealize.ShloMosaic Idealize.ShloMosaic.TcCoe Cert.KernelIdeal Cert.KernelIdeal.Gen
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.SparseCore.Cfg (HIx Pay)

variable {F : FTy → Type}

local notation "𝕄" => MM F

variable [FloatOps F] (m : (ℓ : Loc nD τ sig) → Buf (Elt F) ℓ) (ρ : Dev nD → PrngReg)

/-! ## The ghost state at the launch -/

abbrev adm : (p : Fin 1) → (pcfgs (F := F) p).Adm := fun q => (cfgs q).toPCfg_adm

def u₀ : UU := (initOf (K (F := F)).hsCells (K (F := F)).hsToks,
  (initOf (Pipeline.cells (nD := nD) (τ := τ) cfgs cellOf_inj) (Pipeline.launchToks (nD := nD) (τ := τ) cfgs cellOf_inj), 1))

/-- The matrix kernel's part of it. -/
abbrev GH (d : Dev nD) : sProp 𝕄 := iprop(Pipeline.cellsGhost cfgs EP 0 d ∗ Pipeline.toksInit cfgs EP 0 d)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GH (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb (embR : Emb (UP × Counters) 𝕄)
    (initOf (Pipeline.cells (nD := nD) (τ := τ) cfgs cellOf_inj) (Pipeline.launchToks (nD := nD) (τ := τ) cfgs cellOf_inj)) (1 : Counters)) $$ HR
  icases H with ⟨HP, -⟩
  imod (Pipeline.fund_ghost (nD := nD) (τ := τ) cfgs (EP (F := F)) cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The buffers along the program -/

abbrev W0 (d : Dev nD) : Valuation τ sig (Elt F) := fun b => m (d, b)
abbrev W1 (d : Dev nD) : Valuation τ sig (Elt F) := StableHlo.after ops1 (W0 m d)
abbrev V1 (d : Dev nD) (b : Ref sig .tc) : Buf (Elt F) ((d : Thread nD τ).loc b) := W1 m d b
def W2 (d : Dev nD) : Valuation τ sig (Elt F) := Function.update (W1 m d) main_v3 (zOut (V1 m) d)
abbrev W3 (d : Dev nD) : Valuation τ sig (Elt F) := StableHlo.after ops2 (W2 m d)

theorem W2_out (d : Dev nD) : W2 m d main_v3 = zOut (V1 m) d := Function.update_self ..
theorem W2_ne (d : Dev nD) (b : Ref sig .tc) (h : b ≠ main_v3) : W2 m d b = W1 m d b :=
  Function.update_of_ne (fun e => h (Proc.devRef_injective _ e)) ..

theorem ops1_bufs : ∀ op ∈ (ops1 : List (HloOp τ sig (Elt F))), op.bufs ⊆ Pipeline.ucRefs τ sig := fun op hop =>
  Pipeline.sub_ucRefs op ((List.forall_iff_forall_mem (p := fun op : HloOp τ sig (Elt F) => op.bufs ⊆ StableHlo.tcRefs τ sig)).mp
    (by simp [ops1]) op hop)
theorem ops1_fresh : ∀ op ∈ (ops1 : List (HloOp τ sig (Elt F))), op.fresh = ∅ :=
  (List.forall_iff_forall_mem (p := fun op : HloOp τ sig (Elt F) => op.fresh = ∅)).mp (by unfold ops1; repeat' constructor)
theorem ops2_bufs : ∀ op ∈ (ops2 : List (HloOp τ sig (Elt F))), op.bufs ⊆ Pipeline.ucRefs τ sig := fun op hop =>
  Pipeline.sub_ucRefs op ((List.forall_iff_forall_mem (p := fun op : HloOp τ sig (Elt F) => op.bufs ⊆ StableHlo.tcRefs τ sig)).mp
    (by simp [ops2]) op hop)
theorem ops2_fresh : ∀ op ∈ (ops2 : List (HloOp τ sig (Elt F))), op.fresh = ∅ :=
  (List.forall_iff_forall_mem (p := fun op : HloOp τ sig (Elt F) => op.fresh = ∅)).mp (by unfold ops2; repeat' constructor)

/-- What the launch and the end read of the buffers. -/
def keptRefs : Finset (Ref sig .tc) :=
  {main_v3, main_v12, main_v15, main_v9, main_v16, main_arg0, main_arg1, main_arg2, main_arg3, main_arg4, main_arg5, main_arg6, main_arg7, main_arg8}

theorem W3_v3 (d : Dev nD) : W3 m d main_v3 = fzOf m d := by
  show W2 m d main_v3 = _
  rw [W2_out, zOut_eq]; rfl
theorem W3_v12 (d : Dev nD) : W3 m d main_v12 = f1Of m d := by
  rw [W3, ops2_noise1, W2_ne m d main_arg7 (by decide)]; rfl
theorem W3_v15 (d : Dev nD) : W3 m d main_v15 = f2Of m d := by
  rw [W3, ops2_noise2, W2_ne m d main_arg8 (by decide)]; rfl
theorem W3_v9 (d : Dev nD) : W3 m d main_v9 = fwOf m d := by
  rw [W3, ops2_tail, W2_ne m d main_arg5 (by decide)]; rfl
theorem W3_v16 (d : Dev nD) : W3 m d main_v16 = m (oLoc d) := W2_ne m d main_v16 (by decide)
theorem W3_arg0 (d : Dev nD) : W3 m d main_arg0 = m ((SparseCore.T d).loc main_arg0) := W2_ne m d main_arg0 (by decide)
theorem W3_arg1 (d : Dev nD) : W3 m d main_arg1 = m ((SparseCore.T d).loc main_arg1) := W2_ne m d main_arg1 (by decide)
theorem W3_arg2 (d : Dev nD) : W3 m d main_arg2 = m ((SparseCore.T d).loc main_arg2) := W2_ne m d main_arg2 (by decide)
theorem W3_arg3 (d : Dev nD) : W3 m d main_arg3 = m ((SparseCore.T d).loc main_arg3) := W2_ne m d main_arg3 (by decide)
theorem W3_arg4 (d : Dev nD) : W3 m d main_arg4 = m ((SparseCore.T d).loc main_arg4) := W2_ne m d main_arg4 (by decide)
theorem W3_arg5 (d : Dev nD) : W3 m d main_arg5 = m ((SparseCore.T d).loc main_arg5) := W2_ne m d main_arg5 (by decide)
theorem W3_arg6 (d : Dev nD) : W3 m d main_arg6 = m ((SparseCore.T d).loc main_arg6) := W2_ne m d main_arg6 (by decide)
theorem W3_arg7 (d : Dev nD) : W3 m d main_arg7 = m ((SparseCore.T d).loc main_arg7) := W2_ne m d main_arg7 (by decide)
theorem W3_arg8 (d : Dev nD) : W3 m d main_arg8 = m ((SparseCore.T d).loc main_arg8) := W2_ne m d main_arg8 (by decide)

/-- An argument at its launch contents. -/
abbrev argPt (d : Dev nD) (b : Ref sig .tc) : sProp 𝕄 := (SparseCore.T d).loc b ↦{fullShare} m ((SparseCore.T d).loc b)

/-- The nine arguments, unchanged. -/
abbrev argsPt (d : Dev nD) : sProp 𝕄 :=
  iprop(argPt m d main_arg0 ∗ argPt m d main_arg1 ∗ argPt m d main_arg2 ∗ argPt m d main_arg3 ∗ argPt m d main_arg4
    ∗ argPt m d main_arg5 ∗ argPt m d main_arg6 ∗ argPt m d main_arg7 ∗ argPt m d main_arg8)

theorem keptPts (d : Dev nD) : (unscopedBufs d (fun b => W3 m d b) : sProp 𝕄)
    ⊢ iprop((zLoc d ↦{fullShare} fzOf m d) ∗ (n1Loc d ↦{fullShare} f1Of m d) ∗ (n2Loc d ↦{fullShare} f2Of m d)
        ∗ (wLoc d ↦{fullShare} fwOf m d) ∗ (oLoc d ↦{fullShare} m (oLoc d)) ∗ argsPt m d) := by
  unfold unscopedBufs
  refine (bigSep_subset (t := keptRefs) (by decide)).trans ?_
  unfold keptRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  beta_reduce
  rw [W3_v3, W3_v12, W3_v15, W3_v9, W3_v16, W3_arg0, W3_arg1, W3_arg2, W3_arg3, W3_arg4, W3_arg5, W3_arg6, W3_arg7, W3_arg8]
  exact Entails.refl _

/-! ## The program on the TensorCore -/

theorem launchSt (d : Dev nD) : (bigSep Finset.univ fun c : Fin ((K (F := F)).nCore 0) => (P m).st 0 d c)
    = iprop((zLoc d ↦{fullShare} fzOf m d) ∗ (n1Loc d ↦{fullShare} f1Of m d) ∗ (n2Loc d ↦{fullShare} f2Of m d)
        ∗ (wLoc d ↦{fullShare} fwOf m d) ∗ (oLoc d ↦{fullShare} m (oLoc d))) := coreRes_all m d (m (oLoc d))
theorem launchDn (d : Dev nD) : (bigSep Finset.univ fun c : Fin ((K (F := F)).nCore 0) => (P m).dn 0 d c)
    = iprop((zLoc d ↦{fullShare} fzOf m d) ∗ (n1Loc d ↦{fullShare} f1Of m d) ∗ (n2Loc d ↦{fullShare} f2Of m d)
        ∗ (wLoc d ↦{fullShare} fwOf m d) ∗ (oLoc d ↦{fullShare} foOf m d)) := coreRes_all m d (foOf m d)

abbrev mmReg := reg (F := F) (V1 m) adm (fun d b => W2 m d b) (W2_out m) (W2_ne m)

variable [∀ e, Nonempty (Elt F e)]

/-- The matrix kernel's call, over the program's own signature. -/
theorem region_step (d : Dev nD) (Q : PUnit → sProp 𝕄) :
    iprop((iprop(boundary (SparseCore.T d) ∗ unscopedBufs d (fun b => W2 m d b) ∗ owesTc F d) -∗ Q ⟨⟩)
        ∗ boundary (SparseCore.T d) ∗ (unscopedBufs d (fun b => W1 m d b) ∗ owesTc F d) ∗ levAts (K (F := F)).L (K (F := F)).lev
        ∗ GH d)
      ⊢ wp frame (wpE ((K (F := F)).defs (D (F := F))) 𝒱 (SparseCore.T d) none) Set.univ
          (Prog.lift (.customCall (SparseCore.inner (Pipeline.entry 0)) ())) Q := by
  have hL := (K (F := F)).wp_liftProg (D (F := F)) 𝒱 (SparseCore.T d) Set.univ none
    (.op (.customCall (Pipeline.entry 0) ()) fun u => .ret u) Q
  have e : SparseCore.liftProg (Q := 1) (.op (.customCall (Pipeline.entry 0) ()) fun u => .ret u :
      Prog (TpuEff nD τ sig (Elt F) (ΛP (F := F)) (SparseCore.T d : Thread nD τ).2) PUnit)
    = Prog.lift (.customCall (SparseCore.inner (Pipeline.entry 0)) ()) := rfl
  rw [e] at hL
  refine BI.Entails.trans ?_ hL
  have hinj : Function.Injective (Pipeline.cellOf (nD := nD) (τ := τ) (Pipeline.pin (pcfgs (F := F)) adm)) := cellOf_inj
  have hR := Pipeline.RegionSeg.wp (pcfgs (F := F)) adm (pdats (V1 m) adm) none hinj EP defs₀ 𝒱₀
    (K (F := F)).L (K (F := F)).lev (mmReg m) d none (fun u hu => nomatch hu) (fun u => .ret u) Q
  change _ ⊢ wp frame (wpE (Pipeline.defs (pcfgs (F := F)) defs₀) 𝒱₀.lift (d.tc : Thread nD τ) none) Set.univ
    (.op (.customCall (Pipeline.entry 0) ()) fun u => .ret u) Q
  have hD : (iprop((iprop(boundary (d.tc : Thread nD τ) ∗ (mmReg m).post d) -∗ wp frame (wpE (Pipeline.defs (pcfgs (F := F)) defs₀) 𝒱₀.lift (d.tc : Thread nD τ) none) Set.univ (.ret ⟨⟩) Q)
        ∗ boundary (d.tc : Thread nD τ) ∗ (mmReg m).pre d ∗ levAts (K (F := F)).L (K (F := F)).lev
        ∗ Pipeline.cellsGhost cfgs EP 0 d ∗ Pipeline.toksInit cfgs EP 0 d) : sProp 𝕄)
      ⊢ wp frame (wpE (Pipeline.defs (pcfgs (F := F)) defs₀) 𝒱₀.lift (d.tc : Thread nD τ) none) Set.univ
    (.op (.customCall (Pipeline.entry 0) ()) fun u => .ret u) Q := by
    exact hR
  refine BI.Entails.trans (show iprop((iprop(boundary (d.tc : Thread nD τ) ∗ (mmReg m).post d) -∗ Q ⟨⟩)
        ∗ boundary (d.tc : Thread nD τ) ∗ (mmReg m).pre d ∗ levAts (K (F := F)).L (K (F := F)).lev ∗ GH d)
      ⊢ (iprop((iprop(boundary (d.tc : Thread nD τ) ∗ (mmReg m).post d) -∗ wp frame (wpE (Pipeline.defs (pcfgs (F := F)) defs₀) 𝒱₀.lift (d.tc : Thread nD τ) none) Set.univ (.ret ⟨⟩) Q)
        ∗ boundary (d.tc : Thread nD τ) ∗ (mmReg m).pre d ∗ levAts (K (F := F)).L (K (F := F)).lev
        ∗ Pipeline.cellsGhost cfgs EP 0 d ∗ Pipeline.toksInit cfgs EP 0 d) : sProp 𝕄) from ?_) hD
  iintro ⟨Hk, Hb, Hpre, Hlev, HG⟩
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hlev]; · iexact Hlev
  iexact HG

abbrev FIN (d : Dev nD) : sProp 𝕄 := iprop((oLoc d ↦{fullShare} foOf m d) ∗ argsPt m d)

omit [FloatOps F] [∀ e, Nonempty (Elt F e)] in
/-- What the core owes, out of its state before the launch and back. -/
theorem tcSt_take (d : Dev nD) : ((K (F := F)).tcSt EH d 0 : sProp 𝕄) ⊢ iprop(owesTc F d ∗ (owesTc F d -∗ (K (F := F)).tcSt EH d 0)) := by
  unfold SparseCore.Cfg.tcSt
  iintro ⟨⟨%W, %hW, HO⟩, Hrest⟩
  isplitl [HO]
  · iexists W; isplitr
    · ipureintro
      intro p hp
      have h := hW p hp
      rcases hq : p.2 with _ | q
      · rfl
      · rw [hq] at h
        exact absurd ((K (F := F)).lev_some_pos ((SparseCore.T d : Thread nD τ), p.1) q) (Nat.not_lt.2 h)
    iexact HO
  iintro ⟨%W', %hW', HO⟩
  isplitl [HO]
  · iexists W'; isplitr
    · ipureintro
      intro p hp
      rw [hW' p hp]; exact Nat.zero_le _
    iexact HO
  iexact Hrest

theorem hmain (κ : GSem nD τ sig → ℕ) (d : Dev nD) :
    iprop((K (F := F)).ctx EH (P m) κ ∗ (K (F := F)).tcSt EH d 0 ∗ (K (F := F)).tcRes m ρ d ∗ GH d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (SparseCore.T d) (Pipeline.ucRefs τ sig) (W0 m d) from
    Pipeline.unscopedBufs_held d (W0 m d)]
  iintro ⟨#Hctx, Hst, ⟨Hb, Hu, Hts, -⟩, HG⟩
  ihave #Hlev := (SparseCore.Cfg.ctx_levAts (K := K (F := F)) κ) $$ Hctx
  iapply (StableHlo.wp_seq 𝒱 none Set.univ d (Pipeline.ucRefs τ sig) _ ops1 ops1_bufs ops1_fresh (W0 m d)) $$ [Hb Hu]
  · isplitl [Hb] <;> iassumption
  iintro ⟨Hb, Hu⟩
  rw [wp_bind]
  ihave Hst := (tcSt_take d) $$ Hst
  icases Hst with ⟨HO, Hback⟩
  iapply (region_step m d) $$ [Hback HO Hb Hu HG Hts]
  isplitr [Hb Hu HO HG]
  · iintro ⟨Hb, Hu, HO⟩
    ihave Hst := Hback $$ HO
    ihave Hu := (Entails.of_eq (Pipeline.unscopedBufs_held d (W2 m d))) $$ Hu
    iapply (StableHlo.wp_seq 𝒱 none Set.univ d (Pipeline.ucRefs τ sig) _ ops2 ops2_bufs ops2_fresh (W2 m d)) $$ [Hb Hu]
    · isplitl [Hb] <;> iassumption
    iintro ⟨Hb, Hu⟩
    ihave Hu := (Entails.of_eq (Pipeline.unscopedBufs_held d (W3 m d)).symm) $$ Hu
    ihave Hu := (keptPts m d) $$ Hu
    icases Hu with ⟨Hz, H1, H2, Hw, Ho, Ha⟩
    iapply ((K (F := F)).wp_run (D (F := F)) 𝒱 (EH := EH) (P := P m) κ d 0) $$ [Hst Hz H1 H2 Hw Ho Ha Hb Hts]
    isplitr; · iexact Hctx
    isplitl [Hst]; · iexact Hst
    isplitl [Hz H1 H2 Hw Ho]
    · rw [launchSt]
      isplitl [Hz]; · iexact Hz
      isplitl [H1]; · iexact H1
      isplitl [H2]; · iexact H2
      isplitl [Hw]; · iexact Hw
      iexact Ho
    iintro ⟨Hst, Hdn⟩
    ihave Hdn := (Entails.of_eq (launchDn m d)) $$ Hdn
    icases Hdn with ⟨-, -, -, -, Ho⟩
    isplitl [Hst]; · iexact Hst
    isplitr [Hb Hts]
    · isplitl [Ho]; · iexact Ho
      iexact Ha
    isplitl [Hb] <;> iassumption
  isplitl [Hb]; · iexact Hb
  isplitl [Hu HO]
  · isplitl [Hu]; · iapply (Entails.of_eq (Pipeline.unscopedBufs_held d (W1 m d)).symm) $$ Hu
    iexact HO
  isplitr; · iexact Hlev
  iexact HG

/-! ## The end -/

/-- The result, and an argument unchanged. -/
def argOk (s' : MemSt nD τ sig (Elt F)) (d : Dev nD) (b : Ref sig .tc) : Prop :=
  s'.mem ((SparseCore.T d).loc b) = m ((SparseCore.T d).loc b)
def fq (d : Dev nD) (s' : MemSt nD τ sig (Elt F)) : Prop :=
  s'.mem (oLoc d) = foOf m d ∧ argOk m s' d main_arg0 ∧ argOk m s' d main_arg1 ∧ argOk m s' d main_arg2 ∧ argOk m s' d main_arg3
    ∧ argOk m s' d main_arg4 ∧ argOk m s' d main_arg5 ∧ argOk m s' d main_arg6 ∧ argOk m s' d main_arg7 ∧ argOk m s' d main_arg8

omit [FloatOps F] [∀ e, Nonempty (Elt F e)] in
/-- A buffer held whole holds what the memory holds; the state interpretation is kept. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  iexact HSI

omit [∀ e, Nonempty (Elt F e)] in
theorem hfin (d : Dev nD) (s' : Phys nD τ sig (Elt F)) : iprop(FIN m d ∗ SI s') ⊢ (⌜fq m d s'.mem⌝ : sProp 𝕄) := by
  iintro ⟨⟨Ho, H0, H1, H2, H3, H4, H5, H6, H7, H8⟩, HS⟩
  ihave H := (read_whole _ _ s') $$ [Ho HS]
  · isplitl [Ho] <;> iassumption
  icases H with ⟨%ho, HS⟩
  ihave H := (read_whole _ _ s') $$ [H0 HS]
  · isplitl [H0] <;> iassumption
  icases H with ⟨%h0, HS⟩
  ihave H := (read_whole _ _ s') $$ [H1 HS]
  · isplitl [H1] <;> iassumption
  icases H with ⟨%h1, HS⟩
  ihave H := (read_whole _ _ s') $$ [H2 HS]
  · isplitl [H2] <;> iassumption
  icases H with ⟨%h2, HS⟩
  ihave H := (read_whole _ _ s') $$ [H3 HS]
  · isplitl [H3] <;> iassumption
  icases H with ⟨%h3, HS⟩
  ihave H := (read_whole _ _ s') $$ [H4 HS]
  · isplitl [H4] <;> iassumption
  icases H with ⟨%h4, HS⟩
  ihave H := (read_whole _ _ s') $$ [H5 HS]
  · isplitl [H5] <;> iassumption
  icases H with ⟨%h5, HS⟩
  ihave H := (read_whole _ _ s') $$ [H6 HS]
  · isplitl [H6] <;> iassumption
  icases H with ⟨%h6, HS⟩
  ihave H := (read_whole _ _ s') $$ [H7 HS]
  · isplitl [H7] <;> iassumption
  icases H with ⟨%h7, HS⟩
  ihave H := (read_whole _ _ s') $$ [H8 HS]
  · isplitl [H8] <;> iassumption
  icases H with ⟨%h8, HS⟩
  ipureintro; exact ⟨ho, h0, h1, h2, h3, h4, h5, h6, h7, h8⟩

def QC : PUnit × MemSt nD τ sig (Elt F) → Prop := fun r => (∀ c : Dev nD, fq m c r.2) ∧ r.2.sem = fun _ => 0

/-- Every run ends with the arguments unchanged, the result as computed, and no semaphore raised. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => GH d) (FIN m) (u₀ (F := F)) (sep_elim_left.trans (hu₀ m)) (hmain m ρ) (fun d s' => fq m d s'.mem) (hfin m) (QC m) (fun _ h hz => ⟨h, hz⟩)

end Cert.KernelIdeal.Model
-- ==== Proof.RefOps.lean ====
/- The reference as a straight list of operations: its program in named pieces, its run, and the claim that it
leaves its arguments unchanged. -/
module

public import proofs.«01_k».proof.Proof.Gen.ReferenceIdeal
public import proofs.«01_k».proof.ReferenceIdeal
public import Idealize.ShloMosaic.Lib.StableHlo.RunRead

@[expose] public section

noncomputable section

namespace Cert.ReferenceIdeal.Model

open Cert.ReferenceIdeal Cert.ReferenceIdeal.Gen
open Idealize.ShloMosaic Idealize.ShloMosaic.TcCoe Idealize.SL.Sem
open scoped Idealize.ShloMosaic.EltTy

variable {F : FTy → Type} [FloatOps F]

/-- One operation of the host on this program's memory. -/
local notation "Op" => HloOp τ sig (Elt F)

/-- The position of the first greatest entry of each row. -/
def argmaxOps (arg0 : StableHlo.TRef sig ⟨S18x4096x6, .f32⟩) (φ : fn_argmax.Bufs) : List Op :=
  [StableHlo.TRef.nullary φ.v0 (iotaInDim S18x4096x6 32 2),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S18x4096x6_S18x4096_d2 h_S_ j).1),
    StableHlo.TRef.quaternary arg0 φ.v0 φ.cst φ.c φ.v1_1 (fun x y u v j => (Host.argReduce reducer_argmax_f32_i32 x y u v reducesTo_S18x4096x6_S18x4096_d2 h_S_ j).2)]

/-- The rows of a table at given positions, one table per draw. -/
def takeOps (arg0 : StableHlo.TRef sig ⟨S18x4096x6, .f32⟩) (arg1 : StableHlo.TRef sig ⟨S18x4096x1, .i32⟩) (φ : fn_take_along_axis.Bufs) : List Op :=
  [StableHlo.TRef.nullary φ.c (constantI S_ 32 0#32),
    StableHlo.TRef.unary φ.c φ.v0 (broadcastInDim S18x4096x1 ![] bcast_S_S18x4096x1),
    StableHlo.TRef.binary arg1 φ.v0 φ.v1 (cmpi .slt),
    StableHlo.TRef.nullary φ.c_0 (constantI S_ 32 4096#32),
    StableHlo.TRef.unary φ.c_0 φ.v2 (broadcastInDim S18x4096x1 ![] bcast_S_S18x4096x1),
    StableHlo.TRef.binary arg1 φ.v2 φ.v3 addi,
    StableHlo.TRef.ternary φ.v1 φ.v3 arg1 φ.v4 select,
    StableHlo.TRef.nullary φ.c_1 (constantI S1 32 4095#32),
    StableHlo.TRef.nullary φ.c_2 (constantI S_ 32 0#32),
    StableHlo.TRef.unary φ.c_2 φ.v5 (broadcastInDim S18x4096x1 ![] bcast_S_S18x4096x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S18x4096x1 ![0, 1, 2] bcast_S1x1x1_S18x4096x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S18x4096x1_S18x4096_d2 h_S_),
    StableHlo.TRef.binary arg0 φ.v4 φ.v12 (fun x i => Host.gather gather_S18x4096x6_S18x4096x1_S18x4096x6_2_1_0_0_1_2_116 x i),
    StableHlo.TRef.unary φ.v11 φ.v13 (broadcastInDim S18x4096x6 ![0, 1] bcast_S18x4096_S18x4096x6_0_1),
    StableHlo.TRef.nullary φ.cst (constant S_ .f32 0x7FC00000#32),
    StableHlo.TRef.unary φ.cst φ.v14 (broadcastInDim S18x4096x6 ![] bcast_S_S18x4096x6),
    StableHlo.TRef.ternary φ.v13 φ.v12 φ.v14 φ.v15 select]

/-- One-hot rows of six entries. -/
def oneHotOps (arg0 : StableHlo.TRef sig ⟨S4096x18x2, .i32⟩) (φ : fn_one_hot.Bufs) : List Op :=
  [StableHlo.TRef.unary arg0 φ.v0 (broadcastInDim S4096x18x2x1 ![0, 1, 2] bcast_S4096x18x2_S4096x18x2x1_0_1_2),
    StableHlo.TRef.nullary φ.v1 (iotaInDim S1x1x1x6 32 3),
    StableHlo.TRef.unary φ.v0 φ.v2 (broadcastInDim S4096x18x2x6 ![0, 1, 2, 3] bcast_S4096x18x2x1_S4096x18x2x6_0_1_2_3),
    StableHlo.TRef.unary φ.v1 φ.v3 (broadcastInDim S4096x18x2x6 ![0, 1, 2, 3] bcast_S1x1x1x6_S4096x18x2x6_0_1_2_3),
    StableHlo.TRef.binary φ.v2 φ.v3 φ.v4 (cmpi .eq),
    StableHlo.TRef.unary φ.v4 φ.v5 (uitofp .f32)]

/-- The distribution of opponent one: the affine map, then its softmax. -/
def distOps1 : List Op :=
  [StableHlo.unary main_arg1 main_v0 ((transpose S256x6 [1, 0] · transposes_S6x256_S256x6_1_0) : (⟨S6x256, .f32⟩ : BufTy).Contents (Elt F) → (⟨S256x6, .f32⟩ : BufTy).Contents (Elt F)),
    StableHlo.binary main_arg0 main_v0 main_v1 ((fun l r => Host.dotGeneral dot_S4096x256_S256x6_S4096x6_1_0_0_1_n_n none l r) : (⟨S4096x256, .f32⟩ : BufTy).Contents (Elt F) → (⟨S256x6, .f32⟩ : BufTy).Contents (Elt F) → (⟨S4096x6, .f32⟩ : BufTy).Contents (Elt F)),
    StableHlo.unary main_arg2 main_v2 (broadcastInDim S1x6 ![1] bcast_S6_S1x6_1 : (⟨S6, .f32⟩ : BufTy).Contents (Elt F) → (⟨S1x6, .f32⟩ : BufTy).Contents (Elt F)),
    StableHlo.unary main_v2 main_v3 (broadcastInDim S4096x6 ![0, 1] bcast_S1x6_S4096x6_0_1 : (⟨S1x6, .f32⟩ : BufTy).Contents (Elt F) → (⟨S4096x6, .f32⟩ : BufTy).Contents (Elt F)),
    StableHlo.binary main_v1 main_v3 main_v4 (addf : (⟨S4096x6, .f32⟩ : BufTy).Contents (Elt F) → (⟨S4096x6, .f32⟩ : BufTy).Contents (Elt F) → (⟨S4096x6, .f32⟩ : BufTy).Contents (Elt F)),
    StableHlo.nullary main_cst (constant S_ .f32 0xFF800000#32),
    StableHlo.binary main_v4 main_cst main_v5 ((fun x v => Host.reduce FloatOps.maximumf x v reducesTo_S4096x6_S4096_d1 h_S_) : (⟨S4096x6, .f32⟩ : BufTy).Contents (Elt F) → (⟨S_, .f32⟩ : BufTy).Contents (Elt F) → (⟨S4096, .f32⟩ : BufTy).Contents (Elt F)),
    StableHlo.nullary main_cst_0 (constant S_ .f32 0xFF800000#32),
    StableHlo.unary main_cst_0 main_v6 (broadcastInDim S4096 ![] bcast_S_S4096 : (⟨S_, .f32⟩ : BufTy).Contents (Elt F) → (⟨S4096, .f32⟩ : BufTy).Contents (Elt F)),
    StableHlo.binary main_v6 main_v5 main_v7 (maximumf : (⟨S4096, .f32⟩ : BufTy).Contents (Elt F) → (⟨S4096, .f32⟩ : BufTy).Contents (Elt F) → (⟨S4096, .f32⟩ : BufTy).Contents (Elt F)),
    StableHlo.unary main_v7 main_v8 (broadcastInDim S4096x1 ![0] bcast_S4096_S4096x1_0 : (⟨S4096, .f32⟩ : BufTy).Contents (Elt F) → (⟨S4096x1, .f32⟩ : BufTy).Contents (Elt F)),
    StableHlo.unary main_v8 main_v9 (broadcastInDim S4096x6 ![0, 1] bcast_S4096x1_S4096x6_0_1 : (⟨S4096x1, .f32⟩ : BufTy).Contents (Elt F) → (⟨S4096x6, .f32⟩ : BufTy).Contents (Elt F)),
    StableHlo.binary main_v4 main_v9 main_v10 (subf : (⟨S4096x6, .f32⟩ : BufTy).Contents (Elt F) → (⟨S4096x6, .f32⟩ : BufTy).Contents (Elt F) → (⟨S4096x6, .f32⟩ : BufTy).Contents (Elt F)),
    StableHlo.unary main_v10 main_v11 (Host.exp : (⟨S4096x6, .f32⟩ : BufTy).Contents (Elt F) → (⟨S4096x6, .f32⟩ : BufTy).Contents (Elt F)),
    StableHlo.nullary main_cst_1 (constant S_ .f32 0x00000000#32),
    StableHlo.binary main_v11 main_cst_1 main_v12 ((fun x v => Host.reduceAdd x v reducesTo_S4096x6_S4096_d1 h_S_) : (⟨S4096x6, .f32⟩ : BufTy).Contents (Elt F) → (⟨S_, .f32⟩ : BufTy).Contents (Elt F) → (⟨S4096, .f32⟩ : BufTy).Contents (Elt F)),
    StableHlo.unary main_v12 main_v13 (broadcastInDim S4096x1 ![0] bcast_S4096_S4096x1_0 : (⟨S4096, .f32⟩ : BufTy).Contents (Elt F) → (⟨S4096x1, .f32⟩ : BufTy).Contents (Elt F)),
    StableHlo.unary main_v13 main_v14 (broadcastInDim S4096x6 ![0, 1] bcast_S4096x1_S4096x6_0_1 : (⟨S4096x1, .f32⟩ : BufTy).Contents (Elt F) → (⟨S4096x6, .f32⟩ : BufTy).Contents (Elt F)),
    StableHlo.binary main_v11 main_v14 main_v15 (Host.divf : (⟨S4096x6, .f32⟩ : BufTy).Contents (Elt F) → (⟨S4096x6, .f32⟩ : BufTy).Contents (Elt F) → (⟨S4096x6, .f32⟩ : BufTy).Contents (Elt F))]

/-- The draws from opponent one. -/
def sampOps1 : List Op :=
  [StableHlo.unary main_v15 main_v16 (Host.log : (⟨S4096x6, .f32⟩ : BufTy).Contents (Elt F) → (⟨S4096x6, .f32⟩ : BufTy).Contents (Elt F)),
    StableHlo.unary main_v16 main_v17 (broadcastInDim S1x4096x6 ![1, 2] bcast_S4096x6_S1x4096x6_1_2 : (⟨S4096x6, .f32⟩ : BufTy).Contents (Elt F) → (⟨S1x4096x6, .f32⟩ : BufTy).Contents (Elt F)),
    StableHlo.unary main_v17 main_v18 (broadcastInDim S18x4096x6 ![0, 1, 2] bcast_S1x4096x6_S18x4096x6_0_1_2 : (⟨S1x4096x6, .f32⟩ : BufTy).Contents (Elt F) → (⟨S18x4096x6, .f32⟩ : BufTy).Contents (Elt F)),
    StableHlo.binary main_v18 main_arg7 main_v19 (addf : (⟨S18x4096x6, .f32⟩ : BufTy).Contents (Elt F) → (⟨S18x4096x6, .f32⟩ : BufTy).Contents (Elt F) → (⟨S18x4096x6, .f32⟩ : BufTy).Contents (Elt F))] ++ argmaxOps (.of main_v19) main_call0

/-- The probability looked up for each draw from opponent one. -/
def probOps1 : List Op :=
  [StableHlo.unary main_v20 main_v21 (broadcastInDim S18x4096x1 ![0, 1] bcast_S18x4096_S18x4096x1_0_1 : (⟨S18x4096, .i32⟩ : BufTy).Contents (Elt F) → (⟨S18x4096x1, .i32⟩ : BufTy).Contents (Elt F)),
    StableHlo.unary main_v15 main_v22 (broadcastInDim S1x4096x6 ![1, 2] bcast_S4096x6_S1x4096x6_1_2 : (⟨S4096x6, .f32⟩ : BufTy).Contents (Elt F) → (⟨S1x4096x6, .f32⟩ : BufTy).Contents (Elt F)),
    StableHlo.unary main_v22 main_v23 (broadcastInDim S18x4096x6 ![0, 1, 2] bcast_S1x4096x6_S18x4096x6_0_1_2 : (⟨S1x4096x6, .f32⟩ : BufTy).Contents (Elt F) → (⟨S18x4096x6, .f32⟩ : BufTy).Contents (Elt F))] ++ takeOps (.of main_v23) (.of main_v21) main_call1 ++ [StableHlo.unary main_v24 main_v25 ((extractStridedSlice S18x4096x1 ![0, 0, 0] · slices_S18x4096x6_S18x4096x1_0_0_0) : (⟨S18x4096x6, .f32⟩ : BufTy).Contents (Elt F) → (⟨S18x4096x1, .f32⟩ : BufTy).Contents (Elt F)),
    StableHlo.unary main_v20 main_v26 ((transpose S4096x18 [1, 0] · transposes_S18x4096_S4096x18_1_0) : (⟨S18x4096, .i32⟩ : BufTy).Contents (Elt F) → (⟨S4096x18, .i32⟩ : BufTy).Contents (Elt F)),
    StableHlo.reshape main_v25 main_v27 (rfl : (.f32 : EltTy) = .f32) shapeCasts_S18x4096x1_S18x4096,
    StableHlo.unary main_v27 main_v28 ((transpose S4096x18 [1, 0] · transposes_S18x4096_S4096x18_1_0) : (⟨S18x4096, .f32⟩ : BufTy).Contents (Elt F) → (⟨S4096x18, .f32⟩ : BufTy).Contents (Elt F))]

/-- The distribution of opponent two: the affine map, then its softmax. -/
def distOps2 : List Op :=
  [StableHlo.unary main_arg3 main_v29 ((transpose S256x6 [1, 0] · transposes_S6x256_S256x6_1_0) : (⟨S6x256, .f32⟩ : BufTy).Contents (Elt F) → (⟨S256x6, .f32⟩ : BufTy).Contents (Elt F)),
    StableHlo.binary main_arg0 main_v29 main_v30 ((fun l r => Host.dotGeneral dot_S4096x256_S256x6_S4096x6_1_0_0_1_n_n none l r) : (⟨S4096x256, .f32⟩ : BufTy).Contents (Elt F) → (⟨S256x6, .f32⟩ : BufTy).Contents (Elt F) → (⟨S4096x6, .f32⟩ : BufTy).Contents (Elt F)),
    StableHlo.unary main_arg4 main_v31 (broadcastInDim S1x6 ![1] bcast_S6_S1x6_1 : (⟨S6, .f32⟩ : BufTy).Contents (Elt F) → (⟨S1x6, .f32⟩ : BufTy).Contents (Elt F)),
    StableHlo.unary main_v31 main_v32 (broadcastInDim S4096x6 ![0, 1] bcast_S1x6_S4096x6_0_1 : (⟨S1x6, .f32⟩ : BufTy).Contents (Elt F) → (⟨S4096x6, .f32⟩ : BufTy).Contents (Elt F)),
    StableHlo.binary main_v30 main_v32 main_v33 (addf : (⟨S4096x6, .f32⟩ : BufTy).Contents (Elt F) → (⟨S4096x6, .f32⟩ : BufTy).Contents (Elt F) → (⟨S4096x6, .f32⟩ : BufTy).Contents (Elt F)),
    StableHlo.nullary main_cst_2 (constant S_ .f32 0xFF800000#32),
    StableHlo.binary main_v33 main_cst_2 main_v34 ((fun x v => Host.reduce FloatOps.maximumf x v reducesTo_S4096x6_S4096_d1 h_S_) : (⟨S4096x6, .f32⟩ : BufTy).Contents (Elt F) → (⟨S_, .f32⟩ : BufTy).Contents (Elt F) → (⟨S4096, .f32⟩ : BufTy).Contents (Elt F)),
    StableHlo.nullary main_cst_3 (constant S_ .f32 0xFF800000#32),
    StableHlo.unary main_cst_3 main_v35 (broadcastInDim S4096 ![] bcast_S_S4096 : (⟨S_, .f32⟩ : BufTy).Contents (Elt F) → (⟨S4096, .f32⟩ : BufTy).Contents (Elt F)),
    StableHlo.binary main_v35 main_v34 main_v36 (maximumf : (⟨S4096, .f32⟩ : BufTy).Contents (Elt F) → (⟨S4096, .f32⟩ : BufTy).Contents (Elt F) → (⟨S4096, .f32⟩ : BufTy).Contents (Elt F)),
    StableHlo.unary main_v36 main_v37 (broadcastInDim S4096x1 ![0] bcast_S4096_S4096x1_0 : (⟨S4096, .f32⟩ : BufTy).Contents (Elt F) → (⟨S4096x1, .f32⟩ : BufTy).Contents (Elt F)),
    StableHlo.unary main_v37 main_v38 (broadcastInDim S4096x6 ![0, 1] bcast_S4096x1_S4096x6_0_1 : (⟨S4096x1, .f32⟩ : BufTy).Contents (Elt F) → (⟨S4096x6, .f32⟩ : BufTy).Contents (Elt F)),
    StableHlo.binary main_v33 main_v38 main_v39 (subf : (⟨S4096x6, .f32⟩ : BufTy).Contents (Elt F) → (⟨S4096x6, .f32⟩ : BufTy).Contents (Elt F) → (⟨S4096x6, .f32⟩ : BufTy).Contents (Elt F)),
    StableHlo.unary main_v39 main_v40 (Host.exp : (⟨S4096x6, .f32⟩ : BufTy).Contents (Elt F) → (⟨S4096x6, .f32⟩ : BufTy).Contents (Elt F)),
    StableHlo.nullary main_cst_4 (constant S_ .f32 0x00000000#32),
    StableHlo.binary main_v40 main_cst_4 main_v41 ((fun x v => Host.reduceAdd x v reducesTo_S4096x6_S4096_d1 h_S_) : (⟨S4096x6, .f32⟩ : BufTy).Contents (Elt F) → (⟨S_, .f32⟩ : BufTy).Contents (Elt F) → (⟨S4096, .f32⟩ : BufTy).Contents (Elt F)),
    StableHlo.unary main_v41 main_v42 (broadcastInDim S4096x1 ![0] bcast_S4096_S4096x1_0 : (⟨S4096, .f32⟩ : BufTy).Contents (Elt F) → (⟨S4096x1, .f32⟩ : BufTy).Contents (Elt F)),
    StableHlo.unary main_v42 main_v43 (broadcastInDim S4096x6 ![0, 1] bcast_S4096x1_S4096x6_0_1 : (⟨S4096x1, .f32⟩ : BufTy).Contents (Elt F) → (⟨S4096x6, .f32⟩ : BufTy).Contents (Elt F)),
    StableHlo.binary main_v40 main_v43 main_v44 (Host.divf : (⟨S4096x6, .f32⟩ : BufTy).Contents (Elt F) → (⟨S4096x6, .f32⟩ : BufTy).Contents (Elt F) → (⟨S4096x6, .f32⟩ : BufTy).Contents (Elt F))]

/-- The draws from opponent two. -/
def sampOps2 : List Op :=
  [StableHlo.unary main_v44 main_v45 (Host.log : (⟨S4096x6, .f32⟩ : BufTy).Contents (Elt F) → (⟨S4096x6, .f32⟩ : BufTy).Contents (Elt F)),
    StableHlo.unary main_v45 main_v46 (broadcastInDim S1x4096x6 ![1, 2] bcast_S4096x6_S1x4096x6_1_2 : (⟨S4096x6, .f32⟩ : BufTy).Contents (Elt F) → (⟨S1x4096x6, .f32⟩ : BufTy).Contents (Elt F)),
    StableHlo.unary main_v46 main_v47 (broadcastInDim S18x4096x6 ![0, 1, 2] bcast_S1x4096x6_S18x4096x6_0_1_2 : (⟨S1x4096x6, .f32⟩ : BufTy).Contents (Elt F) → (⟨S18x4096x6, .f32⟩ : BufTy).Contents (Elt F)),
    StableHlo.binary main_v47 main_arg8 main_v48 (addf : (⟨S18x4096x6, .f32⟩ : BufTy).Contents (Elt F) → (⟨S18x4096x6, .f32⟩ : BufTy).Contents (Elt F) → (⟨S18x4096x6, .f32⟩ : BufTy).Contents (Elt F))] ++ argmaxOps (.of main_v48) main_call2

/-- The probability looked up for each draw from opponent two. -/
def probOps2 : List Op :=
  [StableHlo.unary main_v49 main_v50 (broadcastInDim S18x4096x1 ![0, 1] bcast_S18x4096_S18x4096x1_0_1 : (⟨S18x4096, .i32⟩ : BufTy).Contents (Elt F) → (⟨S18x4096x1, .i32⟩ : BufTy).Contents (Elt F)),
    StableHlo.unary main_v44 main_v51 (broadcastInDim S1x4096x6 ![1, 2] bcast_S4096x6_S1x4096x6_1_2 : (⟨S4096x6, .f32⟩ : BufTy).Contents (Elt F) → (⟨S1x4096x6, .f32⟩ : BufTy).Contents (Elt F)),
    StableHlo.unary main_v51 main_v52 (broadcastInDim S18x4096x6 ![0, 1, 2] bcast_S1x4096x6_S18x4096x6_0_1_2 : (⟨S1x4096x6, .f32⟩ : BufTy).Contents (Elt F) → (⟨S18x4096x6, .f32⟩ : BufTy).Contents (Elt F))] ++ takeOps (.of main_v52) (.of main_v50) main_call3 ++ [StableHlo.unary main_v53 main_v54 ((extractStridedSlice S18x4096x1 ![0, 0, 0] · slices_S18x4096x6_S18x4096x1_0_0_0) : (⟨S18x4096x6, .f32⟩ : BufTy).Contents (Elt F) → (⟨S18x4096x1, .f32⟩ : BufTy).Contents (Elt F)),
    StableHlo.unary main_v49 main_v55 ((transpose S4096x18 [1, 0] · transposes_S18x4096_S4096x18_1_0) : (⟨S18x4096, .i32⟩ : BufTy).Contents (Elt F) → (⟨S4096x18, .i32⟩ : BufTy).Contents (Elt F)),
    StableHlo.reshape main_v54 main_v56 (rfl : (.f32 : EltTy) = .f32) shapeCasts_S18x4096x1_S18x4096,
    StableHlo.unary main_v56 main_v57 ((transpose S4096x18 [1, 0] · transposes_S18x4096_S4096x18_1_0) : (⟨S18x4096, .f32⟩ : BufTy).Contents (Elt F) → (⟨S4096x18, .f32⟩ : BufTy).Contents (Elt F))]

/-- The products of the two probabilities, scaled to sum to one over the draws. -/
def normOps : List Op :=
  [StableHlo.binary main_v28 main_v57 main_v58 (mulf : (⟨S4096x18, .f32⟩ : BufTy).Contents (Elt F) → (⟨S4096x18, .f32⟩ : BufTy).Contents (Elt F) → (⟨S4096x18, .f32⟩ : BufTy).Contents (Elt F)),
    StableHlo.nullary main_cst_5 (constant S_ .f32 0x00000000#32),
    StableHlo.binary main_v58 main_cst_5 main_v59 ((fun x v => Host.reduceAdd x v reducesTo_S4096x18_S4096_d1 h_S_) : (⟨S4096x18, .f32⟩ : BufTy).Contents (Elt F) → (⟨S_, .f32⟩ : BufTy).Contents (Elt F) → (⟨S4096, .f32⟩ : BufTy).Contents (Elt F)),
    StableHlo.unary main_v59 main_v60 (broadcastInDim S4096x1 ![0] bcast_S4096_S4096x1_0 : (⟨S4096, .f32⟩ : BufTy).Contents (Elt F) → (⟨S4096x1, .f32⟩ : BufTy).Contents (Elt F)),
    StableHlo.unary main_v60 main_v61 (broadcastInDim S4096x18 ![0, 1] bcast_S4096x1_S4096x18_0_1 : (⟨S4096x1, .f32⟩ : BufTy).Contents (Elt F) → (⟨S4096x18, .f32⟩ : BufTy).Contents (Elt F)),
    StableHlo.binary main_v58 main_v61 main_v62 (Host.divf : (⟨S4096x18, .f32⟩ : BufTy).Contents (Elt F) → (⟨S4096x18, .f32⟩ : BufTy).Contents (Elt F) → (⟨S4096x18, .f32⟩ : BufTy).Contents (Elt F)),
    StableHlo.reshape main_v62 main_v63 (rfl : (.f32 : EltTy) = .f32) shapeCasts_S4096x18_S4096x1x18]

/-- The two draws as one-hot columns. -/
def hotOps : List Op :=
  [StableHlo.binary main_v26 main_v55 main_v64 ((fun a b => concatenate S4096x36 1 [⟨S4096x18, a⟩, ⟨S4096x18, b⟩] concatenates_S4096x18_S4096x18_S4096x36_d1) : (⟨S4096x18, .i32⟩ : BufTy).Contents (Elt F) → (⟨S4096x18, .i32⟩ : BufTy).Contents (Elt F) → (⟨S4096x36, .i32⟩ : BufTy).Contents (Elt F)),
    StableHlo.reshape main_v64 main_v65 (rfl : (.i32 : EltTy) = .i32) shapeCasts_S4096x36_S4096x2x18,
    StableHlo.unary main_v65 main_v66 ((transpose S4096x18x2 [0, 2, 1] · transposes_S4096x2x18_S4096x18x2_0_2_1) : (⟨S4096x2x18, .i32⟩ : BufTy).Contents (Elt F) → (⟨S4096x18x2, .i32⟩ : BufTy).Contents (Elt F))] ++ oneHotOps (.of main_v66) main_call4 ++ [StableHlo.reshape main_v67 main_v68 (rfl : (.f32 : EltTy) = .f32) shapeCasts_S4096x18x2x6_S4096x18x12]

/-- The affine map of the input joined with the one-hot columns. -/
def linOps : List Op :=
  [StableHlo.unary main_arg0 main_v69 (broadcastInDim S4096x1x256 ![0, 2] bcast_S4096x256_S4096x1x256_0_2 : (⟨S4096x256, .f32⟩ : BufTy).Contents (Elt F) → (⟨S4096x1x256, .f32⟩ : BufTy).Contents (Elt F)),
    StableHlo.unary main_v69 main_v70 (broadcastInDim S4096x18x256 ![0, 1, 2] bcast_S4096x1x256_S4096x18x256_0_1_2 : (⟨S4096x1x256, .f32⟩ : BufTy).Contents (Elt F) → (⟨S4096x18x256, .f32⟩ : BufTy).Contents (Elt F)),
    StableHlo.binary main_v70 main_v68 main_v71 ((fun a b => concatenate S4096x18x268 2 [⟨S4096x18x256, a⟩, ⟨S4096x18x12, b⟩] concatenates_S4096x18x256_S4096x18x12_S4096x18x268_d2) : (⟨S4096x18x256, .f32⟩ : BufTy).Contents (Elt F) → (⟨S4096x18x12, .f32⟩ : BufTy).Contents (Elt F) → (⟨S4096x18x268, .f32⟩ : BufTy).Contents (Elt F)),
    StableHlo.unary main_arg5 main_v72 ((transpose S268x6 [1, 0] · transposes_S6x268_S268x6_1_0) : (⟨S6x268, .f32⟩ : BufTy).Contents (Elt F) → (⟨S268x6, .f32⟩ : BufTy).Contents (Elt F)),
    StableHlo.binary main_v71 main_v72 main_v73 ((fun l r => Host.dotGeneral dot_S4096x18x268_S268x6_S4096x18x6_2_0_01_1_n_n none l r) : (⟨S4096x18x268, .f32⟩ : BufTy).Contents (Elt F) → (⟨S268x6, .f32⟩ : BufTy).Contents (Elt F) → (⟨S4096x18x6, .f32⟩ : BufTy).Contents (Elt F)),
    StableHlo.unary main_arg6 main_v74 (broadcastInDim S1x1x6 ![2] bcast_S6_S1x1x6_2 : (⟨S6, .f32⟩ : BufTy).Contents (Elt F) → (⟨S1x1x6, .f32⟩ : BufTy).Contents (Elt F)),
    StableHlo.unary main_v74 main_v75 (broadcastInDim S4096x18x6 ![0, 1, 2] bcast_S1x1x6_S4096x18x6_0_1_2 : (⟨S1x1x6, .f32⟩ : BufTy).Contents (Elt F) → (⟨S4096x18x6, .f32⟩ : BufTy).Contents (Elt F)),
    StableHlo.binary main_v73 main_v75 main_v76 (addf : (⟨S4096x18x6, .f32⟩ : BufTy).Contents (Elt F) → (⟨S4096x18x6, .f32⟩ : BufTy).Contents (Elt F) → (⟨S4096x18x6, .f32⟩ : BufTy).Contents (Elt F))]

/-- Its softmax. -/
def softOps : List Op :=
  [StableHlo.nullary main_cst_6 (constant S_ .f32 0xFF800000#32),
    StableHlo.binary main_v76 main_cst_6 main_v77 ((fun x v => Host.reduce FloatOps.maximumf x v reducesTo_S4096x18x6_S4096x18_d2 h_S_) : (⟨S4096x18x6, .f32⟩ : BufTy).Contents (Elt F) → (⟨S_, .f32⟩ : BufTy).Contents (Elt F) → (⟨S4096x18, .f32⟩ : BufTy).Contents (Elt F)),
    StableHlo.nullary main_cst_7 (constant S_ .f32 0xFF800000#32),
    StableHlo.unary main_cst_7 main_v78 (broadcastInDim S4096x18 ![] bcast_S_S4096x18 : (⟨S_, .f32⟩ : BufTy).Contents (Elt F) → (⟨S4096x18, .f32⟩ : BufTy).Contents (Elt F)),
    StableHlo.binary main_v78 main_v77 main_v79 (maximumf : (⟨S4096x18, .f32⟩ : BufTy).Contents (Elt F) → (⟨S4096x18, .f32⟩ : BufTy).Contents (Elt F) → (⟨S4096x18, .f32⟩ : BufTy).Contents (Elt F)),
    StableHlo.unary main_v79 main_v80 (broadcastInDim S4096x18x1 ![0, 1] bcast_S4096x18_S4096x18x1_0_1 : (⟨S4096x18, .f32⟩ : BufTy).Contents (Elt F) → (⟨S4096x18x1, .f32⟩ : BufTy).Contents (Elt F)),
    StableHlo.unary main_v80 main_v81 (broadcastInDim S4096x18x6 ![0, 1, 2] bcast_S4096x18x1_S4096x18x6_0_1_2 : (⟨S4096x18x1, .f32⟩ : BufTy).Contents (Elt F) → (⟨S4096x18x6, .f32⟩ : BufTy).Contents (Elt F)),
    StableHlo.binary main_v76 main_v81 main_v82 (subf : (⟨S4096x18x6, .f32⟩ : BufTy).Contents (Elt F) → (⟨S4096x18x6, .f32⟩ : BufTy).Contents (Elt F) → (⟨S4096x18x6, .f32⟩ : BufTy).Contents (Elt F)),
    StableHlo.unary main_v82 main_v83 (Host.exp : (⟨S4096x18x6, .f32⟩ : BufTy).Contents (Elt F) → (⟨S4096x18x6, .f32⟩ : BufTy).Contents (Elt F)),
    StableHlo.nullary main_cst_8 (constant S_ .f32 0x00000000#32),
    StableHlo.binary main_v83 main_cst_8 main_v84 ((fun x v => Host.reduceAdd x v reducesTo_S4096x18x6_S4096x18_d2 h_S_) : (⟨S4096x18x6, .f32⟩ : BufTy).Contents (Elt F) → (⟨S_, .f32⟩ : BufTy).Contents (Elt F) → (⟨S4096x18, .f32⟩ : BufTy).Contents (Elt F)),
    StableHlo.unary main_v84 main_v85 (broadcastInDim S4096x18x1 ![0, 1] bcast_S4096x18_S4096x18x1_0_1 : (⟨S4096x18, .f32⟩ : BufTy).Contents (Elt F) → (⟨S4096x18x1, .f32⟩ : BufTy).Contents (Elt F)),
    StableHlo.unary main_v85 main_v86 (broadcastInDim S4096x18x6 ![0, 1, 2] bcast_S4096x18x1_S4096x18x6_0_1_2 : (⟨S4096x18x1, .f32⟩ : BufTy).Contents (Elt F) → (⟨S4096x18x6, .f32⟩ : BufTy).Contents (Elt F)),
    StableHlo.binary main_v83 main_v86 main_v87 (Host.divf : (⟨S4096x18x6, .f32⟩ : BufTy).Contents (Elt F) → (⟨S4096x18x6, .f32⟩ : BufTy).Contents (Elt F) → (⟨S4096x18x6, .f32⟩ : BufTy).Contents (Elt F))]

/-- The mean of the softmaxes under the scaled products. -/
def mixOps : List Op :=
  [StableHlo.binary main_v63 main_v87 main_v88 ((fun l r => Host.dotGeneral dot_S4096x1x18_S4096x18x6_S4096x1x6_2_1_1_2_0_0 none l r) : (⟨S4096x1x18, .f32⟩ : BufTy).Contents (Elt F) → (⟨S4096x18x6, .f32⟩ : BufTy).Contents (Elt F) → (⟨S4096x1x6, .f32⟩ : BufTy).Contents (Elt F)),
    StableHlo.reshape main_v88 main_v89 (rfl : (.f32 : EltTy) = .f32) shapeCasts_S4096x1x6_S4096x6]

/-- The whole reference. -/
def ops : List Op :=
  distOps1 ++ (sampOps1 ++ (probOps1 ++ (distOps2 ++ (sampOps2 ++ (probOps2 ++ (normOps ++ (hotOps ++ (linOps ++ (softOps ++ (mixOps))))))))))

/-- What `distOps1` writes, in order. -/
def distRefs1 : List (Ref sig .tc) :=
  [main_v0, main_v1, main_v2, main_v3, main_v4, main_cst, main_v5, main_cst_0, main_v6, main_v7, main_v8, main_v9, main_v10, main_v11, main_cst_1, main_v12, main_v13, main_v14, main_v15]

theorem distOps1_kept (V : Valuation τ sig (Elt F)) (r : Ref sig .tc) (hr : r ∉ distRefs1) :
    StableHlo.after distOps1 V (Proc.devRef .tc r) = V (Proc.devRef .tc r) :=
  StableHlo.after_unwritten distRefs1 rfl hr V

/-- What `sampOps1` writes, in order. -/
def sampRefs1 : List (Ref sig .tc) :=
  [main_v16, main_v17, main_v18, main_v19, main_call0_v0, main_call0_cst, main_call0_c, main_call0_v1_0, main_v20]

theorem sampOps1_kept (V : Valuation τ sig (Elt F)) (r : Ref sig .tc) (hr : r ∉ sampRefs1) :
    StableHlo.after sampOps1 V (Proc.devRef .tc r) = V (Proc.devRef .tc r) :=
  StableHlo.after_unwritten sampRefs1 rfl hr V

/-- What `probOps1` writes, in order. -/
def probRefs1 : List (Ref sig .tc) :=
  [main_v21, main_v22, main_v23, main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v24, main_v25, main_v26, main_v27, main_v28]

theorem probOps1_kept (V : Valuation τ sig (Elt F)) (r : Ref sig .tc) (hr : r ∉ probRefs1) :
    StableHlo.after probOps1 V (Proc.devRef .tc r) = V (Proc.devRef .tc r) :=
  StableHlo.after_unwritten probRefs1 rfl hr V

/-- What `distOps2` writes, in order. -/
def distRefs2 : List (Ref sig .tc) :=
  [main_v29, main_v30, main_v31, main_v32, main_v33, main_cst_2, main_v34, main_cst_3, main_v35, main_v36, main_v37, main_v38, main_v39, main_v40, main_cst_4, main_v41, main_v42, main_v43, main_v44]

theorem distOps2_kept (V : Valuation τ sig (Elt F)) (r : Ref sig .tc) (hr : r ∉ distRefs2) :
    StableHlo.after distOps2 V (Proc.devRef .tc r) = V (Proc.devRef .tc r) :=
  StableHlo.after_unwritten distRefs2 rfl hr V

/-- What `sampOps2` writes, in order. -/
def sampRefs2 : List (Ref sig .tc) :=
  [main_v45, main_v46, main_v47, main_v48, main_call2_v0, main_call2_cst, main_call2_c, main_call2_v1_0, main_v49]

theorem sampOps2_kept (V : Valuation τ sig (Elt F)) (r : Ref sig .tc) (hr : r ∉ sampRefs2) :
    StableHlo.after sampOps2 V (Proc.devRef .tc r) = V (Proc.devRef .tc r) :=
  StableHlo.after_unwritten sampRefs2 rfl hr V

/-- What `probOps2` writes, in order. -/
def probRefs2 : List (Ref sig .tc) :=
  [main_v50, main_v51, main_v52, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v53, main_v54, main_v55, main_v56, main_v57]

theorem probOps2_kept (V : Valuation τ sig (Elt F)) (r : Ref sig .tc) (hr : r ∉ probRefs2) :
    StableHlo.after probOps2 V (Proc.devRef .tc r) = V (Proc.devRef .tc r) :=
  StableHlo.after_unwritten probRefs2 rfl hr V

/-- What `normOps` writes, in order. -/
def normRefs : List (Ref sig .tc) :=
  [main_v58, main_cst_5, main_v59, main_v60, main_v61, main_v62, main_v63]

theorem normOps_kept (V : Valuation τ sig (Elt F)) (r : Ref sig .tc) (hr : r ∉ normRefs) :
    StableHlo.after normOps V (Proc.devRef .tc r) = V (Proc.devRef .tc r) :=
  StableHlo.after_unwritten normRefs rfl hr V

/-- What `hotOps` writes, in order. -/
def hotRefs : List (Ref sig .tc) :=
  [main_v64, main_v65, main_v66, main_call4_v0, main_call4_v1, main_call4_v2, main_call4_v3, main_call4_v4, main_v67, main_v68]

theorem hotOps_kept (V : Valuation τ sig (Elt F)) (r : Ref sig .tc) (hr : r ∉ hotRefs) :
    StableHlo.after hotOps V (Proc.devRef .tc r) = V (Proc.devRef .tc r) :=
  StableHlo.after_unwritten hotRefs rfl hr V

/-- What `linOps` writes, in order. -/
def linRefs : List (Ref sig .tc) :=
  [main_v69, main_v70, main_v71, main_v72, main_v73, main_v74, main_v75, main_v76]

theorem linOps_kept (V : Valuation τ sig (Elt F)) (r : Ref sig .tc) (hr : r ∉ linRefs) :
    StableHlo.after linOps V (Proc.devRef .tc r) = V (Proc.devRef .tc r) :=
  StableHlo.after_unwritten linRefs rfl hr V

/-- What `softOps` writes, in order. -/
def softRefs : List (Ref sig .tc) :=
  [main_cst_6, main_v77, main_cst_7, main_v78, main_v79, main_v80, main_v81, main_v82, main_v83, main_cst_8, main_v84, main_v85, main_v86, main_v87]

theorem softOps_kept (V : Valuation τ sig (Elt F)) (r : Ref sig .tc) (hr : r ∉ softRefs) :
    StableHlo.after softOps V (Proc.devRef .tc r) = V (Proc.devRef .tc r) :=
  StableHlo.after_unwritten softRefs rfl hr V

/-- What `mixOps` writes, in order. -/
def mixRefs : List (Ref sig .tc) :=
  [main_v88, main_v89]

theorem mixOps_kept (V : Valuation τ sig (Elt F)) (r : Ref sig .tc) (hr : r ∉ mixRefs) :
    StableHlo.after mixOps V (Proc.devRef .tc r) = V (Proc.devRef .tc r) :=
  StableHlo.after_unwritten mixRefs rfl hr V

/-- The contents of a memory after the pieces up to one of them. -/
theorem after_append {l₁ l₂ : List Op} (V : Valuation τ sig (Elt F)) :
    StableHlo.after (l₁ ++ l₂) V = StableHlo.after l₂ (StableHlo.after l₁ V) := by
  induction l₁ generalizing V with
  | nil => rfl
  | cons op l ih => exact ih _

theorem main_eq (d : Dev nD) : main (F := F) d = StableHlo.seq ops := by
  rfl

theorem ops_bufs : (ops : List Op).Forall fun op => op.bufs ⊆ StableHlo.tcRefs τ sig := by
  simp [ops, distOps1, sampOps1, probOps1, distOps2, sampOps2, probOps2, normOps, hotOps, linOps, softOps, mixOps, argmaxOps, takeOps, oneHotOps]

theorem ops_fresh : ∀ op ∈ (ops : List Op), op.fresh = ∅ :=
  (List.forall_iff_forall_mem (p := fun op : Op => op.fresh = ∅)).mp (by
    simp only [ops, distOps1, sampOps1, probOps1, distOps2, sampOps2, probOps2, normOps, hotOps, linOps, softOps, mixOps, argmaxOps, takeOps, oneHotOps, List.cons_append, List.nil_append]
    repeat' constructor)

theorem run_ref (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq (by decide) (by decide) defs main (fun _ => ops) main_eq
    (fun _ => ops_bufs) m ρ (fun _ => ops_fresh)

/-- Nothing writes an argument. -/
theorem ops_kept (V : Valuation τ sig (Elt F)) (r : Ref sig .tc)
    (hr : r ∉ distRefs1 ∧ r ∉ sampRefs1 ∧ r ∉ probRefs1 ∧ r ∉ distRefs2 ∧ r ∉ sampRefs2 ∧ r ∉ probRefs2 ∧ r ∉ normRefs ∧ r ∉ hotRefs ∧ r ∉ linRefs ∧ r ∉ softRefs ∧ r ∉ mixRefs) :
    StableHlo.after ops V (Proc.devRef .tc r) = V (Proc.devRef .tc r) := by
  obtain ⟨h0, h1, h2, h3, h4, h5, h6, h7, h8, h9, h10⟩ := hr
  simp only [ops, after_append]
  rw [mixOps_kept _ _ h10, softOps_kept _ _ h9, linOps_kept _ _ h8, hotOps_kept _ _ h7, normOps_kept _ _ h6, probOps2_kept _ _ h5, sampOps2_kept _ _ h4, distOps2_kept _ _ h3, probOps1_kept _ _ h2, sampOps1_kept _ _ h1, distOps1_kept _ _ h0]

/-- An argument ends as it was. -/
theorem arg_kept {m : (ℓ : Loc nD τ sig) → Buf (Elt F) ℓ} {s : MemSt nD τ sig (Elt F)} {d : Dev nD}
    (h : ∀ b : Ref sig .tc, s.mem ((d.tc : Thread nD τ).loc b)
        = StableHlo.after ops (StableHlo.launchContents m d) (Proc.devRef .tc b))
    (b : Ref sig .tc)
    (hb : b ∉ distRefs1 ∧ b ∉ sampRefs1 ∧ b ∉ probRefs1 ∧ b ∉ distRefs2 ∧ b ∉ sampRefs2 ∧ b ∉ probRefs2 ∧ b ∉ normRefs ∧ b ∉ hotRefs ∧ b ∉ linRefs ∧ b ∉ softRefs ∧ b ∉ mixRefs) :
    s.mem ((d.tc : Thread nD τ).loc b) = m ((d.tc : Thread nD τ).loc b) :=
  (h b).trans (ops_kept (StableHlo.launchContents m d) b hb)

end Cert.ReferenceIdeal.Model
-- ==== Proof.Frames.lean ====
/- The claims that a program runs, leaves its arguments unchanged and ends with no semaphore raised. -/
module
public import proofs.«01_k».proof.Proof.Launch
public import proofs.«01_k».proof.Proof.Gen.Kernel
public import proofs.«01_k».proof.Proof.RefOps
public import proofs.«01_k».proof.Defs
@[expose] public section
noncomputable section
namespace Cert.Proof
open Idealize.ShloMosaic Idealize.ShloMosaic.TcCoe Idealize.SL.Sem Cert.KernelIdeal.Model

/-! The printed kernel and its idealization are one program. -/

set_option maxRecDepth 16384 in
theorem mm_same : @Cert.Kernel.cc0__mm_body Bits _ _ = @Cert.KernelIdeal.cc0__mm_body Bits _ _ := rfl
set_option maxRecDepth 16384 in
theorem sc_same : @Cert.Kernel.cc1__sc_body Bits _ _ = @Cert.KernelIdeal.cc1__sc_body Bits _ _ := rfl
set_option maxRecDepth 16384 in
theorem defs₀_same : Cert.Kernel.defs₀ (F := Bits) = Cert.KernelIdeal.defs₀ (F := Bits) := by
  funext p ℓ a
  cases p <;> match ℓ with
  | 0 => rfl
  | 1 => rfl
set_option maxRecDepth 16384 in
theorem defs_same : Cert.Kernel.defs (F := Bits) = Cert.KernelIdeal.defs (F := Bits) :=
  congrArg (fun D => (Cert.KernelIdeal.sc (F := Bits)).defs (Pipeline.defs Cert.KernelIdeal.pcfgs D)) defs₀_same

theorem frame_of {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ c, argOk m r.2 c Cert.KernelIdeal.main_arg0 ∧ argOk m r.2 c Cert.KernelIdeal.main_arg1
        ∧ argOk m r.2 c Cert.KernelIdeal.main_arg2 ∧ argOk m r.2 c Cert.KernelIdeal.main_arg3
        ∧ argOk m r.2 c Cert.KernelIdeal.main_arg4 ∧ argOk m r.2 c Cert.KernelIdeal.main_arg5
        ∧ argOk m r.2 c Cert.KernelIdeal.main_arg6 ∧ argOk m r.2 c Cert.KernelIdeal.main_arg7
        ∧ argOk m r.2 c Cert.KernelIdeal.main_arg8) ∧ r.2.sem = fun _ => 0) :=
  (θ_run Cert.KernelIdeal.defs _ _).mono (fun _ h => ⟨fun c => (h.1 c).2, h.2⟩) (run_main m ρ)

set_option maxRecDepth 16384 in
theorem frame_kernel : Cert.quiescent_Kernel := by
  intro m ρ _
  have h := frame_of (F := Bits) m ρ
  rw [← defs_same] at h
  exact h

theorem frame_ideal : Cert.quiescent_KernelIdeal := fun m ρ _ => frame_of (F := Ideal) m ρ

theorem frame_reference : Cert.quiescent_ReferenceIdeal := fun m ρ _ =>
  (θ_run Cert.ReferenceIdeal.defs _ _).mono (fun r h => ⟨fun c => ⟨Cert.ReferenceIdeal.Model.arg_kept (h c) _ (by decide), Cert.ReferenceIdeal.Model.arg_kept (h c) _ (by decide),
      Cert.ReferenceIdeal.Model.arg_kept (h c) _ (by decide), Cert.ReferenceIdeal.Model.arg_kept (h c) _ (by decide), Cert.ReferenceIdeal.Model.arg_kept (h c) _ (by decide), Cert.ReferenceIdeal.Model.arg_kept (h c) _ (by decide),
      Cert.ReferenceIdeal.Model.arg_kept (h c) _ (by decide), Cert.ReferenceIdeal.Model.arg_kept (h c) _ (by decide), Cert.ReferenceIdeal.Model.arg_kept (h c) _ (by decide)⟩,
      Idealize.ShloMosaic.sem_eq_zero_of_no_sems (by decide) r.2⟩)
    (Cert.ReferenceIdeal.Model.run_ref (F := Ideal) m ρ)

end Cert.Proof
-- ==== Proof.Spec.lean ====
/- What both programs compute, over the extended reals: the first greatest entry of a row, and the softmax of a row. -/
module

public import Idealize.ShloMosaic.Lib.Pointwise
public import Idealize.ShloMosaic.Lib.IdealHost

@[expose] public section

noncomputable section

namespace Cert.Spec

open Idealize.ShloMosaic

/-- Entry `n` is the first of the greatest. -/
def IsFirst (v : Fin 6 → EReal) (n : Fin 6) : Prop := ∀ k, v k < v n ∨ (v k = v n ∧ n ≤ k)

theorem IsFirst.unique {v : Fin 6 → EReal} {m n : Fin 6} (hm : IsFirst v m) (hn : IsFirst v n) : m = n := by
  rcases hm n with h | ⟨h, hle⟩
  · rcases hn m with h' | ⟨h', _⟩
    · exact absurd (h.trans h') (lt_irrefl _)
    · exact absurd h (by rw [h']; exact lt_irrefl _)
  · rcases hn m with h' | ⟨_, hle'⟩
    · exact absurd h' (by rw [h]; exact lt_irrefl _)
    · exact le_antisymm hle hle'

/-- The first greatest entry is told by the order alone. -/
theorem IsFirst.congr {v w : Fin 6 → EReal} {n : Fin 6} (h : ∀ a b, v a < v b ↔ w a < w b) (hv : IsFirst v n) : IsFirst w n := by
  intro k
  rcases hv k with h1 | ⟨h1, h2⟩
  · exact .inl ((h k n).1 h1)
  · refine .inr ⟨le_antisymm (not_lt.1 fun h' => ?_) (not_lt.1 fun h' => ?_), h2⟩
    · exact absurd ((h n k).2 h') (by rw [h1]; exact lt_irrefl _)
    · exact absurd ((h k n).2 h') (by rw [h1]; exact lt_irrefl _)

/-- The greatest of six. -/
def top (z : Fin 6 → EReal) : EReal :=
  max (Ideal.ofBits FTy.f32 0xFF800000#32) (Finset.univ.fold max (Ideal.ofBits FTy.f32 0xFF800000#32) z)

/-- The softmax of six, as it is written. -/
def soft (z : Fin 6 → EReal) (c : Fin 6) : EReal :=
  Ideal.div (Ideal.exp (z c - top z)) (∑ k, Ideal.exp (z k - top z))

/-- The products of two rows, added up. -/
def dot {n : ℕ} (u v : Fin n → EReal) : EReal := ∑ k, u k * v k

/-- A sample's part of the products of two rows. -/
def share (p q : Fin 18 → EReal) (s : Fin 18) : EReal := Ideal.div (p s * q s) (dot p q)

/-- Three terms added, the first two first. -/
def sum3 (a b c : EReal) : EReal := a + b + c

/-- One where two classes are one, zero elsewhere. -/
def ind (a b : Fin 6) : EReal := if a = b then 1 else 0

theorem ofBits_neg_inf : Ideal.ofBits FTy.f32 0xFF800000#32 = ⊥ := by
  simp [Ideal.ofBits, Ideal.ieee]

/-- Of two pairs of a value and a position the first comes before the second. -/
def Before (p q : EReal × BitVec 32) : Prop := q.1 < p.1 ∨ (q.1 = p.1 ∧ p.2.toInt ≤ q.2.toInt)

theorem Before.refl (p : EReal × BitVec 32) : Before p p := .inr ⟨rfl, le_rfl⟩

theorem Before.trans {p q r : EReal × BitVec 32} (h : Before p q) (h' : Before q r) : Before p r := by
  rcases h with h | ⟨h, h2⟩ <;> rcases h' with h' | ⟨h', h2'⟩
  · exact .inl (h'.trans h)
  · exact .inl (h' ▸ h)
  · exact .inl (h ▸ h')
  · exact .inr ⟨h'.trans h, h2.trans h2'⟩

/-- A fold that keeps one of two pairs, one that comes before both, ends at a pair that comes before all. -/
theorem fold_before {f : EReal × BitVec 32 → EReal × BitVec 32 → EReal × BitVec 32}
    (hf : ∀ a b, (f a b = a ∨ f a b = b) ∧ Before (f a b) a ∧ Before (f a b) b) :
    ∀ (l : List (EReal × BitVec 32)) (a : EReal × BitVec 32),
      (l.foldl f a = a ∨ l.foldl f a ∈ l) ∧ Before (l.foldl f a) a ∧ ∀ q ∈ l, Before (l.foldl f a) q
  | [], a => ⟨.inl rfl, .refl a, fun _ h => nomatch h⟩
  | b :: l, a => by
    obtain ⟨h1, h2, h3⟩ := fold_before hf l (f a b)
    obtain ⟨g1, g2, g3⟩ := hf a b
    refine ⟨?_, h2.trans g2, fun q hq => ?_⟩
    · rcases h1 with h1 | h1
      · rcases g1 with g1 | g1
        · exact .inl (h1.trans g1)
        · exact .inr (List.mem_cons.2 (.inl (h1.trans g1)))
      · exact .inr (List.mem_cons_of_mem _ h1)
    · rcases List.mem_cons.1 hq with rfl | hq
      · exact h2.trans g3
      · exact h3 q hq

end Cert.Spec
-- ==== Proof.RefPick.lean ====
/- The two indexed operations of the reference over the extended reals: the arg-max of a draw, and the row it then takes. -/
module

public import proofs.«01_k».proof.Proof.Spec
public import proofs.«01_k».proof.Proof.RefOps
public import Idealize.ShloMosaic.Lib.StableHlo.Predicate
public import Idealize.ShloMosaic.Lib.Pointwise
public import Idealize.ShloMosaic.Lib.IdealHost

@[expose] public section

set_option maxRecDepth 16384

noncomputable section

namespace Cert.ReferenceIdeal.Model

open Cert.ReferenceIdeal Cert.ReferenceIdeal.Gen Cert.Spec
open Idealize.ShloMosaic Idealize.ShloMosaic.TcCoe Idealize.SL.Sem
open Idealize.ShloMosaic.Pointwise

/-- The arg-max's step keeps one of its two pairs. -/
theorem reducer_apply (a b : EReal × BitVec 32) :
    reducer_argmax_f32_i32 (F := Ideal) a b = if b.1 < a.1 ∨ (a.1 = b.1 ∧ a.2.slt b.2 = true) then a else b := by
  obtain ⟨a1, a2⟩ := a
  obtain ⟨b1, b2⟩ := b
  show (_, _) = _
  unfold Scalar.select
  simp only [FloatOps.cmpf, Ideal.cmp, IntOp.ori, IntOp.andi, IntOp.cmpi]
  rcases lt_trichotomy a1 b1 with h | h | h
  · have h1 : ¬ b1 < a1 := not_lt.2 h.le
    have h2 : a1 ≠ b1 := h.ne
    simp [h1, h2]
  · subst h
    by_cases g : a2.slt b2 = true <;> simp [g]
  · have h2 : a1 ≠ b1 := h.ne'
    simp [h, h2]

theorem reducer_before (a b : EReal × BitVec 32) :
    (reducer_argmax_f32_i32 (F := Ideal) a b = a ∨ reducer_argmax_f32_i32 (F := Ideal) a b = b)
      ∧ Before (reducer_argmax_f32_i32 (F := Ideal) a b) a ∧ Before (reducer_argmax_f32_i32 (F := Ideal) a b) b := by
  rw [reducer_apply]
  split
  case isTrue h =>
    refine ⟨.inl rfl, .refl a, ?_⟩
    rcases h with h | ⟨h, h'⟩
    · exact .inl h
    · refine .inr ⟨h.symm, ?_⟩
      rw [BitVec.slt_iff_toInt_lt] at h'
      exact h'.le
  case isFalse h =>
    refine ⟨.inr rfl, ?_, .refl b⟩
    rcases lt_trichotomy a.1 b.1 with g | g | g
    · exact .inl g
    · refine .inr ⟨g, ?_⟩
      by_contra h'
      exact h (.inr ⟨g, BitVec.slt_iff_toInt_lt.2 (not_le.1 h')⟩)
    · exact absurd (.inl g) h

/-- The arg-max of a row is the position of its first greatest entry. -/
theorem argmax_apply (x : FVec Ideal S18x4096x6 .f32) (s : Fin 18) (i : Fin 4096) :
    ∃ n : Fin 6, (Host.argReduce reducer_argmax_f32_i32 x (iotaInDim S18x4096x6 32 2)
        (constant (F := Ideal) S_ .f32 0xFF800000#32) (constantI S_ 32 0#32) reducesTo_S18x4096x6_S18x4096_d2 h_S_ (ix2 s i)).2 = BitVec.ofNat 32 n.val
      ∧ IsFirst (fun k => x (ix3 s i k)) n := by
  rw [Ideal.argReduce_eq_reduce2, Host.reduce2_eq_foldl_fiber]
  generalize hl : Host.argReduceFiber x (iotaInDim S18x4096x6 32 2) reducesTo_S18x4096x6_S18x4096_d2 (ix2 s i) = l
  have hinit : ((constant (F := Ideal) S_ .f32 0xFF800000#32) (Shape.Idx.first h_S_), (constantI S_ 32 0#32) (Shape.Idx.first h_S_))
      = ((⊥ : EReal), 0#32) := Prod.ext ofBits_neg_inf rfl
  have hdrop : ∀ (a : Fin 18) (b : Fin 4096) (k : Fin 6), reducesTo_S18x4096x6_S18x4096_d2.drop (ix3 a b k) = ix2 a b := fun a b k => by
    funext m
    match m with
    | ⟨0, _⟩ => rfl
    | ⟨1, _⟩ => rfl
  have hmem : ∀ k : Fin 6, ((x (ix3 s i k) : EReal), BitVec.ofNat 32 k.val) ∈ l := fun k => by
    rw [← hl]
    refine List.mem_map.2 ⟨S18x4096x6.rowMajor (ix3 s i k), List.mem_filter.2 ⟨List.mem_finRange _, ?_⟩, ?_⟩
    · rw [Equiv.symm_apply_apply, hdrop]; simp
    · rw [Equiv.symm_apply_apply]; rfl
  have hof : ∀ q ∈ l, ∃ k : Fin 6, q = ((x (ix3 s i k) : EReal), BitVec.ofNat 32 k.val) := fun q hq => by
    rw [← hl] at hq
    obtain ⟨n, hn, rfl⟩ := List.mem_map.1 hq
    have hd := of_decide_eq_true (List.mem_filter.1 hn).2
    generalize S18x4096x6.rowMajor.symm n = j at hd
    obtain ⟨a, b, k, rfl⟩ : ∃ (a : Fin 18) (b : Fin 4096) (k : Fin 6), j = ix3 a b k := ⟨j 0, j 1, j 2, by
      funext m
      match m with
      | ⟨0, _⟩ => rfl
      | ⟨1, _⟩ => rfl
      | ⟨2, _⟩ => rfl⟩
    rw [hdrop] at hd
    have h0 : a = s := congrFun hd 0
    have h1 : b = i := congrFun hd 1
    exact ⟨k, by subst h0 h1; rfl⟩
  obtain ⟨h1, h2, h3⟩ := fold_before reducer_before l ((⊥ : EReal), 0#32)
  rw [← hinit] at h1 h2 h3
  generalize hr : List.foldl reducer_argmax_f32_i32 (_, _) l = r at h1 h2 h3 ⊢
  have hsm : ∀ k : Fin 6, (BitVec.ofNat 32 k.val).toInt = k.val := fun k =>
    StableHlo.Predicate.toInt_ofNat_small _ (by have := k.isLt; omega)
  rcases h1 with h1 | h1
  · rw [hinit] at h1
    subst h1
    have hb : ∀ k, x (ix3 s i k) = (⊥ : EReal) := fun k => by
      rcases h3 _ (hmem k) with g | ⟨g, _⟩
      · exact absurd g not_lt_bot
      · exact g
    exact ⟨0, rfl, fun k => .inr ⟨(hb k).trans (hb 0).symm, Fin.zero_le k⟩⟩
  · obtain ⟨n, rfl⟩ := hof _ h1
    refine ⟨n, rfl, fun k => ?_⟩
    rcases h3 _ (hmem k) with g | ⟨g, g'⟩
    · exact .inl g
    · refine .inr ⟨g, ?_⟩
      rw [hsm, hsm] at g'
      exact Fin.le_def.2 (by exact_mod_cast g')

/-- A row number from zero on is no number counted from the end. -/
theorem wrap_word (a : Fin 6) : Scalar.select (IntOp.cmpi .slt (BitVec.ofNat 32 a.val) 0#32)
    (IntOp.addi (BitVec.ofNat 32 a.val) 4096#32) (BitVec.ofNat 32 a.val) = BitVec.ofNat 32 a.val := by
  revert a
  decide

/-- A row number below six is in range. -/
theorem range_word (a : Fin 6) : (Finset.univ : Finset (Fin 1)).fold IntOp.andi 1#1 (fun _ =>
    IntOp.andi (IntOp.cmpi .sge (BitVec.ofNat 32 a.val) 0#32) (IntOp.cmpi .sle (BitVec.ofNat 32 a.val) 4095#32)) = 1#1 := by
  rw [Finset.univ_unique, Finset.fold_singleton]
  revert a
  decide

/-- A distribution laid out once per sample. -/
theorem spread_apply (x : S4096x6.Idx → EReal) (s : Fin 18) (a : Fin 4096) (c : Fin 6) :
    broadcastInDim S18x4096x6 ![0, 1, 2] bcast_S1x4096x6_S18x4096x6_0_1_2
      (broadcastInDim S1x4096x6 ![1, 2] bcast_S4096x6_S1x4096x6_1_2 x) (ix3 s a c) = x (ix2 a c) := by
  pointwise

/-- The start indices of the row taken are the samples. -/
theorem start_apply (x : IVec S18x4096 32) (s : Fin 18) (i : Fin 4096) (a : Fin 6) (h : x (ix2 s i) = BitVec.ofNat 32 a.val) :
    select (cmpi .slt (broadcastInDim S18x4096x1 ![0, 1] bcast_S18x4096_S18x4096x1_0_1 x)
        (broadcastInDim S18x4096x1 ![] bcast_S_S18x4096x1 (constantI S_ 32 0#32)))
      (addi (broadcastInDim S18x4096x1 ![0, 1] bcast_S18x4096_S18x4096x1_0_1 x)
        (broadcastInDim S18x4096x1 ![] bcast_S_S18x4096x1 (constantI S_ 32 4096#32)))
      (broadcastInDim S18x4096x1 ![0, 1] bcast_S18x4096_S18x4096x1_0_1 x) (ix3 s i (0 : Fin 1)) = BitVec.ofNat 32 a.val := by
  pointwise
  rw [h]
  exact wrap_word a

/-- The row taken along the batch: where the start index is a row's number, the row with that number. -/
theorem take_apply {α : Type} (x : S18x4096x6.Idx → α) (idx : IVec S18x4096x1 32) (s : Fin 18) (i a : Fin 4096) (c : Fin 6)
    (h : idx (ix3 s i (0 : Fin 1)) = BitVec.ofNat 32 a.val) :
    Host.gather gather_S18x4096x6_S18x4096x1_S18x4096x6_2_1_0_0_1_2_116 x idx (ix3 s i c) = x (ix3 s a c) := by
  unfold Host.gather
  refine congrArg x (funext fun m => Fin.ext ?_)
  match m with
  | ⟨0, _⟩ => exact Nat.zero_add s.val
  | ⟨1, _⟩ =>
    have e : gather_S18x4096x6_S18x4096x1_S18x4096x6_2_1_0_0_1_2_116.siIdx (ix3 s i c) ⟨0, by decide⟩ = ix3 s i (0 : Fin 1) := by
      funext m
      match m with
      | ⟨0, _⟩ => rfl
      | ⟨1, _⟩ => rfl
      | ⟨2, _⟩ => rfl
    show min (idx (gather_S18x4096x6_S18x4096x1_S18x4096x6_2_1_0_0_1_2_116.siIdx (ix3 s i c) ⟨0, by decide⟩)).toInt.toNat 4095 + 0 + 0 = a.val
    rw [e, h, StableHlo.Predicate.toInt_ofNat_small _ (by have := a.isLt; omega)]
    have := a.isLt
    omega
  | ⟨2, _⟩ => exact Nat.zero_add c.val

end Cert.ReferenceIdeal.Model
-- ==== Proof.RefRead.lean ====
/- What the reference's stages compute over the extended reals, entry by entry. -/
module

public import proofs.«01_k».proof.Proof.RefPick
public import Idealize.ShloMosaic.Lib.Pointwise
public import Idealize.ShloMosaic.Lib.IdealHost

@[expose] public section

set_option maxRecDepth 16384

noncomputable section

namespace Cert.ReferenceIdeal.Model

open Cert.ReferenceIdeal Cert.ReferenceIdeal.Gen Cert.Spec
open Idealize.ShloMosaic Idealize.ShloMosaic.TcCoe Idealize.SL.Sem
open Idealize.ShloMosaic.Pointwise

/-- An affine map of a row of the batch, a class at a time. -/
def lin (x : S4096x256.Idx → EReal) (w : S6x256.Idx → EReal) (b : S6.Idx → EReal) (i : Fin 4096) (c : Fin 6) : EReal :=
  ∑ k : Fin 256, x (ix2 i k) * w (ix2 c k) + b (ix1 c)

variable (V : Valuation τ sig (Elt Ideal)) (i : Fin 4096) (c : Fin 6) (s : Fin 18)

/-- The distribution of opponent 1: the softmax of its affine map. -/
theorem dist1_apply : (StableHlo.after distOps1 V main_v15 (ix2 i c) : EReal)
    = soft (lin (V main_arg0) (V main_arg1) (V main_arg2) i) c := by
  unfold distOps1
  after_results
  pointwise
  rfl

/-- The samples of opponent 1: the first greatest of the log of the distribution plus the noise. -/
theorem samp1_apply : ∃ n : Fin 6, (StableHlo.after sampOps1 V main_v20 (ix2 s i) : BitVec 32) = BitVec.ofNat 32 n.val
    ∧ IsFirst (fun k => Ideal.log (V main_v15 (ix2 i k) : EReal) + (V main_arg7 (ix3 s i k) : EReal)) n := by
  unfold sampOps1 argmaxOps
  simp only [List.cons_append, List.nil_append, List.append_assoc]
  after_results
  simp -implicitDefEqProofs only [StableHlo.TRef.toBuf, StableHlo.TRef.ofBuf, cast_cast, cast_eq]
  obtain ⟨n, h1, h2⟩ := argmax_apply (addf (broadcastInDim S18x4096x6 ![0, 1, 2] bcast_S1x4096x6_S18x4096x6_0_1_2
    (broadcastInDim S1x4096x6 ![1, 2] bcast_S4096x6_S1x4096x6_1_2 (Host.log (F := Ideal) (φ := .f32) (V main_v15)))) (V main_arg7)) s i
  refine ⟨n, h1, ?_⟩
  refine IsFirst.congr (fun a b => ?_) h2
  simp only [pointwise]
  rfl

/-- The samples of opponent 1, the batch first. -/
theorem act1_apply : (StableHlo.after probOps1 V main_v26 (ix2 i s) : BitVec 32) = V main_v20 (ix2 s i) := by
  unfold probOps1 takeOps
  simp only [List.cons_append, List.nil_append, List.append_assoc]
  after_results
  pointwise

/-- The probability taken for a sample of opponent 1: the first class of the row whose number is the sample. -/
theorem prob1_apply (a : Fin 6) (h : (V main_v20 (ix2 s i) : BitVec 32) = BitVec.ofNat 32 a.val) :
    (StableHlo.after probOps1 V main_v28 (ix2 i s) : EReal) = V main_v15 (ix2 (a.castLE (by decide) : Fin 4096) (0 : Fin 6)) := by
  unfold probOps1 takeOps
  simp only [List.cons_append, List.nil_append, List.append_assoc]
  after_results
  simp -implicitDefEqProofs only [StableHlo.TRef.toBuf, StableHlo.TRef.ofBuf, cast_cast, cast_eq]
  pointwise
  rw [h, take_apply _ _ s i (a.castLE (by decide)) 0]
  · simp only [wrap_word]
    rw [range_word]
    exact spread_apply _ s _ 0
  · exact start_apply _ s i a h

/-- The distribution of opponent 2: the softmax of its affine map. -/
theorem dist2_apply : (StableHlo.after distOps2 V main_v44 (ix2 i c) : EReal)
    = soft (lin (V main_arg0) (V main_arg3) (V main_arg4) i) c := by
  unfold distOps2
  after_results
  pointwise
  rfl

/-- The samples of opponent 2: the first greatest of the log of the distribution plus the noise. -/
theorem samp2_apply : ∃ n : Fin 6, (StableHlo.after sampOps2 V main_v49 (ix2 s i) : BitVec 32) = BitVec.ofNat 32 n.val
    ∧ IsFirst (fun k => Ideal.log (V main_v44 (ix2 i k) : EReal) + (V main_arg8 (ix3 s i k) : EReal)) n := by
  unfold sampOps2 argmaxOps
  simp only [List.cons_append, List.nil_append, List.append_assoc]
  after_results
  simp -implicitDefEqProofs only [StableHlo.TRef.toBuf, StableHlo.TRef.ofBuf, cast_cast, cast_eq]
  obtain ⟨n, h1, h2⟩ := argmax_apply (addf (broadcastInDim S18x4096x6 ![0, 1, 2] bcast_S1x4096x6_S18x4096x6_0_1_2
    (broadcastInDim S1x4096x6 ![1, 2] bcast_S4096x6_S1x4096x6_1_2 (Host.log (F := Ideal) (φ := .f32) (V main_v44)))) (V main_arg8)) s i
  refine ⟨n, h1, ?_⟩
  refine IsFirst.congr (fun a b => ?_) h2
  simp only [pointwise]
  rfl

/-- The samples of opponent 2, the batch first. -/
theorem act2_apply : (StableHlo.after probOps2 V main_v55 (ix2 i s) : BitVec 32) = V main_v49 (ix2 s i) := by
  unfold probOps2 takeOps
  simp only [List.cons_append, List.nil_append, List.append_assoc]
  after_results
  pointwise

/-- The probability taken for a sample of opponent 2: the first class of the row whose number is the sample. -/
theorem prob2_apply (a : Fin 6) (h : (V main_v49 (ix2 s i) : BitVec 32) = BitVec.ofNat 32 a.val) :
    (StableHlo.after probOps2 V main_v57 (ix2 i s) : EReal) = V main_v44 (ix2 (a.castLE (by decide) : Fin 4096) (0 : Fin 6)) := by
  unfold probOps2 takeOps
  simp only [List.cons_append, List.nil_append, List.append_assoc]
  after_results
  simp -implicitDefEqProofs only [StableHlo.TRef.toBuf, StableHlo.TRef.ofBuf, cast_cast, cast_eq]
  pointwise
  rw [h, take_apply _ _ s i (a.castLE (by decide)) 0]
  · simp only [wrap_word]
    rw [range_word]
    exact spread_apply _ s _ 0
  · exact start_apply _ s i a h

/-- The weight of a sample: its probability over the sum of them all. -/
theorem norm_apply : (StableHlo.after normOps V main_v63 (ix3 i (0 : Fin 1) s) : EReal)
    = share (fun k => V main_v28 (ix2 i k)) (fun k => V main_v57 (ix2 i k)) s := by
  unfold normOps
  after_results
  pointwise
  rfl

/-- A compare of two classes, as a number. -/
theorem ind_word (a b : Fin 6) :
    (FloatOps.uitofp (F := Ideal) .f32 (IntOp.cmpi .eq (BitVec.ofNat 32 a.val) (BitVec.ofNat 32 b.val)) : EReal) = ind a b := by
  have h : IntOp.cmpi .eq (BitVec.ofNat 32 a.val) (BitVec.ofNat 32 b.val) = if a = b then 1#1 else 0#1 := by
    revert a b
    decide
  rw [h]
  unfold ind
  split
  · show ((((1#1 : BitVec 1).toNat : ℕ) : ℝ) : EReal) = 1
    simp
  · show ((((0#1 : BitVec 1).toNat : ℕ) : ℝ) : EReal) = 0
    simp

/-- The one-hot rows: opponent 1's first, then opponent 2's. -/
theorem hot_apply (a b : Fin 6) (ha : (V main_v26 (ix2 i s) : BitVec 32) = BitVec.ofNat 32 a.val)
    (hb : (V main_v55 (ix2 i s) : BitVec 32) = BitVec.ofNat 32 b.val) (j : Fin 6) :
    (StableHlo.after hotOps V main_v68 (ix3 i s (j.castAdd 6 : Fin 12)) : EReal) = ind a j
    ∧ (StableHlo.after hotOps V main_v68 (ix3 i s (j.natAdd 6 : Fin 12)) : EReal) = ind b j := by
  unfold hotOps oneHotOps
  simp only [List.cons_append, List.nil_append, List.append_assoc]
  after_results
  simp -implicitDefEqProofs only [StableHlo.TRef.toBuf, StableHlo.TRef.ofBuf, cast_cast, cast_eq]
  pointwise
  have hs := s.isLt
  have hj := j.isLt
  have e1 : ¬ (6 + j.val) / 6 * 18 + s.val < 18 := by omega
  have e2 : j.val / 6 * 18 + s.val < 18 := by omega
  have e3 : (6 + j.val) % 6 = j.val := by omega
  have e4 : j.val % 6 = j.val := by omega
  have e5 : j.val / 6 * 18 + s.val = s.val := by omega
  have e6 : (6 + j.val) / 6 * 18 + s.val - 18 = s.val := by omega
  simp only [Fin.val_castAdd, Fin.val_natAdd, e1, e2, e3, e4, e5, e6, hs, dite_true, dite_false]
  exact ⟨(congrArg _ (congrArg (fun v => IntOp.cmpi .eq v _) ha)).trans (ind_word a j),
    (congrArg _ (congrArg (fun v => IntOp.cmpi .eq v _) hb)).trans (ind_word b j)⟩

/-- The last affine map: the row, the one-hot pair, the bias. -/
theorem lin_apply : (StableHlo.after linOps V main_v76 (ix3 i s c) : EReal)
    = sum3 (dot (fun k : Fin 256 => V main_arg0 (ix2 i k)) (fun k => V main_arg5 (ix2 c (k.castAdd 12 : Fin 268))))
        (dot (fun k : Fin 12 => V main_v68 (ix3 i s k)) (fun k => V main_arg5 (ix2 c (k.natAdd 256 : Fin 268)))) (V main_arg6 (ix1 c)) := by
  unfold linOps
  after_results
  pointwise
  rfl

/-- The last softmax. -/
theorem soft_apply : (StableHlo.after softOps V main_v87 (ix3 i s c) : EReal) = soft (fun k => V main_v76 (ix3 i s k)) c := by
  unfold softOps
  after_results
  pointwise
  rfl

/-- The samples' mean. -/
theorem mix_apply : (StableHlo.after mixOps V main_v89 (ix2 i c) : EReal)
    = dot (fun s : Fin 18 => V main_v63 (ix3 i (0 : Fin 1) s)) (fun s => V main_v87 (ix3 i s c)) := by
  unfold mixOps
  after_results
  pointwise
  rfl

end Cert.ReferenceIdeal.Model
-- ==== Proof.RefValue.lean ====
/- The reference's result over the extended reals, entry by entry, in terms of the samples it draws. -/
module

public import proofs.«01_k».proof.Proof.RefRead

@[expose] public section

set_option maxRecDepth 16384

noncomputable section

namespace Cert.ReferenceIdeal.Model

open Cert.ReferenceIdeal Cert.ReferenceIdeal.Gen Cert.Spec
open Idealize.ShloMosaic Idealize.ShloMosaic.TcCoe Idealize.SL.Sem
open Idealize.ShloMosaic.Pointwise

/-- The probability taken for a sample: of the first class, in the row whose number is the sample. -/
def first (z : Fin 4096 → Fin 6 → EReal) (a : Fin 6) : EReal := soft (z (a.castLE (by decide))) 0

/-- What the last softmax takes for a sample of the two opponents. -/
def last (x : S4096x256.Idx → EReal) (w : S6x268.Idx → EReal) (b : S6.Idx → EReal) (i : Fin 4096) (p q c : Fin 6) : EReal :=
  sum3 (dot (fun k : Fin 256 => x (ix2 i k)) (fun k => w (ix2 c (k.castAdd 12 : Fin 268))))
    (w (ix2 c (Fin.natAdd 256 (p.castAdd 6 : Fin 12) : Fin 268)) + w (ix2 c (Fin.natAdd 256 (Fin.natAdd 6 q : Fin 12) : Fin 268))) (b (ix1 c))

theorem dot_ind (p : Fin 6) (u : Fin 6 → EReal) : (∑ k, ind p k * u k) = u p := by
  rw [Finset.sum_eq_single p]
  · simp [ind]
  · intro k _ hk
    simp [ind, Ne.symm hk]
  · simp

/-- A pair of one-hot rows picks one entry of each half. -/
theorem dot_hot (h u : Fin 12 → EReal) (p q : Fin 6) (hh : ∀ j : Fin 6, h (j.castAdd 6) = ind p j ∧ h (j.natAdd 6) = ind q j) :
    dot h u = u (p.castAdd 6) + u (q.natAdd 6) := by
  unfold dot
  rw [Fin.sum_univ_add (a := 6) (b := 6)]
  congr 1
  · rw [← dot_ind p fun j => u (j.castAdd 6)]
    exact Finset.sum_congr rfl fun j _ => by rw [(hh j).1]
  · rw [← dot_ind q fun j => u (j.natAdd 6)]
    exact Finset.sum_congr rfl fun j _ => by rw [(hh j).2]

/-- The reference's result in terms of its samples `p` and `q`. -/
def result (z1 z2 : Fin 4096 → Fin 6 → EReal) (x : S4096x256.Idx → EReal) (w : S6x268.Idx → EReal) (b : S6.Idx → EReal)
    (i : Fin 4096) (c : Fin 6) (p q : Fin 18 → Fin 6) : EReal :=
  dot (share (fun s => first z1 (p s)) (fun s => first z2 (q s))) (fun s => soft (last x w b i (p s) (q s)) c)

theorem ref_value (V : Valuation τ sig (Elt Ideal)) (i : Fin 4096) :
    ∃ p q : Fin 18 → Fin 6,
      (∀ s, IsFirst (fun k => Ideal.log (soft (lin (V main_arg0) (V main_arg1) (V main_arg2) i) k) + (V main_arg7 (ix3 s i k) : EReal)) (p s))
      ∧ (∀ s, IsFirst (fun k => Ideal.log (soft (lin (V main_arg0) (V main_arg3) (V main_arg4) i) k) + (V main_arg8 (ix3 s i k) : EReal)) (q s))
      ∧ ∀ c, (StableHlo.after ops V main_v89 (ix2 i c) : EReal)
          = result (lin (V main_arg0) (V main_arg1) (V main_arg2)) (lin (V main_arg0) (V main_arg3) (V main_arg4))
              (V main_arg0) (V main_arg5) (V main_arg6) i c p q := by
  simp only [ops, after_append]
  generalize h1 : StableHlo.after distOps1 V = V1
  generalize h2 : StableHlo.after sampOps1 V1 = V2
  generalize h3 : StableHlo.after probOps1 V2 = V3
  generalize h4 : StableHlo.after distOps2 V3 = V4
  generalize h5 : StableHlo.after sampOps2 V4 = V5
  generalize h6 : StableHlo.after probOps2 V5 = V6
  generalize h7 : StableHlo.after normOps V6 = V7
  generalize h8 : StableHlo.after hotOps V7 = V8
  generalize h9 : StableHlo.after linOps V8 = V9
  generalize h10 : StableHlo.after softOps V9 = V10
  have k1 := fun r hr => (congrFun h1.symm _).trans (distOps1_kept V r hr)
  have k2 := fun r hr => (congrFun h2.symm _).trans (sampOps1_kept V1 r hr)
  have k3 := fun r hr => (congrFun h3.symm _).trans (probOps1_kept V2 r hr)
  have k4 := fun r hr => (congrFun h4.symm _).trans (distOps2_kept V3 r hr)
  have k5 := fun r hr => (congrFun h5.symm _).trans (sampOps2_kept V4 r hr)
  have k6 := fun r hr => (congrFun h6.symm _).trans (probOps2_kept V5 r hr)
  have k7 := fun r hr => (congrFun h7.symm _).trans (normOps_kept V6 r hr)
  have k8 := fun r hr => (congrFun h8.symm _).trans (hotOps_kept V7 r hr)
  have k9 := fun r hr => (congrFun h9.symm _).trans (linOps_kept V8 r hr)
  have k10 := fun r hr => (congrFun h10.symm _).trans (softOps_kept V9 r hr)
  have a1 : ∀ r : Ref sig .tc, r ∉ distRefs1 ∧ r ∉ sampRefs1 ∧ r ∉ probRefs1 → V3 (Proc.devRef .tc r) = V (Proc.devRef .tc r) :=
    fun r hr => (k3 r hr.2.2).trans ((k2 r hr.2.1).trans (k1 r hr.1))
  have a2 : ∀ r : Ref sig .tc, r ∉ distRefs2 ∧ r ∉ sampRefs2 ∧ r ∉ probRefs2 ∧ r ∉ normRefs ∧ r ∉ hotRefs →
      V8 (Proc.devRef .tc r) = V3 (Proc.devRef .tc r) :=
    fun r hr => (k8 r hr.2.2.2.2).trans ((k7 r hr.2.2.2.1).trans ((k6 r hr.2.2.1).trans ((k5 r hr.2.1).trans (k4 r hr.1))))
  -- the first opponent
  have d1 : ∀ j k, (V1 main_v15 (ix2 j k) : EReal) = soft (lin (V main_arg0) (V main_arg1) (V main_arg2) j) k := fun j k => by
    rw [← h1]; exact dist1_apply V j k
  have s1 : ∀ s, ∃ n : Fin 6, (V2 main_v20 (ix2 s i) : BitVec 32) = BitVec.ofNat 32 n.val ∧
      IsFirst (fun k => Ideal.log (soft (lin (V main_arg0) (V main_arg1) (V main_arg2) i) k) + (V main_arg7 (ix3 s i k) : EReal)) n := fun s => by
    obtain ⟨n, g1, g2⟩ := samp1_apply V1 i s
    rw [h2] at g1
    simp only [d1, k1 main_arg7 (by decide)] at g2
    exact ⟨n, g1, g2⟩
  choose p hp1 hp2 using s1
  have p1 : ∀ s, (V3 main_v28 (ix2 i s) : EReal) = first (lin (V main_arg0) (V main_arg1) (V main_arg2)) (p s) := fun s => by
    rw [← h3]
    refine (prob1_apply V2 i s (p s) (hp1 s)).trans ?_
    rw [k2 main_v15 (by decide)]
    exact d1 _ _
  have t1 : ∀ s, (V3 main_v26 (ix2 i s) : BitVec 32) = BitVec.ofNat 32 (p s).val := fun s => by
    rw [← h3]
    exact (act1_apply V2 i s).trans (hp1 s)
  -- the second
  have d2 : ∀ j k, (V4 main_v44 (ix2 j k) : EReal) = soft (lin (V main_arg0) (V main_arg3) (V main_arg4) j) k := fun j k => by
    rw [← h4]
    refine (dist2_apply V3 j k).trans ?_
    rw [a1 main_arg0 (by decide), a1 main_arg3 (by decide), a1 main_arg4 (by decide)]
  have s2 : ∀ s, ∃ n : Fin 6, (V5 main_v49 (ix2 s i) : BitVec 32) = BitVec.ofNat 32 n.val ∧
      IsFirst (fun k => Ideal.log (soft (lin (V main_arg0) (V main_arg3) (V main_arg4) i) k) + (V main_arg8 (ix3 s i k) : EReal)) n := fun s => by
    obtain ⟨n, g1, g2⟩ := samp2_apply V4 i s
    rw [h5] at g1
    simp only [d2, k4 main_arg8 (by decide), a1 main_arg8 (by decide)] at g2
    exact ⟨n, g1, g2⟩
  choose q hq1 hq2 using s2
  have p2 : ∀ s, (V6 main_v57 (ix2 i s) : EReal) = first (lin (V main_arg0) (V main_arg3) (V main_arg4)) (q s) := fun s => by
    rw [← h6]
    refine (prob2_apply V5 i s (q s) (hq1 s)).trans ?_
    rw [k5 main_v44 (by decide)]
    exact d2 _ _
  have t2 : ∀ s, (V6 main_v55 (ix2 i s) : BitVec 32) = BitVec.ofNat 32 (q s).val := fun s => by
    rw [← h6]
    exact (act2_apply V5 i s).trans (hq1 s)
  have p1' : ∀ s, (V6 main_v28 (ix2 i s) : EReal) = first (lin (V main_arg0) (V main_arg1) (V main_arg2)) (p s) := fun s => by
    rw [k6 main_v28 (by decide), k5 main_v28 (by decide), k4 main_v28 (by decide)]
    exact p1 s
  -- the two of them
  have n1 : ∀ s, (V10 main_v63 (ix3 i (0 : Fin 1) s) : EReal)
      = share (fun s => first (lin (V main_arg0) (V main_arg1) (V main_arg2)) (p s)) (fun s => first (lin (V main_arg0) (V main_arg3) (V main_arg4)) (q s)) s := fun s => by
    rw [k10 main_v63 (by decide), k9 main_v63 (by decide), k8 main_v63 (by decide), ← h7]
    refine (norm_apply V6 i s).trans ?_
    simp only [p1', p2]
  have hot : ∀ s (j : Fin 6), (V8 main_v68 (ix3 i s (j.castAdd 6 : Fin 12)) : EReal) = ind (p s) j
      ∧ (V8 main_v68 (ix3 i s (j.natAdd 6 : Fin 12)) : EReal) = ind (q s) j := fun s j => by
    rw [← h8]
    refine hot_apply V7 i s (p s) (q s) ?_ ?_ j
    · rw [k7 main_v26 (by decide), k6 main_v26 (by decide), k5 main_v26 (by decide), k4 main_v26 (by decide)]
      exact t1 s
    · rw [k7 main_v55 (by decide)]
      exact t2 s
  have l1 : ∀ s c, (V9 main_v76 (ix3 i s c) : EReal) = last (V main_arg0) (V main_arg5) (V main_arg6) i (p s) (q s) c := fun s c => by
    rw [← h9]
    refine (lin_apply V8 i c s).trans ?_
    rw [dot_hot _ _ (p s) (q s) (hot s), a2 main_arg0 (by decide), a2 main_arg5 (by decide), a2 main_arg6 (by decide),
      a1 main_arg0 (by decide), a1 main_arg5 (by decide), a1 main_arg6 (by decide)]
    rfl
  have f1 : ∀ s c, (V10 main_v87 (ix3 i s c) : EReal) = soft (last (V main_arg0) (V main_arg5) (V main_arg6) i (p s) (q s)) c := fun s c => by
    rw [← h10]
    refine (soft_apply V9 i c s).trans ?_
    simp only [l1]
  refine ⟨p, q, hp2, hq2, fun c => (mix_apply V10 i c).trans ?_⟩
  simp only [n1, f1]
  rfl

end Cert.ReferenceIdeal.Model
-- ==== Proof.KerRead.lean ====
/- The kernel's arrays over the extended reals, entry by entry: the logits, the noise and the weights that a tile reads. -/
module

public import proofs.«01_k».proof.Proof.Obl
public import proofs.«01_k».proof.Proof.RefValue

@[expose] public section

set_option maxRecDepth 16384

noncomputable section

namespace Cert.KernelIdeal.Model

open Idealize.ShloMosaic Idealize.ShloMosaic.TcCoe Cert.KernelIdeal Cert.KernelIdeal.Gen Cert.Spec
open Idealize.ShloMosaic.Pointwise
open Cert.ReferenceIdeal.Model (lin)

theorem pay_apply (a1 a2 : S6x256.Idx → EReal) (w : S6x268.Idx → EReal) (x : S1024x256.Idx → EReal) (b : S24x1.Idx → EReal)
    (k : Fin 24) (n : Fin 1024) : (k0_pay1 (F := Ideal) a1 a2 w x b (ix2 k n) : EReal) =
      ∑ j : Fin 256, (if h : k.val < 6 then a1 (ix2 ⟨k.val, h⟩ j) else if h : k.val - 6 < 6 then a2 (ix2 ⟨k.val - 6, h⟩ j)
        else if h : k.val - 6 - 6 < 6 then w (ix2 ⟨k.val - 6 - 6, h⟩ ⟨j.val, by omega⟩) else 0) * x (ix2 n j) + b (ix2 k (0 : Fin 1)) := by
  unfold k0_pay1
  pointwise

theorem bias_apply (b1 b2 b3 : S6.Idx → EReal) (k : Fin 24) : (biasF (F := Ideal) b1 b2 b3 (ix2 k (0 : Fin 1)) : EReal) =
    if h : k.val < 6 then b1 (ix1 ⟨k.val, h⟩) else if h : k.val - 6 < 6 then b2 (ix1 ⟨k.val - 6, h⟩)
      else if h : k.val - 6 - 6 < 6 then b3 (ix1 ⟨k.val - 6 - 6, h⟩) else 0 := by
  unfold biasF
  pointwise

theorem tail_apply (w : S6x268.Idx → EReal) (k : Fin 96) : (tailF (F := Ideal) w (ix1 k) : EReal) =
    if h : k.val < 36 then w (ix2 ⟨k.val / 6, by omega⟩ ⟨256 + k.val % 6, by omega⟩)
      else if h : k.val - 36 < 36 then w (ix2 ⟨(k.val - 36) / 6, by omega⟩ ⟨262 + (k.val - 36) % 6, by omega⟩) else 0 := by
  unfold tailF
  pointwise

theorem noise_apply (g : S18x4096x6.Idx → EReal) (k : Fin 442368) : (noiseF (F := Ideal) g (ix1 k) : EReal) =
    g (ix3 ⟨k.val / 768 % 18, by omega⟩ ⟨k.val / 13824 * 128 + k.val % 128, by omega⟩ ⟨k.val / 128 % 6, by omega⟩) := by
  unfold noiseF
  pointwise

/-! ## At the positions a tile reads -/

theorem at1_ix {n : ℕ} (h : ∀ a : Fin 1, 0 < (![n] : Fin 1 → ℕ) a) (k : Fin n) :
    (at1 h k.val : (⟨1, ![n]⟩ : Shape).Idx) = ix1 k := at1_eq h _ rfl

theorem at2_ix {m n : ℕ} (h : ∀ a : Fin 2, 0 < (![m, n] : Fin 2 → ℕ) a) (k : Fin m) (l : Fin n) :
    (at2 h k.val l.val : (⟨2, ![m, n]⟩ : Shape).Idx) = ix2 k l := at2_eq h _ rfl rfl

variable (x : S4096x256.Idx → EReal) (a1 a2 : S6x256.Idx → EReal) (w : S6x268.Idx → EReal) (b1 b2 b3 : S6.Idx → EReal)

theorem xBlk_apply (n : Fin 4096) (j : Fin 256) :
    xBlk (F := Ideal) x (n.val / 1024) (ix2 (⟨n.val % 1024, Nat.mod_lt _ (by decide)⟩ : Fin 1024) j) = x (ix2 n j) :=
  congrArg x (at2_eq pos_x _ (by show 1024 * (n.val / 1024) + n.val % 1024 = n.val; omega) rfl)

theorem zF_ix (b : S24x1.Idx → EReal) (k : Fin 24) (n : Fin 4096) :
    zF (F := Ideal) x a1 a2 w b (ix2 k n)
      = k0_pay1 (F := Ideal) a1 a2 w (xBlk (F := Ideal) x (n.val / 1024)) b
          (ix2 k (⟨n.val % 1024, Nat.mod_lt _ (by decide)⟩ : Fin 1024)) := by
  have h := Nat.div_add_mod n.val 1024
  generalize hy : (⟨n.val % 1024, Nat.mod_lt _ (by decide)⟩ : Fin 1024) = y
  have hy' : n.val % 1024 = y.val := congrArg Fin.val hy
  generalize n.val / 1024 = t at h ⊢
  exact zF_apply (F := Ideal) x a1 a2 w b t (ix2 k y) (ix2 k n) rfl (by show n.val = t * 1024 + y.val; omega)

/-- The first six rows of the logits: opponent 1's affine map. -/
theorem z_one (j : Fin 6) (n : Fin 4096) :
    zF (F := Ideal) x a1 a2 w (biasF (F := Ideal) b1 b2 b3) (at2 pos_z j.val n.val) = lin x a1 b1 n j := by
  have hj := j.isLt
  rw [at2_ix (m := 24) (n := 4096) pos_z ⟨j.val, by omega⟩ n, zF_ix, pay_apply, bias_apply]
  simp only [hj, dite_true, Fin.eta]
  unfold lin
  refine congrArg₂ (· + ·) (Finset.sum_congr rfl fun k _ => ?_) rfl
  rw [xBlk_apply, mul_comm]

/-- The next six: opponent 2's. -/
theorem z_two (j : Fin 6) (n : Fin 4096) :
    zF (F := Ideal) x a1 a2 w (biasF (F := Ideal) b1 b2 b3) (at2 pos_z (6 + j.val) n.val) = lin x a2 b2 n j := by
  have hj := j.isLt
  have h1 : ¬ 6 + j.val < 6 := by omega
  have h2 : 6 + j.val - 6 = j.val := by omega
  rw [at2_ix (m := 24) (n := 4096) pos_z ⟨6 + j.val, by omega⟩ n, zF_ix, pay_apply, bias_apply]
  simp only [h1, h2, hj, dite_true, dite_false, Fin.eta]
  unfold lin
  refine congrArg₂ (· + ·) (Finset.sum_congr rfl fun k _ => ?_) rfl
  rw [xBlk_apply, mul_comm]

/-- The next six: the part of the last affine map that the row itself gives. -/
theorem z_three (j : Fin 6) (n : Fin 4096) :
    (zF (F := Ideal) x a1 a2 w (biasF (F := Ideal) b1 b2 b3) (at2 pos_z (12 + j.val) n.val) : EReal)
      = dot (fun k : Fin 256 => x (ix2 n k)) (fun k => w (ix2 j (k.castAdd 12 : Fin 268))) + b3 (ix1 j) := by
  have hj := j.isLt
  have h1 : ¬ 12 + j.val < 6 := by omega
  have h2 : ¬ 12 + j.val - 6 < 6 := by omega
  have h3 : 12 + j.val - 6 - 6 = j.val := by omega
  rw [at2_ix (m := 24) (n := 4096) pos_z ⟨12 + j.val, by omega⟩ n, zF_ix, pay_apply, bias_apply]
  simp only [h1, h2, h3, hj, dite_true, dite_false, Fin.eta]
  unfold dot
  refine congrArg₂ (· + ·) (Finset.sum_congr rfl fun k _ => ?_) rfl
  rw [xBlk_apply, mul_comm]
  rfl

/-- The noise of a row, at its place in the tile's order. -/
theorem noise_at (g : S18x4096x6.Idx → EReal) (t r : ℕ) (ht : t < 32) (hr : r < 128) (s : Fin 18) (k : Fin 6) :
    (nB (F := Ideal) (noiseF g) t (768 * s.val + 128 * k.val + r) : EReal) = g (ix3 s (⟨128 * t + r, by omega⟩ : Fin 4096) k) := by
  have hs := s.isLt
  have hk := k.isLt
  show noiseF (F := Ideal) g (at1 pos_n (13824 * t + (768 * s.val + 128 * k.val + r))) = _
  rw [at1_ix (n := 442368) pos_n ⟨13824 * t + (768 * s.val + 128 * k.val + r), by omega⟩, noise_apply]
  have e1 : (13824 * t + (768 * s.val + 128 * k.val + r)) / 768 % 18 = s.val := by omega
  have e2 : (13824 * t + (768 * s.val + 128 * k.val + r)) / 13824 * 128 + (13824 * t + (768 * s.val + 128 * k.val + r)) % 128 = 128 * t + r := by omega
  have e3 : (13824 * t + (768 * s.val + 128 * k.val + r)) / 128 % 6 = k.val := by omega
  simp only [e1, e2, e3, Fin.eta]

/-- The weights of a class for an action of opponent 1. -/
theorem tail_one (c a : Fin 6) :
    (wB (F := Ideal) (tailF w) (6 * c.val + a.val) : EReal) = w (ix2 c (Fin.natAdd 256 (a.castAdd 6 : Fin 12) : Fin 268)) := by
  have hc := c.isLt
  have ha := a.isLt
  show tailF (F := Ideal) w (at1 pos_w (6 * c.val + a.val)) = _
  rw [at1_ix (n := 96) pos_w ⟨6 * c.val + a.val, by omega⟩, tail_apply]
  have e1 : (6 * c.val + a.val) / 6 = c.val := by omega
  have e2 : (6 * c.val + a.val) % 6 = a.val := by omega
  have e3 : 6 * c.val + a.val < 36 := by omega
  simp only [e1, e2, e3, dite_true, Fin.eta]
  rfl

/-- And of opponent 2. -/
theorem tail_two (c a : Fin 6) :
    (wB (F := Ideal) (tailF w) (36 + 6 * c.val + a.val) : EReal) = w (ix2 c (Fin.natAdd 256 (Fin.natAdd 6 a : Fin 12) : Fin 268)) := by
  have hc := c.isLt
  have ha := a.isLt
  show tailF (F := Ideal) w (at1 pos_w (36 + 6 * c.val + a.val)) = _
  rw [at1_ix (n := 96) pos_w ⟨36 + 6 * c.val + a.val, by omega⟩, tail_apply]
  have e1 : (36 + 6 * c.val + a.val - 36) / 6 = c.val := by omega
  have e2 : (36 + 6 * c.val + a.val - 36) % 6 = a.val := by omega
  have e3 : ¬ 36 + 6 * c.val + a.val < 36 := by omega
  have e4 : 36 + 6 * c.val + a.val - 36 < 36 := by omega
  simp only [e1, e2, e3, e4, dite_true, dite_false, Fin.eta]
  refine congrArg w (congrArg (ix2 c) (Fin.ext ?_))
  show 262 + a.val = 256 + (6 + a.val)
  omega

end Cert.KernelIdeal.Model
-- ==== Proof.KerRow.lean ====
/- A row of the kernel's result over the extended reals: the running maximum, the softmax and the sums over the samples. -/
module

public import proofs.«01_k».proof.Proof.Rows
public import proofs.«01_k».proof.Proof.Spec

@[expose] public section

noncomputable section

namespace Cert.KernelIdeal.Model

open Idealize.ShloMosaic Cert.KernelIdeal Cert.KernelIdeal.Gen Cert.Spec

/-! ## The running maximum -/

/-- Of the first `j` entries, `n` is the position of the first greatest and `m` its value. -/
def FirstOf (u : ℕ → EReal) (j : ℕ) (m : EReal) (n : ℕ) : Prop := n < j ∧ m = u n ∧ ∀ k < j, u k < m ∨ (u k = m ∧ n ≤ k)

theorem FirstOf.step {u : ℕ → EReal} {j : ℕ} {m : EReal} {n : ℕ} {a : BitVec 32} (hj : j < 6) (h : FirstOf u j m n) (ha : a = BitVec.ofNat 32 n) :
    ∃ n', FirstOf u (j + 1) (pickVS (F := Ideal) (u j) m) n' ∧ pickIS (F := Ideal) j (u j) m a = BitVec.ofNat 32 n' := by
  obtain ⟨h1, h2, h3⟩ := h
  have hc : FloatOps.cmpf (F := Ideal) (φ := .f32) .ogt (u j) m = BitVec.ofBool (decide (m < u j)) := rfl
  unfold pickVS pickIS Scalar.select
  rw [hc]
  by_cases hm : m < u j
  · rw [if_pos (by simp [hm]), if_pos (by simp [hm])]
    refine ⟨j, ⟨Nat.lt_succ_self j, rfl, fun k hk => ?_⟩, rfl⟩
    rcases Nat.lt_succ_iff_lt_or_eq.1 hk with hk | rfl
    · rcases h3 k hk with h | ⟨h, _⟩
      · exact .inl (h.trans hm)
      · exact .inl (h ▸ hm)
    · exact .inr ⟨rfl, le_rfl⟩
  · rw [if_neg (by simp [hm]), if_neg (by simp [hm])]
    refine ⟨n, ⟨Nat.lt_succ_of_lt h1, h2, fun k hk => ?_⟩, ha⟩
    rcases Nat.lt_succ_iff_lt_or_eq.1 hk with hk | rfl
    · exact h3 k hk
    · rcases (not_lt.1 hm).lt_or_eq with h | h
      · exact .inl h
      · exact .inr ⟨h, h1.le⟩

/-- The kernel's class is the position of the first greatest. -/
theorem bestS_first (u : ℕ → EReal) : ∃ n : Fin 6, (bestS (F := Ideal) u).toNat = n.val ∧ IsFirst (fun k : Fin 6 => u k.val) n := by
  have h0 : FirstOf u 1 (u 0) 0 := ⟨by decide, rfl, fun k hk => by
    obtain rfl : k = 0 := by omega
    exact .inr ⟨rfl, le_rfl⟩⟩
  obtain ⟨n1, h1, e1⟩ := h0.step (by decide) (rfl : BitVec.ofNat 32 0 = BitVec.ofNat 32 0)
  obtain ⟨n2, h2, e2⟩ := h1.step (by decide) e1
  obtain ⟨n3, h3, e3⟩ := h2.step (by decide) e2
  obtain ⟨n4, h4, e4⟩ := h3.step (by decide) e3
  obtain ⟨n5, h5, e5⟩ := h4.step (by decide) e4
  obtain ⟨g1, g2, g3⟩ := h5
  refine ⟨⟨n5, g1⟩, ?_, fun k => ?_⟩
  · have e : bestS (F := Ideal) u = BitVec.ofNat 32 n5 := e5
    rw [e, BitVec.toNat_ofNat]
    exact Nat.mod_eq_of_lt (by omega)
  · rcases g3 k.val k.isLt with h | ⟨h, h'⟩
    · exact .inl (h.trans_eq g2)
    · exact .inr ⟨h.trans g2, h'⟩

/-! ## The softmax -/

theorem maxS_top (z : ℕ → EReal) : (maxS (F := Ideal) z : EReal) = top fun k : Fin 6 => z k.val := by
  have h : top (fun k : Fin 6 => z k.val) = Finset.univ.sup fun k : Fin 6 => z k.val := by
    unfold top
    rw [ofBits_neg_inf, max_eq_right bot_le]
    rfl
  rw [h]
  show max (max (max (max (max (z 0) (z 1)) (z 2)) (z 3)) (z 4)) (z 5) = _
  refine le_antisymm ?_ (Finset.sup_le fun k _ => ?_)
  · have e : ∀ k : Fin 6, z k.val ≤ Finset.univ.sup fun k : Fin 6 => z k.val :=
      fun k => Finset.le_sup (f := fun k : Fin 6 => z k.val) (Finset.mem_univ k)
    exact max_le (max_le (max_le (max_le (max_le (e 0) (e 1)) (e 2)) (e 3)) (e 4)) (e 5)
  · match k with
    | 0 => simp
    | 1 => simp
    | 2 => simp
    | 3 => simp
    | 4 => simp
    | 5 => simp

theorem sumS_sum (e : ℕ → EReal) : (sumS (F := Ideal) e : EReal) = ∑ k : Fin 6, e k.val := by
  rw [Fin.sum_univ_six]
  rfl

theorem softS_soft (z : ℕ → EReal) : (softS (F := Ideal) z : EReal) = soft (fun k : Fin 6 => z k.val) 0 := by
  unfold softS soft
  rw [sumS_sum]
  simp only [maxS_top]
  rfl

/-! ## The sums over the samples -/

/-- What one pair of classes adds to a class's sum. -/
def term (T zx : ℕ → EReal) (p c : ℕ) : EReal :=
  Ideal.div (T (p + 216)) (∑ k : Fin 6, Ideal.exp (zx k.val + T (p + 36 * k.val))) * Ideal.exp (zx c + T (p + 36 * c))

theorem fold_acc (T zx : ℕ → EReal) (p : ℕ → ℕ) (c : ℕ) : ∀ (l : List ℕ) (A : (ℕ → EReal) × EReal),
    ((l.foldl (fun A s => accS (F := Ideal) T zx (p s) A) A).1 c : EReal) = A.1 c + (l.map fun s => term T zx (p s) c).sum
    ∧ ((l.foldl (fun A s => accS (F := Ideal) T zx (p s) A) A).2 : EReal) = A.2 + (l.map fun s => T (p s + 216)).sum
  | [], A => by simp
  | s :: l, A => by
    obtain ⟨h1, h2⟩ := fold_acc T zx p c l (accS (F := Ideal) T zx (p s) A)
    rw [List.foldl_cons, h1, h2, List.map_cons, List.map_cons, List.sum_cons, List.sum_cons, ← add_assoc, ← add_assoc]
    refine ⟨congrArg (· + _) ?_, rfl⟩
    show A.1 c + Ideal.div (T (p s + 216)) (sumS (F := Ideal) fun k => Ideal.exp (zx k + T (p s + 36 * k))) * Ideal.exp (zx c + T (p s + 36 * c)) = _
    rw [sumS_sum]
    rfl

theorem sum_range (f : ℕ → EReal) : ((List.range 18).map f).sum = ∑ s : Fin 18, f s.val := by
  rw [← Finset.sum_range f]
  rfl

/-- A row's result: the terms of the pairs, over the pairs' weights. -/
theorem rowS_apply (z : ℕ → EReal) (g1 g2 : ℕ → ℕ → EReal) (T : ℕ → EReal) (c : ℕ) (p q : Fin 18 → Fin 6)
    (hp : ∀ s : Fin 18, classS (F := Ideal) z (g1 s.val) = (p s).val)
    (hq : ∀ s : Fin 18, classS (F := Ideal) (fun k => z (6 + k)) (g2 s.val) = (q s).val) :
    (rowS (F := Ideal) z g1 g2 T c : EReal)
      = (∑ s : Fin 18, term T (fun k => z (12 + k)) (6 * (p s).val + (q s).val) c)
        * Ideal.div 1 (∑ s : Fin 18, T (6 * (p s).val + (q s).val + 216)) := by
  obtain ⟨h1, h2⟩ := fold_acc T (fun k => z (12 + k))
    (fun s => 6 * classS (F := Ideal) z (g1 s) + classS (F := Ideal) (fun k => z (6 + k)) (g2 s)) c (List.range 18) (fun _ => 0, 0)
  have hz : (Scalar.ofBits (F := Ideal) .f32 0x00000000#32 : EReal) = 0 := by
    show Ideal.ofBits .f32 0x00000000#32 = 0
    simp [Ideal.ofBits, Ideal.ieee]
  have ho : (Scalar.ofBits (F := Ideal) .f32 0x3F800000#32 : EReal) = 1 := by
    show Ideal.ofBits .f32 0x3F800000#32 = 1
    simp [Ideal.ofBits, Ideal.ieee]
    rw [← EReal.coe_mul]
    norm_num
  unfold rowS
  simp only [hz, ho]
  refine (congrArg₂ (fun a b : EReal => a * Ideal.div 1 b) h1 h2).trans ?_
  rw [sum_range, sum_range, zero_add, zero_add]
  simp only [hp, hq]

end Cert.KernelIdeal.Model
-- ==== Proof.KerValue.lean ====
/- The kernel's result over the extended reals, entry by entry, in terms of the samples it draws. -/
module

public import proofs.«01_k».proof.Proof.KerRead
public import proofs.«01_k».proof.Proof.KerRow

@[expose] public section

set_option maxRecDepth 16384

noncomputable section

namespace Cert.KernelIdeal.Model

open Idealize.ShloMosaic Idealize.ShloMosaic.TcCoe Cert.KernelIdeal Cert.KernelIdeal.Gen Cert.Spec
open Idealize.ShloMosaic.Pointwise
open Cert.ReferenceIdeal.Model (lin first)

variable (x : S4096x256.Idx → EReal) (a1 a2 : S6x256.Idx → EReal) (w : S6x268.Idx → EReal) (b1 b2 b3 : S6.Idx → EReal)

/-- The logits. -/
abbrev zI : S24x4096.Idx → EReal := zF (F := Ideal) x a1 a2 w (biasF (F := Ideal) b1 b2 b3)

/-- The table over pairs. -/
abbrev tabI : ℕ → EReal := tabF (F := Ideal) (zI x a1 a2 w b1 b2 b3) (tailF (F := Ideal) w)

/-- What a pair of actions adds to the logit of a class. -/
def pairW (p q c : Fin 6) : EReal :=
  w (ix2 c (Fin.natAdd 256 (p.castAdd 6 : Fin 12) : Fin 268)) + w (ix2 c (Fin.natAdd 256 (Fin.natAdd 6 q : Fin 12) : Fin 268))

theorem tab_pair (p q c : Fin 6) : tabI x a1 a2 w b1 b2 b3 (6 * p.val + q.val + 36 * c.val) = pairW w p q c := by
  have hp := p.isLt
  have hq := q.isLt
  have hc := c.isLt
  have e1 : (6 * p.val + q.val + 36 * c.val) / 36 = c.val := by omega
  have e2 : (6 * p.val + q.val + 36 * c.val) % 36 / 6 = p.val := by omega
  have e3 : (6 * p.val + q.val + 36 * c.val) % 36 % 6 = q.val := by omega
  show pairS (F := Ideal) _ _ = _
  unfold pairS
  rw [if_pos (by omega), e1, e2, e3]
  unfold weightS
  rw [if_pos (by omega), if_pos (by omega), tail_one, tail_two]
  rfl

theorem tab_weight (p q : Fin 6) : tabI x a1 a2 w b1 b2 b3 (6 * p.val + q.val + 216) = first (lin x a1 b1) p * first (lin x a2 b2) q := by
  have hp := p.isLt
  have hq := q.isLt
  have e1 : (6 * p.val + q.val + 216 - 216) / 6 = p.val := by omega
  have e2 : (6 * p.val + q.val + 216 - 216) % 6 = q.val := by omega
  have e3 : 72 + p.val - 72 = p.val := by omega
  have e4 : 78 + q.val - 78 = q.val := by omega
  have z1 : ∀ k : Fin 6, zB (F := Ideal) (zI x a1 a2 w b1 b2 b3) 0 k.val p.val = lin x a1 b1 (p.castLE (by decide)) k := fun k => by
    show zI x a1 a2 w b1 b2 b3 (at2 pos_z k.val (128 * 0 + p.val)) = _
    rw [Nat.mul_zero, Nat.zero_add]
    exact z_one x a1 a2 w b1 b2 b3 k (p.castLE (by decide))
  have z2 : ∀ k : Fin 6, zB (F := Ideal) (zI x a1 a2 w b1 b2 b3) 0 (6 + k.val) q.val = lin x a2 b2 (q.castLE (by decide)) k := fun k => by
    show zI x a1 a2 w b1 b2 b3 (at2 pos_z (6 + k.val) (128 * 0 + q.val)) = _
    rw [Nat.mul_zero, Nat.zero_add]
    exact z_two x a1 a2 w b1 b2 b3 k (q.castLE (by decide))
  show pairS (F := Ideal) _ _ = _
  unfold pairS
  rw [if_neg (by omega), e1, e2]
  unfold weightS
  rw [if_neg (by omega), if_pos (by omega), if_neg (by omega), if_neg (by omega), softS_soft, softS_soft, e3, e4]
  simp only [z1, z2]
  rfl

/-- What the kernel takes the last exponentials of. -/
def lastK (i : Fin 4096) (p q c : Fin 6) : EReal :=
  (dot (fun k : Fin 256 => x (ix2 i k)) (fun k => w (ix2 c (k.castAdd 12 : Fin 268))) + b3 (ix1 c)) + pairW w p q c

theorem ker_value (g1 g2 : S18x4096x6.Idx → EReal) (i : Fin 4096) (p q : Fin 18 → Fin 6)
    (hp : ∀ s, IsFirst (fun k => lin x a1 b1 i k + g1 (ix3 s i k)) (p s))
    (hq : ∀ s, IsFirst (fun k => lin x a2 b2 i k + g2 (ix3 s i k)) (q s)) (c : Fin 6) :
    (outF (F := Ideal) (zI x a1 a2 w b1 b2 b3) (noiseF (F := Ideal) g1) (noiseF (F := Ideal) g2) (tailF (F := Ideal) w) (ix2 i c) : EReal)
      = (∑ s : Fin 18, Ideal.div (first (lin x a1 b1) (p s) * first (lin x a2 b2) (q s)) (∑ k : Fin 6, Ideal.exp (lastK x w b3 i (p s) (q s) k))
            * Ideal.exp (lastK x w b3 i (p s) (q s) c))
        * Ideal.div 1 (∑ s : Fin 18, first (lin x a1 b1) (p s) * first (lin x a2 b2) (q s)) := by
  have hi := i.isLt
  have ht : i.val / 128 < 32 := by omega
  have hr : i.val % 128 < 128 := Nat.mod_lt _ (by decide)
  have hn : 128 * (i.val / 128) + i.val % 128 = i.val := Nat.div_add_mod _ _
  show (rowS (F := Ideal) (fun k => zB (F := Ideal) (zI x a1 a2 w b1 b2 b3) (i.val / 128) k (i.val % 128))
    (fun s k => nB (F := Ideal) (noiseF (F := Ideal) g1) (i.val / 128) (768 * s + 128 * k + i.val % 128))
    (fun s k => nB (F := Ideal) (noiseF (F := Ideal) g2) (i.val / 128) (768 * s + 128 * k + i.val % 128))
    (tabI x a1 a2 w b1 b2 b3) c.val : EReal) = _
  have hz : ∀ k, zB (F := Ideal) (zI x a1 a2 w b1 b2 b3) (i.val / 128) k (i.val % 128) = zI x a1 a2 w b1 b2 b3 (at2 pos_z k i.val) :=
    fun k => by
      show zI x a1 a2 w b1 b2 b3 (at2 pos_z k (128 * (i.val / 128) + i.val % 128)) = _
      rw [hn]
  have hg : ∀ (g : S18x4096x6.Idx → EReal) (s : Fin 18) (k : Fin 6),
      nB (F := Ideal) (noiseF (F := Ideal) g) (i.val / 128) (768 * s.val + 128 * k.val + i.val % 128) = g (ix3 s i k) := fun g s k => by
    rw [noise_at g _ _ ht hr s k]
    exact congrArg (fun j => g (ix3 s j k)) (Fin.ext hn)
  rw [rowS_apply _ _ _ _ c.val p q (fun s => ?_) (fun s => ?_)]
  · simp only [tab_weight, term, tab_pair, hz, z_three]
    rfl
  · obtain ⟨n, h1, h2⟩ := bestS_first fun k => zB (F := Ideal) (zI x a1 a2 w b1 b2 b3) (i.val / 128) k (i.val % 128)
      + nB (F := Ideal) (noiseF (F := Ideal) g1) (i.val / 128) (768 * s.val + 128 * k + i.val % 128)
    simp only [hz, hg, z_one] at h2
    rw [h2.unique (hp s)] at h1
    exact h1
  · obtain ⟨n, h1, h2⟩ := bestS_first fun k => zB (F := Ideal) (zI x a1 a2 w b1 b2 b3) (i.val / 128) (6 + k) (i.val % 128)
      + nB (F := Ideal) (noiseF (F := Ideal) g2) (i.val / 128) (768 * s.val + 128 * k + i.val % 128)
    simp only [hz, hg, z_two] at h2
    rw [h2.unique (hq s)] at h1
    exact h1

end Cert.KernelIdeal.Model
-- ==== Proof.Softmax.lean ====
/- The softmax of real numbers, and the first greatest of its log, as real arithmetic. -/
module

public import proofs.«01_k».proof.Proof.Spec

@[expose] public section

noncomputable section

namespace Cert.Spec

open Idealize.ShloMosaic

theorem exp_coe (r : ℝ) : Ideal.exp (r : EReal) = (Real.exp r : EReal) := rfl

theorem div_coe (a : ℝ) {b : ℝ} (hb : 0 < b) : Ideal.div (a : EReal) (b : EReal) = ((a / b : ℝ) : EReal) := by
  have h : (b : EReal) ≠ 0 := by exact_mod_cast hb.ne'
  unfold Ideal.div
  rw [if_neg h, div_eq_mul_inv, EReal.coe_mul, EReal.coe_inv]

theorem log_coe {a : ℝ} (ha : 0 < a) : Ideal.log (a : EReal) = (Real.log a : EReal) := by
  show (if a ≤ 0 then (⊥ : EReal) else (Real.log a : EReal)) = _
  rw [if_neg (not_le.2 ha)]

theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The greatest of six is one of them. -/
theorem top_mem (z : Fin 6 → EReal) : ∃ k, top z = z k := by
  have h : top z = Finset.univ.sup z := by
    unfold top
    rw [ofBits_neg_inf, max_eq_right bot_le]
    rfl
  rw [h]
  obtain ⟨k, _, hk⟩ := Finset.exists_mem_eq_sup Finset.univ ⟨0, Finset.mem_univ _⟩ z
  exact ⟨k, hk⟩

/-- The softmax of real numbers. -/
def softR (r : Fin 6 → ℝ) (c : Fin 6) : ℝ := Real.exp (r c) / ∑ k, Real.exp (r k)

theorem sum_exp_pos (r : Fin 6 → ℝ) : 0 < ∑ k, Real.exp (r k) :=
  Finset.sum_pos (fun k _ => Real.exp_pos _) ⟨0, Finset.mem_univ _⟩

theorem softR_pos (r : Fin 6 → ℝ) (c : Fin 6) : 0 < softR r c := div_pos (Real.exp_pos _) (sum_exp_pos r)

theorem soft_coe (r : Fin 6 → ℝ) (c : Fin 6) : soft (fun k => (r k : EReal)) c = (softR r c : EReal) := by
  obtain ⟨m, hm⟩ := top_mem fun k => (r k : EReal)
  unfold soft
  rw [hm]
  have e : ∀ k, Ideal.exp ((r k : EReal) - (r m : EReal)) = (Real.exp (r k - r m) : EReal) := fun k => by
    rw [← EReal.coe_sub]; rfl
  simp only [e, sum_coe]
  rw [div_coe _ (sum_exp_pos fun k => r k - r m)]
  refine congrArg _ ?_
  unfold softR
  simp only [Real.exp_sub]
  rw [← Finset.sum_div, div_div_div_cancel_right₀ (Real.exp_pos _).ne']

/-- The log of a softmax is the logit less one number for all classes. -/
theorem log_soft_coe (r : Fin 6 → ℝ) (c : Fin 6) :
    Ideal.log (soft (fun k => (r k : EReal)) c) = ((r c - Real.log (∑ k, Real.exp (r k)) : ℝ) : EReal) := by
  rw [soft_coe, log_coe (softR_pos r c)]
  unfold softR
  rw [Real.log_div (Real.exp_pos _).ne' (sum_exp_pos r).ne', Real.log_exp]

theorem lt_shift (a b : EReal) (s : ℝ) : a + (s : EReal) < b + (s : EReal) ↔ a < b := by
  have cancel : ∀ v : EReal, v + (s : EReal) + ((-s : ℝ) : EReal) = v := fun v => by
    rw [add_assoc, ← EReal.coe_add, add_neg_cancel, EReal.coe_zero, add_zero]
  refine ⟨fun h => ?_, fun h => EReal.add_lt_add_right_coe h s⟩
  have := EReal.add_lt_add_right_coe h (-s)
  rwa [cancel, cancel] at this

/-- A sample off the log of the softmax is a sample off the logits: the difference is the same for all classes. -/
theorem first_log_soft (r : Fin 6 → ℝ) (g : Fin 6 → EReal) (n : Fin 6)
    (h : IsFirst (fun k => Ideal.log (soft (fun k => (r k : EReal)) k) + g k) n) : IsFirst (fun k => (r k : EReal) + g k) n := by
  refine IsFirst.congr (fun a b => ?_) h
  have e : ∀ k, Ideal.log (soft (fun k => (r k : EReal)) k) + g k
      = ((r k : EReal) + g k) + ((-Real.log (∑ k, Real.exp (r k)) : ℝ) : EReal) := fun k => by
    rw [log_soft_coe, sub_eq_add_neg, EReal.coe_add, add_right_comm]
  rw [e, e]
  exact lt_shift _ _ _

end Cert.Spec
-- ==== Proof.Mix.lean ====
/- On real logits the two results are one number: the kernel divides by the weights' sum once, the reference each weight. -/
module

public import proofs.«01_k».proof.Proof.KerValue
public import proofs.«01_k».proof.Proof.Softmax

@[expose] public section

noncomputable section

namespace Cert.Spec

open Idealize.ShloMosaic Idealize.ShloMosaic.Pointwise
open Cert.ReferenceIdeal (S4096x256 S6x256 S6x268 S6 S18x4096x6)
open Cert.ReferenceIdeal.Model (lin first last result)
open Cert.KernelIdeal.Model (pairW lastK)

/-- The weights' sum divided out at the end, or of each weight. -/
theorem mix_real (t : Fin 18 → ℝ) (ht : ∀ s, 0 < t s) (y : Fin 18 → Fin 6 → ℝ) (c : Fin 6) :
    (∑ s, Ideal.div (t s : EReal) (∑ k, Ideal.exp (y s k : EReal)) * Ideal.exp (y s c : EReal)) * Ideal.div 1 (∑ s, (t s : EReal))
      = ∑ s, Ideal.div (t s : EReal) (∑ s, (t s : EReal)) * soft (fun k => (y s k : EReal)) c := by
  have hT : 0 < ∑ s, t s := Finset.sum_pos (fun s _ => ht s) ⟨0, Finset.mem_univ _⟩
  simp only [exp_coe, sum_coe, soft_coe, div_coe _ (sum_exp_pos _), div_coe _ hT, ← EReal.coe_mul]
  rw [show (1 : EReal) = ((1 : ℝ) : EReal) from rfl, div_coe _ hT, ← EReal.coe_mul]
  refine congrArg _ ?_
  rw [Finset.sum_mul]
  refine Finset.sum_congr rfl fun s _ => ?_
  unfold softR
  have := (sum_exp_pos (y s)).ne'
  have := hT.ne'
  field_simp

/-- A real number, as an extended one. -/
def IsReal (v : EReal) : Prop := ∃ r : ℝ, v = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.dot {n : ℕ} {u v : Fin n → EReal} (hu : ∀ k, IsReal (u k)) (hv : ∀ k, IsReal (v k)) : IsReal (dot u v) := by
  choose r hr using hu
  choose s hs using hv
  refine ⟨∑ k, r k * s k, ?_⟩
  unfold Cert.Spec.dot
  rw [← sum_coe]
  exact Finset.sum_congr rfl fun k _ => by rw [hr, hs, EReal.coe_mul]

variable {x : S4096x256.Idx → EReal} {a1 a2 : S6x256.Idx → EReal} {w : S6x268.Idx → EReal} {b1 b2 b3 : S6.Idx → EReal}

theorem lin_real (hx : ∀ j, IsReal (x j)) (ha : ∀ j, IsReal (a1 j)) (hb : ∀ j, IsReal (b1 j)) :
    ∃ r : Fin 4096 → Fin 6 → ℝ, lin x a1 b1 = fun n k => (r n k : EReal) := by
  have h : ∀ n k, IsReal (lin x a1 b1 n k) := fun n k =>
    (IsReal.dot (u := fun j : Fin 256 => x (ix2 n j)) (v := fun j => a1 (ix2 k j)) (fun _ => hx _) fun _ => ha _).add (hb _)
  choose r hr using h
  exact ⟨r, funext fun n => funext fun k => hr n k⟩

theorem first_pos (hx : ∀ j, IsReal (x j)) (ha : ∀ j, IsReal (a1 j)) (hb : ∀ j, IsReal (b1 j)) :
    ∃ t : Fin 6 → ℝ, (∀ a, 0 < t a) ∧ ∀ a, first (lin x a1 b1) a = (t a : EReal) := by
  obtain ⟨r, hr⟩ := lin_real hx ha hb
  refine ⟨fun a => softR (r (a.castLE (by decide))) 0, fun a => softR_pos _ _, fun a => ?_⟩
  rw [hr]
  exact soft_coe _ _

theorem last_eq (i : Fin 4096) (p q c : Fin 6) : last x w b3 i p q c = lastK x w b3 i p q c := by
  unfold last lastK pairW sum3
  exact add_right_comm _ _ _

theorem last_real (hx : ∀ j, IsReal (x j)) (hw : ∀ j, IsReal (w j)) (hb : ∀ j, IsReal (b3 j)) (i : Fin 4096) (p q c : Fin 6) :
    IsReal (lastK x w b3 i p q c) :=
  ((IsReal.dot (fun _ => hx _) fun _ => hw _).add (hb _)).add ((hw _).add (hw _))

/-- The kernel's result is the reference's. -/
theorem value_eq (hx : ∀ j, IsReal (x j)) (ha1 : ∀ j, IsReal (a1 j)) (hb1 : ∀ j, IsReal (b1 j)) (ha2 : ∀ j, IsReal (a2 j))
    (hb2 : ∀ j, IsReal (b2 j)) (hw : ∀ j, IsReal (w j)) (hb3 : ∀ j, IsReal (b3 j)) (i : Fin 4096) (c : Fin 6) (p q : Fin 18 → Fin 6) :
    (∑ s : Fin 18, Ideal.div (first (lin x a1 b1) (p s) * first (lin x a2 b2) (q s)) (∑ k : Fin 6, Ideal.exp (lastK x w b3 i (p s) (q s) k))
            * Ideal.exp (lastK x w b3 i (p s) (q s) c))
        * Ideal.div 1 (∑ s : Fin 18, first (lin x a1 b1) (p s) * first (lin x a2 b2) (q s))
      = result (lin x a1 b1) (lin x a2 b2) x w b3 i c p q := by
  obtain ⟨t1, p1, e1⟩ := first_pos hx ha1 hb1
  obtain ⟨t2, p2, e2⟩ := first_pos hx ha2 hb2
  have hl : ∀ s k, IsReal (lastK x w b3 i (p s) (q s) k) := fun s k => last_real hx hw hb3 i (p s) (q s) k
  choose y hy using hl
  have hs : ∀ s, soft (last x w b3 i (p s) (q s)) c = soft (fun k => (y s k : EReal)) c := fun s =>
    congrArg (fun f => soft f c) (funext fun k => (last_eq i (p s) (q s) k).trans (hy s k))
  have := mix_real (fun s => t1 (p s) * t2 (q s)) (fun s => mul_pos (p1 _) (p2 _)) y c
  unfold result dot share
  simp only [dot, hs, e1, e2, hy]
  simpa only [EReal.coe_mul] using this

end Cert.Spec
-- ==== Proof.Finite.lean ====
/- The precondition of the value claim, read: every entry of the first seven arrays is a real number. -/
module

public import proofs.«01_k».proof.Pre_finite
public import proofs.«01_k».proof.Proof.Mix
public import Idealize.ShloMosaic.Lib.ReduceAll

@[expose] public section

noncomputable section

namespace Cert.Pre_finite

open Idealize.ShloMosaic Cert.Spec

/-- An extended real whose absolute value is below the infinity is a real number. -/
theorem real_of_abs (v : EReal) (h : FloatOps.cmpf (F := Ideal) (φ := .f32) .olt (FloatOps.absf (F := Ideal) (φ := .f32) v) (Ideal.ofBits FTy.f32 0x7F800000#32) = 1#1) : IsReal v := by
  have ht : Ideal.ofBits FTy.f32 0x7F800000#32 = ⊤ := by simp [Ideal.ofBits, Ideal.ieee]
  rw [ht] at h
  have h' : max v (-v) < ⊤ := by
    by_contra hn
    have : BitVec.ofBool (decide (max v (-v) < ⊤)) = 1#1 := h
    rw [decide_eq_false hn] at this
    exact absurd this (by decide)
  induction v using EReal.rec with
  | bot => simp at h'
  | coe r => exact ⟨r, rfl⟩
  | top => simp at h'

variable [Facts]
open Facts

/-- One array's part of the predicate. -/
theorem real_of_all {s : Shape} {axes : List (Fin s.rank)} (v : FVec Ideal s .f32) (hb : S_.BroadcastsInDim s (![] : Fin 0 → Fin s.rank))
    (hr : s.ReducesTo axes S_) (j : S_.Idx)
    (h : Host.reduce IntOp.andi (cmpf .olt (Host.absf v) (broadcastInDim s ![] hb (constant (F := Ideal) S_ .f32 0x7F800000#32)))
      (constantI S_ 1 1#1) hr h_S_ j = 1#1) (i : s.Idx) : IsReal (v i) := by
  haveI : Subsingleton S_.Idx := ⟨fun a b => funext fun m => m.elim0⟩
  exact real_of_abs (v i) (Host.reduce_andi_all _ _ hr h_S_ j h i)

theorem finite_iff (x : FVec Ideal S4096x256 .f32) (a1 : FVec Ideal S6x256 .f32) (b1 : FVec Ideal S6 .f32) (a2 : FVec Ideal S6x256 .f32)
    (b2 : FVec Ideal S6 .f32) (w : FVec Ideal S6x268 .f32) (b3 : FVec Ideal S6 .f32) (g1 g2 : FVec Ideal S18x4096x6 .f32)
    (h : fn (F := Ideal) x a1 b1 a2 b2 w b3 g1 g2 = fun _ => 1#1) :
    (∀ j, IsReal (x j)) ∧ (∀ j, IsReal (a1 j)) ∧ (∀ j, IsReal (b1 j)) ∧ (∀ j, IsReal (a2 j)) ∧ (∀ j, IsReal (b2 j))
      ∧ (∀ j, IsReal (w j)) ∧ (∀ j, IsReal (b3 j)) := by
  have h0 := congrFun h (fun m => m.elim0)
  obtain ⟨h0, k7⟩ := IntOp.andi_eq_one.1 h0
  obtain ⟨h0, k6⟩ := IntOp.andi_eq_one.1 h0
  obtain ⟨h0, k5⟩ := IntOp.andi_eq_one.1 h0
  obtain ⟨h0, k4⟩ := IntOp.andi_eq_one.1 h0
  obtain ⟨h0, k3⟩ := IntOp.andi_eq_one.1 h0
  obtain ⟨k1, k2⟩ := IntOp.andi_eq_one.1 h0
  exact ⟨real_of_all x _ _ _ k1, real_of_all a1 _ _ _ k2, real_of_all b1 _ _ _ k3, real_of_all a2 _ _ _ k4, real_of_all b2 _ _ _ k5,
    real_of_all w _ _ _ k6, real_of_all b3 _ _ _ k7⟩

end Cert.Pre_finite
-- ==== Proof.Algebra.lean ====
/- The value claim: on finite inputs the kernel's result and the reference's are equal as extended reals. -/
module

public import proofs.«01_k».proof.Defs
public import proofs.«01_k».proof.Proof.Gen.Pre_finite
public import proofs.«01_k».proof.Proof.Frames
public import proofs.«01_k».proof.Proof.Finite

@[expose] public section

noncomputable section

namespace Cert.Proof

open Idealize.ShloMosaic Idealize.ShloMosaic.TcCoe Idealize.SL.Sem
open Idealize.ShloMosaic.Pointwise
open Cert.KernelIdeal.Model (run_main foOf zI ker_value)
open Cert.ReferenceIdeal.Model (lin result ref_value run_ref arg_kept)
open Cert.Spec

/-- One result, one entry: what the reference's run leaves is what the kernel's run leaves. -/
theorem entry_eq (V : Valuation Cert.ReferenceIdeal.τ Cert.ReferenceIdeal.sig (Elt Ideal))
    (x : Cert.ReferenceIdeal.S4096x256.Idx → EReal) (a1 a2 : Cert.ReferenceIdeal.S6x256.Idx → EReal) (w : Cert.ReferenceIdeal.S6x268.Idx → EReal)
    (b1 b2 b3 : Cert.ReferenceIdeal.S6.Idx → EReal) (g1 g2 : Cert.ReferenceIdeal.S18x4096x6.Idx → EReal)
    (ex : V Cert.ReferenceIdeal.main_arg0 = x) (ea1 : V Cert.ReferenceIdeal.main_arg1 = a1) (eb1 : V Cert.ReferenceIdeal.main_arg2 = b1)
    (ea2 : V Cert.ReferenceIdeal.main_arg3 = a2) (eb2 : V Cert.ReferenceIdeal.main_arg4 = b2) (ew : V Cert.ReferenceIdeal.main_arg5 = w)
    (eb3 : V Cert.ReferenceIdeal.main_arg6 = b3) (eg1 : V Cert.ReferenceIdeal.main_arg7 = g1) (eg2 : V Cert.ReferenceIdeal.main_arg8 = g2)
    (hfin : (∀ j, IsReal (x j)) ∧ (∀ j, IsReal (a1 j)) ∧ (∀ j, IsReal (b1 j)) ∧ (∀ j, IsReal (a2 j)) ∧ (∀ j, IsReal (b2 j))
      ∧ (∀ j, IsReal (w j)) ∧ (∀ j, IsReal (b3 j))) (i : Fin 4096) (c : Fin 6) :
    (StableHlo.after Cert.ReferenceIdeal.Model.ops V Cert.ReferenceIdeal.main_v89 (ix2 i c) : EReal)
      = Cert.KernelIdeal.Model.outF (F := Ideal) (zI x a1 a2 w b1 b2 b3) (Cert.KernelIdeal.Model.noiseF (F := Ideal) g1)
          (Cert.KernelIdeal.Model.noiseF (F := Ideal) g2) (Cert.KernelIdeal.Model.tailF (F := Ideal) w) (ix2 i c) := by
  obtain ⟨hx, ha1, hb1, ha2, hb2, hw, hb3⟩ := hfin
  obtain ⟨p, q, hp, hq, h⟩ := ref_value V i
  rw [ex, ea1, eb1, eg1] at hp
  rw [ex, ea2, eb2, eg2] at hq
  have h' := h c
  rw [ex, ea1, eb1, ea2, eb2, ew, eb3] at h'
  obtain ⟨r1, e1⟩ := lin_real hx ha1 hb1
  obtain ⟨r2, e2⟩ := lin_real hx ha2 hb2
  have hp' : ∀ s, IsFirst (fun k => lin x a1 b1 i k + g1 (ix3 s i k)) (p s) := fun s => by
    have := hp s
    rw [e1] at this ⊢
    exact first_log_soft _ _ _ this
  have hq' : ∀ s, IsFirst (fun k => lin x a2 b2 i k + g2 (ix3 s i k)) (q s) := fun s => by
    have := hq s
    rw [e2] at this ⊢
    exact first_log_soft _ _ _ this
  exact h'.trans ((value_eq hx ha1 hb1 ha2 hb2 hw hb3 i c p q).symm.trans (ker_value x a1 a2 w b1 b2 b3 g1 g2 i p q hp' hq' c).symm)

theorem frame_ideal_finite : Cert.quiescent_KernelIdeal_pre_finite := fun m ρ _ => frame_ideal m ρ trivial

theorem frame_reference_finite : Cert.quiescent_ReferenceIdeal_pre_finite := fun m ρ _ => frame_reference m ρ trivial

theorem algebraic : Cert.algebraic_KernelIdeal_ReferenceIdeal_pre_finite := by
  intro m ρ m' ρ' hpre hagree
  refine ⟨fun c => foOf (F := Ideal) m c, ?_, ?_⟩
  · exact (θ_run Cert.KernelIdeal.defs _ _).mono (fun r h c => h.1 c) (run_main (F := Ideal) m ρ)
  · refine (θ_run Cert.ReferenceIdeal.defs _ _).mono (fun r h c => ⟨?_, ?_⟩) (run_ref (F := Ideal) m' ρ')
    · refine (h c Cert.ReferenceIdeal.main_v89).trans (funext fun j => ?_)
      obtain ⟨h0, h1, h2, h3, h4, h5, h6, h7, h8⟩ := hagree c
      obtain ⟨i, k, rfl⟩ : ∃ (i : Fin 4096) (k : Fin 6), j = ix2 i k := ⟨j 0, j 1, by
        funext a
        match a with
        | ⟨0, _⟩ => rfl
        | ⟨1, _⟩ => rfl⟩
      exact entry_eq _ _ _ _ _ _ _ _ _ _ h0 h1 h2 h3 h4 h5 h6 h7 h8 (Cert.Pre_finite.finite_iff _ _ _ _ _ _ _ _ _ (hpre c)) i k
    · exact ⟨arg_kept (h c) _ (by decide), arg_kept (h c) _ (by decide), arg_kept (h c) _ (by decide), arg_kept (h c) _ (by decide),
        arg_kept (h c) _ (by decide), arg_kept (h c) _ (by decide), arg_kept (h c) _ (by decide), arg_kept (h c) _ (by decide),
        arg_kept (h c) _ (by decide)⟩

end Cert.Proof
-- ==== Proof.lean ====
/- The claims of this certificate, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, algebraic⟩

end Cert.Proof
